-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  IdealRules.named_const.Statement Cert.Kernel4Ideal.κ "scale" .f32 0x3E38AA3B#32 (((1 / 8) * (Real.log 2)⁻¹ : ℝ) : EReal)
  ∧ IdealRules.named_const.Statement Cert.Kernel4Ideal.κ "base" .f32 0x3FB8AA3B#32 (((Real.log 2)⁻¹ : ℝ) : EReal)
  ∧ IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v116) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v24_0)) (v1 : (c : Dev Cert.Kernel6Ideal.nD) → Buf (Elt Ideal) ((c.tc : Thread Cert.Kernel6Ideal.nD Cert.Kernel6Ideal.τ).loc Cert.Kernel6Ideal.main_v24_1)) (v2 : (c : Dev Cert.Kernel6Ideal.nD) → Buf (Elt Ideal) ((c.tc : Thread Cert.Kernel6Ideal.nD Cert.Kernel6Ideal.τ).loc Cert.Kernel6Ideal.main_v24_2)) (v3 : (c : Dev Cert.Kernel6Ideal.nD) → Buf (Elt Ideal) ((c.tc : Thread Cert.Kernel6Ideal.nD Cert.Kernel6Ideal.τ).loc Cert.Kernel6Ideal.main_v24_3)) (v4 : (c : Dev Cert.Kernel6Ideal.nD) → Buf (Elt Ideal) ((c.tc : Thread Cert.Kernel6Ideal.nD Cert.Kernel6Ideal.τ).loc Cert.Kernel6Ideal.main_v24_4)) (v5 : (c : Dev Cert.Kernel6Ideal.nD) → Buf (Elt Ideal) ((c.tc : Thread Cert.Kernel6Ideal.nD Cert.Kernel6Ideal.τ).loc Cert.Kernel6Ideal.main_v24_5)) (v6 : (c : Dev Cert.Kernel6Ideal.nD) → Buf (Elt Ideal) ((c.tc : Thread Cert.Kernel6Ideal.nD Cert.Kernel6Ideal.τ).loc Cert.Kernel6Ideal.main_v24_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24_0) = v0 c
          ∧ r.2.mem ((c.tc : Thread Cert.Kernel6Ideal.nD Cert.Kernel6Ideal.τ).loc Cert.Kernel6Ideal.main_v24_1) = v1 c
          ∧ r.2.mem ((c.tc : Thread Cert.Kernel6Ideal.nD Cert.Kernel6Ideal.τ).loc Cert.Kernel6Ideal.main_v24_2) = v2 c
          ∧ r.2.mem ((c.tc : Thread Cert.Kernel6Ideal.nD Cert.Kernel6Ideal.τ).loc Cert.Kernel6Ideal.main_v24_3) = v3 c
          ∧ r.2.mem ((c.tc : Thread Cert.Kernel6Ideal.nD Cert.Kernel6Ideal.τ).loc Cert.Kernel6Ideal.main_v24_4) = v4 c
          ∧ r.2.mem ((c.tc : Thread Cert.Kernel6Ideal.nD Cert.Kernel6Ideal.τ).loc Cert.Kernel6Ideal.main_v24_5) = v5 c
          ∧ r.2.mem ((c.tc : Thread Cert.Kernel6Ideal.nD Cert.Kernel6Ideal.τ).loc Cert.Kernel6Ideal.main_v24_9) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_v104) = v1 c
          ∧ r.2.mem ((c.tc : Thread Cert.Reference6Ideal.nD Cert.Reference6Ideal.τ).loc Cert.Reference6Ideal.main_v106) = v2 c
          ∧ r.2.mem ((c.tc : Thread Cert.Reference6Ideal.nD Cert.Reference6Ideal.τ).loc Cert.Reference6Ideal.main_v158) = v3 c
          ∧ r.2.mem ((c.tc : Thread Cert.Reference6Ideal.nD Cert.Reference6Ideal.τ).loc Cert.Reference6Ideal.main_v210) = v4 c
          ∧ r.2.mem ((c.tc : Thread Cert.Reference6Ideal.nD Cert.Reference6Ideal.τ).loc Cert.Reference6Ideal.main_v212) = v5 c
          ∧ r.2.mem ((c.tc : Thread Cert.Reference6Ideal.nD Cert.Reference6Ideal.τ).loc Cert.Reference6Ideal.main_v233) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite4 : Cert.Pre_finite4.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S4x4352x512 : Shape := ⟨3, ![4, 4352, 512]⟩
abbrev S2x2x64 : Shape := ⟨3, ![2, 2, 64]⟩
abbrev S128 : Shape := ⟨1, ![128]⟩
abbrev S_ : Shape := ⟨0, ![]⟩

class Facts : Prop where
  bcast_S_S4x4352x512 : S_.BroadcastsInDim S4x4352x512 (![] : Fin 0 → Fin S4x4352x512.rank)
  reducesTo_S4x4352x512_S_d0_1_2 : S4x4352x512.ReducesTo [0, 1, 2] S_
  h_S_ : 0 < S_.numel
  bcast_S_S2x2x64 : S_.BroadcastsInDim S2x2x64 (![] : Fin 0 → Fin S2x2x64.rank)
  reducesTo_S2x2x64_S_d0_1_2 : S2x2x64.ReducesTo [0, 1, 2] S_

variable [Facts]

def fn_part1 {F : FTy → Type} [FloatOps F] (main_v13 : IVec S_ 1) (main_v16 : IVec S2x2x64 1) : IVec S_ 1 :=
  let main_c_5 : IVec S_ 1 := constantI S_ 1 1#1
  let main_v17 : IVec S_ 1 := (fun x v => Host.reduce IntOp.andi x v reducesTo_S2x2x64_S_d0_1_2 h_S_) main_v16 main_c_5
  let main_v18 : IVec S_ 1 := andi main_v13 main_v17
  main_v18

def fn {F : FTy → Type} [FloatOps F] (main_arg0 : FVec F S4x4352x512 .f32) (main_arg1 : FVec F S4x4352x512 .f32) (main_arg2 : FVec F S4x4352x512 .f32) (main_arg3 : FVec F S2x2x64 .f32) (main_arg4 : FVec F S128 .f32) : IVec S_ 1 :=
  let main_v0 : FVec F S4x4352x512 .f32 := Host.absf main_arg0
  let main_cst : FVec F S_ .f32 := constant S_ .f32 0x7F800000#32
  let main_v1 : FVec F S4x4352x512 .f32 := broadcastInDim S4x4352x512 ![] bcast_S_S4x4352x512 main_cst
  let main_v2 : IVec S4x4352x512 1 := cmpf .olt main_v0 main_v1
  let main_c : IVec S_ 1 := constantI S_ 1 1#1
  let main_v3 : IVec S_ 1 := (fun x v => Host.reduce IntOp.andi x v reducesTo_S4x4352x512_S_d0_1_2 h_S_) main_v2 main_c
  let main_v4 : FVec F S4x4352x512 .f32 := Host.absf main_arg1
  let main_cst_0 : FVec F S_ .f32 := constant S_ .f32 0x7F800000#32
  let main_v5 : FVec F S4x4352x512 .f32 := broadcastInDim S4x4352x512 ![] bcast_S_S4x4352x512 main_cst_0
  let main_v6 : IVec S4x4352x512 1 := cmpf .olt main_v4 main_v5
  let main_c_1 : IVec S_ 1 := constantI S_ 1 1#1
  let main_v7 : IVec S_ 1 := (fun x v => Host.reduce IntOp.andi x v reducesTo_S4x4352x512_S_d0_1_2 h_S_) main_v6 main_c_1
  let main_v8 : IVec S_ 1 := andi main_v3 main_v7
  let main_v9 : FVec F S4x4352x512 .f32 := Host.absf main_arg2
  let main_cst_2 : FVec F S_ .f32 := constant S_ .f32 0x7F800000#32
  let main_v10 : FVec F S4x4352x512 .f32 := broadcastInDim S4x4352x512 ![] bcast_S_S4x4352x512 main_cst_2
  let main_v11 : IVec S4x4352x512 1 := cmpf .olt main_v9 main_v10
  let main_c_3 : IVec S_ 1 := constantI S_ 1 1#1
  let main_v12 : IVec S_ 1 := (fun x v => Host.reduce IntOp.andi x v reducesTo_S4x4352x512_S_d0_1_2 h_S_) main_v11 main_c_3
  let main_v13 : IVec S_ 1 := andi main_v8 main_v12
  let main_v14 : FVec F S2x2x64 .f32 := Host.absf main_arg3
  let main_cst_4 : FVec F S_ .f32 := constant S_ .f32 0x7F800000#32
  let main_v15 : FVec F S2x2x64 .f32 := broadcastInDim S2x2x64 ![] bcast_S_S2x2x64 main_cst_4
  let main_v16 : IVec S2x2x64 1 := cmpf .olt main_v14 main_v15
  fn_part1 (F := F) main_v13 main_v16
-- ==== Pre_finite4.lean ====
abbrev S4x4352x512 : Shape := ⟨3, ![4, 4352, 512]⟩
abbrev S4x4352x128 : Shape := ⟨3, ![4, 4352, 128]⟩
abbrev S8 : Shape := ⟨1, ![8]⟩
abbrev S_ : Shape := ⟨0, ![]⟩

class Facts : Prop where
  bcast_S_S4x4352x512 : S_.BroadcastsInDim S4x4352x512 (![] : Fin 0 → Fin S4x4352x512.rank)
  reducesTo_S4x4352x512_S_d0_1_2 : S4x4352x512.ReducesTo [0, 1, 2] S_
  h_S_ : 0 < S_.numel
  bcast_S_S4x4352x128 : S_.BroadcastsInDim S4x4352x128 (![] : Fin 0 → Fin S4x4352x128.rank)
  reducesTo_S4x4352x128_S_d0_1_2 : S4x4352x128.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S4x4352x512 .f32) (main_arg1 : FVec F S4x4352x128 .f32) (main_arg2 : FVec F S4x4352x128 .f32) (main_arg3 : FVec F S8 .f32) : IVec S_ 1 :=
  let main_v0 : FVec F S4x4352x512 .f32 := Host.absf main_arg0
  let main_cst : FVec F S_ .f32 := constant S_ .f32 0x7F800000#32
  let main_v1 : FVec F S4x4352x512 .f32 := broadcastInDim S4x4352x512 ![] bcast_S_S4x4352x512 main_cst
  let main_v2 : IVec S4x4352x512 1 := cmpf .olt main_v0 main_v1
  let main_c : IVec S_ 1 := constantI S_ 1 1#1
  let main_v3 : IVec S_ 1 := (fun x v => Host.reduce IntOp.andi x v reducesTo_S4x4352x512_S_d0_1_2 h_S_) main_v2 main_c
  let main_v4 : FVec F S4x4352x128 .f32 := Host.absf main_arg1
  let main_cst_0 : FVec F S_ .f32 := constant S_ .f32 0x7F800000#32
  let main_v5 : FVec F S4x4352x128 .f32 := broadcastInDim S4x4352x128 ![] bcast_S_S4x4352x128 main_cst_0
  let main_v6 : IVec S4x4352x128 1 := cmpf .olt main_v4 main_v5
  let main_c_1 : IVec S_ 1 := constantI S_ 1 1#1
  let main_v7 : IVec S_ 1 := (fun x v => Host.reduce IntOp.andi x v reducesTo_S4x4352x128_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_finite6.lean ====
abbrev S17408x7680 : Shape := ⟨2, ![17408, 7680]⟩
abbrev S4096x64 : Shape := ⟨2, ![4096, 64]⟩
abbrev S4x64 : Shape := ⟨2, ![4, 64]⟩
abbrev S5x1536 : Shape := ⟨2, ![5, 1536]⟩
abbrev S2x4 : Shape := ⟨2, ![2, 4]⟩
abbrev S17408x1024 : Shape := ⟨2, ![17408, 1024]⟩
abbrev S_ : Shape := ⟨0, ![]⟩
abbrev S17408x640 : Shape := ⟨2, ![17408, 640]⟩

class Facts : Prop where
  slices_S17408x7680_S17408x1024_0_0 : S17408x7680.Slices ![0, 0] S17408x1024
  bcast_S_S17408x1024 : S_.BroadcastsInDim S17408x1024 (![] : Fin 0 → Fin S17408x1024.rank)
  reducesTo_S17408x1024_S_d0_1 : S17408x1024.ReducesTo [0, 1] S_
  h_S_ : 0 < S_.numel
  slices_S17408x7680_S17408x640_0_3584 : S17408x7680.Slices ![0, 3584] S17408x640
  bcast_S_S17408x640 : S_.BroadcastsInDim S17408x640 (![] : Fin 0 → Fin S17408x640.rank)
  reducesTo_S17408x640_S_d0_1 : S17408x640.ReducesTo [0, 1] S_

variable [Facts]

def fn {F : FTy → Type} [FloatOps F] (main_arg0 : FVec F S17408x7680 .f32) (main_arg1 : FVec F S4096x64 .f32) (main_arg2 : FVec F S4096x64 .f32) (main_arg3 : FVec F S4x64 .f32) (main_arg4 : FVec F S5x1536 .f32) (main_arg5 : FVec F S2x4 .f32) (main_arg6 : FVec F S2x4 .f32) : IVec S_ 1 :=
  let main_v0 : FVec F S17408x1024 .f32 := (extractStridedSlice S17408x1024 ![0, 0] · slices_S17408x7680_S17408x1024_0_0) main_arg0
  let main_v1 : FVec F S17408x1024 .f32 := Host.absf main_v0
  let main_cst : FVec F S_ .f32 := constant S_ .f32 0x7F800000#32
  let main_v2 : FVec F S17408x1024 .f32 := broadcastInDim S17408x1024 ![] bcast_S_S17408x1024 main_cst
  let main_v3 : IVec S17408x1024 1 := cmpf .olt main_v1 main_v2
  let main_c : IVec S_ 1 := constantI S_ 1 1#1
  let main_v4 : IVec S_ 1 := (fun x v => Host.reduce IntOp.andi x v reducesTo_S17408x1024_S_d0_1 h_S_) main_v3 main_c
  let main_v5 : FVec F S17408x640 .f32 := (extractStridedSlice S17408x640 ![0, 3584] · slices_S17408x7680_S17408x640_0_3584) main_arg0
  let main_v6 : FVec F S17408x640 .f32 := Host.absf main_v5
  let main_cst_0 : FVec F S_ .f32 := constant S_ .f32 0x7F800000#32
  let main_v7 : FVec F S17408x640 .f32 := broadcastInDim S17408x640 ![] bcast_S_S17408x640 main_cst_0
  let main_v8 : IVec S17408x640 1 := cmpf .olt main_v6 main_v7
  let main_c_1 : IVec S_ 1 := constantI S_ 1 1#1
  let main_v9 : IVec S_ 1 := (fun x v => Host.reduce IntOp.andi x v reducesTo_S17408x640_S_d0_1 h_S_) main_v8 main_c_1
  let main_v10 : IVec S_ 1 := andi main_v4 main_v9
  main_v10
-- ==== Kernel.lean ====
abbrev S4x4352x512 : Shape := ⟨3, ![4, 4352, 512]⟩
abbrev S2x2x64 : Shape := ⟨3, ![2, 2, 64]⟩
abbrev S128 : Shape := ⟨1, ![128]⟩
abbrev S1x1x64 : Shape := ⟨3, ![1, 1, 64]⟩
abbrev S64 : Shape := ⟨1, ![64]⟩
abbrev S_ : Shape := ⟨0, ![]⟩
abbrev S1 : Shape := ⟨1, ![1]⟩
abbrev S1x128 : Shape := ⟨2, ![1, 128]⟩
abbrev S1x256x256 : Shape := ⟨3, ![1, 256, 256]⟩
abbrev S1x4352x256 : Shape := ⟨3, ![1, 4352, 256]⟩
abbrev S256x128 : Shape := ⟨2, ![256, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S1x4352x128 : Shape := ⟨3, ![1, 4352, 128]⟩
abbrev S4352x128 : Shape := ⟨2, ![4352, 128]⟩
abbrev S256x4352 : Shape := ⟨2, ![256, 4352]⟩

abbrev nBuf : Space → Nat
  | .hbm => 29
  | .vmem => 9
  | .smem => 1
  | _ => 0

abbrev bufTy : (tb : Table) → Fin (tcTables nBuf tb) → BufTy
  | .hbm, ⟨0, _⟩ => ⟨S4x4352x512, .f32⟩
  | .hbm, ⟨1, _⟩ => ⟨S4x4352x512, .f32⟩
  | .hbm, ⟨2, _⟩ => ⟨S4x4352x512, .f32⟩
  | .hbm, ⟨3, _⟩ => ⟨S2x2x64, .f32⟩
  | .hbm, ⟨4, _⟩ => ⟨S128, .f32⟩
  | .hbm, ⟨5, _⟩ => ⟨S4x4352x512, .bf16⟩
  | .hbm, ⟨6, _⟩ => ⟨S4x4352x512, .bf16⟩
  | .hbm, ⟨7, _⟩ => ⟨S1x1x64, .f32⟩
  | .hbm, ⟨8, _⟩ => ⟨S64, .f32⟩
  | .hbm, ⟨9, _⟩ => ⟨S1x1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x1x64, .f32⟩
  | .hbm, ⟨16, _⟩ => ⟨S64, .f32⟩
  | .hbm, ⟨17, _⟩ => ⟨S1x1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S1x128, .f32⟩
  | .hbm, ⟨28, _⟩ => ⟨S4x4352x512, .f32⟩
  | .local _ .vmem, ⟨0, _⟩ => ⟨S1x256x256, .f32⟩
  | .local _ .vmem, ⟨1, _⟩ => ⟨S1x256x256, .f32⟩
  | .local _ .vmem, ⟨2, _⟩ => ⟨S1x4352x256, .bf16⟩
  | .local _ .vmem, ⟨3, _⟩ => ⟨S1x4352x256, .bf16⟩
  | .local _ .vmem, ⟨4, _⟩ => ⟨S1x4352x256, .bf16⟩
  | .local _ .vmem, ⟨5, _⟩ => ⟨S1x4352x256, .bf16⟩
  | .local _ .vmem, ⟨6, _⟩ => ⟨S1x128, .f32⟩
  | .local _ .vmem, ⟨7, _⟩ => ⟨S1x256x256, .f32⟩
  | .local _ .vmem, ⟨8, _⟩ => ⟨S1x256x256, .f32⟩
  | .local _ .smem, ⟨0, _⟩ => ⟨S1, .f32⟩
  | _, _ => ⟨S4x4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 2, 17], ![false, false, false]⟩

def k0_cond1 (i : grid0.Coords) : BitVec 1 :=
  let arg2 : BitVec 32 := BitVec.ofNat 32 (i 2).val
  let c1_i32 : BitVec 32 := 1#32
  let v5 : BitVec 1 := Scalar.cmpi .slt arg2 c1_i32
  let v6 : BitVec 32 := Scalar.extui v5
  let c0_i32 : BitVec 32 := 0#32
  let v7 : BitVec 1 := Scalar.cmpi .ne v6 c0_i32
  v7

def k0_cond2 (i : grid0.Coords) : BitVec 1 :=
  let arg2 : BitVec 32 := BitVec.ofNat 32 (i 2).val
  let c1_i32_1 : BitVec 32 := 1#32
  let v8 : BitVec 1 := Scalar.cmpi .sge arg2 c1_i32_1
  let v9 : BitVec 32 := Scalar.extui v8
  let c0_i32_2 : BitVec 32 := 0#32
  let v10 : BitVec 1 := Scalar.cmpi .ne v9 c0_i32_2
  v10

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S4x4352x512 : Shape := ⟨3, ![4, 4352, 512]⟩
abbrev S2x2x64 : Shape := ⟨3, ![2, 2, 64]⟩
abbrev S128 : Shape := ⟨1, ![128]⟩
abbrev S4x4352x4x2x64 : Shape := ⟨5, ![4, 4352, 4, 2, 64]⟩
abbrev S4x4352x4x128 : Shape := ⟨4, ![4, 4352, 4, 128]⟩
abbrev S1x1x64 : Shape := ⟨3, ![1, 1, 64]⟩
abbrev S64 : Shape := ⟨1, ![64]⟩
abbrev S_ : Shape := ⟨0, ![]⟩
abbrev S4x4096x4x2x64 : Shape := ⟨5, ![4, 4096, 4, 2, 64]⟩
abbrev S4x4x2x4096x4352 : Shape := ⟨5, ![4, 4, 2, 4096, 4352]⟩
abbrev S4x4x2x4096 : Shape := ⟨4, ![4, 4, 2, 4096]⟩
abbrev S4x4x2x4096x1 : Shape := ⟨5, ![4, 4, 2, 4096, 1]⟩
abbrev S4x4x1x4096x4352 : Shape := ⟨5, ![4, 4, 1, 4096, 4352]⟩
abbrev S4x4x4096x4352 : Shape := ⟨4, ![4, 4, 4096, 4352]⟩
abbrev S4x4x128x4096 : Shape := ⟨4, ![4, 4, 128, 4096]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x256x4x2x64 : Shape := ⟨5, ![4, 256, 4, 2, 64]⟩
abbrev S4x256x4x128 : Shape := ⟨4, ![4, 256, 4, 128]⟩
abbrev S4x4x2x256x256 : Shape := ⟨5, ![4, 4, 2, 256, 256]⟩
abbrev S4x4x2x256 : Shape := ⟨4, ![4, 4, 2, 256]⟩
abbrev S4x4x2x256x1 : Shape := ⟨5, ![4, 4, 2, 256, 1]⟩
abbrev S4x4x1x256x256 : Shape := ⟨5, ![4, 4, 1, 256, 256]⟩
abbrev S4x4x256x256 : Shape := ⟨4, ![4, 4, 256, 256]⟩
abbrev S4x4x128x256 : Shape := ⟨4, ![4, 4, 128, 256]⟩
abbrev S4x256x4 : Shape := ⟨3, ![4, 256, 4]⟩
abbrev S4x256x4x1 : Shape := ⟨4, ![4, 256, 4, 1]⟩

abbrev nBuf : Space → Nat
  | .hbm => 125
  | .vmem => 0
  | .smem => 0
  | _ => 0

abbrev bufTy : (tb : Table) → Fin (tcTables nBuf tb) → BufTy
  | .hbm, ⟨0, _⟩ => ⟨S4x4352x512, .f32⟩
  | .hbm, ⟨1, _⟩ => ⟨S4x4352x512, .f32⟩
  | .hbm, ⟨2, _⟩ => ⟨S4x4352x512, .f32⟩
  | .hbm, ⟨3, _⟩ => ⟨S2x2x64, .f32⟩
  | .hbm, ⟨4, _⟩ => ⟨S128, .f32⟩
  | .hbm, ⟨5, _⟩ => ⟨S4x4352x4x2x64, .f32⟩
  | .hbm, ⟨6, _⟩ => ⟨S4x4352x4x2x64, .f32⟩
  | .hbm, ⟨7, _⟩ => ⟨S4x4352x4x128, .f32⟩
  | .hbm, ⟨8, _⟩ => ⟨S1x1x64, .f32⟩
  | .hbm, ⟨9, _⟩ => ⟨S64, .f32⟩
  | .hbm, ⟨10, _⟩ => ⟨S1x1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1x64, .f32⟩
  | .hbm, ⟨17, _⟩ => ⟨S64, .f32⟩
  | .hbm, ⟨18, _⟩ => ⟨S1x1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x4096x4x2x64, .f32⟩
  | .hbm, ⟨28, _⟩ => ⟨S4x4x2x4096x4352, .f32⟩
  | .hbm, ⟨29, _⟩ => ⟨S_, .f32⟩
  | .hbm, ⟨30, _⟩ => ⟨S4x4x2x4096x4352, .f32⟩
  | .hbm, ⟨31, _⟩ => ⟨S4x4x2x4096x4352, .f32⟩
  | .hbm, ⟨32, _⟩ => ⟨S_, .f32⟩
  | .hbm, ⟨33, _⟩ => ⟨S4x4x2x4096, .f32⟩
  | .hbm, ⟨34, _⟩ => ⟨S_, .f32⟩
  | .hbm, ⟨35, _⟩ => ⟨S4x4x2x4096, .f32⟩
  | .hbm, ⟨36, _⟩ => ⟨S4x4x2x4096, .f32⟩
  | .hbm, ⟨37, _⟩ => ⟨S4x4x2x4096x1, .f32⟩
  | .hbm, ⟨38, _⟩ => ⟨S4x4x2x4096x4352, .f32⟩
  | .hbm, ⟨39, _⟩ => ⟨S4x4x2x4096x4352, .f32⟩
  | .hbm, ⟨40, _⟩ => ⟨S4x4x2x4096x4352, .f32⟩
  | .hbm, ⟨41, _⟩ => ⟨S_, .f32⟩
  | .hbm, ⟨42, _⟩ => ⟨S4x4x2x4096, .f32⟩
  | .hbm, ⟨43, _⟩ => ⟨S4x4x2x4096x1, .f32⟩
  | .hbm, ⟨44, _⟩ => ⟨S4x4x2x4096x4352, .f32⟩
  | .hbm, ⟨45, _⟩ => ⟨S4x4x2x4096x4352, .f32⟩
  | .hbm, ⟨46, _⟩ => ⟨S4x4x1x4096x4352, .f32⟩
  | .hbm, ⟨47, _⟩ => ⟨S4x4x4096x4352, .f32⟩
  | .hbm, ⟨48, _⟩ => ⟨S4x4x1x4096x4352, .f32⟩
  | .hbm, ⟨49, _⟩ => ⟨S4x4x4096x4352, .f32⟩
  | .hbm, ⟨50, _⟩ => ⟨S4x4x4096x4352, .f32⟩
  | .hbm, ⟨51, _⟩ => ⟨S4x4x4096x4352, .f32⟩
  | .hbm, ⟨52, _⟩ => ⟨S4x4x4096x4352, .f32⟩
  | .hbm, ⟨53, _⟩ => ⟨S4x4x128x4096, .f32⟩
  | .hbm, ⟨54, _⟩ => ⟨S4x4096x4x128, .f32⟩
  | .hbm, ⟨55, _⟩ => ⟨S4x4096x4x128, .f32⟩
  | .hbm, ⟨56, _⟩ => ⟨S_, .f32⟩
  | .hbm, ⟨57, _⟩ => ⟨S4x4096x4, .f32⟩
  | .hbm, ⟨58, _⟩ => ⟨S4x4096x4x1, .f32⟩
  | .hbm, ⟨59, _⟩ => ⟨S_, .f32⟩
  | .hbm, ⟨60, _⟩ => ⟨S4x4096x4x1, .f32⟩
  | .hbm, ⟨61, _⟩ => ⟨S4x4096x4x1, .f32⟩
  | .hbm, ⟨62, _⟩ => ⟨S_, .f32⟩
  | .hbm, ⟨63, _⟩ => ⟨S4x4096x4x1, .f32⟩
  | .hbm, ⟨64, _⟩ => ⟨S4x4096x4x1, .f32⟩
  | .hbm, ⟨65, _⟩ => ⟨S4x4096x4x1, .f32⟩
  | .hbm, ⟨66, _⟩ => ⟨S4x4096x4x128, .f32⟩
  | .hbm, ⟨67, _⟩ => ⟨S4x4096x4x128, .f32⟩
  | .hbm, ⟨68, _⟩ => ⟨S1x1x1x128, .f32⟩
  | .hbm, ⟨69, _⟩ => ⟨S4x4096x4x128, .f32⟩
  | .hbm, ⟨70, _⟩ => ⟨S4x4096x4x128, .f32⟩
  | .hbm, ⟨71, _⟩ => ⟨S_, .f32⟩
  | .hbm, ⟨72, _⟩ => ⟨S4x4096x4x128, .f32⟩
  | .hbm, ⟨73, _⟩ => ⟨S4x4096x4x128, .f32⟩
  | .hbm, ⟨74, _⟩ => ⟨S4x256x4x2x64, .f32⟩
  | .hbm, ⟨75, _⟩ => ⟨S4x256x4x2x64, .f32⟩
  | .hbm, ⟨76, _⟩ => ⟨S4x256x4x128, .f32⟩
  | .hbm, ⟨77, _⟩ => ⟨S4x4x2x256x256, .f32⟩
  | .hbm, ⟨78, _⟩ => ⟨S_, .f32⟩
  | .hbm, ⟨79, _⟩ => ⟨S4x4x2x256x256, .f32⟩
  | .hbm, ⟨80, _⟩ => ⟨S4x4x2x256x256, .f32⟩
  | .hbm, ⟨81, _⟩ => ⟨S_, .f32⟩
  | .hbm, ⟨82, _⟩ => ⟨S4x4x2x256, .f32⟩
  | .hbm, ⟨83, _⟩ => ⟨S_, .f32⟩
  | .hbm, ⟨84, _⟩ => ⟨S4x4x2x256, .f32⟩
  | .hbm, ⟨85, _⟩ => ⟨S4x4x2x256, .f32⟩
  | .hbm, ⟨86, _⟩ => ⟨S4x4x2x256x1, .f32⟩
  | .hbm, ⟨87, _⟩ => ⟨S4x4x2x256x256, .f32⟩
  | .hbm, ⟨88, _⟩ => ⟨S4x4x2x256x256, .f32⟩
  | .hbm, ⟨89, _⟩ => ⟨S4x4x2x256x256, .f32⟩
  | .hbm, ⟨90, _⟩ => ⟨S_, .f32⟩
  | .hbm, ⟨91, _⟩ => ⟨S4x4x2x256, .f32⟩
  | .hbm, ⟨92, _⟩ => ⟨S4x4x2x256x1, .f32⟩
  | .hbm, ⟨93, _⟩ => ⟨S4x4x2x256x256, .f32⟩
  | .hbm, ⟨94, _⟩ => ⟨S4x4x2x256x256, .f32⟩
  | .hbm, ⟨95, _⟩ => ⟨S4x4x1x256x256, .f32⟩
  | .hbm, ⟨96, _⟩ => ⟨S4x4x256x256, .f32⟩
  | .hbm, ⟨97, _⟩ => ⟨S4x4x1x256x256, .f32⟩
  | .hbm, ⟨98, _⟩ => ⟨S4x4x256x256, .f32⟩
  | .hbm, ⟨99, _⟩ => ⟨S4x4x256x256, .f32⟩
  | .hbm, ⟨100, _⟩ => ⟨S4x4x256x256, .f32⟩
  | .hbm, ⟨101, _⟩ => ⟨S4x4x256x256, .f32⟩
  | .hbm, ⟨102, _⟩ => ⟨S4x4x128x256, .f32⟩
  | .hbm, ⟨103, _⟩ => ⟨S4x256x4x128, .f32⟩
  | .hbm, ⟨104, _⟩ => ⟨S4x256x4x128, .f32⟩
  | .hbm, ⟨105, _⟩ => ⟨S_, .f32⟩
  | .hbm, ⟨106, _⟩ => ⟨S4x256x4, .f32⟩
  | .hbm, ⟨107, _⟩ => ⟨S4x256x4x1, .f32⟩
  | .hbm, ⟨108, _⟩ => ⟨S_, .f32⟩
  | .hbm, ⟨109, _⟩ => ⟨S4x256x4x1, .f32⟩
  | .hbm, ⟨110, _⟩ => ⟨S4x256x4x1, .f32⟩
  | .hbm, ⟨111, _⟩ => ⟨S_, .f32⟩
  | .hbm, ⟨112, _⟩ => ⟨S4x256x4x1, .f32⟩
  | .hbm, ⟨113, _⟩ => ⟨S4x256x4x1, .f32⟩
  | .hbm, ⟨114, _⟩ => ⟨S4x256x4x1, .f32⟩
  | .hbm, ⟨115, _⟩ => ⟨S4x256x4x128, .f32⟩
  | .hbm, ⟨116, _⟩ => ⟨S4x256x4x128, .f32⟩
  | .hbm, ⟨117, _⟩ => ⟨S1x1x1x128, .f32⟩
  | .hbm, ⟨118, _⟩ => ⟨S4x256x4x128, .f32⟩
  | .hbm, ⟨119, _⟩ => ⟨S4x256x4x128, .f32⟩
  | .hbm, ⟨120, _⟩ => ⟨S_, .f32⟩
  | .hbm, ⟨121, _⟩ => ⟨S4x256x4x128, .f32⟩
  | .hbm, ⟨122, _⟩ => ⟨S4x256x4x128, .f32⟩
  | .hbm, ⟨123, _⟩ => ⟨S4x4352x4x128, .f32⟩
  | .hbm, ⟨124, _⟩ => ⟨S4x4352x512, .f32⟩
  | _, _ => ⟨S4x4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_13 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_14 : Ref sig .tc := ⟨.hbm, 105, rfl⟩
abbrev main_v85 : Ref sig .tc := ⟨.hbm, 106, rfl⟩
abbrev main_v86 : Ref sig .tc := ⟨.hbm, 107, rfl⟩
abbrev main_cst_15 : Ref sig .tc := ⟨.hbm, 108, rfl⟩
abbrev main_v87 : Ref sig .tc := ⟨.hbm, 109, rfl⟩
abbrev main_v88 : Ref sig .tc := ⟨.hbm, 110, rfl⟩
abbrev main_cst_16 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_17 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x256x1024 : Shape := ⟨3, ![4, 256, 1024]⟩
abbrev S5x6144 : Shape := ⟨2, ![5, 6144]⟩
abbrev S1024 : Shape := ⟨1, ![1024]⟩
abbrev S1024x7440 : Shape := ⟨2, ![1024, 7440]⟩
abbrev S4x4352x1024 : Shape := ⟨3, ![4, 4352, 1024]⟩
abbrev S17408x1024 : Shape := ⟨2, ![17408, 1024]⟩
abbrev S1x1024 : Shape := ⟨2, ![1, 1024]⟩
abbrev S30x1x1024 : Shape := ⟨3, ![30, 1, 1024]⟩
abbrev S1x1024x7440 : Shape := ⟨3, ![1, 1024, 7440]⟩
abbrev S1x1024x1536 : Shape := ⟨3, ![1, 1024, 1536]⟩
abbrev S1x1024x512 : Shape := ⟨3, ![1, 1024, 512]⟩
abbrev S1x1024x256 : Shape := ⟨3, ![1, 1024, 256]⟩
abbrev S1x1024x16 : Shape := ⟨3, ![1, 1024, 16]⟩
abbrev S1x1024x3072 : Shape := ⟨3, ![1, 1024, 3072]⟩
abbrev S1x1024x2x4x64 : Shape := ⟨5, ![1, 1024, 2, 4, 64]⟩
abbrev S1x1024x4x2x64 : Shape := ⟨5, ![1, 1024, 4, 2, 64]⟩
abbrev S_ : Shape := ⟨0, ![]⟩
abbrev S1x1024x240 : Shape := ⟨3, ![1, 1024, 240]⟩
abbrev S1x1024x7680 : Shape := ⟨3, ![1, 1024, 7680]⟩
abbrev S17408x7680 : Shape := ⟨2, ![17408, 7680]⟩
abbrev S256x1024 : Shape := ⟨2, ![256, 1024]⟩
abbrev S1x1x1024 : Shape := ⟨3, ![1, 1, 1024]⟩
abbrev S1x1024x3840 : Shape := ⟨3, ![1, 1024, 3840]⟩
abbrev S256x3840 : Shape := ⟨2, ![256, 3840]⟩
abbrev S256 : Shape := ⟨1, ![256]⟩
abbrev S256x1 : Shape := ⟨2, ![256, 1]⟩
abbrev S1024x3840 : Shape := ⟨2, ![1024, 3840]⟩

abbrev nBuf : Space → Nat
  | .hbm => 25
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S5x6144, .f32⟩
  | .hbm, ⟨3, _⟩ => ⟨S1024, .f32⟩
  | .hbm, ⟨4, _⟩ => ⟨S1024x7440, .f32⟩
  | .hbm, ⟨5, _⟩ => ⟨S4x4352x1024, .f32⟩
  | .hbm, ⟨6, _⟩ => ⟨S17408x1024, .f32⟩
  | .hbm, ⟨7, _⟩ => ⟨S1x1024, .f32⟩
  | .hbm, ⟨8, _⟩ => ⟨S30x1x1024, .f32⟩
  | .hbm, ⟨9, _⟩ => ⟨S1x1024x7440, .f32⟩
  | .hbm, ⟨10, _⟩ => ⟨S1x1024x1536, .f32⟩
  | .hbm, ⟨11, _⟩ => ⟨S1x1024x512, .f32⟩
  | .hbm, ⟨12, _⟩ => ⟨S1x1024x256, .f32⟩
  | .hbm, ⟨13, _⟩ => ⟨S1x1024x1536, .f32⟩
  | .hbm, ⟨14, _⟩ => ⟨S1x1024x512, .f32⟩
  | .hbm, ⟨15, _⟩ => ⟨S1x1024x16, .f32⟩
  | .hbm, ⟨16, _⟩ => ⟨S1x1024x3072, .f32⟩
  | .hbm, ⟨17, _⟩ => ⟨S1x1024x2x4x64, .f32⟩
  | .hbm, ⟨18, _⟩ => ⟨S1x1024x4x2x64, .f32⟩
  | .hbm, ⟨19, _⟩ => ⟨S1x1024x512, .f32⟩
  | .hbm, ⟨20, _⟩ => ⟨S_, .f32⟩
  | .hbm, ⟨21, _⟩ => ⟨S1x1024x240, .f32⟩
  | .hbm, ⟨22, _⟩ => ⟨S1x1024x7680, .f32⟩
  | .hbm, ⟨23, _⟩ => ⟨S1x1024x7680, .bf16⟩
  | .hbm, ⟨24, _⟩ => ⟨S17408x7680, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x3840, .bf16⟩
  | .local _ .vmem, ⟨8, _⟩ => ⟨S1x1024x3840, .bf16⟩
  | .local _ .vmem, ⟨9, _⟩ => ⟨S256x3840, .f32⟩
  | .local _ .vmem, ⟨10, _⟩ => ⟨S256x3840, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 68], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .slt v9 c1_i32_3
  let c17_i32_4 : BitVec 32 := 17#32
  let v11 : BitVec 32 := Scalar.divsi arg1 c17_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c17_i32_4 c0_i32_7
  let v18 : BitVec 32 := Scalar.extui v17
  let c0_i32_8 : BitVec 32 := 0#32
  let v19 : BitVec 1 := Scalar.cmpi .slt c17_i32_4 c0_i32_8
  let v20 : BitVec 32 := Scalar.extui v19
  let v21 : BitVec 32 := Scalar.subi v18 v20
  let v22 : BitVec 1 := Scalar.cmpi .ne v16 v21
  let v23 : BitVec 32 := Scalar.remsi arg1 c17_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c6_i32 : BitVec 32 := 6#32
  let v29 : BitVec 32 := Scalar.muli v28 c6_i32
  let c0_i32_11 : BitVec 32 := 0#32
  let c0_i32_12 : BitVec 32 := 0#32
  let c0_i32_13 : BitVec 32 := 0#32
  ![v29.toNat, c0_i32_11.toNat, c0_i32_12.toNat]

def cc0_transform_3 (i : grid0.Coords) : Fin 3 → Nat :=
  let arg0 : BitVec 32 := BitVec.ofNat 32 (i 0).val
  let arg1 : BitVec 32 := BitVec.ofNat 32 (i 1).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .slt v9 c1_i32_3
  let c17_i32_4 : BitVec 32 := 17#32
  let v11 : BitVec 32 := Scalar.divsi arg1 c17_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c17_i32_4 c0_i32_7
  let v18 : BitVec 32 := Scalar.extui v17
  let c0_i32_8 : BitVec 32 := 0#32
  let v19 : BitVec 1 := Scalar.cmpi .slt c17_i32_4 c0_i32_8
  let v20 : BitVec 32 := Scalar.extui v19
  let v21 : BitVec 32 := Scalar.subi v18 v20
  let v22 : BitVec 1 := Scalar.cmpi .ne v16 v21
  let v23 : BitVec 32 := Scalar.remsi arg1 c17_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c6_i32 : BitVec 32 := 6#32
  let v29 : BitVec 32 := Scalar.muli v28 c6_i32
  let c1_i32_11 : BitVec 32 := 1#32
  let v30 : BitVec 32 := Scalar.addi v29 c1_i32_11
  let c0_i32_12 : BitVec 32 := 0#32
  let c0_i32_13 : BitVec 32 := 0#32
  let c0_i32_14 : BitVec 32 := 0#32
  ![v30.toNat, c0_i32_12.toNat, c0_i32_13.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x3840 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x3840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x4096x1024 : Shape := ⟨3, ![4, 4096, 1024]⟩
abbrev S4x256x1024 : Shape := ⟨3, ![4, 256, 1024]⟩
abbrev S5x6144 : Shape := ⟨2, ![5, 6144]⟩
abbrev S1024 : Shape := ⟨1, ![1024]⟩
abbrev S1024x7440 : Shape := ⟨2, ![1024, 7440]⟩
abbrev S4x6144 : Shape := ⟨2, ![4, 6144]⟩
abbrev S4x1024 : Shape := ⟨2, ![4, 1024]⟩
abbrev S4x1x1024 : Shape := ⟨3, ![4, 1, 1024]⟩
abbrev S1x6144 : Shape := ⟨2, ![1, 6144]⟩
abbrev S1x1024 : Shape := ⟨2, ![1, 1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S4x256 : Shape := ⟨2, ![4, 256]⟩
abbrev S4x256x1 : Shape := ⟨3, ![4, 256, 1]⟩
abbrev S4x4352x1024 : Shape := ⟨3, ![4, 4352, 1024]⟩
abbrev S4x4352x7440 : Shape := ⟨3, ![4, 4352, 7440]⟩
abbrev S17408x7440 : Shape := ⟨2, ![17408, 7440]⟩
abbrev S17408x1536 : Shape := ⟨2, ![17408, 1536]⟩
abbrev S17408x512 : Shape := ⟨2, ![17408, 512]⟩
abbrev S17408x256 : Shape := ⟨2, ![17408, 256]⟩
abbrev S17408x2048 : Shape := ⟨2, ![17408, 2048]⟩
abbrev S17408x16 : Shape := ⟨2, ![17408, 16]⟩
abbrev S17408x3072 : Shape := ⟨2, ![17408, 3072]⟩
abbrev S17408x2x4x64 : Shape := ⟨4, ![17408, 2, 4, 64]⟩
abbrev S17408x4x2x64 : Shape := ⟨4, ![17408, 4, 2, 64]⟩
abbrev S17408x240 : Shape := ⟨2, ![17408, 240]⟩
abbrev S17408x7680 : Shape := ⟨2, ![17408, 7680]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S5x6144, .f32⟩
  | .hbm, ⟨3, _⟩ => ⟨S1024, .f32⟩
  | .hbm, ⟨4, _⟩ => ⟨S1024x7440, .f32⟩
  | .hbm, ⟨5, _⟩ => ⟨S4x6144, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S1x6144, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1x1024, .f32⟩
  | .hbm, ⟨26, _⟩ => ⟨S1x1x1024, .f32⟩
  | .hbm, ⟨27, _⟩ => ⟨S1x1x1024, .f32⟩
  | .hbm, ⟨28, _⟩ => ⟨S1x1x1024, .f32⟩
  | .hbm, ⟨29, _⟩ => ⟨S1x1x1024, .f32⟩
  | .hbm, ⟨30, _⟩ => ⟨S1x1x1024, .f32⟩
  | .hbm, ⟨31, _⟩ => ⟨S4x4096x1024, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x1024, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S4x1x1024, .f32⟩
  | .hbm, ⟨49, _⟩ => ⟨S4x1x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x256x1024, .f32⟩
  | .hbm, ⟨55, _⟩ => ⟨S_, .f32⟩
  | .hbm, ⟨56, _⟩ => ⟨S4x256, .f32⟩
  | .hbm, ⟨57, _⟩ => ⟨S4x256x1, .f32⟩
  | .hbm, ⟨58, _⟩ => ⟨S_, .f32⟩
  | .hbm, ⟨59, _⟩ => ⟨S4x256x1, .f32⟩
  | .hbm, ⟨60, _⟩ => ⟨S4x256x1, .f32⟩
  | .hbm, ⟨61, _⟩ => ⟨S_, .f32⟩
  | .hbm, ⟨62, _⟩ => ⟨S4x256x1, .f32⟩
  | .hbm, ⟨63, _⟩ => ⟨S4x256x1, .f32⟩
  | .hbm, ⟨64, _⟩ => ⟨S4x256x1, .f32⟩
  | .hbm, ⟨65, _⟩ => ⟨S4x256x1024, .f32⟩
  | .hbm, ⟨66, _⟩ => ⟨S4x256x1024, .f32⟩
  | .hbm, ⟨67, _⟩ => ⟨S1x1x1024, .f32⟩
  | .hbm, ⟨68, _⟩ => ⟨S4x256x1024, .f32⟩
  | .hbm, ⟨69, _⟩ => ⟨S4x256x1024, .f32⟩
  | .hbm, ⟨70, _⟩ => ⟨S_, .f32⟩
  | .hbm, ⟨71, _⟩ => ⟨S1x1x1024, .f32⟩
  | .hbm, ⟨72, _⟩ => ⟨S1x1x1024, .f32⟩
  | .hbm, ⟨73, _⟩ => ⟨S4x256x1024, .f32⟩
  | .hbm, ⟨74, _⟩ => ⟨S4x256x1024, .f32⟩
  | .hbm, ⟨75, _⟩ => ⟨S4x256x1024, .f32⟩
  | .hbm, ⟨76, _⟩ => ⟨S4x256x1024, .f32⟩
  | .hbm, ⟨77, _⟩ => ⟨S4x4352x1024, .f32⟩
  | .hbm, ⟨78, _⟩ => ⟨S4x4352x7440, .f32⟩
  | .hbm, ⟨79, _⟩ => ⟨S17408x7440, .f32⟩
  | .hbm, ⟨80, _⟩ => ⟨S17408x1536, .f32⟩
  | .hbm, ⟨81, _⟩ => ⟨S17408x512, .f32⟩
  | .hbm, ⟨82, _⟩ => ⟨S17408x256, .f32⟩
  | .hbm, ⟨83, _⟩ => ⟨S17408x2048, .f32⟩
  | .hbm, ⟨84, _⟩ => ⟨S17408x16, .f32⟩
  | .hbm, ⟨85, _⟩ => ⟨S17408x3072, .f32⟩
  | .hbm, ⟨86, _⟩ => ⟨S17408x2x4x64, .f32⟩
  | .hbm, ⟨87, _⟩ => ⟨S17408x4x2x64, .f32⟩
  | .hbm, ⟨88, _⟩ => ⟨S17408x512, .f32⟩
  | .hbm, ⟨89, _⟩ => ⟨S_, .f32⟩
  | .hbm, ⟨90, _⟩ => ⟨S17408x240, .f32⟩
  | .hbm, ⟨91, _⟩ => ⟨S17408x7680, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_cst_4 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_7 : Ref sig .tc := ⟨.hbm, 89, rfl⟩
abbrev main_v76 : Ref sig .tc := ⟨.hbm, 90, rfl⟩
abbrev main_v77 : Ref sig .tc := ⟨.hbm, 91, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x256x1024 : Shape := ⟨3, ![4, 256, 1024]⟩
abbrev S4x4352x512 : Shape := ⟨3, ![4, 4352, 512]⟩
abbrev S4x4352x7680 : Shape := ⟨3, ![4, 4352, 7680]⟩
abbrev S3072 : Shape := ⟨1, ![3072]⟩
abbrev S128 : Shape := ⟨1, ![128]⟩
abbrev S5x6144 : Shape := ⟨2, ![5, 6144]⟩
abbrev S3x512x1024 : Shape := ⟨3, ![3, 512, 1024]⟩
abbrev S1024x1024 : Shape := ⟨2, ![1024, 1024]⟩
abbrev S4x4352x1024 : Shape := ⟨3, ![4, 4352, 1024]⟩
abbrev S17408x1024 : Shape := ⟨2, ![17408, 1024]⟩
abbrev S17408x2x4x64 : Shape := ⟨4, ![17408, 2, 4, 64]⟩
abbrev S17408x4x2x64 : Shape := ⟨4, ![17408, 4, 2, 64]⟩
abbrev S17408x512 : Shape := ⟨2, ![17408, 512]⟩
abbrev S17408x7680 : Shape := ⟨2, ![17408, 7680]⟩
abbrev S1x3072 : Shape := ⟨2, ![1, 3072]⟩
abbrev S1x128 : Shape := ⟨2, ![1, 128]⟩
abbrev S30x1x1024 : Shape := ⟨3, ![30, 1, 1024]⟩
abbrev S1x3x512x1024 : Shape := ⟨4, ![1, 3, 512, 1024]⟩
abbrev S1x1x512x1024 : Shape := ⟨4, ![1, 1, 512, 1024]⟩
abbrev S1x512x1024 : Shape := ⟨3, ![1, 512, 1024]⟩
abbrev S1x2x4x64x1024 : Shape := ⟨5, ![1, 2, 4, 64, 1024]⟩
abbrev S1x4x2x64x1024 : Shape := ⟨5, ![1, 4, 2, 64, 1024]⟩
abbrev S1x1024x1024 : Shape := ⟨3, ![1, 1024, 1024]⟩
abbrev S256x1024 : Shape := ⟨2, ![256, 1024]⟩
abbrev S256x512 : Shape := ⟨2, ![256, 512]⟩
abbrev S256x1536 : Shape := ⟨2, ![256, 1536]⟩
abbrev S1x1x1024 : Shape := ⟨3, ![1, 1, 1024]⟩
abbrev S256x128 : Shape := ⟨2, ![256, 128]⟩
abbrev S256 : Shape := ⟨1, ![256]⟩
abbrev S256x1 : Shape := ⟨2, ![256, 1]⟩
abbrev S256x3072 : Shape := ⟨2, ![256, 3072]⟩
abbrev S512x1024 : Shape := ⟨2, ![512, 1024]⟩
abbrev S1x1024 : Shape := ⟨2, ![1, 1024]⟩

abbrev nBuf : Space → Nat
  | .hbm => 42
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x4352x512, .f32⟩
  | .hbm, ⟨3, _⟩ => ⟨S4x4352x512, .f32⟩
  | .hbm, ⟨4, _⟩ => ⟨S4x4352x512, .f32⟩
  | .hbm, ⟨5, _⟩ => ⟨S4x4352x512, .f32⟩
  | .hbm, ⟨6, _⟩ => ⟨S4x4352x7680, .f32⟩
  | .hbm, ⟨7, _⟩ => ⟨S3072, .f32⟩
  | .hbm, ⟨8, _⟩ => ⟨S128, .f32⟩
  | .hbm, ⟨9, _⟩ => ⟨S5x6144, .f32⟩
  | .hbm, ⟨10, _⟩ => ⟨S3x512x1024, .f32⟩
  | .hbm, ⟨11, _⟩ => ⟨S1024x1024, .f32⟩
  | .hbm, ⟨12, _⟩ => ⟨S4x4352x1024, .f32⟩
  | .hbm, ⟨13, _⟩ => ⟨S17408x1024, .f32⟩
  | .hbm, ⟨14, _⟩ => ⟨S17408x2x4x64, .f32⟩
  | .hbm, ⟨15, _⟩ => ⟨S17408x4x2x64, .f32⟩
  | .hbm, ⟨16, _⟩ => ⟨S17408x512, .f32⟩
  | .hbm, ⟨17, _⟩ => ⟨S17408x512, .f32⟩
  | .hbm, ⟨18, _⟩ => ⟨S17408x7680, .f32⟩
  | .hbm, ⟨19, _⟩ => ⟨S1x3072, .f32⟩
  | .hbm, ⟨20, _⟩ => ⟨S1x128, .f32⟩
  | .hbm, ⟨21, _⟩ => ⟨S30x1x1024, .f32⟩
  | .hbm, ⟨22, _⟩ => ⟨S1x3x512x1024, .f32⟩
  | .hbm, ⟨23, _⟩ => ⟨S1x1x512x1024, .f32⟩
  | .hbm, ⟨24, _⟩ => ⟨S1x512x1024, .f32⟩
  | .hbm, ⟨25, _⟩ => ⟨S1x2x4x64x1024, .f32⟩
  | .hbm, ⟨26, _⟩ => ⟨S1x4x2x64x1024, .f32⟩
  | .hbm, ⟨27, _⟩ => ⟨S1x1x512x1024, .f32⟩
  | .hbm, ⟨28, _⟩ => ⟨S1x512x1024, .f32⟩
  | .hbm, ⟨29, _⟩ => ⟨S1x512x1024, .f32⟩
  | .hbm, ⟨30, _⟩ => ⟨S1x1x512x1024, .f32⟩
  | .hbm, ⟨31, _⟩ => ⟨S1x512x1024, .f32⟩
  | .hbm, ⟨32, _⟩ => ⟨S1x1x512x1024, .f32⟩
  | .hbm, ⟨33, _⟩ => ⟨S1x1x512x1024, .f32⟩
  | .hbm, ⟨34, _⟩ => ⟨S1x1x512x1024, .f32⟩
  | .hbm, ⟨35, _⟩ => ⟨S1x3x512x1024, .f32⟩
  | .hbm, ⟨36, _⟩ => ⟨S1x3x512x1024, .bf16⟩
  | .hbm, ⟨37, _⟩ => ⟨S1x1024x1024, .f32⟩
  | .hbm, ⟨38, _⟩ => ⟨S1x1024x1024, .bf16⟩
  | .hbm, ⟨39, _⟩ => ⟨S17408x512, .f32⟩
  | .hbm, ⟨40, _⟩ => ⟨S17408x512, .f32⟩
  | .hbm, ⟨41, _⟩ => ⟨S17408x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S1x3072, .f32⟩
  | .local _ .vmem, ⟨17, _⟩ => ⟨S1x128, .f32⟩
  | .local _ .vmem, ⟨18, _⟩ => ⟨S1x1x1024, .f32⟩
  | .local _ .vmem, ⟨19, _⟩ => ⟨S1x1x1024, .f32⟩
  | .local _ .vmem, ⟨20, _⟩ => ⟨S1x3x512x1024, .bf16⟩
  | .local _ .vmem, ⟨21, _⟩ => ⟨S1x1024x1024, .bf16⟩
  | .local _ .vmem, ⟨22, _⟩ => ⟨S256x1024, .f32⟩
  | .local _ .vmem, ⟨23, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .slt v9 c1_i32_3
  let c17_i32_4 : BitVec 32 := 17#32
  let v11 : BitVec 32 := Scalar.divsi arg0 c17_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c17_i32_4 c0_i32_7
  let v18 : BitVec 32 := Scalar.extui v17
  let c0_i32_8 : BitVec 32 := 0#32
  let v19 : BitVec 1 := Scalar.cmpi .slt c17_i32_4 c0_i32_8
  let v20 : BitVec 32 := Scalar.extui v19
  let v21 : BitVec 32 := Scalar.subi v18 v20
  let v22 : BitVec 1 := Scalar.cmpi .ne v16 v21
  let v23 : BitVec 32 := Scalar.remsi arg0 c17_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c6_i32 : BitVec 32 := 6#32
  let v29 : BitVec 32 := Scalar.muli v28 c6_i32
  let c2_i32 : BitVec 32 := 2#32
  let v30 : BitVec 32 := Scalar.addi v29 c2_i32
  let c0_i32_11 : BitVec 32 := 0#32
  let c0_i32_12 : BitVec 32 := 0#32
  let c0_i32_13 : BitVec 32 := 0#32
  ![v30.toNat, c0_i32_11.toNat, c0_i32_12.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x3x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S4x4096x1024 : Shape := ⟨3, ![4, 4096, 1024]⟩
abbrev S4x256x1024 : Shape := ⟨3, ![4, 256, 1024]⟩
abbrev S4x4352x512 : Shape := ⟨3, ![4, 4352, 512]⟩
abbrev S4x4352x7680 : Shape := ⟨3, ![4, 4352, 7680]⟩
abbrev S3072 : Shape := ⟨1, ![3072]⟩
abbrev S128 : Shape := ⟨1, ![128]⟩
abbrev S5x6144 : Shape := ⟨2, ![5, 6144]⟩
abbrev S3x512x1024 : Shape := ⟨3, ![3, 512, 1024]⟩
abbrev S1024x1024 : Shape := ⟨2, ![1024, 1024]⟩
abbrev S4x6144 : Shape := ⟨2, ![4, 6144]⟩
abbrev S4x1024 : Shape := ⟨2, ![4, 1024]⟩
abbrev S4x1x1024 : Shape := ⟨3, ![4, 1, 1024]⟩
abbrev S1x6144 : Shape := ⟨2, ![1, 6144]⟩
abbrev S1x1024 : Shape := ⟨2, ![1, 1024]⟩
abbrev S1x1x1024 : Shape := ⟨3, ![1, 1, 1024]⟩
abbrev S4x4352x4x128 : Shape := ⟨4, ![4, 4352, 4, 128]⟩
abbrev S_ : Shape := ⟨0, ![]⟩
abbrev S4x4352x4 : Shape := ⟨3, ![4, 4352, 4]⟩
abbrev S4x4352x4x1 : Shape := ⟨4, ![4, 4352, 4, 1]⟩
abbrev S1x1x1x128 : Shape := ⟨4, ![1, 1, 1, 128]⟩
abbrev S4x4352x3072 : Shape := ⟨3, ![4, 4352, 3072]⟩
abbrev S4x4352x1x512 : Shape := ⟨4, ![4, 4352, 1, 512]⟩
abbrev S4x4352x3x512 : Shape := ⟨4, ![4, 4352, 3, 512]⟩
abbrev S3x1024x4x4352 : Shape := ⟨4, ![3, 1024, 4, 4352]⟩
abbrev S4x4352x3x1024 : Shape := ⟨4, ![4, 4352, 3, 1024]⟩
abbrev S1x1x3072 : Shape := ⟨3, ![1, 1, 3072]⟩
abbrev S4x4352x1024 : Shape := ⟨3, ![4, 4352, 1024]⟩
abbrev S17408x1024 : Shape := ⟨2, ![17408, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x4352x512, .f32⟩
  | .hbm, ⟨3, _⟩ => ⟨S4x4352x512, .f32⟩
  | .hbm, ⟨4, _⟩ => ⟨S4x4352x512, .f32⟩
  | .hbm, ⟨5, _⟩ => ⟨S4x4352x512, .f32⟩
  | .hbm, ⟨6, _⟩ => ⟨S4x4352x7680, .f32⟩
  | .hbm, ⟨7, _⟩ => ⟨S3072, .f32⟩
  | .hbm, ⟨8, _⟩ => ⟨S128, .f32⟩
  | .hbm, ⟨9, _⟩ => ⟨S5x6144, .f32⟩
  | .hbm, ⟨10, _⟩ => ⟨S3x512x1024, .f32⟩
  | .hbm, ⟨11, _⟩ => ⟨S1024x1024, .f32⟩
  | .hbm, ⟨12, _⟩ => ⟨S4x6144, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S4x1x1024, .f32⟩
  | .hbm, ⟨20, _⟩ => ⟨S1x6144, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1x1024, .f32⟩
  | .hbm, ⟨28, _⟩ => ⟨S4x4352x512, .f32⟩
  | .hbm, ⟨29, _⟩ => ⟨S4x4352x4x128, .f32⟩
  | .hbm, ⟨30, _⟩ => ⟨S4x4352x512, .f32⟩
  | .hbm, ⟨31, _⟩ => ⟨S4x4352x4x128, .f32⟩
  | .hbm, ⟨32, _⟩ => ⟨S4x4352x4x128, .f32⟩
  | .hbm, ⟨33, _⟩ => ⟨S_, .f32⟩
  | .hbm, ⟨34, _⟩ => ⟨S4x4352x4, .f32⟩
  | .hbm, ⟨35, _⟩ => ⟨S4x4352x4x1, .f32⟩
  | .hbm, ⟨36, _⟩ => ⟨S_, .f32⟩
  | .hbm, ⟨37, _⟩ => ⟨S4x4352x4x1, .f32⟩
  | .hbm, ⟨38, _⟩ => ⟨S4x4352x4x1, .f32⟩
  | .hbm, ⟨39, _⟩ => ⟨S_, .f32⟩
  | .hbm, ⟨40, _⟩ => ⟨S4x4352x4x1, .f32⟩
  | .hbm, ⟨41, _⟩ => ⟨S4x4352x4x1, .f32⟩
  | .hbm, ⟨42, _⟩ => ⟨S4x4352x4x1, .f32⟩
  | .hbm, ⟨43, _⟩ => ⟨S4x4352x4x128, .f32⟩
  | .hbm, ⟨44, _⟩ => ⟨S4x4352x4x128, .f32⟩
  | .hbm, ⟨45, _⟩ => ⟨S1x1x1x128, .f32⟩
  | .hbm, ⟨46, _⟩ => ⟨S4x4352x4x128, .f32⟩
  | .hbm, ⟨47, _⟩ => ⟨S4x4352x4x128, .f32⟩
  | .hbm, ⟨48, _⟩ => ⟨S4x4352x4x128, .f32⟩
  | .hbm, ⟨49, _⟩ => ⟨S4x4352x4x128, .f32⟩
  | .hbm, ⟨50, _⟩ => ⟨S_, .f32⟩
  | .hbm, ⟨51, _⟩ => ⟨S4x4352x4x128, .f32⟩
  | .hbm, ⟨52, _⟩ => ⟨S4x4352x4x128, .f32⟩
  | .hbm, ⟨53, _⟩ => ⟨S_, .f32⟩
  | .hbm, ⟨54, _⟩ => ⟨S4x4352x4x128, .f32⟩
  | .hbm, ⟨55, _⟩ => ⟨S4x4352x4x128, .f32⟩
  | .hbm, ⟨56, _⟩ => ⟨S4x4352x4x128, .f32⟩
  | .hbm, ⟨57, _⟩ => ⟨S4x4352x4x128, .f32⟩
  | .hbm, ⟨58, _⟩ => ⟨S4x4352x512, .f32⟩
  | .hbm, ⟨59, _⟩ => ⟨S4x4352x3072, .f32⟩
  | .hbm, ⟨60, _⟩ => ⟨S4x4352x1x512, .f32⟩
  | .hbm, ⟨61, _⟩ => ⟨S4x4352x1x512, .f32⟩
  | .hbm, ⟨62, _⟩ => ⟨S4x4352x1x512, .f32⟩
  | .hbm, ⟨63, _⟩ => ⟨S4x4352x3x512, .f32⟩
  | .hbm, ⟨64, _⟩ => ⟨S3x1024x4x4352, .f32⟩
  | .hbm, ⟨65, _⟩ => ⟨S4x4352x3x1024, .f32⟩
  | .hbm, ⟨66, _⟩ => ⟨S1x1x3072, .f32⟩
  | .hbm, ⟨67, _⟩ => ⟨S4x4352x3072, .f32⟩
  | .hbm, ⟨68, _⟩ => ⟨S4x4352x3072, .f32⟩
  | .hbm, ⟨69, _⟩ => ⟨S4x4352x3072, .f32⟩
  | .hbm, ⟨70, _⟩ => ⟨S4x4352x3072, .f32⟩
  | .hbm, ⟨71, _⟩ => ⟨S_, .f32⟩
  | .hbm, ⟨72, _⟩ => ⟨S4x4352x3072, .f32⟩
  | .hbm, ⟨73, _⟩ => ⟨S4x4352x3072, .f32⟩
  | .hbm, ⟨74, _⟩ => ⟨S_, .f32⟩
  | .hbm, ⟨75, _⟩ => ⟨S4x4352x3072, .f32⟩
  | .hbm, ⟨76, _⟩ => ⟨S4x4352x3072, .f32⟩
  | .hbm, ⟨77, _⟩ => ⟨S4x4352x3x1024, .f32⟩
  | .hbm, ⟨78, _⟩ => ⟨S4x4352x3x1024, .f32⟩
  | .hbm, ⟨79, _⟩ => ⟨S_, .f32⟩
  | .hbm, ⟨80, _⟩ => ⟨S4x4352x1024, .f32⟩
  | .hbm, ⟨81, _⟩ => ⟨S4x4352x1024, .f32⟩
  | .hbm, ⟨82, _⟩ => ⟨S4x256x1024, .f32⟩
  | .hbm, ⟨83, _⟩ => ⟨S4x256x1024, .f32⟩
  | .hbm, ⟨84, _⟩ => ⟨S4x256x1024, .f32⟩
  | .hbm, ⟨85, _⟩ => ⟨S4x256x1024, .f32⟩
  | .hbm, ⟨86, _⟩ => ⟨S4x4096x1024, .f32⟩
  | .hbm, ⟨87, _⟩ => ⟨S4x4096x1024, .f32⟩
  | .hbm, ⟨88, _⟩ => ⟨S4x4096x1024, .f32⟩
  | .hbm, ⟨89, _⟩ => ⟨S4x4096x1024, .f32⟩
  | .hbm, ⟨90, _⟩ => ⟨S4x4352x1024, .f32⟩
  | .hbm, ⟨91, _⟩ => ⟨S17408x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_2 : Ref sig .tc := ⟨.hbm, 71, rfl⟩
abbrev main_v48 : Ref sig .tc := ⟨.hbm, 72, rfl⟩
abbrev main_v49 : Ref sig .tc := ⟨.hbm, 73, rfl⟩
abbrev main_cst_3 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_4 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== Kernel4.lean ====
abbrev S4x4352x512 : Shape := ⟨3, ![4, 4352, 512]⟩
abbrev S4x4352x128 : Shape := ⟨3, ![4, 4352, 128]⟩
abbrev S8 : Shape := ⟨1, ![8]⟩
abbrev S1x128x512 : Shape := ⟨3, ![1, 128, 512]⟩
abbrev S1x256x128 : Shape := ⟨3, ![1, 256, 128]⟩
abbrev S1x128x128 : Shape := ⟨3, ![1, 128, 128]⟩
abbrev S128x512 : Shape := ⟨2, ![128, 512]⟩
abbrev S128x128 : Shape := ⟨2, ![128, 128]⟩
abbrev S256x128 : Shape := ⟨2, ![256, 128]⟩
abbrev S128x256 : Shape := ⟨2, ![128, 256]⟩
abbrev S1 : Shape := ⟨1, ![1]⟩
abbrev S128 : Shape := ⟨1, ![128]⟩
abbrev S128x1 : Shape := ⟨2, ![128, 1]⟩
abbrev S640x128 : Shape := ⟨2, ![640, 128]⟩
abbrev S128x640 : Shape := ⟨2, ![128, 640]⟩

abbrev nBuf : Space → Nat
  | .hbm => 7
  | .vmem => 20
  | .smem => 1
  | _ => 0

abbrev bufTy : (tb : Table) → Fin (tcTables nBuf tb) → BufTy
  | .hbm, ⟨0, _⟩ => ⟨S4x4352x512, .f32⟩
  | .hbm, ⟨1, _⟩ => ⟨S4x4352x128, .f32⟩
  | .hbm, ⟨2, _⟩ => ⟨S4x4352x128, .f32⟩
  | .hbm, ⟨3, _⟩ => ⟨S8, .f32⟩
  | .hbm, ⟨4, _⟩ => ⟨S4x4352x128, .bf16⟩
  | .hbm, ⟨5, _⟩ => ⟨S4x4352x128, .bf16⟩
  | .hbm, ⟨6, _⟩ => ⟨S4x4352x512, .f32⟩
  | .local _ .vmem, ⟨0, _⟩ => ⟨S1x128x512, .f32⟩
  | .local _ .vmem, ⟨1, _⟩ => ⟨S1x128x512, .f32⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x128x128, .bf16⟩
  | .local _ .vmem, ⟨15, _⟩ => ⟨S1x128x128, .bf16⟩
  | .local _ .vmem, ⟨16, _⟩ => ⟨S1x128x128, .bf16⟩
  | .local _ .vmem, ⟨17, _⟩ => ⟨S1x128x128, .bf16⟩
  | .local _ .vmem, ⟨18, _⟩ => ⟨S1x128x512, .f32⟩
  | .local _ .vmem, ⟨19, _⟩ => ⟨S1x128x512, .f32⟩
  | .local _ .smem, ⟨0, _⟩ => ⟨S8, .f32⟩
  | _, _ => ⟨S4x4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 34], ![false, false]⟩

def k0_cond1 (i : grid0.Coords) : BitVec 1 :=
  let arg1 : BitVec 32 := BitVec.ofNat 32 (i 1).val
  let c2_i32 : BitVec 32 := 2#32
  let v6 : BitVec 1 := Scalar.cmpi .slt arg1 c2_i32
  let v7 : BitVec 32 := Scalar.extui v6
  let c0_i32 : BitVec 32 := 0#32
  let v8 : BitVec 1 := Scalar.cmpi .ne v7 c0_i32
  v8

def k0_cond2 (i : grid0.Coords) : BitVec 1 :=
  let arg1 : BitVec 32 := BitVec.ofNat 32 (i 1).val
  let c2_i32_2 : BitVec 32 := 2#32
  let v9 : BitVec 1 := Scalar.cmpi .sge arg1 c2_i32_2
  let v10 : BitVec 32 := Scalar.extui v9
  let c0_i32_3 : BitVec 32 := 0#32
  let v11 : BitVec 1 := Scalar.cmpi .ne v10 c0_i32_3
  v11

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c2_i32 : BitVec 32 := 2#32
  let c33_i32 : BitVec 32 := 33#32
  let v1 : BitVec 32 := Scalar.maxsi c2_i32 v0
  let v2 : BitVec 32 := Scalar.minsi c33_i32 v1
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let c33_i32 : BitVec 32 := 33#32
  let v1 : BitVec 32 := Scalar.maxsi c2_i32 v0
  let v2 : BitVec 32 := Scalar.minsi c33_i32 v1
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let c33_i32 : BitVec 32 := 33#32
  let v1 : BitVec 32 := Scalar.maxsi c2_i32 v0
  let v2 : BitVec 32 := Scalar.minsi c33_i32 v1
  let c0_i32 : BitVec 32 := 0#32
  let c0_i32_0 : BitVec 32 := 0#32
  ![arg0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c2_i32 : BitVec 32 := 2#32
  let c33_i32 : BitVec 32 := 33#32
  let v1 : BitVec 32 := Scalar.maxsi c2_i32 v0
  let v2 : BitVec 32 := Scalar.minsi c33_i32 v1
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let c33_i32 : BitVec 32 := 33#32
  let v1 : BitVec 32 := Scalar.maxsi c2_i32 v0
  let v2 : BitVec 32 := Scalar.minsi c33_i32 v1
  let c0_i32_0 : BitVec 32 := 0#32
  let c0_i32_1 : BitVec 32 := 0#32
  ![arg0.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let c33_i32 : BitVec 32 := 33#32
  let v1 : BitVec 32 := Scalar.maxsi c2_i32 v0
  let v2 : BitVec 32 := Scalar.minsi c33_i32 v1
  let c0_i32 : BitVec 32 := 0#32
  let c0_i32_0 : BitVec 32 := 0#32
  ![arg0.toNat, v2.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel4Ideal.lean ====
variable {F : FTy → Type} [FloatOps F] [Named F]
def κ : String → Option EReal := fun
  | "base" => some (((Real.log 2)⁻¹ : ℝ) : EReal)
  | "mask" => some ⊥
  | "scale" => some (((1 / 8) * (Real.log 2)⁻¹ : ℝ) : EReal)
  | _ => none
-- ==== Reference4Ideal.lean ====
abbrev S4x4352x512 : Shape := ⟨3, ![4, 4352, 512]⟩
abbrev S4x4352x128 : Shape := ⟨3, ![4, 4352, 128]⟩
abbrev S8 : Shape := ⟨1, ![8]⟩
abbrev S4x4352x4x2x64 : Shape := ⟨5, ![4, 4352, 4, 2, 64]⟩
abbrev S4x4352x2x4x64 : Shape := ⟨5, ![4, 4352, 2, 4, 64]⟩
abbrev S4x4352x2x64 : Shape := ⟨4, ![4, 4352, 2, 64]⟩
abbrev S4x4096x2x4x64 : Shape := ⟨5, ![4, 4096, 2, 4, 64]⟩
abbrev S4x4096x2x64 : Shape := ⟨4, ![4, 4096, 2, 64]⟩
abbrev S4x256x2x4x64 : Shape := ⟨5, ![4, 256, 2, 4, 64]⟩
abbrev S4x256x2x64 : Shape := ⟨4, ![4, 256, 2, 64]⟩
abbrev S2x4 : Shape := ⟨2, ![2, 4]⟩
abbrev S_ : Shape := ⟨0, ![]⟩
abbrev S32 : Shape := ⟨1, ![32]⟩
abbrev S32x1 : Shape := ⟨2, ![32, 1]⟩
abbrev S384 : Shape := ⟨1, ![384]⟩
abbrev S1x384 : Shape := ⟨2, ![1, 384]⟩
abbrev S32x384 : Shape := ⟨2, ![32, 384]⟩
abbrev S32x384x1 : Shape := ⟨3, ![32, 384, 1]⟩
abbrev S4x32x384x2x64 : Shape := ⟨5, ![4, 32, 384, 2, 64]⟩
abbrev S4x32x128x2x4x64 : Shape := ⟨6, ![4, 32, 128, 2, 4, 64]⟩
abbrev S4x2x256x32x128x4 : Shape := ⟨6, ![4, 2, 256, 32, 128, 4]⟩
abbrev S4x32x2x4x128x256 : Shape := ⟨6, ![4, 32, 2, 4, 128, 256]⟩
abbrev S4x32x2x384x128x4 : Shape := ⟨6, ![4, 32, 2, 384, 128, 4]⟩
abbrev S4x32x2x4x128x384 : Shape := ⟨6, ![4, 32, 2, 4, 128, 384]⟩
abbrev S128 : Shape := ⟨1, ![128]⟩
abbrev S128x1 : Shape := ⟨2, ![128, 1]⟩
abbrev S128x384 : Shape := ⟨2, ![128, 384]⟩
abbrev S1x128x384 : Shape := ⟨3, ![1, 128, 384]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S1x1x2x4x1x1 : Shape := ⟨6, ![1, 1, 2, 4, 1, 1]⟩
abbrev S4x32x2x4x128x1 : Shape := ⟨6, ![4, 32, 2, 4, 128, 1]⟩
abbrev S4x32x2x4x128x641 : Shape := ⟨6, ![4, 32, 2, 4, 128, 641]⟩
abbrev S4x32x2x4x128 : Shape := ⟨5, ![4, 32, 2, 4, 128]⟩
abbrev S4x2x64x32x4x128 : Shape := ⟨6, ![4, 2, 64, 32, 4, 128]⟩
abbrev S4x32x2x64x4x128 : Shape := ⟨6, ![4, 32, 2, 64, 4, 128]⟩
abbrev S4x2x256x256x4 : Shape := ⟨5, ![4, 2, 256, 256, 4]⟩
abbrev S4x2x4x256x256 : Shape := ⟨5, ![4, 2, 4, 256, 256]⟩
abbrev S1x2x4x1x1 : Shape := ⟨5, ![1, 2, 4, 1, 1]⟩
abbrev S4x2x4x256x1 : Shape := ⟨5, ![4, 2, 4, 256, 1]⟩
abbrev S4x2x4x256x257 : Shape := ⟨5, ![4, 2, 4, 256, 257]⟩
abbrev S4x2x4x256 : Shape := ⟨4, ![4, 2, 4, 256]⟩
abbrev S4x2x64x4x256 : Shape := ⟨5, ![4, 2, 64, 4, 256]⟩

abbrev nBuf : Space → Nat
  | .hbm => 148
  | .vmem => 0
  | .smem => 0
  | _ => 0

abbrev hbmTy0_0 (i : Nat) : BufTy := match i % 128 with
  | 0 => ⟨S4x4352x512, .f32⟩
  | 1 => ⟨S4x4352x128, .f32⟩
  | 2 => ⟨S4x4352x128, .f32⟩
  | 3 => ⟨S8, .f32⟩
  | 4 => ⟨S4x4352x4x2x64, .f32⟩
  | 5 => ⟨S4x4352x2x4x64, .f32⟩
  | 6 => ⟨S4x4352x2x64, .f32⟩
  | 7 => ⟨S4x4352x2x64, .f32⟩
  | 8 => ⟨S4x4096x2x4x64, .f32⟩
  | 9 => ⟨S4x4096x2x64, .f32⟩
  | 10 => ⟨S4x4096x2x64, .f32⟩
  | 11 => ⟨S4x256x2x4x64, .f32⟩
  | 12 => ⟨S4x256x2x64, .f32⟩
  | 13 => ⟨S4x256x2x64, .f32⟩
  | 14 => ⟨S2x4, .f32⟩
  | 15 => ⟨S_, .i32⟩
  | 16 => ⟨S_, .f32⟩
  | 17 => ⟨S4x4352x2x64, .f32⟩
  | 18 => ⟨S_, .i32⟩
  | 19 => ⟨S_, .f32⟩
  | 20 => ⟨S4x4352x2x64, .f32⟩
  | 21 => ⟨S32, .i32⟩
  | 22 => ⟨S32x1, .i32⟩
  | 23 => ⟨S_, .i32⟩
  | 24 => ⟨S32x1, .i32⟩
  | 25 => ⟨S32x1, .i32⟩
  | 26 => ⟨S384, .i32⟩
  | 27 => ⟨S1x384, .i32⟩
  | 28 => ⟨S32x384, .i32⟩
  | 29 => ⟨S32x384, .i32⟩
  | 30 => ⟨S32x384, .i32⟩
  | 31 => ⟨S_, .i32⟩
  | 32 => ⟨S32x384, .i32⟩
  | 33 => ⟨S32x384, .i1⟩
  | 34 => ⟨S_, .i32⟩
  | 35 => ⟨S32x384, .i32⟩
  | 36 => ⟨S32x384, .i32⟩
  | 37 => ⟨S32x384, .i32⟩
  | 38 => ⟨S32x384x1, .i32⟩
  | 39 => ⟨S4x32x384x2x64, .f32⟩
  | 40 => ⟨S_, .i32⟩
  | 41 => ⟨S32x384, .i32⟩
  | 42 => ⟨S32x384, .i1⟩
  | 43 => ⟨S_, .i32⟩
  | 44 => ⟨S32x384, .i32⟩
  | 45 => ⟨S32x384, .i32⟩
  | 46 => ⟨S32x384, .i32⟩
  | 47 => ⟨S32x384x1, .i32⟩
  | 48 => ⟨S4x32x384x2x64, .f32⟩
  | 49 => ⟨S4x32x128x2x4x64, .f32⟩
  | 50 => ⟨S4x2x256x32x128x4, .f32⟩
  | 51 => ⟨S4x32x2x4x128x256, .f32⟩
  | 52 => ⟨S_, .f32⟩
  | 53 => ⟨S4x32x2x4x128x256, .f32⟩
  | 54 => ⟨S4x32x2x4x128x256, .f32⟩
  | 55 => ⟨S4x32x2x384x128x4, .f32⟩
  | 56 => ⟨S4x32x2x4x128x384, .f32⟩
  | 57 => ⟨S_, .f32⟩
  | 58 => ⟨S4x32x2x4x128x384, .f32⟩
  | 59 => ⟨S4x32x2x4x128x384, .f32⟩
  | 60 => ⟨S384, .i32⟩
  | 61 => ⟨S1x384, .i32⟩
  | 62 => ⟨S_, .i32⟩
  | 63 => ⟨S1x384, .i32⟩
  | 64 => ⟨S1x384, .i32⟩
  | 65 => ⟨S128, .i32⟩
  | 66 => ⟨S128x1, .i32⟩
  | 67 => ⟨S128x384, .i32⟩
  | 68 => ⟨S128x384, .i32⟩
  | 69 => ⟨S128x384, .i32⟩
  | 70 => ⟨S_, .i32⟩
  | 71 => ⟨S32x384, .i32⟩
  | 72 => ⟨S32x384, .i32⟩
  | 73 => ⟨S128x384, .i32⟩
  | 74 => ⟨S_, .i32⟩
  | 75 => ⟨S128x384, .i32⟩
  | 76 => ⟨S128x384, .i1⟩
  | 77 => ⟨S1x128x384, .i1⟩
  | 78 => ⟨S_, .i32⟩
  | 79 => ⟨S32x384, .i32⟩
  | 80 => ⟨S32x384, .i1⟩
  | 81 => ⟨S_, .i32⟩
  | 82 => ⟨S32x384, .i32⟩
  | 83 => ⟨S32x384, .i1⟩
  | 84 => ⟨S32x384, .i1⟩
  | 85 => ⟨S32x1x384, .i1⟩
  | 86 => ⟨S32x128x384, .i1⟩
  | 87 => ⟨S32x128x384, .i1⟩
  | 88 => ⟨S32x128x384, .i1⟩
  | 89 => ⟨S1x32x1x1x128x384, .i1⟩
  | 90 => ⟨S_, .f32⟩
  | 91 => ⟨S_, .f32⟩
  | 92 => ⟨S4x32x2x4x128x384, .i1⟩
  | 93 => ⟨S4x32x2x4x128x384, .f32⟩
  | 94 => ⟨S4x32x2x4x128x384, .f32⟩
  | 95 => ⟨S1x1x2x4x1x1, .f32⟩
  | 96 => ⟨S4x32x2x4x128x1, .f32⟩
  | 97 => ⟨S4x32x2x4x128x641, .f32⟩
  | 98 => ⟨S_, .f32⟩
  | 99 => ⟨S4x32x2x4x128, .f32⟩
  | 100 => ⟨S_, .f32⟩
  | 101 => ⟨S4x32x2x4x128, .f32⟩
  | 102 => ⟨S4x32x2x4x128, .f32⟩
  | 103 => ⟨S4x32x2x4x128x1, .f32⟩
  | 104 => ⟨S4x32x2x4x128x641, .f32⟩
  | 105 => ⟨S4x32x2x4x128x641, .f32⟩
  | 106 => ⟨S4x32x2x4x128x641, .f32⟩
  | 107 => ⟨S_, .f32⟩
  | 108 => ⟨S4x32x2x4x128, .f32⟩
  | 109 => ⟨S4x32x2x4x128x1, .f32⟩
  | 110 => ⟨S4x32x2x4x128x641, .f32⟩
  | 111 => ⟨S4x32x2x4x128x641, .f32⟩
  | 112 => ⟨S4x32x2x4x128x256, .f32⟩
  | 113 => ⟨S4x32x2x4x128x384, .f32⟩
  | 114 => ⟨S4x2x64x32x4x128, .f32⟩
  | 115 => ⟨S4x32x128x2x4x64, .f32⟩
  | 116 => ⟨S4x32x2x64x4x128, .f32⟩
  | 117 => ⟨S4x32x128x2x4x64, .f32⟩
  | 118 => ⟨S4x32x128x2x4x64, .f32⟩
  | 119 => ⟨S4x4096x2x4x64, .f32⟩
  | 120 => ⟨S4x2x256x256x4, .f32⟩
  | 121 => ⟨S4x2x4x256x256, .f32⟩
  | 122 => ⟨S_, .f32⟩
  | 123 => ⟨S4x2x4x256x256, .f32⟩
  | 124 => ⟨S4x2x4x256x256, .f32⟩
  | 125 => ⟨S1x2x4x1x1, .f32⟩
  | 126 => ⟨S4x2x4x256x1, .f32⟩
  | 127 => ⟨S4x2x4x256x257, .f32⟩
  | _ => ⟨S4x4352x512, .f32⟩

abbrev hbmTy0_1 (i : Nat) : BufTy := match i % 128 with
  | 0 => ⟨S_, .f32⟩
  | 1 => ⟨S4x2x4x256, .f32⟩
  | 2 => ⟨S_, .f32⟩
  | 3 => ⟨S4x2x4x256, .f32⟩
  | 4 => ⟨S4x2x4x256, .f32⟩
  | 5 => ⟨S4x2x4x256x1, .f32⟩
  | 6 => ⟨S4x2x4x256x257, .f32⟩
  | 7 => ⟨S4x2x4x256x257, .f32⟩
  | 8 => ⟨S4x2x4x256x257, .f32⟩
  | 9 => ⟨S_, .f32⟩
  | 10 => ⟨S4x2x4x256, .f32⟩
  | 11 => ⟨S4x2x4x256x1, .f32⟩
  | 12 => ⟨S4x2x4x256x257, .f32⟩
  | 13 => ⟨S4x2x4x256x257, .f32⟩
  | 14 => ⟨S4x2x4x256x256, .f32⟩
  | 15 => ⟨S4x2x64x4x256, .f32⟩
  | 16 => ⟨S4x256x2x4x64, .f32⟩
  | 17 => ⟨S4x4352x2x4x64, .f32⟩
  | 18 => ⟨S4x4352x4x2x64, .f32⟩
  | 19 => ⟨S4x4352x512, .f32⟩
  | _ => ⟨S4x4352x512, .f32⟩

abbrev hbmTy (i : Nat) : BufTy := match i / 128 with
  | 0 => hbmTy0_0 i
  | 1 => hbmTy0_1 i
  | _ => ⟨S4x4352x512, .f32⟩

abbrev bufTy : (tb : Table) → Fin (tcTables nBuf tb) → BufTy
  | .hbm, ⟨i, _⟩ => hbmTy i
  | _, _ => ⟨S4x4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_10 : Ref sig .tc := ⟨.hbm, 78, rfl⟩
abbrev main_v60 : Ref sig .tc := ⟨.hbm, 79, rfl⟩
abbrev main_v61 : Ref sig .tc := ⟨.hbm, 80, rfl⟩
abbrev main_c_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_16 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_17 : Ref sig .tc := ⟨.hbm, 128, rfl⟩
abbrev main_v100 : Ref sig .tc := ⟨.hbm, 129, rfl⟩
abbrev main_cst_18 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_19 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩

abbrev nD : Nat := 1
abbrev τ : Topo := Topo.v7x

variable {F : FTy → Type} [FloatOps F]
-- ==== Kernel5.lean ====
abbrev S4x1024 : Shape := ⟨2, ![4, 1024]⟩
abbrev S1024 : Shape := ⟨1, ![1024]⟩
abbrev S1024x6144 : Shape := ⟨2, ![1024, 6144]⟩
abbrev S1x1024 : Shape := ⟨2, ![1, 1024]⟩
abbrev S5x1024 : Shape := ⟨2, ![5, 1024]⟩
abbrev S_ : Shape := ⟨0, ![]⟩
abbrev S16x1024 : Shape := ⟨2, ![16, 1024]⟩
abbrev S1x1024x6144 : Shape := ⟨3, ![1, 1024, 6144]⟩
abbrev S16x6144 : Shape := ⟨2, ![16, 6144]⟩
abbrev S1x1024x1536 : Shape := ⟨3, ![1, 1024, 1536]⟩
abbrev S16x1536 : Shape := ⟨2, ![16, 1536]⟩
abbrev S1024x1536 : Shape := ⟨2, ![1024, 1536]⟩

abbrev nBuf : Space → Nat
  | .hbm => 21
  | .vmem => 5
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S1x1024, .f32⟩
  | .hbm, ⟨4, _⟩ => ⟨S5x1024, .f32⟩
  | .hbm, ⟨5, _⟩ => ⟨S5x1024, .f32⟩
  | .hbm, ⟨6, _⟩ => ⟨S5x1024, .f32⟩
  | .hbm, ⟨7, _⟩ => ⟨S_, .f32⟩
  | .hbm, ⟨8, _⟩ => ⟨S5x1024, .f32⟩
  | .hbm, ⟨9, _⟩ => ⟨S5x1024, .f32⟩
  | .hbm, ⟨10, _⟩ => ⟨S_, .f32⟩
  | .hbm, ⟨11, _⟩ => ⟨S5x1024, .f32⟩
  | .hbm, ⟨12, _⟩ => ⟨S5x1024, .f32⟩
  | .hbm, ⟨13, _⟩ => ⟨S5x1024, .f32⟩
  | .hbm, ⟨14, _⟩ => ⟨S_, .i32⟩
  | .hbm, ⟨15, _⟩ => ⟨S_, .f32⟩
  | .hbm, ⟨16, _⟩ => ⟨S16x1024, .f32⟩
  | .hbm, ⟨17, _⟩ => ⟨S16x1024, .bf16⟩
  | .hbm, ⟨18, _⟩ => ⟨S1x1024x6144, .f32⟩
  | .hbm, ⟨19, _⟩ => ⟨S1x1024x6144, .bf16⟩
  | .hbm, ⟨20, _⟩ => ⟨S16x6144, .f32⟩
  | .local _ .vmem, ⟨0, _⟩ => ⟨S16x1024, .bf16⟩
  | .local _ .vmem, ⟨1, _⟩ => ⟨S1x1024x1536, .bf16⟩
  | .local _ .vmem, ⟨2, _⟩ => ⟨S1x1024x1536, .bf16⟩
  | .local _ .vmem, ⟨3, _⟩ => ⟨S16x1536, .f32⟩
  | .local _ .vmem, ⟨4, _⟩ => ⟨S16x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_c : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4x1024 : Shape := ⟨2, ![4, 1024]⟩
abbrev S1024 : Shape := ⟨1, ![1024]⟩
abbrev S1024x6144 : Shape := ⟨2, ![1024, 6144]⟩
abbrev S_ : Shape := ⟨0, ![]⟩
abbrev S4x6144 : Shape := ⟨2, ![4, 6144]⟩
abbrev S1x1024 : Shape := ⟨2, ![1, 1024]⟩
abbrev S1x6144 : Shape := ⟨2, ![1, 6144]⟩
abbrev S5x6144 : Shape := ⟨2, ![5, 6144]⟩
abbrev S16x6144 : Shape := ⟨2, ![16, 6144]⟩

abbrev nBuf : Space → Nat
  | .hbm => 28
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x6144, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x6144, .f32⟩
  | .hbm, ⟨24, _⟩ => ⟨S5x6144, .f32⟩
  | .hbm, ⟨25, _⟩ => ⟨S_, .i32⟩
  | .hbm, ⟨26, _⟩ => ⟨S_, .f32⟩
  | .hbm, ⟨27, _⟩ => ⟨S16x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call1_v0 : Ref sig .tc := ⟨.hbm, 14, rfl⟩
abbrev main_call1_v1 : Ref sig .tc := ⟨.hbm, 15, rfl⟩
abbrev main_call1_cst : Ref sig .tc := ⟨.hbm, 16, rfl⟩
abbrev main_call1_v2 : Ref sig .tc := ⟨.hbm, 17, rfl⟩
abbrev main_call1_v3 : Ref sig .tc := ⟨.hbm, 18, rfl⟩
abbrev main_call1_cst_0 : Ref sig .tc := ⟨.hbm, 19, rfl⟩
abbrev main_call1_v4 : Ref sig .tc := ⟨.hbm, 20, rfl⟩
abbrev main_call1_v5 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_call2_v0 : Ref sig .tc := ⟨.hbm, 26, rfl⟩
abbrev main_v6 : Ref sig .tc := ⟨.hbm, 27, rfl⟩

abbrev nD : Nat := 1
abbrev τ : Topo := Topo.v7x

variable {F : FTy → Type} [FloatOps F]
-- ==== Kernel6.lean ====
abbrev S17408x7680 : Shape := ⟨2, ![17408, 7680]⟩
abbrev S4096x64 : Shape := ⟨2, ![4096, 64]⟩
abbrev S4x64 : Shape := ⟨2, ![4, 64]⟩
abbrev S5x1536 : Shape := ⟨2, ![5, 1536]⟩
abbrev S2x4 : Shape := ⟨2, ![2, 4]⟩
abbrev S_ : Shape := ⟨0, ![]⟩
abbrev S256x64 : Shape := ⟨2, ![256, 64]⟩
abbrev S4352x64 : Shape := ⟨2, ![4352, 64]⟩
abbrev S1x4352x1x64 : Shape := ⟨4, ![1, 4352, 1, 64]⟩
abbrev S1x4352x2x64 : Shape := ⟨4, ![1, 4352, 2, 64]⟩
abbrev S4352x128 : Shape := ⟨2, ![4352, 128]⟩
abbrev S128 : Shape := ⟨1, ![128]⟩
abbrev S1x4x1x64 : Shape := ⟨4, ![1, 4, 1, 64]⟩
abbrev S1x4x2x64 : Shape := ⟨4, ![1, 4, 2, 64]⟩
abbrev S4x128 : Shape := ⟨2, ![4, 128]⟩
abbrev S1x8 : Shape := ⟨2, ![1, 8]⟩
abbrev S1x128 : Shape := ⟨2, ![1, 128]⟩
abbrev S17408x512 : Shape := ⟨2, ![17408, 512]⟩
abbrev S17408x128 : Shape := ⟨2, ![17408, 128]⟩
abbrev S256x4608 : Shape := ⟨2, ![256, 4608]⟩
abbrev S8x1536 : Shape := ⟨2, ![8, 1536]⟩
abbrev S256x128 : Shape := ⟨2, ![256, 128]⟩
abbrev S256x512 : Shape := ⟨2, ![256, 512]⟩
abbrev S272x1536 : Shape := ⟨2, ![272, 1536]⟩
abbrev S128x128 : Shape := ⟨2, ![128, 128]⟩
abbrev S256x1536 : Shape := ⟨2, ![256, 1536]⟩
abbrev S1x1536 : Shape := ⟨2, ![1, 1536]⟩
abbrev S256 : Shape := ⟨1, ![256]⟩
abbrev S256x1 : Shape := ⟨2, ![256, 1]⟩

abbrev nBuf : Space → Nat
  | .hbm => 77
  | .vmem => 37
  | .smem => 0
  | _ => 0

abbrev bufTy : (tb : Table) → Fin (tcTables nBuf tb) → BufTy
  | .hbm, ⟨0, _⟩ => ⟨S17408x7680, .f32⟩
  | .hbm, ⟨1, _⟩ => ⟨S4096x64, .f32⟩
  | .hbm, ⟨2, _⟩ => ⟨S4096x64, .f32⟩
  | .hbm, ⟨3, _⟩ => ⟨S4x64, .f32⟩
  | .hbm, ⟨4, _⟩ => ⟨S5x1536, .f32⟩
  | .hbm, ⟨5, _⟩ => ⟨S2x4, .f32⟩
  | .hbm, ⟨6, _⟩ => ⟨S2x4, .f32⟩
  | .hbm, ⟨7, _⟩ => ⟨S_, .f32⟩
  | .hbm, ⟨8, _⟩ => ⟨S256x64, .f32⟩
  | .hbm, ⟨9, _⟩ => ⟨S4352x64, .f32⟩
  | .hbm, ⟨10, _⟩ => ⟨S_, .f32⟩
  | .hbm, ⟨11, _⟩ => ⟨S256x64, .f32⟩
  | .hbm, ⟨12, _⟩ => ⟨S4352x64, .f32⟩
  | .hbm, ⟨13, _⟩ => ⟨S1x4352x1x64, .f32⟩
  | .hbm, ⟨14, _⟩ => ⟨S1x4352x2x64, .f32⟩
  | .hbm, ⟨15, _⟩ => ⟨S4352x128, .f32⟩
  | .hbm, ⟨16, _⟩ => ⟨S1x4352x1x64, .f32⟩
  | .hbm, ⟨17, _⟩ => ⟨S1x4352x2x64, .f32⟩
  | .hbm, ⟨18, _⟩ => ⟨S4352x128, .f32⟩
  | .hbm, ⟨19, _⟩ => ⟨S128, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S_, .i32⟩
  | .hbm, ⟨35, _⟩ => ⟨S_, .i1⟩
  | .hbm, ⟨36, _⟩ => ⟨S128, .i1⟩
  | .hbm, ⟨37, _⟩ => ⟨S128, .i1⟩
  | .hbm, ⟨38, _⟩ => ⟨S128, .i1⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S4352x128, .f32⟩
  | .hbm, ⟨46, _⟩ => ⟨S_, .f32⟩
  | .hbm, ⟨47, _⟩ => ⟨S_, .f32⟩
  | .hbm, ⟨48, _⟩ => ⟨S4352x128, .i1⟩
  | .hbm, ⟨49, _⟩ => ⟨S4352x128, .f32⟩
  | .hbm, ⟨50, _⟩ => ⟨S4352x128, .f32⟩
  | .hbm, ⟨51, _⟩ => ⟨S_, .f32⟩
  | .hbm, ⟨52, _⟩ => ⟨S_, .f32⟩
  | .hbm, ⟨53, _⟩ => ⟨S4352x128, .i1⟩
  | .hbm, ⟨54, _⟩ => ⟨S4352x128, .f32⟩
  | .hbm, ⟨55, _⟩ => ⟨S4352x128, .f32⟩
  | .hbm, ⟨56, _⟩ => ⟨S1x4x1x64, .f32⟩
  | .hbm, ⟨57, _⟩ => ⟨S1x4x2x64, .f32⟩
  | .hbm, ⟨58, _⟩ => ⟨S4x128, .f32⟩
  | .hbm, ⟨59, _⟩ => ⟨S1x8, .f32⟩
  | .hbm, ⟨60, _⟩ => ⟨S_, .i32⟩
  | .hbm, ⟨61, _⟩ => ⟨S_, .f32⟩
  | .hbm, ⟨62, _⟩ => ⟨S1x128, .f32⟩
  | .hbm, ⟨63, _⟩ => ⟨S1x8, .f32⟩
  | .hbm, ⟨64, _⟩ => ⟨S_, .i32⟩
  | .hbm, ⟨65, _⟩ => ⟨S_, .f32⟩
  | .hbm, ⟨66, _⟩ => ⟨S1x128, .f32⟩
  | .hbm, ⟨67, _⟩ => ⟨S17408x512, .f32⟩
  | .hbm, ⟨68, _⟩ => ⟨S17408x512, .f32⟩
  | .hbm, ⟨69, _⟩ => ⟨S17408x512, .f32⟩
  | .hbm, ⟨70, _⟩ => ⟨S17408x512, .f32⟩
  | .hbm, ⟨71, _⟩ => ⟨S17408x128, .f32⟩
  | .hbm, ⟨72, _⟩ => ⟨S17408x128, .f32⟩
  | .hbm, ⟨73, _⟩ => ⟨S17408x512, .f32⟩
  | .hbm, ⟨74, _⟩ => ⟨S17408x512, .f32⟩
  | .hbm, ⟨75, _⟩ => ⟨S17408x512, .f32⟩
  | .hbm, ⟨76, _⟩ => ⟨S17408x128, .f32⟩
  | .local _ .vmem, ⟨0, _⟩ => ⟨S256x4608, .f32⟩
  | .local _ .vmem, ⟨1, _⟩ => ⟨S256x4608, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S8x1536, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S4x128, .f32⟩
  | .local _ .vmem, ⟨13, _⟩ => ⟨S5x1536, .f32⟩
  | .local _ .vmem, ⟨14, _⟩ => ⟨S1x128, .f32⟩
  | .local _ .vmem, ⟨15, _⟩ => ⟨S1x128, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x128, .f32⟩
  | .local _ .vmem, ⟨35, _⟩ => ⟨S256x128, .f32⟩
  | .local _ .vmem, ⟨36, _⟩ => ⟨S272x1536, .f32⟩
  | _, _ => ⟨S17408x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v11 : Ref sig .tc := ⟨.hbm, 41, rfl⟩
abbrev main_c_1 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_2 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v15 : Ref sig .tc := ⟨.hbm, 50, rfl⟩
abbrev main_cst_3 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_c_4 : Ref sig .tc := ⟨.hbm, 60, rfl⟩
abbrev main_call3_v0 : Ref sig .tc := ⟨.hbm, 61, rfl⟩
abbrev main_v21 : Ref sig .tc := ⟨.hbm, 62, rfl⟩
abbrev main_v22 : Ref sig .tc := ⟨.hbm, 63, rfl⟩
abbrev main_c_5 : Ref sig .tc := ⟨.hbm, 64, rfl⟩
abbrev main_call4_v0 : Ref sig .tc := ⟨.hbm, 65, rfl⟩
abbrev main_v23 : Ref sig .tc := ⟨.hbm, 66, rfl⟩
abbrev main_v24_0 : Ref sig .tc := ⟨.hbm, 67, rfl⟩
abbrev main_v24_1 : Ref sig .tc := ⟨.hbm, 68, rfl⟩
abbrev main_v24_2 : Ref sig .tc := ⟨.hbm, 69, rfl⟩
abbrev main_v24_3 : Ref sig .tc := ⟨.hbm, 70, rfl⟩
abbrev main_v24_4 : Ref sig .tc := ⟨.hbm, 71, rfl⟩
abbrev main_v24_5 : Ref sig .tc := ⟨.hbm, 72, rfl⟩
abbrev main_v24_6 : Ref sig .tc := ⟨.hbm, 73, rfl⟩
abbrev main_v24_7 : Ref sig .tc := ⟨.hbm, 74, rfl⟩
abbrev main_v24_8 : Ref sig .tc := ⟨.hbm, 75, rfl⟩
abbrev main_v24_9 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2175_i32 : BitVec 32 := 2175#32
  let v2 : BitVec 32 := Scalar.minsi v1 c2175_i32
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference6Ideal.lean ====
abbrev S17408x7680 : Shape := ⟨2, ![17408, 7680]⟩
abbrev S4096x64 : Shape := ⟨2, ![4096, 64]⟩
abbrev S4x64 : Shape := ⟨2, ![4, 64]⟩
abbrev S5x1536 : Shape := ⟨2, ![5, 1536]⟩
abbrev S2x4 : Shape := ⟨2, ![2, 4]⟩
abbrev S4x4352x7680 : Shape := ⟨3, ![4, 4352, 7680]⟩
abbrev S4x4352x512 : Shape := ⟨3, ![4, 4352, 512]⟩
abbrev S1x64 : Shape := ⟨2, ![1, 64]⟩
abbrev S64 : Shape := ⟨1, ![64]⟩
abbrev S4x256x512 : Shape := ⟨3, ![4, 256, 512]⟩
abbrev S4x4096x512 : Shape := ⟨3, ![4, 4096, 512]⟩
abbrev S4x256x8x64 : Shape := ⟨4, ![4, 256, 8, 64]⟩
abbrev S_ : Shape := ⟨0, ![]⟩
abbrev S4x256x8 : Shape := ⟨3, ![4, 256, 8]⟩
abbrev S4x256x8x1 : Shape := ⟨4, ![4, 256, 8, 1]⟩
abbrev S1x1x1x64 : Shape := ⟨4, ![1, 1, 1, 64]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S4x4096x8x2x2x16 : Shape := ⟨6, ![4, 4096, 8, 2, 2, 16]⟩
abbrev S4x4096x8x2x1x16 : Shape := ⟨6, ![4, 4096, 8, 2, 1, 16]⟩
abbrev S4x4096x8x2x16 : Shape := ⟨5, ![4, 4096, 8, 2, 16]⟩
abbrev S1x4096x1x64 : Shape := ⟨4, ![1, 4096, 1, 64]⟩
abbrev S4x4352x8x64 : Shape := ⟨4, ![4, 4352, 8, 64]⟩
abbrev S17408x512 : Shape := ⟨2, ![17408, 512]⟩
abbrev S4x4352x128 : Shape := ⟨3, ![4, 4352, 128]⟩
abbrev S4x256x128 : Shape := ⟨3, ![4, 256, 128]⟩
abbrev S4x4096x128 : Shape := ⟨3, ![4, 4096, 128]⟩
abbrev S4x256x2x64 : Shape := ⟨4, ![4, 256, 2, 64]⟩
abbrev S4x256x2 : Shape := ⟨3, ![4, 256, 2]⟩
abbrev S4x256x2x1 : Shape := ⟨4, ![4, 256, 2, 1]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S4x4096x2x2x2x16 : Shape := ⟨6, ![4, 4096, 2, 2, 2, 16]⟩
abbrev S4x4096x2x2x1x16 : Shape := ⟨6, ![4, 4096, 2, 2, 1, 16]⟩
abbrev S4x4096x2x2x16 : Shape := ⟨5, ![4, 4096, 2, 2, 16]⟩
abbrev S4x4352x2x64 : Shape := ⟨4, ![4, 4352, 2, 64]⟩
abbrev S17408x128 : Shape := ⟨2, ![17408, 128]⟩
abbrev S4x4352x8 : Shape := ⟨3, ![4, 4352, 8]⟩
abbrev S4x4352x2x4 : Shape := ⟨4, ![4, 4352, 2, 4]⟩
abbrev S1x1x2x4 : Shape := ⟨4, ![1, 1, 2, 4]⟩
abbrev S4x4352x120 : Shape := ⟨3, ![4, 4352, 120]⟩

abbrev nBuf : Space → Nat
  | .hbm => 280
  | .vmem => 0
  | .smem => 0
  | _ => 0

abbrev hbmTy0_0 (i : Nat) : BufTy := match i % 128 with
  | 0 => ⟨S17408x7680, .f32⟩
  | 1 => ⟨S4096x64, .f32⟩
  | 2 => ⟨S4096x64, .f32⟩
  | 3 => ⟨S4x64, .f32⟩
  | 4 => ⟨S5x1536, .f32⟩
  | 5 => ⟨S2x4, .f32⟩
  | 6 => ⟨S2x4, .f32⟩
  | 7 => ⟨S4x4352x7680, .f32⟩
  | 8 => ⟨S4x4352x512, .f32⟩
  | 9 => ⟨S1x64, .f32⟩
  | 10 => ⟨S64, .f32⟩
  | 11 => ⟨S4x256x512, .f32⟩
  | 12 => ⟨S4x4096x512, .f32⟩
  | 13 => ⟨S4x256x8x64, .f32⟩
  | 14 => ⟨S4x256x8x64, .f32⟩
  | 15 => ⟨S_, .f32⟩
  | 16 => ⟨S4x256x8, .f32⟩
  | 17 => ⟨S4x256x8x1, .f32⟩
  | 18 => ⟨S_, .f32⟩
  | 19 => ⟨S4x256x8x1, .f32⟩
  | 20 => ⟨S4x256x8x1, .f32⟩
  | 21 => ⟨S_, .f32⟩
  | 22 => ⟨S4x256x8x1, .f32⟩
  | 23 => ⟨S4x256x8x1, .f32⟩
  | 24 => ⟨S4x256x8x1, .f32⟩
  | 25 => ⟨S4x256x8x64, .f32⟩
  | 26 => ⟨S4x256x8x64, .f32⟩
  | 27 => ⟨S1x1x1x64, .f32⟩
  | 28 => ⟨S4x256x8x64, .f32⟩
  | 29 => ⟨S4x256x8x64, .f32⟩
  | 30 => ⟨S4x4096x8x64, .f32⟩
  | 31 => ⟨S4x4096x8x64, .f32⟩
  | 32 => ⟨S_, .f32⟩
  | 33 => ⟨S4x4096x8, .f32⟩
  | 34 => ⟨S4x4096x8x1, .f32⟩
  | 35 => ⟨S_, .f32⟩
  | 36 => ⟨S4x4096x8x1, .f32⟩
  | 37 => ⟨S4x4096x8x1, .f32⟩
  | 38 => ⟨S_, .f32⟩
  | 39 => ⟨S4x4096x8x1, .f32⟩
  | 40 => ⟨S4x4096x8x1, .f32⟩
  | 41 => ⟨S4x4096x8x1, .f32⟩
  | 42 => ⟨S4x4096x8x64, .f32⟩
  | 43 => ⟨S4x4096x8x64, .f32⟩
  | 44 => ⟨S1x1x1x64, .f32⟩
  | 45 => ⟨S4x4096x8x64, .f32⟩
  | 46 => ⟨S4x4096x8x64, .f32⟩
  | 47 => ⟨S4x4096x8x2x2x16, .f32⟩
  | 48 => ⟨S4x4096x8x2x1x16, .f32⟩
  | 49 => ⟨S4x4096x8x2x16, .f32⟩
  | 50 => ⟨S4x4096x8x2x16, .f32⟩
  | 51 => ⟨S4x4096x8x2x1x16, .f32⟩
  | 52 => ⟨S4x4096x8x2x16, .f32⟩
  | 53 => ⟨S4x4096x8x2x1x16, .f32⟩
  | 54 => ⟨S4x4096x8x2x1x16, .f32⟩
  | 55 => ⟨S4x4096x8x2x2x16, .f32⟩
  | 56 => ⟨S4x4096x8x64, .f32⟩
  | 57 => ⟨S1x4096x1x64, .f32⟩
  | 58 => ⟨S4x4096x8x64, .f32⟩
  | 59 => ⟨S4x4096x8x64, .f32⟩
  | 60 => ⟨S1x4096x1x64, .f32⟩
  | 61 => ⟨S4x4096x8x64, .f32⟩
  | 62 => ⟨S4x4096x8x64, .f32⟩
  | 63 => ⟨S4x4096x8x64, .f32⟩
  | 64 => ⟨S4x4352x8x64, .f32⟩
  | 65 => ⟨S17408x512, .f32⟩
  | 66 => ⟨S4x4352x512, .f32⟩
  | 67 => ⟨S1x64, .f32⟩
  | 68 => ⟨S64, .f32⟩
  | 69 => ⟨S4x256x512, .f32⟩
  | 70 => ⟨S4x4096x512, .f32⟩
  | 71 => ⟨S4x256x8x64, .f32⟩
  | 72 => ⟨S4x256x8x64, .f32⟩
  | 73 => ⟨S_, .f32⟩
  | 74 => ⟨S4x256x8, .f32⟩
  | 75 => ⟨S4x256x8x1, .f32⟩
  | 76 => ⟨S_, .f32⟩
  | 77 => ⟨S4x256x8x1, .f32⟩
  | 78 => ⟨S4x256x8x1, .f32⟩
  | 79 => ⟨S_, .f32⟩
  | 80 => ⟨S4x256x8x1, .f32⟩
  | 81 => ⟨S4x256x8x1, .f32⟩
  | 82 => ⟨S4x256x8x1, .f32⟩
  | 83 => ⟨S4x256x8x64, .f32⟩
  | 84 => ⟨S4x256x8x64, .f32⟩
  | 85 => ⟨S1x1x1x64, .f32⟩
  | 86 => ⟨S4x256x8x64, .f32⟩
  | 87 => ⟨S4x256x8x64, .f32⟩
  | 88 => ⟨S4x4096x8x64, .f32⟩
  | 89 => ⟨S4x4096x8x64, .f32⟩
  | 90 => ⟨S_, .f32⟩
  | 91 => ⟨S4x4096x8, .f32⟩
  | 92 => ⟨S4x4096x8x1, .f32⟩
  | 93 => ⟨S_, .f32⟩
  | 94 => ⟨S4x4096x8x1, .f32⟩
  | 95 => ⟨S4x4096x8x1, .f32⟩
  | 96 => ⟨S_, .f32⟩
  | 97 => ⟨S4x4096x8x1, .f32⟩
  | 98 => ⟨S4x4096x8x1, .f32⟩
  | 99 => ⟨S4x4096x8x1, .f32⟩
  | 100 => ⟨S4x4096x8x64, .f32⟩
  | 101 => ⟨S4x4096x8x64, .f32⟩
  | 102 => ⟨S1x1x1x64, .f32⟩
  | 103 => ⟨S4x4096x8x64, .f32⟩
  | 104 => ⟨S4x4096x8x64, .f32⟩
  | 105 => ⟨S4x4096x8x2x2x16, .f32⟩
  | 106 => ⟨S4x4096x8x2x1x16, .f32⟩
  | 107 => ⟨S4x4096x8x2x16, .f32⟩
  | 108 => ⟨S4x4096x8x2x16, .f32⟩
  | 109 => ⟨S4x4096x8x2x1x16, .f32⟩
  | 110 => ⟨S4x4096x8x2x16, .f32⟩
  | 111 => ⟨S4x4096x8x2x1x16, .f32⟩
  | 112 => ⟨S4x4096x8x2x1x16, .f32⟩
  | 113 => ⟨S4x4096x8x2x2x16, .f32⟩
  | 114 => ⟨S4x4096x8x64, .f32⟩
  | 115 => ⟨S1x4096x1x64, .f32⟩
  | 116 => ⟨S4x4096x8x64, .f32⟩
  | 117 => ⟨S4x4096x8x64, .f32⟩
  | 118 => ⟨S1x4096x1x64, .f32⟩
  | 119 => ⟨S4x4096x8x64, .f32⟩
  | 120 => ⟨S4x4096x8x64, .f32⟩
  | 121 => ⟨S4x4096x8x64, .f32⟩
  | 122 => ⟨S4x4352x8x64, .f32⟩
  | 123 => ⟨S17408x512, .f32⟩
  | 124 => ⟨S4x4352x512, .f32⟩
  | 125 => ⟨S17408x512, .f32⟩
  | 126 => ⟨S4x4352x512, .f32⟩
  | 127 => ⟨S1x64, .f32⟩
  | _ => ⟨S17408x7680, .f32⟩

abbrev hbmTy0_1 (i : Nat) : BufTy := match i % 128 with
  | 0 => ⟨S64, .f32⟩
  | 1 => ⟨S4x256x512, .f32⟩
  | 2 => ⟨S4x4096x512, .f32⟩
  | 3 => ⟨S4x256x8x64, .f32⟩
  | 4 => ⟨S4x256x8x64, .f32⟩
  | 5 => ⟨S_, .f32⟩
  | 6 => ⟨S4x256x8, .f32⟩
  | 7 => ⟨S4x256x8x1, .f32⟩
  | 8 => ⟨S_, .f32⟩
  | 9 => ⟨S4x256x8x1, .f32⟩
  | 10 => ⟨S4x256x8x1, .f32⟩
  | 11 => ⟨S_, .f32⟩
  | 12 => ⟨S4x256x8x1, .f32⟩
  | 13 => ⟨S4x256x8x1, .f32⟩
  | 14 => ⟨S4x256x8x1, .f32⟩
  | 15 => ⟨S4x256x8x64, .f32⟩
  | 16 => ⟨S4x256x8x64, .f32⟩
  | 17 => ⟨S1x1x1x64, .f32⟩
  | 18 => ⟨S4x256x8x64, .f32⟩
  | 19 => ⟨S4x256x8x64, .f32⟩
  | 20 => ⟨S4x4096x8x64, .f32⟩
  | 21 => ⟨S4x4096x8x64, .f32⟩
  | 22 => ⟨S_, .f32⟩
  | 23 => ⟨S4x4096x8, .f32⟩
  | 24 => ⟨S4x4096x8x1, .f32⟩
  | 25 => ⟨S_, .f32⟩
  | 26 => ⟨S4x4096x8x1, .f32⟩
  | 27 => ⟨S4x4096x8x1, .f32⟩
  | 28 => ⟨S_, .f32⟩
  | 29 => ⟨S4x4096x8x1, .f32⟩
  | 30 => ⟨S4x4096x8x1, .f32⟩
  | 31 => ⟨S4x4096x8x1, .f32⟩
  | 32 => ⟨S4x4096x8x64, .f32⟩
  | 33 => ⟨S4x4096x8x64, .f32⟩
  | 34 => ⟨S1x1x1x64, .f32⟩
  | 35 => ⟨S4x4096x8x64, .f32⟩
  | 36 => ⟨S4x4096x8x64, .f32⟩
  | 37 => ⟨S4x4096x8x2x2x16, .f32⟩
  | 38 => ⟨S4x4096x8x2x1x16, .f32⟩
  | 39 => ⟨S4x4096x8x2x16, .f32⟩
  | 40 => ⟨S4x4096x8x2x16, .f32⟩
  | 41 => ⟨S4x4096x8x2x1x16, .f32⟩
  | 42 => ⟨S4x4096x8x2x16, .f32⟩
  | 43 => ⟨S4x4096x8x2x1x16, .f32⟩
  | 44 => ⟨S4x4096x8x2x1x16, .f32⟩
  | 45 => ⟨S4x4096x8x2x2x16, .f32⟩
  | 46 => ⟨S4x4096x8x64, .f32⟩
  | 47 => ⟨S1x4096x1x64, .f32⟩
  | 48 => ⟨S4x4096x8x64, .f32⟩
  | 49 => ⟨S4x4096x8x64, .f32⟩
  | 50 => ⟨S1x4096x1x64, .f32⟩
  | 51 => ⟨S4x4096x8x64, .f32⟩
  | 52 => ⟨S4x4096x8x64, .f32⟩
  | 53 => ⟨S4x4096x8x64, .f32⟩
  | 54 => ⟨S4x4352x8x64, .f32⟩
  | 55 => ⟨S17408x512, .f32⟩
  | 56 => ⟨S4x4352x128, .f32⟩
  | 57 => ⟨S1x64, .f32⟩
  | 58 => ⟨S64, .f32⟩
  | 59 => ⟨S4x256x128, .f32⟩
  | 60 => ⟨S4x4096x128, .f32⟩
  | 61 => ⟨S4x256x2x64, .f32⟩
  | 62 => ⟨S4x256x2x64, .f32⟩
  | 63 => ⟨S_, .f32⟩
  | 64 => ⟨S4x256x2, .f32⟩
  | 65 => ⟨S4x256x2x1, .f32⟩
  | 66 => ⟨S_, .f32⟩
  | 67 => ⟨S4x256x2x1, .f32⟩
  | 68 => ⟨S4x256x2x1, .f32⟩
  | 69 => ⟨S_, .f32⟩
  | 70 => ⟨S4x256x2x1, .f32⟩
  | 71 => ⟨S4x256x2x1, .f32⟩
  | 72 => ⟨S4x256x2x1, .f32⟩
  | 73 => ⟨S4x256x2x64, .f32⟩
  | 74 => ⟨S4x256x2x64, .f32⟩
  | 75 => ⟨S1x1x1x64, .f32⟩
  | 76 => ⟨S4x256x2x64, .f32⟩
  | 77 => ⟨S4x256x2x64, .f32⟩
  | 78 => ⟨S4x4096x2x64, .f32⟩
  | 79 => ⟨S4x4096x2x64, .f32⟩
  | 80 => ⟨S_, .f32⟩
  | 81 => ⟨S4x4096x2, .f32⟩
  | 82 => ⟨S4x4096x2x1, .f32⟩
  | 83 => ⟨S_, .f32⟩
  | 84 => ⟨S4x4096x2x1, .f32⟩
  | 85 => ⟨S4x4096x2x1, .f32⟩
  | 86 => ⟨S_, .f32⟩
  | 87 => ⟨S4x4096x2x1, .f32⟩
  | 88 => ⟨S4x4096x2x1, .f32⟩
  | 89 => ⟨S4x4096x2x1, .f32⟩
  | 90 => ⟨S4x4096x2x64, .f32⟩
  | 91 => ⟨S4x4096x2x64, .f32⟩
  | 92 => ⟨S1x1x1x64, .f32⟩
  | 93 => ⟨S4x4096x2x64, .f32⟩
  | 94 => ⟨S4x4096x2x64, .f32⟩
  | 95 => ⟨S4x4096x2x2x2x16, .f32⟩
  | 96 => ⟨S4x4096x2x2x1x16, .f32⟩
  | 97 => ⟨S4x4096x2x2x16, .f32⟩
  | 98 => ⟨S4x4096x2x2x16, .f32⟩
  | 99 => ⟨S4x4096x2x2x1x16, .f32⟩
  | 100 => ⟨S4x4096x2x2x16, .f32⟩
  | 101 => ⟨S4x4096x2x2x1x16, .f32⟩
  | 102 => ⟨S4x4096x2x2x1x16, .f32⟩
  | 103 => ⟨S4x4096x2x2x2x16, .f32⟩
  | 104 => ⟨S4x4096x2x64, .f32⟩
  | 105 => ⟨S1x4096x1x64, .f32⟩
  | 106 => ⟨S4x4096x2x64, .f32⟩
  | 107 => ⟨S4x4096x2x64, .f32⟩
  | 108 => ⟨S1x4096x1x64, .f32⟩
  | 109 => ⟨S4x4096x2x64, .f32⟩
  | 110 => ⟨S4x4096x2x64, .f32⟩
  | 111 => ⟨S4x4096x2x64, .f32⟩
  | 112 => ⟨S4x4352x2x64, .f32⟩
  | 113 => ⟨S17408x128, .f32⟩
  | 114 => ⟨S4x4352x128, .f32⟩
  | 115 => ⟨S17408x128, .f32⟩
  | 116 => ⟨S4x4352x8, .f32⟩
  | 117 => ⟨S4x4352x2x4, .f32⟩
  | 118 => ⟨S2x4, .f32⟩
  | 119 => ⟨S2x4, .f32⟩
  | 120 => ⟨S1x1x2x4, .f32⟩
  | 121 => ⟨S4x4352x2x4, .f32⟩
  | 122 => ⟨S4x4352x2x4, .f32⟩
  | 123 => ⟨S_, .f32⟩
  | 124 => ⟨S4x4352x2x4, .f32⟩
  | 125 => ⟨S4x4352x2x4, .f32⟩
  | 126 => ⟨S4x4352x2x4, .f32⟩
  | 127 => ⟨S4x4352x2x4, .f32⟩
  | _ => ⟨S17408x7680, .f32⟩

abbrev hbmTy0_2 (i : Nat) : BufTy := match i % 128 with
  | 0 => ⟨S4x4352x2x4, .i1⟩
  | 1 => ⟨S4x4352x2x4, .f32⟩
  | 2 => ⟨S4x4352x2x4, .f32⟩
  | 3 => ⟨S4x4352x2x4, .f32⟩
  | 4 => ⟨S4x4352x2x4, .f32⟩
  | 5 => ⟨S4x4352x2x4, .f32⟩
  | 6 => ⟨S4x4352x2x4, .f32⟩
  | 7 => ⟨S4x4352x2x4, .f32⟩
  | 8 => ⟨S4x4352x2x4, .f32⟩
  | 9 => ⟨S1x1x2x4, .f32⟩
  | 10 => ⟨S4x4352x2x4, .f32⟩
  | 11 => ⟨S4x4352x2x4, .f32⟩
  | 12 => ⟨S4x4352x120, .f32⟩
  | 13 => ⟨S4x4352x120, .f32⟩
  | 14 => ⟨S4x4352x120, .f32⟩
  | 15 => ⟨S_, .f32⟩
  | 16 => ⟨S4x4352x120, .f32⟩
  | 17 => ⟨S4x4352x120, .f32⟩
  | 18 => ⟨S_, .f32⟩
  | 19 => ⟨S4x4352x120, .f32⟩
  | 20 => ⟨S4x4352x120, .f32⟩
  | 21 => ⟨S4x4352x8, .f32⟩
  | 22 => ⟨S4x4352x128, .f32⟩
  | 23 => ⟨S17408x128, .f32⟩
  | _ => ⟨S17408x7680, .f32⟩

abbrev hbmTy (i : Nat) : BufTy := match i / 128 with
  | 0 => hbmTy0_0 i
  | 1 => hbmTy0_1 i
  | 2 => hbmTy0_2 i
  | _ => ⟨S17408x7680, .f32⟩

abbrev bufTy : (tb : Table) → Fin (tcTables nBuf tb) → BufTy
  | .hbm, ⟨i, _⟩ => hbmTy i
  | _, _ => ⟨S17408x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_5 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_cst_9 : Ref sig .tc := ⟨.hbm, 93, rfl⟩
abbrev main_v76 : Ref sig .tc := ⟨.hbm, 94, rfl⟩
abbrev main_v77 : Ref sig .tc := ⟨.hbm, 95, rfl⟩
abbrev main_cst_10 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_11 : Ref sig .tc := ⟨.hbm, 133, rfl⟩
abbrev main_v114 : Ref sig .tc := ⟨.hbm, 134, rfl⟩
abbrev main_v115 : Ref sig .tc := ⟨.hbm, 135, rfl⟩
abbrev main_cst_12 : Ref sig .tc := ⟨.hbm, 136, rfl⟩
abbrev main_v116 : Ref sig .tc := ⟨.hbm, 137, rfl⟩
abbrev main_v117 : Ref sig .tc := ⟨.hbm, 138, rfl⟩
abbrev main_cst_13 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_cst_14 : Ref sig .tc := ⟨.hbm, 150, rfl⟩
abbrev main_v128 : Ref sig .tc := ⟨.hbm, 151, rfl⟩
abbrev main_v129 : Ref sig .tc := ⟨.hbm, 152, rfl⟩
abbrev main_cst_15 : Ref sig .tc := ⟨.hbm, 153, rfl⟩
abbrev main_v130 : Ref sig .tc := ⟨.hbm, 154, rfl⟩
abbrev main_v131 : Ref sig .tc := ⟨.hbm, 155, rfl⟩
abbrev main_cst_16 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_cst_17 : Ref sig .tc := ⟨.hbm, 191, rfl⟩
abbrev main_v166 : Ref sig .tc := ⟨.hbm, 192, rfl⟩
abbrev main_v167 : Ref sig .tc := ⟨.hbm, 193, rfl⟩
abbrev main_cst_18 : Ref sig .tc := ⟨.hbm, 194, rfl⟩
abbrev main_v168 : Ref sig .tc := ⟨.hbm, 195, rfl⟩
abbrev main_v169 : Ref sig .tc := ⟨.hbm, 196, rfl⟩
abbrev main_cst_19 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_cst_20 : Ref sig .tc := ⟨.hbm, 208, rfl⟩
abbrev main_v180 : Ref sig .tc := ⟨.hbm, 209, rfl⟩
abbrev main_v181 : Ref sig .tc := ⟨.hbm, 210, rfl⟩
abbrev main_cst_21 : Ref sig .tc := ⟨.hbm, 211, rfl⟩
abbrev main_v182 : Ref sig .tc := ⟨.hbm, 212, rfl⟩
abbrev main_v183 : Ref sig .tc := ⟨.hbm, 213, rfl⟩
abbrev main_cst_22 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_call0_cst : Ref sig .tc := ⟨.hbm, 251, rfl⟩
abbrev main_call0_v0 : Ref sig .tc := ⟨.hbm, 252, rfl⟩
abbrev main_call0_v1 : Ref sig .tc := ⟨.hbm, 253, rfl⟩
abbrev main_call0_v2 : Ref sig .tc := ⟨.hbm, 254, rfl⟩
abbrev main_call0_v3 : Ref sig .tc := ⟨.hbm, 255, rfl⟩
abbrev main_call0_v4 : Ref sig .tc := ⟨.hbm, 256, rfl⟩
abbrev main_call0_v5 : Ref sig .tc := ⟨.hbm, 257, rfl⟩
abbrev main_call0_v6 : Ref sig .tc := ⟨.hbm, 258, rfl⟩
abbrev main_call0_v7 : Ref sig .tc := ⟨.hbm, 259, rfl⟩
abbrev main_call0_v8 : Ref sig .tc := ⟨.hbm, 260, rfl⟩
abbrev main_call0_v9 : Ref sig .tc := ⟨.hbm, 261, rfl⟩
abbrev main_call0_v10 : Ref sig .tc := ⟨.hbm, 262, rfl⟩
abbrev main_call0_v11 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_cst_23 : Ref sig .tc := ⟨.hbm, 271, rfl⟩
abbrev main_v227 : Ref sig .tc := ⟨.hbm, 272, rfl⟩
abbrev main_v228 : Ref sig .tc := ⟨.hbm, 273, rfl⟩
abbrev main_cst_24 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩

abbrev nD : Nat := 1
abbrev τ : Topo := Topo.v7x

variable {F : FTy → Type} [FloatOps F]
-- ==== Proof.Finite.lean ====
/-
  The precondition read off: every entry of the queries, keys, values and lambda vectors is a real number.
-/
module

public import proofs.«01_k».proof.Pre_finite
public import Idealize.ShloMosaic.Lib.ReduceAll
public import Idealize.ShloMosaic.Lib.Pipeline.ValueKit

@[expose] public section

set_option maxRecDepth 16384

noncomputable section

namespace Cert.Pre_finite

open Idealize.ShloMosaic

/-- The side conditions the precondition's operations state. -/
instance facts : Cert.Pre_finite.Facts where
  bcast_S_S4x4352x512 := by decide
  reducesTo_S4x4352x512_S_d0_1_2 := by decide
  h_S_ := by decide
  bcast_S_S2x2x64 := by decide
  reducesTo_S2x2x64_S_d0_1_2 := by decide

instance : Subsingleton S_.Idx := ⟨fun a b => funext fun i => i.elim0⟩

/-- Two truth values whose conjunction is true are both true. -/
theorem both : ∀ a b : BitVec 1, IntOp.andi a b = 1#1 → a = 1#1 ∧ b = 1#1 := by decide

/-- The bits of plus infinity. -/
theorem bits_top : Ideal.ofBits .f32 0x7F800000#32 = (⊤ : EReal) := by simp [Ideal.ofBits, Ideal.ieee]

/-- A number whose absolute value is below plus infinity is a real. -/
theorem real_of_lt (x : EReal) (h : x < ⊤) (h' : -x < ⊤) : ∃ r : ℝ, x = (r : EReal) := by
  induction x using EReal.rec with
  | bot => simp at h'
  | top => simp at h
  | coe r => exact ⟨r, rfl⟩

/-- The entries of a wide array whose test is true everywhere are reals. -/
theorem wide_real (X : FVec Ideal S4x4352x512 .f32)
    (e : Host.reduce IntOp.andi (cmpf .olt (Host.absf X) (broadcastInDim S4x4352x512 ![] Facts.bcast_S_S4x4352x512 (constant S_ .f32 0x7F800000#32)))
      (constantI S_ 1 1#1) Facts.reducesTo_S4x4352x512_S_d0_1_2 Facts.h_S_ ix0 = 1#1) (b : Fin 4) (r : Fin 4352) (c : Fin 512) :
    ∃ x : ℝ, X (ix3 b r c) = (x : EReal) := by
  have h := Host.reduce_andi_all _ _ _ _ _ e (ix3 b r c)
  pointwise [bits_top] at h
  rw [Ideal.absf_def] at h
  have h' : max (X (ix3 b r c) : EReal) (-(X (ix3 b r c) : EReal)) < ⊤ := by
    by_contra hn
    rw [decide_eq_false hn] at h
    exact absurd h (by decide)
  exact real_of_lt _ (lt_of_le_of_lt (le_max_left _ _) h') (lt_of_le_of_lt (le_max_right _ _) h')

/-- The entries of the lambda vectors, where their test is true everywhere, are reals. -/
theorem lam_real (X : FVec Ideal S2x2x64 .f32)
    (e : Host.reduce IntOp.andi (cmpf .olt (Host.absf X) (broadcastInDim S2x2x64 ![] Facts.bcast_S_S2x2x64 (constant S_ .f32 0x7F800000#32)))
      (constantI S_ 1 1#1) Facts.reducesTo_S2x2x64_S_d0_1_2 Facts.h_S_ ix0 = 1#1) (b r : Fin 2) (c : Fin 64) :
    ∃ x : ℝ, X (ix3 b r c) = (x : EReal) := by
  have h := Host.reduce_andi_all _ _ _ _ _ e (ix3 b r c)
  pointwise [bits_top] at h
  rw [Ideal.absf_def] at h
  have h' : max (X (ix3 b r c) : EReal) (-(X (ix3 b r c) : EReal)) < ⊤ := by
    by_contra hn
    rw [decide_eq_false hn] at h
    exact absurd h (by decide)
  exact real_of_lt _ (lt_of_le_of_lt (le_max_left _ _) h') (lt_of_le_of_lt (le_max_right _ _) h')

/-- Where the precondition holds, the queries, keys, values and lambda vectors are arrays of reals. -/
theorem reals (A0 A1 A2 : FVec Ideal S4x4352x512 .f32) (A3 : FVec Ideal S2x2x64 .f32) (A4 : FVec Ideal S128 .f32)
    (h : fn (F := Ideal) A0 A1 A2 A3 A4 = fun _ => 1#1) :
    ∃ (Q K V : Fin 4 → Fin 4352 → Fin 512 → ℝ) (L : Fin 2 → Fin 2 → Fin 64 → ℝ),
      (∀ b r c, A0 (ix3 b r c) = (Q b r c : EReal)) ∧ (∀ b r c, A1 (ix3 b r c) = (K b r c : EReal))
        ∧ (∀ b r c, A2 (ix3 b r c) = (V b r c : EReal)) ∧ (∀ b r c, A3 (ix3 b r c) = (L b r c : EReal)) := by
  have h0 := congrFun h ix0
  obtain ⟨h1, h3⟩ := both _ _ h0
  obtain ⟨h1, h2⟩ := both _ _ h1
  obtain ⟨h0, h1⟩ := both _ _ h1
  choose Q hQ using wide_real A0 h0
  choose K hK using wide_real A1 h1
  choose V hV using wide_real A2 h2
  choose L hL using lam_real A3 h3
  exact ⟨Q, K, V, L, hQ, hK, hV, hL⟩

end Cert.Pre_finite

end

end
-- ==== Proof.Softmax.lean ====
/-
  The attention of one query over finitely many keys, on real numbers: the weighted mean with weights `exp (x j)`.
  Two ways of computing it are read here on the extended reals. One divides every weight by their sum before the
  values are summed; the other takes powers of two of scores already multiplied by `1 / log 2`, sums the values
  with those weights, and multiplies by the reciprocal of the sum of the weights at the end. Both subtract the
  largest score first.
-/
module

public import Idealize.ShloMosaic.Lib.Pipeline.ValueKit

@[expose] public section

set_option maxRecDepth 16384

namespace Cert.Diff

open Idealize.ShloMosaic

/-- The mean of the values `v` with the weights `exp (x j)`. -/
noncomputable def attn {n : Nat} (x v : Fin n → ℝ) : ℝ := (∑ j, Real.exp (x j) * v j) / ∑ j, Real.exp (x j)

/-- A finite sum of reals, read as extended reals, is the sum of the extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The largest of finitely many reals, starting from minus infinity, is a real. -/
theorem fold_max_real {n : Nat} (hn : 0 < n) (x : Fin n → ℝ) :
    ∃ a : ℝ, Finset.univ.fold max (⊥ : EReal) (fun j => (x j : EReal)) = (a : EReal) := by
  haveI : Nonempty (Fin n) := ⟨⟨0, hn⟩⟩
  refine ⟨Finset.univ.sup' Finset.univ_nonempty x, ?_⟩
  apply le_antisymm
  · rw [Finset.fold_max_le]
    exact ⟨bot_le, fun j _ => EReal.coe_le_coe_iff.2 (Finset.le_sup' x (Finset.mem_univ j))⟩
  · rw [Finset.le_fold_max]
    obtain ⟨j, hj, he⟩ := Finset.exists_mem_eq_sup' Finset.univ_nonempty x
    exact Or.inr ⟨j, hj, by rw [he]⟩

/-- Subtracting the same number from every score leaves the weighted mean as it was. -/
theorem attn_shift {n : Nat} (x v : Fin n → ℝ) (a : ℝ) :
    (∑ j, Real.exp (x j - a) * v j) / (∑ j, Real.exp (x j - a)) = attn x v := by
  have h1 : ∀ j, Real.exp (x j - a) = Real.exp (-a) * Real.exp (x j) := fun j => by
    rw [← Real.exp_add]; ring_nf
  simp only [h1, mul_assoc, ← Finset.mul_sum, attn]
  exact mul_div_mul_left _ _ (Real.exp_pos _).ne'

/-- The sum of the weights is not zero. -/
theorem weights_ne_zero {n : Nat} (hn : 0 < n) (x : Fin n → ℝ) (a : ℝ) : (∑ j, Real.exp (x j - a)) ≠ 0 := by
  haveI : Nonempty (Fin n) := ⟨⟨0, hn⟩⟩
  exact (Finset.sum_pos (fun j _ => Real.exp_pos _) Finset.univ_nonempty).ne'

/-- A power of two of a number already divided by `log 2` is the exponential. -/
theorem exp2_scaled (t : ℝ) : Ideal.exp2 ((t * (Real.log 2)⁻¹ : ℝ) : EReal) = ((Real.exp t : ℝ) : EReal) := by
  have : Real.rpow 2 (t * (Real.log 2)⁻¹) = Real.exp t := by
    show (2 : ℝ) ^ (t * (Real.log 2)⁻¹) = _
    rw [Real.rpow_def_of_pos (by norm_num)]
    congr 1
    have : Real.log 2 ≠ 0 := (Real.log_pos (by norm_num)).ne'
    field_simp
  show ((Real.rpow 2 (t * (Real.log 2)⁻¹) : ℝ) : EReal) = _
  rw [this]

/-- The kernel's way: powers of two of the scaled scores less their largest, the values summed with these weights,
    then the product with the reciprocal of the sum of the weights. -/
theorem attend_pow2 {n : Nat} (hn : 0 < n) (x v : Fin n → ℝ) (y w : Fin n → EReal)
    (hy : ∀ j, y j = ((x j * (Real.log 2)⁻¹ : ℝ) : EReal)) (hw : ∀ j, w j = (v j : EReal)) (t : EReal)
    (ht : t = Finset.univ.fold max (⊥ : EReal) y) :
    (∑ j, Ideal.exp2 (y j - t) * w j) * Ideal.div ((1 : ℝ) : EReal) (∑ j, Ideal.exp2 (y j - t)) = (attn x v : EReal) := by
  obtain rfl : y = fun j => ((x j * (Real.log 2)⁻¹ : ℝ) : EReal) := funext hy
  obtain rfl : w = fun j => (v j : EReal) := funext hw
  obtain ⟨a, ha⟩ := fold_max_real hn (fun j => x j * (Real.log 2)⁻¹)
  obtain rfl : t = (a : EReal) := ht.trans ha
  have hl : Real.log 2 ≠ 0 := (Real.log_pos (by norm_num)).ne'
  have e : ∀ j, Ideal.exp2 (((x j * (Real.log 2)⁻¹ : ℝ) : EReal) - (a : EReal))
      = ((Real.exp (x j - a * Real.log 2) : ℝ) : EReal) := fun j => by
    rw [← exp2_scaled, ← EReal.coe_sub]
    congr 2
    field_simp
  simp only [e, ← EReal.coe_mul, ← coe_sum]
  rw [Ideal.div_coe (weights_ne_zero hn x _), ← EReal.coe_mul, ← EReal.coe_mul, ← attn_shift x v (a * Real.log 2)]
  congr 1
  ring

/-- The reference's way, one weight: the exponential of the score less the largest, divided by the sum of all. -/
theorem softmax_weight {n : Nat} (hn : 0 < n) (x : Fin n → ℝ) (y : Fin n → EReal) (hy : ∀ j, y j = (x j : EReal)) (t : EReal)
    (ht : t = max (⊥ : EReal) (Finset.univ.fold max (⊥ : EReal) y)) : ∃ a : ℝ, ∀ j,
    Ideal.div (Ideal.exp (y j - t)) (∑ i, Ideal.exp (y i - t))
      = ((Real.exp (x j - a) / ∑ i, Real.exp (x i - a) : ℝ) : EReal) := by
  obtain rfl : y = fun j => (x j : EReal) := funext hy
  obtain ⟨a, ha⟩ := fold_max_real hn x
  obtain rfl : t = (a : EReal) := by rw [ht, ha]; exact max_eq_right bot_le
  refine ⟨a, fun j => ?_⟩
  have e : ∀ j, Ideal.exp (((x j : ℝ) : EReal) - (a : EReal)) = ((Real.exp (x j - a) : ℝ) : EReal) := fun j => by
    rw [← EReal.coe_sub]; rfl
  simp only [e, ← coe_sum]
  rw [Ideal.div_coe (weights_ne_zero hn x _), ← EReal.coe_mul]
  congr 1
  ring

/-- The reference's way, whole: the values summed with the difference of two lists of weights are the difference of
    the two weighted means. -/
theorem attend_softmax {n : Nat} (hn : 0 < n) (x z v : Fin n → ℝ) (l : ℝ) (y y' w : Fin n → EReal)
    (hy : ∀ j, y j = (x j : EReal)) (hy' : ∀ j, y' j = (z j : EReal)) (hw : ∀ j, w j = (v j : EReal)) (t t' : EReal)
    (ht : t = max (⊥ : EReal) (Finset.univ.fold max (⊥ : EReal) y))
    (ht' : t' = max (⊥ : EReal) (Finset.univ.fold max (⊥ : EReal) y')) :
    (∑ j, w j * (Ideal.div (Ideal.exp (y j - t)) (∑ i, Ideal.exp (y i - t))
        - (l : EReal) * Ideal.div (Ideal.exp (y' j - t')) (∑ i, Ideal.exp (y' i - t'))))
      = ((attn x v - l * attn z v : ℝ) : EReal) := by
  obtain ⟨a, ha⟩ := softmax_weight hn x y hy t ht
  obtain ⟨b, hb⟩ := softmax_weight hn z y' hy' t' ht'
  simp only [ha, hb, hw, ← EReal.coe_mul, ← EReal.coe_sub, ← coe_sum]
  rw [← attn_shift x v a, ← attn_shift z v b, Finset.sum_div, Finset.sum_div, Finset.mul_sum, ← Finset.sum_sub_distrib]
  congr 1
  exact Finset.sum_congr rfl fun j _ => by ring

end Cert.Diff

end
-- ==== Proof.Spec.lean ====
/-
  What the differential attention computes, on real queries, keys and values: two score matrices per head (one from
  each half of the head's 128 lanes), two softmax weighted means of the values, their difference with weight
  `lam`, and the root mean square normalisation of the 128 lanes of the head. The first 256 rows are the context and
  attend to the context only; the other rows attend to all rows.
-/
module

public import proofs.«01_k».proof.Proof.Softmax

@[expose] public section

set_option maxRecDepth 16384

noncomputable section

namespace Cert.Diff

open Idealize.ShloMosaic

/-- Lane `d` of half `s` of head `h` among the 512 lanes. -/
abbrev half (h : Fin 4) (s : Fin 2) (d : Fin 64) : Fin 512 := ⟨h.val * 128 + s.val * 64 + d.val, by omega⟩

/-- Lane `e` of head `h` among the 512 lanes. -/
abbrev lane (h : Fin 4) (e : Fin 128) : Fin 512 := ⟨h.val * 128 + e.val, by omega⟩

/-- The score of query row `r` and key row `j` in half `s` of head `h`. -/
def score (Q K : Fin 4 → Fin 4352 → Fin 512 → ℝ) (b h : Fin 4) (s : Fin 2) (r j : Fin 4352) : ℝ :=
  (∑ d, Q b r (half h s d) * K b j (half h s d)) * (1 / 8)

/-- The difference of the two attentions of head `h`, at query row `r` and value lane `e`, over the first `n` keys. -/
def head (n : Nat) (hn : n ≤ 4352) (Q K V : Fin 4 → Fin 4352 → Fin 512 → ℝ) (lam : ℝ) (b h : Fin 4) (r : Fin 4352)
    (e : Fin 128) : ℝ :=
  attn (fun j : Fin n => score Q K b h 0 r (j.castLE hn)) (fun j => V b (j.castLE hn) (lane h e))
    - lam * attn (fun j : Fin n => score Q K b h 1 r (j.castLE hn)) (fun j => V b (j.castLE hn) (lane h e))

/-- The normalised lane `e` of a head whose 128 lanes are `o`, with the gain `g` and the constant factor after it. -/
def normed (o : Fin 128 → ℝ) (g : Fin 128 → EReal) (e : Fin 128) : EReal :=
  (o e : EReal) * Ideal.rsqrt (Ideal.div (∑ l, (o l : EReal) * (o l : EReal)) (Ideal.ofBits .f32 0x43000000#32)
    + Ideal.ofBits .f32 0x358637BD#32) * (g e * Ideal.ofBits .f32 0x3F4CCCCD#32)

/-- The result of the differential attention. -/
def result (Q K V : Fin 4 → Fin 4352 → Fin 512 → ℝ) (lam : ℝ) (g : Fin 128 → EReal) (b : Fin 4) (r : Fin 4352) (h : Fin 4)
    (e : Fin 128) : EReal :=
  if r.val < 256 then normed (head 256 (by norm_num) Q K V lam b h r) g e
  else normed (head 4352 le_rfl Q K V lam b h r) g e

/-- The bits of minus infinity. -/
theorem bits_bot : Ideal.ofBits .f32 0xFF800000#32 = (⊥ : EReal) := by simp [Ideal.ofBits, Ideal.ieee]

/-- The bits of one eighth. -/
theorem bits_eighth : Ideal.ofBits .f32 0x3E000000#32 = ((1 / 8 : ℝ) : EReal) := by
  simp [Ideal.ofBits, Ideal.ieee, -EReal.coe_mul]; norm_num

/-- The constant added to the two exponentials of `lam` is a real. -/
theorem bits_lam : ∃ a : ℝ, Ideal.ofBits .f32 0x3E4CCCCD#32 = (a : EReal) := by
  simp [Ideal.ofBits, Ideal.ieee, -EReal.coe_mul]

/-- A sum of products of reals over the 64 lanes of one half, times one eighth, is the score. -/
theorem score_eq (Q K : Fin 4 → Fin 4352 → Fin 512 → ℝ) (b h : Fin 4) (s : Fin 2) (r j : Fin 4352) (z : Ideal .f32)
    (hz : z = (∑ d, ((Q b r (half h s d) : ℝ) : EReal) * ((K b j (half h s d) : ℝ) : EReal))) :
    z * Ideal.ofBits .f32 0x3E000000#32 = (score Q K b h s r j : EReal) := by
  subst hz
  show (_ : EReal) * Ideal.ofBits .f32 0x3E000000#32 = _
  simp only [bits_eighth, score, ← EReal.coe_mul, ← coe_sum]

end Cert.Diff

end

end
-- ==== Proof.Block.lean ====
/-
  What one grid point of the kernel stores: for each of the two heads of its block, the two attentions from powers of
  two, their difference and the normalisation, read at one place and compared with the differential attention on
  reals. A grid point of the context rows reads 256 keys, every other grid point reads all 4352.
-/
module

public import proofs.«01_k».proof.Proof.Spec
public import proofs.«01_k».proof.Proof.Gen.KernelIdeal.Skeleton

@[expose] public section

set_option maxRecDepth 16384

noncomputable section

namespace Cert.Diff

open Idealize.ShloMosaic Idealize.ShloMosaic.TcCoe Idealize.SL.Sem
open Cert.KernelIdeal Cert.KernelIdeal.Gen

/-- The named factor of the queries: one eighth over `log 2`. -/
theorem scale_named : Named.named (F := Ideal) (φ := .f32) κ "scale" 0x3E38AA3B#32 = (((1 / 8) * (Real.log 2)⁻¹ : ℝ) : EReal) :=
  IdealRules.named_const.ideal_named_scalar _ _ _ _ rfl

/-- The comparison that keeps the first 64 lanes. -/
theorem keep_first : ∀ l : Fin 128, IntOp.cmpi .slt (BitVec.ofNat 32 l.val) 64#32 = if l.val < 64 then 1#1 else 0#1 := by
  decide +kernel

/-- The comparison that keeps the last 64 lanes. -/
theorem keep_second : ∀ l : Fin 128, IntOp.cmpi .sge (BitVec.ofNat 32 l.val) 64#32 = if l.val < 64 then 0#1 else 1#1 := by
  decide +kernel

/-- The score of a query and a key row of a head, over the lanes of one half of the head. -/
theorem score_lanes (Q K : Fin 4 → Fin 4352 → Fin 512 → ℝ) (b h : Fin 4) (s : Fin 2) (r j : Fin 4352) :
    (∑ d : Fin 64, Q b r (lane h ⟨s.val * 64 + d.val, by omega⟩) * K b j (lane h ⟨s.val * 64 + d.val, by omega⟩)) * (1 / 8)
      = score Q K b h s r j := by
  simp only [score, lane, half, Nat.add_assoc]

/-- The difference of two attentions with the weight `l`. -/
def differ (l : Ideal .f32) (A B : FVec Ideal S256x128 .f32) : FVec Ideal S256x128 .f32 :=
  subf A (mulf (broadcast S256x128 l) B)

/-- One lane of the difference. -/
theorem differ_at (l : Ideal .f32) (A B : FVec Ideal S256x128 .f32) (r : Fin 256) (e : Fin 128) :
    differ l A B (ix2 r e) = A (ix2 r e) - l * B (ix2 r e) := by
  pointwise [differ]

/-- Every row times the reciprocal root of its mean square. -/
def scaled (O : FVec Ideal S256x128 .f32) : FVec Ideal S256x128 .f32 :=
  mulf O (broadcastTo S256x128 (rsqrt (addf (divf (shapeCast S256x1 (multiReduction .add [1] S256 (mulf O O) 0x00000000#32 reduces_S256x128_S256 (.inl rfl) rfl) shapeCasts_S256_S256x1) (broadcast S256x1 (Scalar.ofBits .f32 0x43000000#32))) (broadcast S256x1 (Scalar.ofBits .f32 0x358637BD#32)))) broadcasts_S256x1_S256x128)

/-- Every lane times its gain and the constant factor. -/
def gained (O : FVec Ideal S256x128 .f32) (g : FVec Ideal S1x128 .f32) : FVec Ideal S1x256x128 .f32 := k0_pay3 (F := Ideal) O g

/-- One normalised lane. -/
theorem gained_at (O : FVec Ideal S256x128 .f32) (g : FVec Ideal S1x128 .f32) (o : Fin 128 → ℝ) (r : Fin 256)
    (ho : ∀ e : Fin 128, O (ix2 r e) = (o e : EReal)) (e : Fin 128) :
    gained (scaled O) g (ix3 0 r e) = normed o (fun c => g (ix2 0 c)) e := by
  pointwise [gained, scaled, k0_pay3, ho, normed]

/-- A sum over 128 lanes as the sum over the first 64 and the sum over the last 64. -/
theorem lanes_split (f : Fin 128 → ℝ) :
    ∑ l, f l = (∑ d : Fin 64, f ⟨d.val, by omega⟩) + ∑ d : Fin 64, f ⟨64 + d.val, by omega⟩ :=
  Fin.sum_univ_add (a := 64) (b := 64) f

/-- A sum over the 128 lanes in which the query is masked to the first 64 and scaled. -/
theorem first_sum (x y : Fin 128 → ℝ) :
    ∑ l : Fin 128, Scalar.select (IntOp.cmpi .slt (BitVec.ofNat 32 l.val) 64#32)
        ((x l : EReal) * (((1 / 8) * (Real.log 2)⁻¹ : ℝ) : EReal) * (y l : EReal)) (0 : EReal)
      = (((∑ d : Fin 64, x ⟨d.val, by omega⟩ * y ⟨d.val, by omega⟩) * (1 / 8) * (Real.log 2)⁻¹ : ℝ) : EReal) := by
  have e : ∀ l : Fin 128, Scalar.select (IntOp.cmpi .slt (BitVec.ofNat 32 l.val) 64#32)
        ((x l : EReal) * (((1 / 8) * (Real.log 2)⁻¹ : ℝ) : EReal) * (y l : EReal)) (0 : EReal)
      = ((if l.val < 64 then x l * ((1 / 8) * (Real.log 2)⁻¹) * y l else 0 : ℝ) : EReal) := fun l => by
    rw [keep_first l]
    by_cases h : l.val < 64 <;> simp [h, Scalar.select]
  simp only [e, ← coe_sum]
  rw [lanes_split, Finset.sum_mul, Finset.sum_mul]
  simp only [show ∀ d : Fin 64, ¬ 64 + d.val < 64 from fun d => by omega, show ∀ d : Fin 64, d.val < 64 from fun d => d.isLt,
    if_true, if_false, Finset.sum_const_zero, add_zero]
  exact congrArg _ (Finset.sum_congr rfl fun d _ => by ring)

/-- A sum over the 128 lanes in which the query is masked to the last 64 and scaled. -/
theorem second_sum (x y : Fin 128 → ℝ) :
    ∑ l : Fin 128, Scalar.select (IntOp.cmpi .sge (BitVec.ofNat 32 l.val) 64#32)
        ((x l : EReal) * (((1 / 8) * (Real.log 2)⁻¹ : ℝ) : EReal) * (y l : EReal)) (0 : EReal)
      = (((∑ d : Fin 64, x ⟨64 + d.val, by omega⟩ * y ⟨64 + d.val, by omega⟩) * (1 / 8) * (Real.log 2)⁻¹ : ℝ) : EReal) := by
  have e : ∀ l : Fin 128, Scalar.select (IntOp.cmpi .sge (BitVec.ofNat 32 l.val) 64#32)
        ((x l : EReal) * (((1 / 8) * (Real.log 2)⁻¹ : ℝ) : EReal) * (y l : EReal)) (0 : EReal)
      = ((if l.val < 64 then 0 else x l * ((1 / 8) * (Real.log 2)⁻¹) * y l : ℝ) : EReal) := fun l => by
    rw [keep_second l]
    by_cases h : l.val < 64 <;> simp [h, Scalar.select]
  simp only [e, ← coe_sum]
  rw [lanes_split, Finset.sum_mul, Finset.sum_mul]
  simp only [show ∀ d : Fin 64, ¬ 64 + d.val < 64 from fun d => by omega, show ∀ d : Fin 64, d.val < 64 from fun d => d.isLt,
    if_true, if_false, Finset.sum_const_zero, zero_add]
  exact congrArg _ (Finset.sum_congr rfl fun d _ => by ring)

/-! ## A point of the context rows: 256 keys -/

/-- Powers of two of the scores less the largest of their row. -/
def powerC (S : FVec Ideal S256x256 .f32) : FVec Ideal S256x256 .f32 :=
  exp2 (subf S (broadcastTo S256x256 (shapeCast S256x1 (multiReduction .maximumf [1] S256 S 0xFF800000#32 reduces_S256x256_S256 (.inl rfl) rfl) shapeCasts_S256_S256x1) broadcasts_S256x1_S256x256))

/-- The values summed with these weights, times the reciprocal of the weights' sum. -/
def attendC (P : FVec Ideal S256x256 .f32) (v : FVec Ideal S256x128 .bf16) : FVec Ideal S256x128 .f32 :=
  mulf (matmul dot_S256x256_S256x128_S256x128_1_0_0_1_n_n none (truncf .bf16 P bitsLt_bf16_f32) v (constant S256x128 .f32 0x00000000#32))
    (broadcastTo S256x128 (divf (broadcast S256x1 (Scalar.ofBits .f32 0x3F800000#32)) (shapeCast S256x1 (multiReduction .add [1] S256 P 0x00000000#32 reduces_S256x256_S256 (.inl rfl) rfl) shapeCasts_S256_S256x1)) broadcasts_S256x1_S256x128)

/-- One weight. -/
theorem powerC_at (S : FVec Ideal S256x256 .f32) (r : Fin 256) (j : Fin 256) :
    powerC S (ix2 r j) = Ideal.exp2 (S (ix2 r j) - Finset.univ.fold max (⊥ : EReal) fun k => S (ix2 r k)) := by
  pointwise [powerC]
  rw [bits_bot]
  rfl

/-- One lane of one attention. -/
theorem attendC_at (P : FVec Ideal S256x256 .f32) (v : FVec Ideal S256x128 .bf16) (r : Fin 256) (e : Fin 128) :
    attendC P v (ix2 r e) = (∑ j : Fin 256, P (ix2 r j) * v (ix2 j e)) * Ideal.div ((1 : ℝ) : EReal) (∑ j : Fin 256, P (ix2 r j)) := by
  pointwise [attendC]
  rfl

/-- One lane of one attention, on real scores divided by `log 2` and real values. -/
theorem attnC_at (S : FVec Ideal S256x256 .f32) (v : FVec Ideal S256x128 .bf16) (r : Fin 256) (e : Fin 128) (x w : Fin 256 → ℝ)
    (hS : ∀ j, S (ix2 r j) = ((x j * (Real.log 2)⁻¹ : ℝ) : EReal)) (hw : ∀ j, v (ix2 j e) = (w j : EReal)) :
    attendC (powerC S) v (ix2 r e) = (attn x w : EReal) := by
  rw [attendC_at]
  simp only [powerC_at]
  exact attend_pow2 (by norm_num) x w (fun j => S (ix2 r j)) (fun j => v (ix2 j e)) hS hw _ rfl

/-- One score of the first half of the lanes. -/
theorem firstC_at (q : FVec Ideal S1x256x128 .f32) (k : FVec Ideal S1x256x128 .bf16) (r : Fin 256) (j : Fin 256) (x y : Fin 128 → ℝ)
    (hq : ∀ l, q (ix3 0 r l) = (x l : EReal)) (hk : ∀ l, k (ix3 0 j l) = (y l : EReal)) :
    k0_pay10 (F := Ideal) k0_pay1 q k (ix2 r j) = (((∑ d : Fin 64, x ⟨0 * 64 + d.val, by omega⟩ * y ⟨0 * 64 + d.val, by omega⟩) * (1 / 8) * (Real.log 2)⁻¹ : ℝ) : EReal) := by
  pointwise [k0_pay10, k0_pay8, k0_pay9, k0_pay1, hq, hk, scale_named]
  exact first_sum x y

/-- One score of the second half of the lanes. -/
theorem secondC_at (q : FVec Ideal S1x256x128 .f32) (k : FVec Ideal S1x256x128 .bf16) (r : Fin 256) (j : Fin 256) (x y : Fin 128 → ℝ)
    (hq : ∀ l, q (ix3 0 r l) = (x l : EReal)) (hk : ∀ l, k (ix3 0 j l) = (y l : EReal)) :
    k0_pay11 (F := Ideal) k0_pay2 q k (ix2 r j) = (((∑ d : Fin 64, x ⟨1 * 64 + d.val, by omega⟩ * y ⟨1 * 64 + d.val, by omega⟩) * (1 / 8) * (Real.log 2)⁻¹ : ℝ) : EReal) := by
  pointwise [k0_pay11, k0_pay8, k0_pay9, k0_pay2, hq, hk, scale_named]
  exact second_sum x y

/-- The difference of the two attentions of one head of the block. -/
def pairC (q : FVec Ideal S1x256x128 .f32) (k v : FVec Ideal S1x256x128 .bf16) (l : Ideal .f32) : FVec Ideal S256x128 .f32 :=
  differ l (attendC (powerC (k0_pay10 (F := Ideal) k0_pay1 q k)) (k0_pay12 (F := Ideal) v)) (attendC (powerC (k0_pay11 (F := Ideal) k0_pay2 q k)) (k0_pay12 (F := Ideal) v))

/-- The second head's payload is the normalised difference. -/
theorem upperC (q : FVec Ideal S1x256x128 .f32) (k v : FVec Ideal S1x256x128 .bf16) (l : Ideal .f32) (g : FVec Ideal S1x128 .f32) :
    k0_pay3 (F := Ideal) (k0_pay15 (F := Ideal) (k0_pay10 k0_pay1 q k) (k0_pay11 k0_pay2 q k) v l) g = gained (scaled (pairC q k v l)) g := rfl

/-- The first head's payload is the normalised difference too. -/
theorem lowerC (q : FVec Ideal S1x256x128 .f32) (k v : FVec Ideal S1x256x128 .bf16) (l : Ideal .f32) (g : FVec Ideal S1x128 .f32) :
    k0_pay14 (F := Ideal) (k0_pay7 k0_pay2 q k) (k0_pay12 v) (k0_pay13 k0_pay1 q k) l g = gained (scaled (pairC q k v l)) g := rfl

/-- The payload of head `h` of batch `b` at one place of the block. -/
theorem blockC_at (Q K V : Fin 4 → Fin 4352 → Fin 512 → ℝ) (lam : ℝ) (b h : Fin 4) (row : Fin 4352)
    (q : FVec Ideal S1x256x128 .f32) (k v : FVec Ideal S1x256x128 .bf16) (l : Ideal .f32) (g : FVec Ideal S1x128 .f32) (r : Fin 256) (e : Fin 128)
    (hq : ∀ c : Fin 128, q (ix3 0 r c) = (Q b row (lane h c) : EReal))
    (hk : ∀ (j : Fin 256) (c : Fin 128), k (ix3 0 j c) = (K b (j.castLE (by norm_num)) (lane h c) : EReal))
    (hv : ∀ (j : Fin 256) (c : Fin 128), v (ix3 0 j c) = (V b (j.castLE (by norm_num)) (lane h c) : EReal)) (hl : l = (lam : EReal)) :
    gained (scaled (pairC q k v l)) g (ix3 0 r e) = normed (head 256 (by norm_num) Q K V lam b h row) (fun c => g (ix2 0 c)) e := by
  have hp : ∀ c : Fin 128, pairC q k v l (ix2 r c) = (head 256 (by norm_num) Q K V lam b h row c : EReal) := fun c => by
    have hv' : ∀ j : Fin 256, k0_pay12 (F := Ideal) v (ix2 j c) = (V b (j.castLE (by norm_num)) (lane h c) : EReal) := fun j => by
      pointwise [k0_pay12]
      exact hv j c
    rw [pairC, differ_at, hl,
      attnC_at _ _ r c (fun j => score Q K b h 0 row (j.castLE (by norm_num))) (fun j => V b (j.castLE (by norm_num)) (lane h c))
        (fun j => (firstC_at q k r j _ _ hq (hk j)).trans (congrArg _ (congrArg (· * (Real.log 2)⁻¹) (score_lanes Q K b h 0 row _)))) hv',
      attnC_at _ _ r c (fun j => score Q K b h 1 row (j.castLE (by norm_num))) (fun j => V b (j.castLE (by norm_num)) (lane h c))
        (fun j => (secondC_at q k r j _ _ hq (hk j)).trans (congrArg _ (congrArg (· * (Real.log 2)⁻¹) (score_lanes Q K b h 1 row _)))) hv',
      ← EReal.coe_mul, ← EReal.coe_sub]
    rfl
  exact gained_at _ _ _ r hp e

/-! ## A point of the other rows: 4352 keys -/

/-- Powers of two of the scores less the largest of their row. -/
def powerM (S : FVec Ideal S256x4352 .f32) : FVec Ideal S256x4352 .f32 :=
  exp2 (subf S (broadcastTo S256x4352 (shapeCast S256x1 (multiReduction .maximumf [1] S256 S 0xFF800000#32 reduces_S256x4352_S256 (.inl rfl) rfl) shapeCasts_S256_S256x1) broadcasts_S256x1_S256x4352))

/-- The values summed with these weights, times the reciprocal of the weights' sum. -/
def attendM (P : FVec Ideal S256x4352 .f32) (v : FVec Ideal S4352x128 .bf16) : FVec Ideal S256x128 .f32 :=
  mulf (matmul dot_S256x4352_S4352x128_S256x128_1_0_0_1_n_n none (truncf .bf16 P bitsLt_bf16_f32) v (constant S256x128 .f32 0x00000000#32))
    (broadcastTo S256x128 (divf (broadcast S256x1 (Scalar.ofBits .f32 0x3F800000#32)) (shapeCast S256x1 (multiReduction .add [1] S256 P 0x00000000#32 reduces_S256x4352_S256 (.inl rfl) rfl) shapeCasts_S256_S256x1)) broadcasts_S256x1_S256x128)

/-- One weight. -/
theorem powerM_at (S : FVec Ideal S256x4352 .f32) (r : Fin 256) (j : Fin 4352) :
    powerM S (ix2 r j) = Ideal.exp2 (S (ix2 r j) - Finset.univ.fold max (⊥ : EReal) fun k => S (ix2 r k)) := by
  pointwise [powerM]
  rw [bits_bot]
  rfl

/-- One lane of one attention. -/
theorem attendM_at (P : FVec Ideal S256x4352 .f32) (v : FVec Ideal S4352x128 .bf16) (r : Fin 256) (e : Fin 128) :
    attendM P v (ix2 r e) = (∑ j : Fin 4352, P (ix2 r j) * v (ix2 j e)) * Ideal.div ((1 : ℝ) : EReal) (∑ j : Fin 4352, P (ix2 r j)) := by
  pointwise [attendM]
  rfl

/-- One lane of one attention, on real scores divided by `log 2` and real values. -/
theorem attnM_at (S : FVec Ideal S256x4352 .f32) (v : FVec Ideal S4352x128 .bf16) (r : Fin 256) (e : Fin 128) (x w : Fin 4352 → ℝ)
    (hS : ∀ j, S (ix2 r j) = ((x j * (Real.log 2)⁻¹ : ℝ) : EReal)) (hw : ∀ j, v (ix2 j e) = (w j : EReal)) :
    attendM (powerM S) v (ix2 r e) = (attn x w : EReal) := by
  rw [attendM_at]
  simp only [powerM_at]
  exact attend_pow2 (by norm_num) x w (fun j => S (ix2 r j)) (fun j => v (ix2 j e)) hS hw _ rfl

/-- One score of the first half of the lanes. -/
theorem firstM_at (q : FVec Ideal S1x256x128 .f32) (k : FVec Ideal S1x4352x128 .bf16) (r : Fin 256) (j : Fin 4352) (x y : Fin 128 → ℝ)
    (hq : ∀ l, q (ix3 0 r l) = (x l : EReal)) (hk : ∀ l, k (ix3 0 j l) = (y l : EReal)) :
    k0_pay21 (F := Ideal) k0_pay1 q k (ix2 r j) = (((∑ d : Fin 64, x ⟨0 * 64 + d.val, by omega⟩ * y ⟨0 * 64 + d.val, by omega⟩) * (1 / 8) * (Real.log 2)⁻¹ : ℝ) : EReal) := by
  pointwise [k0_pay21, k0_pay19, k0_pay20, k0_pay1, hq, hk, scale_named]
  exact first_sum x y

/-- One score of the second half of the lanes. -/
theorem secondM_at (q : FVec Ideal S1x256x128 .f32) (k : FVec Ideal S1x4352x128 .bf16) (r : Fin 256) (j : Fin 4352) (x y : Fin 128 → ℝ)
    (hq : ∀ l, q (ix3 0 r l) = (x l : EReal)) (hk : ∀ l, k (ix3 0 j l) = (y l : EReal)) :
    k0_pay22 (F := Ideal) k0_pay2 q k (ix2 r j) = (((∑ d : Fin 64, x ⟨1 * 64 + d.val, by omega⟩ * y ⟨1 * 64 + d.val, by omega⟩) * (1 / 8) * (Real.log 2)⁻¹ : ℝ) : EReal) := by
  pointwise [k0_pay22, k0_pay19, k0_pay20, k0_pay2, hq, hk, scale_named]
  exact second_sum x y

/-- The difference of the two attentions of one head of the block. -/
def pairM (q : FVec Ideal S1x256x128 .f32) (k v : FVec Ideal S1x4352x128 .bf16) (l : Ideal .f32) : FVec Ideal S256x128 .f32 :=
  differ l (attendM (powerM (k0_pay21 (F := Ideal) k0_pay1 q k)) (k0_pay23 (F := Ideal) v)) (attendM (powerM (k0_pay22 (F := Ideal) k0_pay2 q k)) (k0_pay23 (F := Ideal) v))

/-- The second head's payload is the normalised difference. -/
theorem upperM (q : FVec Ideal S1x256x128 .f32) (k v : FVec Ideal S1x4352x128 .bf16) (l : Ideal .f32) (g : FVec Ideal S1x128 .f32) :
    k0_pay4 (F := Ideal) (k0_pay26 (F := Ideal) (k0_pay21 k0_pay1 q k) (k0_pay22 k0_pay2 q k) v l) g = gained (scaled (pairM q k v l)) g := rfl

/-- The first head's payload is the normalised difference too. -/
theorem lowerM (q : FVec Ideal S1x256x128 .f32) (k v : FVec Ideal S1x4352x128 .bf16) (l : Ideal .f32) (g : FVec Ideal S1x128 .f32) :
    k0_pay25 (F := Ideal) (k0_pay18 k0_pay2 q k) (k0_pay23 v) (k0_pay24 k0_pay1 q k) l g = gained (scaled (pairM q k v l)) g := rfl

/-- The payload of head `h` of batch `b` at one place of the block. -/
theorem blockM_at (Q K V : Fin 4 → Fin 4352 → Fin 512 → ℝ) (lam : ℝ) (b h : Fin 4) (row : Fin 4352)
    (q : FVec Ideal S1x256x128 .f32) (k v : FVec Ideal S1x4352x128 .bf16) (l : Ideal .f32) (g : FVec Ideal S1x128 .f32) (r : Fin 256) (e : Fin 128)
    (hq : ∀ c : Fin 128, q (ix3 0 r c) = (Q b row (lane h c) : EReal))
    (hk : ∀ (j : Fin 4352) (c : Fin 128), k (ix3 0 j c) = (K b (j.castLE le_rfl) (lane h c) : EReal))
    (hv : ∀ (j : Fin 4352) (c : Fin 128), v (ix3 0 j c) = (V b (j.castLE le_rfl) (lane h c) : EReal)) (hl : l = (lam : EReal)) :
    gained (scaled (pairM q k v l)) g (ix3 0 r e) = normed (head 4352 le_rfl Q K V lam b h row) (fun c => g (ix2 0 c)) e := by
  have hp : ∀ c : Fin 128, pairM q k v l (ix2 r c) = (head 4352 le_rfl Q K V lam b h row c : EReal) := fun c => by
    have hv' : ∀ j : Fin 4352, k0_pay23 (F := Ideal) v (ix2 j c) = (V b (j.castLE le_rfl) (lane h c) : EReal) := fun j => by
      pointwise [k0_pay23]
      exact hv j c
    rw [pairM, differ_at, hl,
      attnM_at _ _ r c (fun j => score Q K b h 0 row (j.castLE le_rfl)) (fun j => V b (j.castLE le_rfl) (lane h c))
        (fun j => (firstM_at q k r j _ _ hq (hk j)).trans (congrArg _ (congrArg (· * (Real.log 2)⁻¹) (score_lanes Q K b h 0 row _)))) hv',
      attnM_at _ _ r c (fun j => score Q K b h 1 row (j.castLE le_rfl)) (fun j => V b (j.castLE le_rfl) (lane h c))
        (fun j => (secondM_at q k r j _ _ hq (hk j)).trans (congrArg _ (congrArg (· * (Real.log 2)⁻¹) (score_lanes Q K b h 1 row _)))) hv',
      ← EReal.coe_mul, ← EReal.coe_sub]
    rfl
  exact gained_at _ _ _ r hp e

end Cert.Diff

end

end
-- ==== Proof.Final.lean ====
/-
  The kernel's blocks put together: the array it leaves is the differential attention of `Spec`.
-/
module

public import proofs.«01_k».proof.Proof.Block
public import proofs.«01_k».proof.Proof.Gen.KernelIdeal.Value

@[expose] public section

set_option maxRecDepth 16384

noncomputable section

namespace Cert.Diff

open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

/-- Where every window's block lies at grid point `t`: sample `t / 34`, pair of heads `t / 17 % 2`, row block `t % 17`. -/
theorem idx : ∀ t : Fin cfg0.N, win0_0.index t = ![0] ∧ win0_1.index t = ![t.val / 34, t.val % 17, t.val / 17 % 2]
    ∧ win0_2.index t = ![t.val / 34, 0, t.val / 17 % 2] ∧ win0_3.index t = ![t.val / 34, 0, t.val / 17 % 2]
    ∧ win0_4.index t = ![0, 0] ∧ win0_5.index t = ![t.val / 34, t.val % 17, t.val / 17 % 2] :=
  (by decide +kernel : ∀ t : Fin grid0.N, _)

/-- The factor of the second attention, as the kernel's host line computes it. -/
theorem lam_entry (c : Dev nD) (t : Fin cfg0.N) (L : Fin 2 → Fin 2 → Fin 64 → ℝ)
    (hL : ∀ b r e, m ((c : Thread nD τ).loc main_arg3) (ix3 b r e) = (L b r e : EReal)) (x : S1.Idx) : iblk m c 0 t x
    = Ideal.exp (∑ d : Fin 64, (L 0 0 d : EReal) * (L 0 1 d : EReal)) - Ideal.exp (∑ d : Fin 64, (L 1 0 d : EReal) * (L 1 1 d : EReal))
      + Ideal.ofBits .f32 0x3E4CCCCD#32 := by
  blk_simp [iblk, idx t]
  entry_read
  pointwise [hL]

/-- A lane of a query row. -/
theorem q_entry (c : Dev nD) (t : Fin cfg0.N) (r : Fin 256) (e : Fin 256) (b : Fin 4) (row : Fin 4352) (l : Fin 512)
    (hb : b.val = t.val / 34) (hr : row.val = t.val % 17 * 256 + r.val) (hl : l.val = t.val / 17 % 2 * 256 + e.val) :
    iblk m c 1 t (ix3 0 r e) = m ((c : Thread nD τ).loc main_arg0) (ix3 b row l) := by
  blk_ext [iblk, V, idx t]

/-- A lane of a key row. -/
theorem k_entry (c : Dev nD) (t : Fin cfg0.N) (r : Fin 4352) (e : Fin 256) (b : Fin 4) (l : Fin 512)
    (hb : b.val = t.val / 34) (hl : l.val = t.val / 17 % 2 * 256 + e.val) :
    iblk m c 2 t (ix3 0 r e) = m ((c : Thread nD τ).loc main_arg1) (ix3 b r l) := by
  blk_simp [iblk, idx t]
  entry_read
  pointwise
  blk_ext [idx t]

/-- A lane of a value row. -/
theorem v_entry (c : Dev nD) (t : Fin cfg0.N) (r : Fin 4352) (e : Fin 256) (b : Fin 4) (l : Fin 512)
    (hb : b.val = t.val / 34) (hl : l.val = t.val / 17 % 2 * 256 + e.val) :
    iblk m c 3 t (ix3 0 r e) = m ((c : Thread nD τ).loc main_arg2) (ix3 b r l) := by
  blk_simp [iblk, idx t]
  entry_read
  pointwise
  blk_ext [idx t]

/-- A lane of the gain. -/
theorem g_entry (c : Dev nD) (t : Fin cfg0.N) (e : Fin 128) :
    iblk m c 4 t (ix2 0 e) = m ((c : Thread nD τ).loc main_arg4) (ix1 e) := by
  blk_simp [iblk, idx t]
  entry_read
  pointwise
  blk_ext [idx t]

/-- What a grid point leaves in its block, at a point of the context rows. -/
theorem outC (c : Dev nD) (t : Fin cfg0.N) (p : t.val % 17 = 0) (p' : ¬1 ≤ t.val % 17) (Q K V : Fin 4 → Fin 4352 → Fin 512 → ℝ) (lam : ℝ)
    (hq : ∀ b r e, m ((c : Thread nD τ).loc main_arg0) (ix3 b r e) = (Q b r e : EReal))
    (hk : ∀ b r e, m ((c : Thread nD τ).loc main_arg1) (ix3 b r e) = (K b r e : EReal))
    (hv : ∀ b r e, m ((c : Thread nD τ).loc main_arg2) (ix3 b r e) = (V b r e : EReal))
    (hl : ∀ x, iblk m c 0 t x = (lam : EReal)) (y : S1x256x256.Idx)
    (b h : Fin 4) (row : Fin 4352) (e : Fin 128) (eb : b.val = t.val / 34) (er : row.val = t.val % 17 * 256 + (y 1).val)
    (eh : h.val = t.val / 17 % 2 * 2 + (y 2).val / 128) (ee : e.val = (y 2).val % 128) :
    outsAt0 m c t.val t.isLt y = normed (head 256 (by norm_num) Q K V lam b h row) (fun l => m ((c : Thread nD τ).loc main_arg4) (ix1 l)) e := by
  rw [outsAt0_A m c t p p']
  frame_out
  canon_tiles x w
  case piece0 =>
    rw [upperC]
    have e2 : x = ix3 (0 : Fin 1) (⟨(x 1).val, x1_lt⟩ : Fin 256) e := by
      blk_ext []
    rw [e2]
    refine blockC_at Q K V lam b h row _ _ _ _ _ _ e (fun l => ?_) (fun j l => ?_) (fun j l => ?_) (hl _) |>.trans ?_
    · refine Eq.trans ?_ (hq b row (lane h l))
      blk_simp [iblk, idx t]
      entry_read
      pointwise
      blk_ext [idx t]
    · refine Eq.trans ?_ (hk b (j.castLE _) (lane h l))
      blk_simp [iblk, idx t]
      entry_read
      pointwise
      blk_ext [idx t]
      all_goals rfl
    · refine Eq.trans ?_ (hv b (j.castLE _) (lane h l))
      blk_simp [iblk, idx t]
      entry_read
      pointwise
      blk_ext [idx t]
      all_goals rfl
    · exact congrArg (fun g => normed _ g e) (funext fun l => g_entry m c t l)
  case piece1 =>
    rw [lowerC]
    have e2 : x = ix3 (0 : Fin 1) (⟨(x 1).val, x1_lt⟩ : Fin 256) e := by
      blk_ext []
    rw [e2]
    refine blockC_at Q K V lam b h row _ _ _ _ _ _ e (fun l => ?_) (fun j l => ?_) (fun j l => ?_) (hl _) |>.trans ?_
    · refine Eq.trans ?_ (hq b row (lane h l))
      blk_simp [iblk, idx t]
      entry_read
      pointwise
      blk_ext [idx t]
    · refine Eq.trans ?_ (hk b (j.castLE _) (lane h l))
      blk_simp [iblk, idx t]
      entry_read
      pointwise
      blk_ext [idx t]
      all_goals rfl
    · refine Eq.trans ?_ (hv b (j.castLE _) (lane h l))
      blk_simp [iblk, idx t]
      entry_read
      pointwise
      blk_ext [idx t]
      all_goals rfl
    · exact congrArg (fun g => normed _ g e) (funext fun l => g_entry m c t l)

/-- What a grid point leaves in its block, at a point of the rows after the context. -/
theorem outM (c : Dev nD) (t : Fin cfg0.N) (p : ¬t.val % 17 = 0) (p' : 1 ≤ t.val % 17) (Q K V : Fin 4 → Fin 4352 → Fin 512 → ℝ) (lam : ℝ)
    (hq : ∀ b r e, m ((c : Thread nD τ).loc main_arg0) (ix3 b r e) = (Q b r e : EReal))
    (hk : ∀ b r e, m ((c : Thread nD τ).loc main_arg1) (ix3 b r e) = (K b r e : EReal))
    (hv : ∀ b r e, m ((c : Thread nD τ).loc main_arg2) (ix3 b r e) = (V b r e : EReal))
    (hl : ∀ x, iblk m c 0 t x = (lam : EReal)) (y : S1x256x256.Idx)
    (b h : Fin 4) (row : Fin 4352) (e : Fin 128) (eb : b.val = t.val / 34) (er : row.val = t.val % 17 * 256 + (y 1).val)
    (eh : h.val = t.val / 17 % 2 * 2 + (y 2).val / 128) (ee : e.val = (y 2).val % 128) :
    outsAt0 m c t.val t.isLt y = normed (head 4352 le_rfl Q K V lam b h row) (fun l => m ((c : Thread nD τ).loc main_arg4) (ix1 l)) e := by
  rw [outsAt0_B m c t p p']
  frame_out
  canon_tiles x w
  case piece0 =>
    rw [upperM]
    have e2 : x = ix3 (0 : Fin 1) (⟨(x 1).val, x1_lt⟩ : Fin 256) e := by
      blk_ext []
    rw [e2]
    refine blockM_at Q K V lam b h row _ _ _ _ _ _ e (fun l => ?_) (fun j l => ?_) (fun j l => ?_) (hl _) |>.trans ?_
    · refine Eq.trans ?_ (hq b row (lane h l))
      blk_simp [iblk, idx t]
      entry_read
      pointwise
      blk_ext [idx t]
    · refine Eq.trans ?_ (hk b (j.castLE _) (lane h l))
      blk_simp [iblk, idx t]
      entry_read
      pointwise
      blk_ext [idx t]
      all_goals rfl
    · refine Eq.trans ?_ (hv b (j.castLE _) (lane h l))
      blk_simp [iblk, idx t]
      entry_read
      pointwise
      blk_ext [idx t]
      all_goals rfl
    · exact congrArg (fun g => normed _ g e) (funext fun l => g_entry m c t l)
  case piece1 =>
    rw [lowerM]
    have e2 : x = ix3 (0 : Fin 1) (⟨(x 1).val, x1_lt⟩ : Fin 256) e := by
      blk_ext []
    rw [e2]
    refine blockM_at Q K V lam b h row _ _ _ _ _ _ e (fun l => ?_) (fun j l => ?_) (fun j l => ?_) (hl _) |>.trans ?_
    · refine Eq.trans ?_ (hq b row (lane h l))
      blk_simp [iblk, idx t]
      entry_read
      pointwise
      blk_ext [idx t]
    · refine Eq.trans ?_ (hk b (j.castLE _) (lane h l))
      blk_simp [iblk, idx t]
      entry_read
      pointwise
      blk_ext [idx t]
      all_goals rfl
    · refine Eq.trans ?_ (hv b (j.castLE _) (lane h l))
      blk_simp [iblk, idx t]
      entry_read
      pointwise
      blk_ext [idx t]
      all_goals rfl
    · exact congrArg (fun g => normed _ g e) (funext fun l => g_entry m c t l)

/-- The array the kernel leaves is the differential attention. -/
theorem final (c : Dev nD) (Q K V : Fin 4 → Fin 4352 → Fin 512 → ℝ) (L : Fin 2 → Fin 2 → Fin 64 → ℝ) (lam : ℝ)
    (hq : ∀ b r e, m ((c : Thread nD τ).loc main_arg0) (ix3 b r e) = (Q b r e : EReal))
    (hk : ∀ b r e, m ((c : Thread nD τ).loc main_arg1) (ix3 b r e) = (K b r e : EReal))
    (hv : ∀ b r e, m ((c : Thread nD τ).loc main_arg2) (ix3 b r e) = (V b r e : EReal))
    (hL : ∀ b r e, m ((c : Thread nD τ).loc main_arg3) (ix3 b r e) = (L b r e : EReal))
    (hl : Ideal.exp (∑ d : Fin 64, (L 0 0 d : EReal) * (L 0 1 d : EReal)) - Ideal.exp (∑ d : Fin 64, (L 1 0 d : EReal) * (L 1 1 d : EReal))
      + Ideal.ofBits .f32 0x3E4CCCCD#32 = (lam : EReal)) :
    (dats m 0 c).arrAt 5 cfg0.N = fun i : S4x4352x512.Idx => result Q K V lam (fun l => m ((c : Thread nD τ).loc main_arg4) (ix1 l)) (i 0) (i 1)
      ⟨(i 2).val / 128, Nat.div_lt_of_lt_mul (i 2).isLt⟩ ⟨(i 2).val % 128, Nat.mod_lt _ (by norm_num)⟩ := by
  refine (dats m 0 c).arrAt_eq_of_covers 5 _ (by decide +kernel) fun t hf y => ?_
  blk_simp
  rw [after0_5]
  have hlam := fun x => (lam_entry m c t L hL x).trans hl
  by_cases p : t.val % 17 = 0
  · refine (outC m c t p (by omega) Q K V lam hq hk hv hlam y _ _ _ _ ?_ ?_ ?_ ?_).trans (if_pos ?_).symm
    all_goals blk_simp [idx t]
    all_goals (try dsimp only)
    all_goals idx_bounds
    all_goals omega
  · refine (outM m c t p (by omega) Q K V lam hq hk hv hlam y _ _ _ _ ?_ ?_ ?_ ?_).trans (if_neg ?_).symm
    all_goals blk_simp [idx t]
    all_goals (try dsimp only)
    all_goals idx_bounds
    all_goals omega

end Cert.Diff

end

end
-- ==== Proof.RefVal.lean ====
/-
  The plain formulation of the differential attention, read at one place of its result: the printed term is cut into
  named stages, once for the context rows and once for the other rows, and every stage is read at an index.
-/
module

public import proofs.«01_k».proof.Proof.Spec
public import proofs.«01_k».proof.Proof.Gen.ReferenceIdeal.Run

@[expose] public section

set_option maxRecDepth 16384

noncomputable section

namespace Cert.Diff

open Idealize.ShloMosaic Idealize.ShloMosaic.TcCoe Idealize.SL.Sem
open Cert.ReferenceIdeal Cert.ReferenceIdeal.Gen Cert.ReferenceIdeal.Value

/-- The weight `lam` of the second attention, from the lambda vectors. -/
def lamOf (A3 : FVec Ideal S2x2x64 .f32) : FVec Ideal S_ .f32 :=
  addf (subf
    (Host.exp (Host.reduceAdd (mulf (shapeCast _ (extractStridedSlice S1x1x64 ![0, 0, 0] A3 slices_S2x2x64_S1x1x64_0_0_0) shapeCasts_S1x1x64_S64) (shapeCast _ (extractStridedSlice S1x1x64 ![0, 1, 0] A3 slices_S2x2x64_S1x1x64_0_1_0) shapeCasts_S1x1x64_S64)) (constant S_ .f32 0x00000000#32) reducesTo_S64_S_d0 h_S_))
    (Host.exp (Host.reduceAdd (mulf (shapeCast _ (extractStridedSlice S1x1x64 ![1, 0, 0] A3 slices_S2x2x64_S1x1x64_1_0_0) shapeCasts_S1x1x64_S64) (shapeCast _ (extractStridedSlice S1x1x64 ![1, 1, 0] A3 slices_S2x2x64_S1x1x64_1_1_0) shapeCasts_S1x1x64_S64)) (constant S_ .f32 0x00000000#32) reducesTo_S64_S_d0 h_S_)))
    (constant S_ .f32 0x3E4CCCCD#32)

/-- `lam` as a sum of exponentials. -/
theorem lamOf_at (A3 : FVec Ideal S2x2x64 .f32) : lamOf A3 ix0
    = Ideal.exp (∑ d : Fin 64, A3 (ix3 0 0 d) * A3 (ix3 0 1 d)) - Ideal.exp (∑ d : Fin 64, A3 (ix3 1 0 d) * A3 (ix3 1 1 d))
      + Ideal.ofBits .f32 0x3E4CCCCD#32 := by
  pointwise [lamOf]

/-! ## The context rows against the context -/

/-- The scores of the context rows against the context. -/
def scoresC (A0 A1 : FVec Ideal S4x4352x512 .f32) : FVec Ideal S4x4x2x256x256 .f32 :=
  mulf (Host.dotGeneral dot_S4x256x4x2x64_S4x256x4x2x64_S4x4x2x256x256_4_4_1_1_023_023 none (extractStridedSlice S4x256x4x2x64 ![0, 0, 0, 0, 0] (shapeCast _ A0 shapeCasts_S4x4352x512_S4x4352x4x2x64) slices_S4x4352x4x2x64_S4x256x4x2x64_0_0_0_0_0) (extractStridedSlice S4x256x4x2x64 ![0, 0, 0, 0, 0] (shapeCast _ A1 shapeCasts_S4x4352x512_S4x4352x4x2x64) slices_S4x4352x4x2x64_S4x256x4x2x64_0_0_0_0_0)) (broadcastInDim S4x4x2x256x256 ![] bcast_S_S4x4x2x256x256 (constant S_ .f32 0x3E000000#32))

/-- The largest score of every row. -/
def peakC (S : FVec Ideal S4x4x2x256x256 .f32) : FVec Ideal S4x4x2x256 .f32 :=
  Host.reduce FloatOps.maximumf S (constant S_ .f32 0xFF800000#32) reducesTo_S4x4x2x256x256_S4x4x2x256_d4 h_S_

/-- A number of every row, but at least minus infinity, at every score's place. -/
def topC (M : FVec Ideal S4x4x2x256 .f32) : FVec Ideal S4x4x2x256x256 .f32 :=
  broadcastInDim S4x4x2x256x256 ![0, 1, 2, 3, 4] bcast_S4x4x2x256x1_S4x4x2x256x256_0_1_2_3_4 (broadcastInDim S4x4x2x256x1 ![0, 1, 2, 3] bcast_S4x4x2x256_S4x4x2x256x1_0_1_2_3 (maximumf (broadcastInDim S4x4x2x256 ![] bcast_S_S4x4x2x256 (constant S_ .f32 0xFF800000#32)) M))

/-- Every score less the number of its row, exponentiated, and divided by the row's sum. -/
def softC (S : FVec Ideal S4x4x2x256x256 .f32) (T : FVec Ideal S4x4x2x256x256 .f32) : FVec Ideal S4x4x2x256x256 .f32 :=
  Host.divf (Host.exp (subf S T)) (broadcastInDim S4x4x2x256x256 ![0, 1, 2, 3, 4] bcast_S4x4x2x256x1_S4x4x2x256x256_0_1_2_3_4 (broadcastInDim S4x4x2x256x1 ![0, 1, 2, 3] bcast_S4x4x2x256_S4x4x2x256x1_0_1_2_3 (Host.reduceAdd (Host.exp (subf S T)) (constant S_ .f32 0x00000000#32) reducesTo_S4x4x2x256x256_S4x4x2x256_d4 h_S_)))

/-- The values summed with the difference of the two softmax weights. -/
def mixedC (A2 : FVec Ideal S4x4352x512 .f32) (L : FVec Ideal S_ .f32) (P : FVec Ideal S4x4x2x256x256 .f32) : FVec Ideal S4x256x4x128 .f32 :=
  transpose S4x256x4x128 [0, 3, 1, 2] (Host.dotGeneral dot_S4x256x4x128_S4x4x256x256_S4x4x128x256_1_3_3_2_02_01 none (extractStridedSlice S4x256x4x128 ![0, 0, 0, 0] (shapeCast _ A2 shapeCasts_S4x4352x512_S4x4352x4x128) slices_S4x4352x4x128_S4x256x4x128_0_0_0_0) (subf (shapeCast _ (extractStridedSlice S4x4x1x256x256 ![0, 0, 0, 0, 0] P slices_S4x4x2x256x256_S4x4x1x256x256_0_0_0_0_0) shapeCasts_S4x4x1x256x256_S4x4x256x256) (mulf (broadcastInDim S4x4x256x256 ![] bcast_S_S4x4x256x256 L) (shapeCast _ (extractStridedSlice S4x4x1x256x256 ![0, 0, 1, 0, 0] P slices_S4x4x2x256x256_S4x4x1x256x256_0_0_1_0_0) shapeCasts_S4x4x1x256x256_S4x4x256x256)))) transposes_S4x4x128x256_S4x256x4x128_0_3_1_2

/-- The normalised heads. -/
def normsC (A4 : FVec Ideal S128 .f32) (O : FVec Ideal S4x256x4x128 .f32) : FVec Ideal S4x256x4x128 .f32 :=
  mulf (mulf (mulf O (broadcastInDim S4x256x4x128 ![0, 1, 2, 3] bcast_S4x256x4x1_S4x256x4x128_0_1_2_3 (Host.rsqrt (addf (Host.divf (broadcastInDim S4x256x4x1 ![0, 1, 2] bcast_S4x256x4_S4x256x4x1_0_1_2 (Host.reduceAdd (mulf O O) (constant S_ .f32 0x00000000#32) reducesTo_S4x256x4x128_S4x256x4_d3 h_S_)) (broadcastInDim S4x256x4x1 ![] bcast_S_S4x256x4x1 (constant S_ .f32 0x43000000#32))) (broadcastInDim S4x256x4x1 ![] bcast_S_S4x256x4x1 (constant S_ .f32 0x358637BD#32)))))) (broadcastInDim S4x256x4x128 ![0, 1, 2, 3] bcast_S1x1x1x128_S4x256x4x128_0_1_2_3 (broadcastInDim S1x1x1x128 ![3] bcast_S128_S1x1x1x128_3 A4))) (broadcastInDim S4x256x4x128 ![] bcast_S_S4x256x4x128 (constant S_ .f32 0x3F4CCCCD#32))

/-- One score. -/
theorem scoresC_at (Q K : Fin 4 → Fin 4352 → Fin 512 → ℝ) (A0 A1 : FVec Ideal S4x4352x512 .f32)
    (hq : ∀ b r e, A0 (ix3 b r e) = (Q b r e : EReal)) (hk : ∀ b r e, A1 (ix3 b r e) = (K b r e : EReal))
    (b h : Fin 4) (s : Fin 2) (r : Fin 256) (j : Fin 256) :
    scoresC A0 A1 (ix5 b h s r j) = (score Q K b h s ⟨r.val, by omega⟩ (j.castLE (by norm_num)) : EReal) := by
  pointwise [scoresC, hq, hk]
  exact score_eq Q K b h s _ _ _ rfl

/-- The largest score of one row. -/
theorem peakC_at (S : FVec Ideal S4x4x2x256x256 .f32) (b h : Fin 4) (s : Fin 2) (r : Fin 256) :
    peakC S (ix4 b h s r) = Finset.univ.fold max (⊥ : EReal) fun k => S (ix5 b h s r k) := by
  pointwise [peakC]
  rw [bits_bot]

/-- The row's number at one score's place. -/
theorem topC_at (M : FVec Ideal S4x4x2x256 .f32) (b h : Fin 4) (s : Fin 2) (r : Fin 256) (j : Fin 256) :
    topC M (ix5 b h s r j) = max (⊥ : EReal) (M (ix4 b h s r)) := by
  pointwise [topC]
  rw [bits_bot]

/-- One softmax weight. -/
theorem softC_at (S T : FVec Ideal S4x4x2x256x256 .f32) (b h : Fin 4) (s : Fin 2) (r : Fin 256) (j : Fin 256) :
    softC S T (ix5 b h s r j)
      = Ideal.div (Ideal.exp (S (ix5 b h s r j) - T (ix5 b h s r j))) (∑ i, Ideal.exp (S (ix5 b h s r i) - T (ix5 b h s r i))) := by
  pointwise [softC]

/-- One lane of the difference of the two attentions. -/
theorem mixedC_at (A2 : FVec Ideal S4x4352x512 .f32) (L : FVec Ideal S_ .f32) (P : FVec Ideal S4x4x2x256x256 .f32)
    (b : Fin 4) (r : Fin 256) (h : Fin 4) (e : Fin 128) :
    mixedC A2 L P (ix4 b r h e)
      = ∑ j : Fin 256, A2 (ix3 b (j.castLE (by norm_num)) (lane h e)) * (P (ix5 b h 0 r j) - L ix0 * P (ix5 b h 1 r j)) := by
  pointwise [mixedC]
  exact Finset.sum_congr rfl fun j _ => rfl

/-- One lane of the difference of the two attentions, on reals. -/
theorem headC_at (Q K V : Fin 4 → Fin 4352 → Fin 512 → ℝ) (lam : ℝ) (A0 A1 A2 : FVec Ideal S4x4352x512 .f32) (L : FVec Ideal S_ .f32)
    (hq : ∀ b r e, A0 (ix3 b r e) = (Q b r e : EReal)) (hk : ∀ b r e, A1 (ix3 b r e) = (K b r e : EReal))
    (hv : ∀ b r e, A2 (ix3 b r e) = (V b r e : EReal)) (hl : L ix0 = (lam : EReal))
    (b : Fin 4) (r : Fin 256) (h : Fin 4) (e : Fin 128) :
    mixedC A2 L (softC (scoresC A0 A1) (topC (peakC (scoresC A0 A1)))) (ix4 b r h e) = (head 256 (by norm_num) Q K V lam b h ⟨r.val, by omega⟩ e : EReal) := by
  rw [mixedC_at, hl]
  simp only [softC_at, topC_at]
  exact attend_softmax (by norm_num) _ _ _ lam _ _ _ (fun j => scoresC_at Q K A0 A1 hq hk b h 0 r j)
    (fun j => scoresC_at Q K A0 A1 hq hk b h 1 r j) (fun j => hv b _ _) _ _
    (congrArg (max (⊥ : EReal)) (peakC_at _ b h 0 r)) (congrArg (max (⊥ : EReal)) (peakC_at _ b h 1 r))

/-- One normalised lane. -/
theorem normsC_at (o : Fin 128 → ℝ) (A4 : FVec Ideal S128 .f32) (O : FVec Ideal S4x256x4x128 .f32) (b : Fin 4) (r : Fin 256) (h : Fin 4)
    (ho : ∀ e : Fin 128, O (ix4 b r h e) = (o e : EReal)) (e : Fin 128) :
    normsC A4 O (ix4 b r h e) = normed o (fun e => A4 (ix1 e)) e := by
  pointwise [normsC, ho, normed]
  rw [mul_assoc]

/-! ## The other rows against all rows -/

/-- The scores of the other rows against all rows. -/
def scoresM (A0 A1 : FVec Ideal S4x4352x512 .f32) : FVec Ideal S4x4x2x4096x4352 .f32 :=
  mulf (Host.dotGeneral dot_S4x4096x4x2x64_S4x4352x4x2x64_S4x4x2x4096x4352_4_4_1_1_023_023 none (extractStridedSlice S4x4096x4x2x64 ![0, 256, 0, 0, 0] (shapeCast _ A0 shapeCasts_S4x4352x512_S4x4352x4x2x64) slices_S4x4352x4x2x64_S4x4096x4x2x64_0_256_0_0_0) (shapeCast _ A1 shapeCasts_S4x4352x512_S4x4352x4x2x64)) (broadcastInDim S4x4x2x4096x4352 ![] bcast_S_S4x4x2x4096x4352 (constant S_ .f32 0x3E000000#32))

/-- The largest score of every row. -/
def peakM (S : FVec Ideal S4x4x2x4096x4352 .f32) : FVec Ideal S4x4x2x4096 .f32 :=
  Host.reduce FloatOps.maximumf S (constant S_ .f32 0xFF800000#32) reducesTo_S4x4x2x4096x4352_S4x4x2x4096_d4 h_S_

/-- A number of every row, but at least minus infinity, at every score's place. -/
def topM (M : FVec Ideal S4x4x2x4096 .f32) : FVec Ideal S4x4x2x4096x4352 .f32 :=
  broadcastInDim S4x4x2x4096x4352 ![0, 1, 2, 3, 4] bcast_S4x4x2x4096x1_S4x4x2x4096x4352_0_1_2_3_4 (broadcastInDim S4x4x2x4096x1 ![0, 1, 2, 3] bcast_S4x4x2x4096_S4x4x2x4096x1_0_1_2_3 (maximumf (broadcastInDim S4x4x2x4096 ![] bcast_S_S4x4x2x4096 (constant S_ .f32 0xFF800000#32)) M))

/-- Every score less the number of its row, exponentiated, and divided by the row's sum. -/
def softM (S : FVec Ideal S4x4x2x4096x4352 .f32) (T : FVec Ideal S4x4x2x4096x4352 .f32) : FVec Ideal S4x4x2x4096x4352 .f32 :=
  Host.divf (Host.exp (subf S T)) (broadcastInDim S4x4x2x4096x4352 ![0, 1, 2, 3, 4] bcast_S4x4x2x4096x1_S4x4x2x4096x4352_0_1_2_3_4 (broadcastInDim S4x4x2x4096x1 ![0, 1, 2, 3] bcast_S4x4x2x4096_S4x4x2x4096x1_0_1_2_3 (Host.reduceAdd (Host.exp (subf S T)) (constant S_ .f32 0x00000000#32) reducesTo_S4x4x2x4096x4352_S4x4x2x4096_d4 h_S_)))

/-- The values summed with the difference of the two softmax weights. -/
def mixedM (A2 : FVec Ideal S4x4352x512 .f32) (L : FVec Ideal S_ .f32) (P : FVec Ideal S4x4x2x4096x4352 .f32) : FVec Ideal S4x4096x4x128 .f32 :=
  transpose S4x4096x4x128 [0, 3, 1, 2] (Host.dotGeneral dot_S4x4352x4x128_S4x4x4096x4352_S4x4x128x4096_1_3_3_2_02_01 none (shapeCast _ A2 shapeCasts_S4x4352x512_S4x4352x4x128) (subf (shapeCast _ (extractStridedSlice S4x4x1x4096x4352 ![0, 0, 0, 0, 0] P slices_S4x4x2x4096x4352_S4x4x1x4096x4352_0_0_0_0_0) shapeCasts_S4x4x1x4096x4352_S4x4x4096x4352) (mulf (broadcastInDim S4x4x4096x4352 ![] bcast_S_S4x4x4096x4352 L) (shapeCast _ (extractStridedSlice S4x4x1x4096x4352 ![0, 0, 1, 0, 0] P slices_S4x4x2x4096x4352_S4x4x1x4096x4352_0_0_1_0_0) shapeCasts_S4x4x1x4096x4352_S4x4x4096x4352)))) transposes_S4x4x128x4096_S4x4096x4x128_0_3_1_2

/-- The normalised heads. -/
def normsM (A4 : FVec Ideal S128 .f32) (O : FVec Ideal S4x4096x4x128 .f32) : FVec Ideal S4x4096x4x128 .f32 :=
  mulf (mulf (mulf O (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf O O) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 A4))) (broadcastInDim S4x4096x4x128 ![] bcast_S_S4x4096x4x128 (constant S_ .f32 0x3F4CCCCD#32))

/-- One score. -/
theorem scoresM_at (Q K : Fin 4 → Fin 4352 → Fin 512 → ℝ) (A0 A1 : FVec Ideal S4x4352x512 .f32)
    (hq : ∀ b r e, A0 (ix3 b r e) = (Q b r e : EReal)) (hk : ∀ b r e, A1 (ix3 b r e) = (K b r e : EReal))
    (b h : Fin 4) (s : Fin 2) (r : Fin 4096) (j : Fin 4352) :
    scoresM A0 A1 (ix5 b h s r j) = (score Q K b h s ⟨256 + r.val, by omega⟩ (j.castLE le_rfl) : EReal) := by
  pointwise [scoresM, hq, hk]
  exact score_eq Q K b h s _ _ _ rfl

/-- The largest score of one row. -/
theorem peakM_at (S : FVec Ideal S4x4x2x4096x4352 .f32) (b h : Fin 4) (s : Fin 2) (r : Fin 4096) :
    peakM S (ix4 b h s r) = Finset.univ.fold max (⊥ : EReal) fun k => S (ix5 b h s r k) := by
  pointwise [peakM]
  rw [bits_bot]

/-- The row's number at one score's place. -/
theorem topM_at (M : FVec Ideal S4x4x2x4096 .f32) (b h : Fin 4) (s : Fin 2) (r : Fin 4096) (j : Fin 4352) :
    topM M (ix5 b h s r j) = max (⊥ : EReal) (M (ix4 b h s r)) := by
  pointwise [topM]
  rw [bits_bot]

/-- One softmax weight. -/
theorem softM_at (S T : FVec Ideal S4x4x2x4096x4352 .f32) (b h : Fin 4) (s : Fin 2) (r : Fin 4096) (j : Fin 4352) :
    softM S T (ix5 b h s r j)
      = Ideal.div (Ideal.exp (S (ix5 b h s r j) - T (ix5 b h s r j))) (∑ i, Ideal.exp (S (ix5 b h s r i) - T (ix5 b h s r i))) := by
  pointwise [softM]

/-- One lane of the difference of the two attentions. -/
theorem mixedM_at (A2 : FVec Ideal S4x4352x512 .f32) (L : FVec Ideal S_ .f32) (P : FVec Ideal S4x4x2x4096x4352 .f32)
    (b : Fin 4) (r : Fin 4096) (h : Fin 4) (e : Fin 128) :
    mixedM A2 L P (ix4 b r h e)
      = ∑ j : Fin 4352, A2 (ix3 b (j.castLE le_rfl) (lane h e)) * (P (ix5 b h 0 r j) - L ix0 * P (ix5 b h 1 r j)) := by
  pointwise [mixedM]
  exact Finset.sum_congr rfl fun j _ => rfl

/-- One lane of the difference of the two attentions, on reals. -/
theorem headM_at (Q K V : Fin 4 → Fin 4352 → Fin 512 → ℝ) (lam : ℝ) (A0 A1 A2 : FVec Ideal S4x4352x512 .f32) (L : FVec Ideal S_ .f32)
    (hq : ∀ b r e, A0 (ix3 b r e) = (Q b r e : EReal)) (hk : ∀ b r e, A1 (ix3 b r e) = (K b r e : EReal))
    (hv : ∀ b r e, A2 (ix3 b r e) = (V b r e : EReal)) (hl : L ix0 = (lam : EReal))
    (b : Fin 4) (r : Fin 4096) (h : Fin 4) (e : Fin 128) :
    mixedM A2 L (softM (scoresM A0 A1) (topM (peakM (scoresM A0 A1)))) (ix4 b r h e) = (head 4352 le_rfl Q K V lam b h ⟨256 + r.val, by omega⟩ e : EReal) := by
  rw [mixedM_at, hl]
  simp only [softM_at, topM_at]
  exact attend_softmax (by norm_num) _ _ _ lam _ _ _ (fun j => scoresM_at Q K A0 A1 hq hk b h 0 r j)
    (fun j => scoresM_at Q K A0 A1 hq hk b h 1 r j) (fun j => hv b _ _) _ _
    (congrArg (max (⊥ : EReal)) (peakM_at _ b h 0 r)) (congrArg (max (⊥ : EReal)) (peakM_at _ b h 1 r))

/-- One normalised lane. -/
theorem normsM_at (o : Fin 128 → ℝ) (A4 : FVec Ideal S128 .f32) (O : FVec Ideal S4x4096x4x128 .f32) (b : Fin 4) (r : Fin 4096) (h : Fin 4)
    (ho : ∀ e : Fin 128, O (ix4 b r h e) = (o e : EReal)) (e : Fin 128) :
    normsM A4 O (ix4 b r h e) = normed o (fun e => A4 (ix1 e)) e := by
  pointwise [normsM, ho, normed]
  rw [mul_assoc]

/-! ## The whole result -/

/-- The result, stage by stage. -/
def whole (A0 A1 A2 : FVec Ideal S4x4352x512 .f32) (A3 : FVec Ideal S2x2x64 .f32) (A4 : FVec Ideal S128 .f32) :
    FVec Ideal S4x4352x512 .f32 :=
  shapeCast _ (concatenate S4x4352x4x128 1 [⟨S4x256x4x128, normsC A4 (mixedC A2 (lamOf A3) (softC (scoresC A0 A1) (topC (peakC (scoresC A0 A1)))))⟩, ⟨S4x4096x4x128, normsM A4 (mixedM A2 (lamOf A3) (softM (scoresM A0 A1) (topM (peakM (scoresM A0 A1)))))⟩] concatenates_S4x256x4x128_S4x4096x4x128_S4x4352x4x128_d1) shapeCasts_S4x4352x4x128_S4x4352x512

/-- The printed term is the stages composed. -/
theorem res_whole (m : (ℓ : Loc nD τ sig) → Buf (Elt Ideal) ℓ) (c : Dev nD) :
    res_out0 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- The result at row `r` and lane `c` is the differential attention of head `c / 128` at its lane `c % 128`. -/
theorem whole_at (Q K V : Fin 4 → Fin 4352 → Fin 512 → ℝ) (lam : ℝ) (A0 A1 A2 : FVec Ideal S4x4352x512 .f32) (A3 : FVec Ideal S2x2x64 .f32)
    (A4 : FVec Ideal S128 .f32)
    (hq : ∀ b r e, A0 (ix3 b r e) = (Q b r e : EReal)) (hk : ∀ b r e, A1 (ix3 b r e) = (K b r e : EReal))
    (hv : ∀ b r e, A2 (ix3 b r e) = (V b r e : EReal)) (hl : lamOf A3 ix0 = (lam : EReal))
    (b : Fin 4) (r : Fin 4352) (c : Fin 512) :
    whole A0 A1 A2 A3 A4 (ix3 b r c)
      = result Q K V lam (fun e => A4 (ix1 e)) b r ⟨c.val / 128, by omega⟩ ⟨c.val % 128, by omega⟩ := by
  pointwise [whole]
  by_cases h : r.val < 256
  · rw [dif_pos h, result, if_pos h]
    exact normsC_at _ A4 _ b ⟨r.val, h⟩ _ (fun e => headC_at Q K V lam A0 A1 A2 _ hq hk hv hl b ⟨r.val, h⟩ _ e) _
  · rw [dif_neg h, result, if_neg h]
    have e1 : (⟨256 + (r.val - 256), by omega⟩ : Fin 4352) = r := Fin.ext (by show 256 + (r.val - 256) = r.val; omega)
    refine (normsM_at _ A4 _ b ⟨r.val - 256, by omega⟩ _ (fun e => headM_at Q K V lam A0 A1 A2 _ hq hk hv hl b ⟨r.val - 256, by omega⟩ _ e) _).trans ?_
    simp only [e1]

end Cert.Diff

end

end
-- ==== Proof.ProjSpec.lean ====
/-
  The input projection over the extended reals: a token's row, normalised and modulated, times the columns of a weight.
-/
module

public import Idealize.ShloMosaic.PureOps.Ideal
public import Idealize.ShloMosaic.Lib.Pipeline.ValueKit

@[expose] public section

noncomputable section

namespace Cert.Proj

open Idealize.ShloMosaic

/-- Lane `j` of the first of the six chunks of a modulation row. -/
abbrev lane0 (j : Fin 1024) : Fin 6144 := ⟨j.val, by omega⟩

/-- Lane `j` of the second of the six chunks of a modulation row. -/
abbrev lane1 (j : Fin 1024) : Fin 6144 := ⟨1024 + j.val, by omega⟩

/-- The columns of the projection in the order of the call: the queries, keys and values of the first and the third
branch, the second branch's queries with the two groups' heads interleaved, its keys and values, the sixteen decay lanes,
zeros up to the next tile, the gates. -/
def ordCol (f : Fin 7440 → EReal) (c : Fin 7680) : EReal :=
  if h : c.val < 1536 then f ⟨c.val, by omega⟩
  else if h : c.val - 1536 < 2048 then f ⟨2304 + (c.val - 1536), by omega⟩
  else if h : c.val - 1536 - 2048 < 512 then
    f ⟨1536 + ((c.val - 1536 - 2048) / 64 % 2 * 256 + (c.val - 1536 - 2048) / 128 * 64 + (c.val - 1536 - 2048) % 64), by omega⟩
  else if h : c.val - 1536 - 2048 - 512 < 256 then f ⟨2048 + (c.val - 1536 - 2048 - 512), by omega⟩
  else if h : c.val - 1536 - 2048 - 512 - 256 < 16 then f ⟨4352 + (c.val - 1536 - 2048 - 512 - 256), by omega⟩
  else if h : c.val - 1536 - 2048 - 512 - 256 - 16 < 240 then 0
  else f ⟨4368 + (c.val - 1536 - 2048 - 512 - 256 - 16 - 240), by omega⟩

/-- A row times the ordered columns is the ordered columns of the row's product. -/
theorem ordCol_sum (h : Fin 1024 → EReal) (w : Fin 1024 → Fin 7440 → EReal) (c : Fin 7680) :
    ordCol (fun j => ∑ k, h k * w k j) c = ∑ k, h k * ordCol (w k) c := by
  unfold ordCol
  split_ifs <;> simp

/-- Lane `k` of a row, normalised, with its gain, scale and shift. -/
def modded (x g sh sc : Fin 1024 → EReal) (k : Fin 1024) : EReal :=
  x k * Ideal.rsqrt (Ideal.div (∑ j, x j * x j) (Ideal.ofBits .f32 0x44800000#32) + Ideal.ofBits .f32 0x358637BD#32) * g k
    * (1 + sc k) + sh k

/-- A row of the tokens: the context's rows before the latent's, sample by sample. -/
def tok (A0 : FVec Ideal ⟨3, ![4, 4096, 1024]⟩ .f32) (A1 : FVec Ideal ⟨3, ![4, 256, 1024]⟩ .f32) (n : Fin 17408) (k : Fin 1024) : EReal :=
  if h : n.val % 4352 < 256 then A1 (ix3 ⟨n.val / 4352, by omega⟩ ⟨n.val % 4352, h⟩ k)
  else A0 (ix3 ⟨n.val / 4352, by omega⟩ ⟨n.val % 4352 - 256, by omega⟩ k)

/-- The modulation row of a token: the last for the context, otherwise its sample's. -/
def selOf (n : Fin 17408) : Fin 5 := if n.val % 4352 < 256 then 4 else ⟨n.val / 4352, by omega⟩

/-- The modulation row of row block `i`: the context's row for the first of a sample's seventeen blocks, otherwise the sample's. -/
def modRow (i : Nat) : Nat := if i % 17 < 1 then 4 else i / 17

/-- The modulation row of a token is its row block's. -/
theorem selOf_block (i : Nat) (r : Fin 256) (n : Fin 17408) (hn : n.val = i * 256 + r.val) : (selOf n).val = modRow i := by
  unfold selOf modRow
  split_ifs <;> first | omega | rfl | (simp only; omega)

/-- A token's modulated row times an ordered column of the weight. -/
def projected (A0 : FVec Ideal ⟨3, ![4, 4096, 1024]⟩ .f32) (A1 : FVec Ideal ⟨3, ![4, 256, 1024]⟩ .f32) (A2 : FVec Ideal ⟨2, ![5, 6144]⟩ .f32)
    (A3 : FVec Ideal ⟨1, ![1024]⟩ .f32) (A4 : FVec Ideal ⟨2, ![1024, 7440]⟩ .f32) (n : Fin 17408) (e : Fin 7680) : EReal :=
  ∑ k, modded (tok A0 A1 n) (fun j => A3 (ix1 j)) (fun j => A2 (ix2 (selOf n) (lane0 j))) (fun j => A2 (ix2 (selOf n) (lane1 j))) k
    * ordCol (fun j => A4 (ix2 k j)) e

end Cert.Proj

end

end
-- ==== Proof.ProjRef.lean ====
/-
  The reference's input projection read at an element: the modulated row of a token times a column of the weight, the
  columns in the call's order.
-/
module

public import proofs.«01_k».proof.Proof.ProjSpec
public import proofs.«01_k».proof.Proof.Gen.Reference2Ideal.Run
public import Idealize.ShloMosaic.Lib.Pipeline.ValueKit

@[expose] public section

set_option maxRecDepth 16384

noncomputable section

namespace Cert.Proj

open Idealize.ShloMosaic Idealize.ShloMosaic.TcCoe
open Cert.Reference2Ideal Cert.Reference2Ideal.Gen Cert.Reference2Ideal.Value

/-- The modulated context rows. -/
def ctxRows (A1 : FVec Ideal S4x256x1024 .f32) (A2 : FVec Ideal S5x6144 .f32) (A3 : FVec Ideal S1024 .f32) : FVec Ideal S4x256x1024 .f32 :=
  addf (mulf (mulf (mulf A1 (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf A1 A1) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 A3))) (broadcastInDim S4x256x1024 ![0, 1, 2] bcast_S1x1x1024_S4x256x1024_0_1_2 (addf (broadcastInDim S1x1x1024 ![] bcast_S_S1x1x1024 (constant S_ .f32 0x3F800000#32)) (broadcastInDim S1x1x1024 ![0, 2] bcast_S1x1024_S1x1x1024_0_2 (extractStridedSlice S1x1024 ![0, 1024] (extractStridedSlice S1x6144 ![4, 0] A2 slices_S5x6144_S1x6144_4_0) slices_S1x6144_S1x1024_0_1024))))) (broadcastInDim S4x256x1024 ![0, 1, 2] bcast_S1x1x1024_S4x256x1024_0_1_2 (broadcastInDim S1x1x1024 ![0, 2] bcast_S1x1024_S1x1x1024_0_2 (extractStridedSlice S1x1024 ![0, 0] (extractStridedSlice S1x6144 ![4, 0] A2 slices_S5x6144_S1x6144_4_0) slices_S1x6144_S1x1024_0_0)))

/-- The modulated latent rows. -/
def latRows (A0 : FVec Ideal S4x4096x1024 .f32) (A2 : FVec Ideal S5x6144 .f32) (A3 : FVec Ideal S1024 .f32) : FVec Ideal S4x4096x1024 .f32 :=
  addf (mulf (mulf (mulf A0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf A0 A0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 A3))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] (extractStridedSlice S4x6144 ![0, 0] A2 slices_S5x6144_S4x6144_0_0) slices_S4x6144_S4x1024_0_1024))))) (broadcastInDim S4x4096x1024 ![0, 1, 2] bcast_S4x1x1024_S4x4096x1024_0_1_2 (broadcastInDim S4x1x1024 ![0, 2] bcast_S4x1024_S4x1x1024_0_2 (extractStridedSlice S4x1024 ![0, 0] (extractStridedSlice S4x6144 ![0, 0] A2 slices_S5x6144_S4x6144_0_0) slices_S4x6144_S4x1024_0_0)))

/-- All rows times the weight. -/
def product (Hc : FVec Ideal S4x256x1024 .f32) (H : FVec Ideal S4x4096x1024 .f32) (A4 : FVec Ideal S1024x7440 .f32) : FVec Ideal S17408x7440 .f32 :=
  shapeCast _ (Host.dotGeneral dot_S4x4352x1024_S1024x7440_S4x4352x7440_2_0_01_1_n_n none (concatenate S4x4352x1024 1 [⟨S4x256x1024, Hc⟩, ⟨S4x4096x1024, H⟩] concatenates_S4x256x1024_S4x4096x1024_S4x4352x1024_d1) A4) shapeCasts_S4x4352x7440_S17408x7440

/-- The columns of a product in the order of the call. -/
def ordered (P : FVec Ideal S17408x7440 .f32) : FVec Ideal S17408x7680 .f32 :=
  (concatenate S17408x7680 1 [⟨S17408x1536, ((extractStridedSlice S17408x1536 ![0, 0] P slices_S17408x7440_S17408x1536_0_0) : (⟨S17408x1536, .f32⟩ : BufTy).Contents (Elt Ideal))⟩, ⟨S17408x2048, ((extractStridedSlice S17408x2048 ![0, 2304] P slices_S17408x7440_S17408x2048_0_2304) : (⟨S17408x2048, .f32⟩ : BufTy).Contents (Elt Ideal))⟩, ⟨S17408x512, ((shapeCast _ (transpose S17408x4x2x64 [0, 2, 1, 3] (shapeCast _ (extractStridedSlice S17408x512 ![0, 1536] P slices_S17408x7440_S17408x512_0_1536) shapeCasts_S17408x512_S17408x2x4x64) transposes_S17408x2x4x64_S17408x4x2x64_0_2_1_3) shapeCasts_S17408x4x2x64_S17408x512) : (⟨S17408x512, .f32⟩ : BufTy).Contents (Elt Ideal))⟩, ⟨S17408x256, ((extractStridedSlice S17408x256 ![0, 2048] P slices_S17408x7440_S17408x256_0_2048) : (⟨S17408x256, .f32⟩ : BufTy).Contents (Elt Ideal))⟩, ⟨S17408x16, ((extractStridedSlice S17408x16 ![0, 4352] P slices_S17408x7440_S17408x16_0_4352) : (⟨S17408x16, .f32⟩ : BufTy).Contents (Elt Ideal))⟩, ⟨S17408x240, ((broadcastInDim S17408x240 ![] bcast_S_S17408x240 (constant (F := Ideal) S_ .f32 0x00000000#32)) : (⟨S17408x240, .f32⟩ : BufTy).Contents (Elt Ideal))⟩, ⟨S17408x3072, ((extractStridedSlice S17408x3072 ![0, 4368] P slices_S17408x7440_S17408x3072_0_4368) : (⟨S17408x3072, .f32⟩ : BufTy).Contents (Elt Ideal))⟩] concatenates_S17408x1536_S17408x2048_S17408x512_S17408x256_S17408x16_S17408x240_S17408x3072_S17408x7680_d1 : (⟨S17408x7680, .f32⟩ : BufTy).Contents (Elt Ideal))

/-- The reference's result is its four stages. -/
theorem res_ordered (m : (ℓ : Loc nD τ sig) → Buf (Elt Ideal) ℓ) (c : Dev nD) : res_out0 m c
    = ordered (product (ctxRows (m ((c.tc : Thread nD τ).loc main_arg1)) (m ((c.tc : Thread nD τ).loc main_arg2)) (m ((c.tc : Thread nD τ).loc main_arg3)))
        (latRows (m ((c.tc : Thread nD τ).loc main_arg0)) (m ((c.tc : Thread nD τ).loc main_arg2)) (m ((c.tc : Thread nD τ).loc main_arg3)))
        (m ((c.tc : Thread nD τ).loc main_arg4))) := rfl

/-- An entry of the modulated context rows. -/
theorem ctxRows_at (A1 : FVec Ideal S4x256x1024 .f32) (A2 : FVec Ideal S5x6144 .f32) (A3 : FVec Ideal S1024 .f32) (b : Fin 4) (r : Fin 256) (k : Fin 1024) :
    ctxRows A1 A2 A3 (ix3 b r k) = modded (fun j => A1 (ix3 b r j)) (fun j => A3 (ix1 j)) (fun j => A2 (ix2 4 (lane0 j))) (fun j => A2 (ix2 4 (lane1 j))) k := by
  pointwise [ctxRows, modded]
  all_goals rfl

/-- An entry of the modulated latent rows. -/
theorem latRows_at (A0 : FVec Ideal S4x4096x1024 .f32) (A2 : FVec Ideal S5x6144 .f32) (A3 : FVec Ideal S1024 .f32) (b : Fin 4) (r : Fin 4096) (k : Fin 1024) :
    latRows A0 A2 A3 (ix3 b r k) = modded (fun j => A0 (ix3 b r j)) (fun j => A3 (ix1 j)) (fun j => A2 (ix2 (b.castLE (by norm_num)) (lane0 j))) (fun j => A2 (ix2 (b.castLE (by norm_num)) (lane1 j))) k := by
  pointwise [latRows, modded]
  all_goals rfl

/-- An entry of the product. -/
theorem product_at (Hc : FVec Ideal S4x256x1024 .f32) (H : FVec Ideal S4x4096x1024 .f32) (A4 : FVec Ideal S1024x7440 .f32) (n : Fin 17408) (c : Fin 7440) :
    product Hc H A4 (ix2 n c) = ∑ k, (if h : n.val % 4352 < 256 then Hc (ix3 ⟨n.val / 4352, by omega⟩ ⟨n.val % 4352, h⟩ k)
      else H (ix3 ⟨n.val / 4352, by omega⟩ ⟨n.val % 4352 - 256, by omega⟩ k)) * A4 (ix2 k c) := by
  pointwise [product]
  all_goals rfl

/-- An entry of the ordered columns. -/
theorem ordered_at (P : FVec Ideal S17408x7440 .f32) (n : Fin 17408) (c : Fin 7680) :
    ordered P (ix2 n c) = ordCol (fun j => P (ix2 n j)) c := by
  pointwise [ordered, ordCol]
  all_goals rfl

/-- The reference's result at an entry. -/
theorem res_at (A0 : FVec Ideal S4x4096x1024 .f32) (A1 : FVec Ideal S4x256x1024 .f32) (A2 : FVec Ideal S5x6144 .f32) (A3 : FVec Ideal S1024 .f32)
    (A4 : FVec Ideal S1024x7440 .f32) (n : Fin 17408) (e : Fin 7680) :
    ordered (product (ctxRows A1 A2 A3) (latRows A0 A2 A3) A4) (ix2 n e) = projected A0 A1 A2 A3 A4 n e := by
  rw [ordered_at]
  simp only [product_at]
  rw [ordCol_sum (fun k => if h : n.val % 4352 < 256 then ctxRows A1 A2 A3 (ix3 ⟨n.val / 4352, by omega⟩ ⟨n.val % 4352, h⟩ k)
      else latRows A0 A2 A3 (ix3 ⟨n.val / 4352, by omega⟩ ⟨n.val % 4352 - 256, by omega⟩ k)) (fun k j => A4 (ix2 k j))]
  refine Finset.sum_congr rfl fun k _ => congrArg (· * _) ?_
  by_cases h : n.val % 4352 < 256
  · have e1 : tok A0 A1 n = fun k => A1 (ix3 ⟨n.val / 4352, by omega⟩ ⟨n.val % 4352, h⟩ k) := funext fun k => dif_pos h
    have e2 : selOf n = 4 := if_pos h
    rw [dif_pos h, ctxRows_at, e1, e2]
  · have e1 : tok A0 A1 n = fun k => A0 (ix3 ⟨n.val / 4352, by omega⟩ ⟨n.val % 4352 - 256, by omega⟩ k) := funext fun k => dif_neg h
    have e2 : selOf n = ⟨n.val / 4352, by omega⟩ := if_neg h
    rw [dif_neg h, latRows_at, e1, e2]
    rfl

end Cert.Proj

end

end
-- ==== Proof.ProjFinal.lean ====
/-
  The input projection's blocks put together: the array the call leaves is each token's modulated row times the ordered
  columns of the weight.
-/
module

public import proofs.«01_k».proof.Proof.ProjSpec
public import proofs.«01_k».proof.Proof.Gen.Kernel2Ideal.Value
public import Idealize.ShloMosaic.Lib.Pipeline.ValueKit

@[expose] public section

set_option maxRecDepth 16384

noncomputable section

namespace Cert.Proj

open Idealize.ShloMosaic Idealize.ShloMosaic.TcCoe Idealize.SL.Sem
open Cert.Kernel2Ideal Cert.Kernel2Ideal.Gen Cert.Kernel2Ideal.Value

variable (m : (ℓ : Loc nD τ sig) → Buf (Elt Ideal) ℓ)

/-- Where every window's block lies at grid point `t`: half `t / 68` of the columns, row block `t % 68`. -/
theorem idx : ∀ t : Fin cfg0.N, win0_0.index t = ![t.val % 68, 0] ∧ win0_1.index t = ![0, 0]
    ∧ win0_2.index t = ![modRow (t.val % 68) * 6, 0, 0] ∧ win0_3.index t = ![modRow (t.val % 68) * 6 + 1, 0, 0]
    ∧ win0_4.index t = ![0, 0, t.val / 68] ∧ win0_5.index t = ![t.val % 68, t.val / 68] :=
  (by decide +kernel : ∀ t : Fin grid0.N, _)

/-- The payload at an element: a modulated row times a column. -/
theorem pay_at (x : Vec Ideal S256x1024 .f32) (g : Vec Ideal S1x1024 .f32) (sh sc : Vec Ideal S1x1x1024 .f32) (w : Vec Ideal S1x1024x3840 .bf16)
    (r : Fin 256) (l : Fin 3840) : k0_pay1 x g sh sc w (ix2 r l)
    = ∑ k, modded (fun j => x (ix2 r j)) (fun j => g (ix2 0 j)) (fun j => sh (ix3 0 0 j)) (fun j => sc (ix3 0 0 j)) k * w (ix3 0 k l) := by
  pointwise [k0_pay1, modded]

/-- A lane of a token row. -/
theorem x_entry (c : Dev nD) (t : Fin cfg0.N) (r : Fin 256) (k : Fin 1024) (n : Fin 17408) (hn : n.val = t.val % 68 * 256 + r.val) :
    iblk m c 0 t (ix2 r k) = tok (m ((c : Thread nD τ).loc main_arg0)) (m ((c : Thread nD τ).loc main_arg1)) n k := by
  blk_simp [iblk, idx t]
  entry_read
  have e : ((View.whole main_v1).slice (win0_0.rect t)).emb (ix2 r k) = ix2 n k := by
    blk_ext [idx t]
  rw [e]
  pointwise [tok]
  all_goals rfl

/-- A lane of the gain. -/
theorem g_entry (c : Dev nD) (t : Fin cfg0.N) (k : Fin 1024) :
    iblk m c 1 t (ix2 0 k) = m ((c : Thread nD τ).loc main_arg3) (ix1 k) := by
  blk_simp [iblk, idx t]
  entry_read
  pointwise
  blk_ext [idx t]

/-- A lane of the shift. -/
theorem sh_entry (c : Dev nD) (t : Fin cfg0.N) (k : Fin 1024) (s : Fin 5) (hs : s.val = modRow (t.val % 68)) :
    iblk m c 2 t (ix3 0 0 k) = m ((c : Thread nD τ).loc main_arg2) (ix2 s (lane0 k)) := by
  blk_simp [iblk, idx t]
  entry_read
  pointwise
  blk_ext [idx t]

/-- A lane of the scale. -/
theorem sc_entry (c : Dev nD) (t : Fin cfg0.N) (k : Fin 1024) (s : Fin 5) (hs : s.val = modRow (t.val % 68)) :
    iblk m c 3 t (ix3 0 0 k) = m ((c : Thread nD τ).loc main_arg2) (ix2 s (lane1 k)) := by
  blk_simp [iblk, idx t]
  entry_read
  pointwise
  blk_ext [idx t]

/-- The weight's columns in the order of the call, as the host line lays them out. -/
def laid (B : FVec Ideal S1x1024x7440 .f32) : FVec Ideal S1x1024x7680 .f32 :=
  concatenate S1x1024x7680 2 [⟨S1x1024x1536, extractStridedSlice S1x1024x1536 ![0, 0, 0] B slices_S1x1024x7440_S1x1024x1536_0_0_0⟩, ⟨S1x1024x1536, extractStridedSlice S1x1024x1536 ![0, 0, 2304] B slices_S1x1024x7440_S1x1024x1536_0_0_2304⟩, ⟨S1x1024x512, extractStridedSlice S1x1024x512 ![0, 0, 3840] B slices_S1x1024x7440_S1x1024x512_0_0_3840⟩, ⟨S1x1024x512, shapeCast S1x1024x512 (transpose S1x1024x4x2x64 [0, 1, 3, 2, 4] (shapeCast S1x1024x2x4x64 (extractStridedSlice S1x1024x512 ![0, 0, 1536] B slices_S1x1024x7440_S1x1024x512_0_0_1536) shapeCasts_S1x1024x512_S1x1024x2x4x64) transposes_S1x1024x2x4x64_S1x1024x4x2x64_0_1_3_2_4) shapeCasts_S1x1024x4x2x64_S1x1024x512⟩, ⟨S1x1024x256, extractStridedSlice S1x1024x256 ![0, 0, 2048] B slices_S1x1024x7440_S1x1024x256_0_0_2048⟩, ⟨S1x1024x16, extractStridedSlice S1x1024x16 ![0, 0, 4352] B slices_S1x1024x7440_S1x1024x16_0_0_4352⟩, ⟨S1x1024x240, broadcastInDim S1x1024x240 ![] bcast_S_S1x1024x240 (constant (F := Ideal) S_ .f32 0x00000000#32)⟩, ⟨S1x1024x3072, extractStridedSlice S1x1024x3072 ![0, 0, 4368] B slices_S1x1024x7440_S1x1024x3072_0_0_4368⟩]
    concatenates_S1x1024x1536_S1x1024x1536_S1x1024x512_S1x1024x512_S1x1024x256_S1x1024x16_S1x1024x240_S1x1024x3072_S1x1024x7680_d2

/-- An entry of the laid out weight. -/
theorem laid_at (B : FVec Ideal S1x1024x7440 .f32) (k : Fin 1024) (e : Fin 7680) :
    laid B (ix3 0 k e) = ordCol (fun j => B (ix3 0 k j)) e := by
  pointwise [laid, ordCol]
  by_cases h0 : e.val < 1536
  · rw [dif_pos h0, dif_pos (by omega : e.val < 1536)]
  rw [dif_neg h0, dif_neg (by omega : ¬e.val < 1536)]
  by_cases h1 : e.val - 1536 < 1536
  · rw [dif_pos h1, dif_pos (by omega : e.val - 1536 < 2048)]
  rw [dif_neg h1]
  by_cases h2 : e.val - 1536 - 1536 < 512
  · rw [dif_pos h2, dif_pos (by omega : e.val - 1536 < 2048)]
    exact congrArg B (congrArg (ix3 0 k) (Fin.ext (by simp only; omega)))
  rw [dif_neg h2, dif_neg (by omega : ¬e.val - 1536 < 2048)]
  by_cases h3 : e.val - 1536 - 1536 - 512 < 512
  · rw [dif_pos h3, dif_pos (by omega : e.val - 1536 - 2048 < 512)]
    exact congrArg B (congrArg (ix3 0 k) (Fin.ext (by simp only; omega)))
  rw [dif_neg h3, dif_neg (by omega : ¬e.val - 1536 - 2048 < 512)]
  by_cases h4 : e.val - 1536 - 1536 - 512 - 512 < 256
  · rw [dif_pos h4, dif_pos (by omega : e.val - 1536 - 2048 - 512 < 256)]
    exact congrArg B (congrArg (ix3 0 k) (Fin.ext (by simp only; omega)))
  rw [dif_neg h4, dif_neg (by omega : ¬e.val - 1536 - 2048 - 512 < 256)]
  by_cases h5 : e.val - 1536 - 1536 - 512 - 512 - 256 < 16
  · rw [dif_pos h5, dif_pos (by omega : e.val - 1536 - 2048 - 512 - 256 < 16)]
    exact congrArg B (congrArg (ix3 0 k) (Fin.ext (by simp only; omega)))
  rw [dif_neg h5, dif_neg (by omega : ¬e.val - 1536 - 2048 - 512 - 256 < 16)]
  by_cases h6 : e.val - 1536 - 1536 - 512 - 512 - 256 - 16 < 240
  · rw [dif_pos h6, dif_pos (by omega : e.val - 1536 - 2048 - 512 - 256 - 16 < 240)]
  rw [dif_neg h6, dif_neg (by omega : ¬e.val - 1536 - 2048 - 512 - 256 - 16 < 240)]
  exact congrArg B (congrArg (ix3 0 k) (Fin.ext (by simp only; omega)))

set_option maxHeartbeats 16000000 in
/-- The operand of the call is the laid out weight. -/
theorem w_whole (c : Dev nD) : Gen.V m c main_v17
    = truncf .bf16 (laid (broadcastInDim S1x1024x7440 ![1, 2] bcast_S1024x7440_S1x1024x7440_1_2 (m ((c : Thread nD τ).loc main_arg4)))) bitsLt_bf16_f32 := by
  dsimp only [Gen.V, hostOps0]
  after_results_simp <;> (try dsimp only [Matrix.cons_val]) <;> (try after_results_simp) <;> rfl

/-- An entry of the ordered weight. -/
theorem w_entry (c : Dev nD) (t : Fin cfg0.N) (k : Fin 1024) (l : Fin 3840) (e : Fin 7680) (he : e.val = t.val / 68 * 3840 + l.val) :
    iblk m c 4 t (ix3 0 k l) = ordCol (fun j => m ((c : Thread nD τ).loc main_arg4) (ix2 k j)) e := by
  blk_simp [iblk, idx t]
  have e' : ((View.whole main_v17).slice (win0_4.rect t)).emb (ix3 0 k l) = ix3 0 k e := by
    blk_ext [idx t]
  rw [w_whole, e']
  pointwise [laid_at]
  all_goals rfl

/-- The array the call leaves is the projection. -/
theorem final (c : Dev nD) : (dats m 0 c).arrAt 5 cfg0.N = fun i : S17408x7680.Idx =>
    projected (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  have hN : t.val < 136 := t.isLt
  obtain ⟨r, l, rfl⟩ : ∃ (r : Fin 256) (l : Fin 3840), y = ix2 r l := ⟨y 0, y 1, eq_ix2 y⟩
  have e : ((View.whole main_v18).slice (win0_5.rect t)).emb (ix2 r l) = ix2 (⟨t.val % 68 * 256 + r.val, by omega⟩ : Fin 17408) (⟨t.val / 68 * 3840 + l.val, by omega⟩ : Fin 7680) := by
    blk_ext [idx t]
  have hs : (selOf ⟨t.val % 68 * 256 + r.val, by omega⟩).val = modRow (t.val % 68) := selOf_block _ r _ rfl
  frame_out
  rw [e, pay_at]
  change @Eq EReal _ (projected _ _ _ _ _ _ _)
  unfold projected
  refine Finset.sum_congr rfl fun k _ => ?_
  rw [w_entry m c t k l ⟨t.val / 68 * 3840 + l.val, by omega⟩ rfl]
  simp only [x_entry m c t r _ ⟨t.val % 68 * 256 + r.val, by omega⟩ rfl, g_entry, sh_entry m c t _ _ hs, sc_entry m c t _ _ hs]
  rfl

end Cert.Proj

end

end
-- ==== Proof.MergeSpec.lean ====
/-
  The merge over the extended reals: three branches through their weights, gated, summed, through the output weight.
-/
module

public import proofs.«01_k».proof.Proof.ProjSpec

@[expose] public section

noncomputable section

namespace Cert.Merge

open Idealize.ShloMosaic Cert.Proj

/-- Lane `j` of the third of the six chunks of a modulation row. -/
abbrev lane2 (j : Fin 1024) : Fin 6144 := ⟨2048 + j.val, by omega⟩

/-- The logistic function. -/
def sgm (x : EReal) : EReal := Ideal.div 1 (1 + Ideal.exp (-x))

/-- Lane `l` of a head, normalised over its 128 lanes, with its gain, times the gate of `z`. -/
def headNorm (o z g : Fin 128 → EReal) (l : Fin 128) : EReal :=
  o l * Ideal.rsqrt (Ideal.div (∑ j, o j * o j) (Ideal.ofBits .f32 0x43000000#32) + Ideal.ofBits .f32 0x358637BD#32) * g l * (z l * sgm (z l))

/-- Lane `w` of the recurrence's branch: its head normalised and gated. -/
def recur (o z : Fin 512 → EReal) (g : Fin 128 → EReal) (w : Fin 512) : EReal :=
  headNorm (fun l => o ⟨w.val / 128 * 128 + l.val, by omega⟩) (fun l => z ⟨w.val / 128 * 128 + l.val, by omega⟩) g ⟨w.val % 128, by omega⟩

/-- Lane `d` of the merge before its gate: the three branches through their weights, each times its gate, summed, through
the output weight. -/
def merged (o : Fin 3 → Fin 512 → EReal) (gl : Fin 3072 → EReal) (w : Fin 3 → Fin 512 → Fin 1024 → EReal) (wo : Fin 1024 → Fin 1024 → EReal)
    (d : Fin 1024) : EReal :=
  ∑ k, (∑ s : Fin 3, sgm (gl ⟨s.val * 1024 + k.val, by omega⟩) * ∑ j, o s j * w s j k) * wo k d

/-- Lane `d` of token `n` after the merge. -/
def mergeAt (A0 : FVec Ideal ⟨3, ![4, 4096, 1024]⟩ .f32) (A1 : FVec Ideal ⟨3, ![4, 256, 1024]⟩ .f32) (A2 A3 A4 A5 : FVec Ideal ⟨3, ![4, 4352, 512]⟩ .f32)
    (A6 : FVec Ideal ⟨3, ![4, 4352, 7680]⟩ .f32) (A7 : FVec Ideal ⟨1, ![3072]⟩ .f32) (A8 : FVec Ideal ⟨1, ![128]⟩ .f32) (A9 : FVec Ideal ⟨2, ![5, 6144]⟩ .f32)
    (A10 : FVec Ideal ⟨3, ![3, 512, 1024]⟩ .f32) (A11 : FVec Ideal ⟨2, ![1024, 1024]⟩ .f32) (n : Fin 17408) (d : Fin 1024) : EReal :=
  let b : Fin 4 := ⟨n.val / 4352, by omega⟩
  let t : Fin 4352 := ⟨n.val % 4352, by omega⟩
  tok A0 A1 n d + A9 (ix2 (selOf n) (lane2 d)) * merged
    (fun s j => ![A2 (ix3 b t j), A3 (ix3 b t j),
      recur (fun e => A4 (ix3 b t e) + A5 (ix3 b t e)) (fun e => A6 (ix3 b t ⟨3072 + e.val, by omega⟩)) (fun l => A8 (ix1 l)) j] s)
    (fun e => A6 (ix3 b t ⟨4608 + e.val, by omega⟩) + A7 (ix1 e)) (fun s j k => A10 (ix3 s j k)) (fun k e => A11 (ix2 k e)) d

end Cert.Merge

end

end
-- ==== Proof.MergeRef.lean ====
/-
  The reference's merge of the three branches read at an element: the gated sum of the branches' projections, through the
  output weight, scaled by the block's gate and added to the token.
-/
module

public import proofs.«01_k».proof.Proof.MergeSpec
public import proofs.«01_k».proof.Proof.Gen.Reference3Ideal.Run
public import Idealize.ShloMosaic.Lib.Pipeline.ValueKit

@[expose] public section

set_option maxRecDepth 16384

noncomputable section

namespace Cert.Merge

open Idealize.ShloMosaic Idealize.ShloMosaic.TcCoe Cert.Proj
open Cert.Reference3Ideal Cert.Reference3Ideal.Gen Cert.Reference3Ideal.Value

/-- The merge gates. -/
def gates (A6 : FVec Ideal S4x4352x7680 .f32) (A7 : FVec Ideal S3072 .f32) : FVec Ideal S4x4352x3072 .f32 :=
  Host.divf (broadcastInDim S4x4352x3072 ![] bcast_S_S4x4352x3072 (constant (F := Ideal) S_ .f32 0x3F800000#32)) (addf (broadcastInDim S4x4352x3072 ![] bcast_S_S4x4352x3072 (constant (F := Ideal) S_ .f32 0x3F800000#32)) (Host.exp (Host.negf (addf (extractStridedSlice S4x4352x3072 ![0, 0, 4608] A6 slices_S4x4352x7680_S4x4352x3072_0_0_4608) (broadcastInDim S4x4352x3072 ![0, 1, 2] bcast_S1x1x3072_S4x4352x3072_0_1_2 (broadcastInDim S1x1x3072 ![2] bcast_S3072_S1x1x3072_2 A7))))))

/-- The recurrence's branch: both directions' sum, normalised head by head and gated. -/
def gatedRows (A4 A5 : FVec Ideal S4x4352x512 .f32) (A6 : FVec Ideal S4x4352x7680 .f32) (A8 : FVec Ideal S128 .f32) : FVec Ideal S4x4352x512 .f32 :=
  shapeCast _ (mulf (mulf (mulf (shapeCast _ (addf A4 A5) shapeCasts_S4x4352x512_S4x4352x4x128) (broadcastInDim S4x4352x4x128 ![0, 1, 2, 3] bcast_S4x4352x4x1_S4x4352x4x128_0_1_2_3 (Host.rsqrt (addf (Host.divf (broadcastInDim S4x4352x4x1 ![0, 1, 2] bcast_S4x4352x4_S4x4352x4x1_0_1_2 (Host.reduceAdd (mulf (shapeCast _ (addf A4 A5) shapeCasts_S4x4352x512_S4x4352x4x128) (shapeCast _ (addf A4 A5) shapeCasts_S4x4352x512_S4x4352x4x128)) (constant (F := Ideal) S_ .f32 0x00000000#32) reducesTo_S4x4352x4x128_S4x4352x4_d3 h_S_)) (broadcastInDim S4x4352x4x1 ![] bcast_S_S4x4352x4x1 (constant (F := Ideal) S_ .f32 0x43000000#32))) (broadcastInDim S4x4352x4x1 ![] bcast_S_S4x4352x4x1 (constant (F := Ideal) S_ .f32 0x358637BD#32)))))) (broadcastInDim S4x4352x4x128 ![0, 1, 2, 3] bcast_S1x1x1x128_S4x4352x4x128_0_1_2_3 (broadcastInDim S1x1x1x128 ![3] bcast_S128_S1x1x1x128_3 A8))) (mulf (shapeCast _ (extractStridedSlice S4x4352x512 ![0, 0, 3072] A6 slices_S4x4352x7680_S4x4352x512_0_0_3072) shapeCasts_S4x4352x512_S4x4352x4x128) (Host.divf (broadcastInDim S4x4352x4x128 ![] bcast_S_S4x4352x4x128 (constant (F := Ideal) S_ .f32 0x3F800000#32)) (addf (broadcastInDim S4x4352x4x128 ![] bcast_S_S4x4352x4x128 (constant (F := Ideal) S_ .f32 0x3F800000#32)) (Host.exp (Host.negf (shapeCast _ (extractStridedSlice S4x4352x512 ![0, 0, 3072] A6 slices_S4x4352x7680_S4x4352x512_0_0_3072) shapeCasts_S4x4352x512_S4x4352x4x128))))))) shapeCasts_S4x4352x4x128_S4x4352x512

/-- The three branches, each through its own weight. -/
def branches (Oa Ob C : FVec Ideal S4x4352x512 .f32) (A10 : FVec Ideal S3x512x1024 .f32) : FVec Ideal S4x4352x3x1024 .f32 :=
  transpose S4x4352x3x1024 [2, 3, 0, 1] ((Host.dotGeneral (φ₂ := .f32) dot_S3x512x1024_S4x4352x3x512_S3x1024x4x4352_1_3_2_01_0_2 none A10 ((concatenate S4x4352x3x512 2 [⟨S4x4352x1x512, ((broadcastInDim S4x4352x1x512 ![0, 1, 3] bcast_S4x4352x512_S4x4352x1x512_0_1_3 Oa) : (⟨S4x4352x1x512, .f32⟩ : BufTy).Contents (Elt Ideal))⟩, ⟨S4x4352x1x512, ((broadcastInDim S4x4352x1x512 ![0, 1, 3] bcast_S4x4352x512_S4x4352x1x512_0_1_3 Ob) : (⟨S4x4352x1x512, .f32⟩ : BufTy).Contents (Elt Ideal))⟩, ⟨S4x4352x1x512, ((broadcastInDim S4x4352x1x512 ![0, 1, 3] bcast_S4x4352x512_S4x4352x1x512_0_1_3 C) : (⟨S4x4352x1x512, .f32⟩ : BufTy).Contents (Elt Ideal))⟩] concatenates_S4x4352x1x512_S4x4352x1x512_S4x4352x1x512_S4x4352x3x512_d2 : (⟨S4x4352x3x512, .f32⟩ : BufTy).Contents (Elt Ideal)))) : FVec Ideal S3x1024x4x4352 .f32) transposes_S3x1024x4x4352_S4x4352x3x1024_2_3_0_1

/-- The gated sum of the branches through the output weight. -/
def mergedRows (G : FVec Ideal S4x4352x3072 .f32) (Y : FVec Ideal S4x4352x3x1024 .f32) (A11 : FVec Ideal S1024x1024 .f32) : FVec Ideal S4x4352x1024 .f32 :=
  Host.dotGeneral dot_S4x4352x1024_S1024x1024_S4x4352x1024_2_0_01_1_n_n none (Host.reduceAdd (mulf (shapeCast _ G shapeCasts_S4x4352x3072_S4x4352x3x1024) Y) (constant (F := Ideal) S_ .f32 0x00000000#32) reducesTo_S4x4352x3x1024_S4x4352x1024_d2 h_S_) A11

/-- The tokens with the merge added. -/
def added (A0 : FVec Ideal S4x4096x1024 .f32) (A1 : FVec Ideal S4x256x1024 .f32) (A9 : FVec Ideal S5x6144 .f32) (M : FVec Ideal S4x4352x1024 .f32) : FVec Ideal S17408x1024 .f32 :=
  shapeCast _ (concatenate S4x4352x1024 1 [⟨S4x256x1024, (addf A1 (mulf (broadcastInDim S4x256x1024 ![0, 1, 2] bcast_S1x1x1024_S4x256x1024_0_1_2 (broadcastInDim S1x1x1024 ![0, 2] bcast_S1x1024_S1x1x1024_0_2 (extractStridedSlice S1x1024 ![0, 2048] (extractStridedSlice S1x6144 ![4, 0] A9 slices_S5x6144_S1x6144_4_0) slices_S1x6144_S1x1024_0_2048))) (extractStridedSlice S4x256x1024 ![0, 0, 0] M slices_S4x4352x1024_S4x256x1024_0_0_0)))⟩, ⟨S4x4096x1024, (addf A0 (mulf (broadcastInDim S4x4096x1024 ![0, 1, 2] bcast_S4x1x1024_S4x4096x1024_0_1_2 (broadcastInDim S4x1x1024 ![0, 2] bcast_S4x1024_S4x1x1024_0_2 (extractStridedSlice S4x1024 ![0, 2048] (extractStridedSlice S4x6144 ![0, 0] A9 slices_S5x6144_S4x6144_0_0) slices_S4x6144_S4x1024_0_2048))) (extractStridedSlice S4x4096x1024 ![0, 256, 0] M slices_S4x4352x1024_S4x4096x1024_0_256_0)))⟩] concatenates_S4x256x1024_S4x4096x1024_S4x4352x1024_d1) shapeCasts_S4x4352x1024_S17408x1024

/-- The reference's stages composed. -/
def whole (A0 : FVec Ideal S4x4096x1024 .f32) (A1 : FVec Ideal S4x256x1024 .f32) (A2 A3 A4 A5 : FVec Ideal S4x4352x512 .f32) (A6 : FVec Ideal S4x4352x7680 .f32)
    (A7 : FVec Ideal S3072 .f32) (A8 : FVec Ideal S128 .f32) (A9 : FVec Ideal S5x6144 .f32) (A10 : FVec Ideal S3x512x1024 .f32)
    (A11 : FVec Ideal S1024x1024 .f32) : FVec Ideal S17408x1024 .f32 :=
  added A0 A1 A9 (mergedRows (gates A6 A7) (branches A2 A3 (gatedRows A4 A5 A6 A8) A10) A11)

/-- The reference's result is its stages composed. -/
theorem res_whole (m : (ℓ : Loc nD τ sig) → Buf (Elt Ideal) ℓ) (c : Dev nD) : res_out0 m c
    = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

/-- A merge gate. -/
theorem gates_at (A6 : FVec Ideal S4x4352x7680 .f32) (A7 : FVec Ideal S3072 .f32) (b : Fin 4) (t : Fin 4352) (e : Fin 3072) :
    gates A6 A7 (ix3 b t e) = sgm (A6 (ix3 b t ⟨4608 + e.val, by omega⟩) + A7 (ix1 e)) := by
  pointwise [gates, sgm]

/-- A lane of the recurrence's branch. -/
theorem gatedRows_at (A4 A5 : FVec Ideal S4x4352x512 .f32) (A6 : FVec Ideal S4x4352x7680 .f32) (A8 : FVec Ideal S128 .f32) (b : Fin 4) (t : Fin 4352) (w : Fin 512) :
    gatedRows A4 A5 A6 A8 (ix3 b t w) = recur (fun e => A4 (ix3 b t e) + A5 (ix3 b t e)) (fun e => A6 (ix3 b t ⟨3072 + e.val, by omega⟩))
      (fun l => A8 (ix1 l)) w := by
  pointwise [gatedRows, recur, headNorm, sgm]
  simp only [Nat.div_add_mod']

/-- A branch through its weight. -/
theorem branches_at (Oa Ob C : FVec Ideal S4x4352x512 .f32) (A10 : FVec Ideal S3x512x1024 .f32) (b : Fin 4) (t : Fin 4352) (s : Fin 3) (k : Fin 1024) :
    branches Oa Ob C A10 (ix4 b t s k) = ∑ w, ![Oa (ix3 b t w), Ob (ix3 b t w), C (ix3 b t w)] s * A10 (ix3 s w k) := by
  pointwise [branches]
  refine Finset.sum_congr rfl fun w _ => ?_
  rw [mul_comm]
  refine congrArg (· * _) ?_
  rcases s with ⟨_ | _ | _ | _, hs⟩ <;> first | rfl | omega

/-- The merge before its gate. -/
theorem mergedRows_at (G : FVec Ideal S4x4352x3072 .f32) (Y : FVec Ideal S4x4352x3x1024 .f32) (A11 : FVec Ideal S1024x1024 .f32)
    (b : Fin 4) (t : Fin 4352) (d : Fin 1024) : mergedRows G Y A11 (ix3 b t d)
    = ∑ k, (∑ s : Fin 3, G (ix3 b t ⟨s.val * 1024 + k.val, by omega⟩) * Y (ix4 b t s k)) * A11 (ix2 k d) := by
  pointwise [mergedRows]

/-- A token with its merge added. -/
theorem added_at (A0 : FVec Ideal S4x4096x1024 .f32) (A1 : FVec Ideal S4x256x1024 .f32) (A9 : FVec Ideal S5x6144 .f32) (M : FVec Ideal S4x4352x1024 .f32)
    (n : Fin 17408) (d : Fin 1024) : added A0 A1 A9 M (ix2 n d)
    = tok A0 A1 n d + A9 (ix2 (selOf n) (lane2 d)) * M (ix3 ⟨n.val / 4352, by omega⟩ ⟨n.val % 4352, by omega⟩ d) := by
  pointwise [added]
  by_cases h : n.val % 4352 < 256
  · have e1 : tok A0 A1 n d = A1 (ix3 ⟨n.val / 4352, by omega⟩ ⟨n.val % 4352, h⟩ d) := dif_pos h
    have e2 : selOf n = 4 := if_pos h
    rw [dif_pos h, e1, e2]
  · have e1 : tok A0 A1 n d = A0 (ix3 ⟨n.val / 4352, by omega⟩ ⟨n.val % 4352 - 256, by omega⟩ d) := dif_neg h
    have e2 : selOf n = ⟨n.val / 4352, by omega⟩ := if_neg h
    have e3 : (⟨256 + (n.val % 4352 - 256), by omega⟩ : Fin 4352) = ⟨n.val % 4352, by omega⟩ := Fin.ext (by simp only; omega)
    refine (dif_neg h).trans ?_
    exact congrArg₂ (· + ·) e1.symm (congrArg₂ (· * ·) (congrArg (fun q => A9 (ix2 q (lane2 d))) e2.symm) (congrArg (fun q => M (ix3 ⟨n.val / 4352, by omega⟩ q d)) e3))

/-- The reference's result at an entry. -/
theorem whole_at (A0 : FVec Ideal S4x4096x1024 .f32) (A1 : FVec Ideal S4x256x1024 .f32) (A2 A3 A4 A5 : FVec Ideal S4x4352x512 .f32) (A6 : FVec Ideal S4x4352x7680 .f32)
    (A7 : FVec Ideal S3072 .f32) (A8 : FVec Ideal S128 .f32) (A9 : FVec Ideal S5x6144 .f32) (A10 : FVec Ideal S3x512x1024 .f32)
    (A11 : FVec Ideal S1024x1024 .f32) (n : Fin 17408) (d : Fin 1024) :
    whole A0 A1 A2 A3 A4 A5 A6 A7 A8 A9 A10 A11 (ix2 n d) = mergeAt A0 A1 A2 A3 A4 A5 A6 A7 A8 A9 A10 A11 n d := by
  unfold whole mergeAt merged
  rw [added_at, mergedRows_at]
  simp only [branches_at, gates_at, gatedRows_at]

end Cert.Merge

end

end
-- ==== Proof.MergeBlock.lean ====
/-
  One block of the merge read at an element.
-/
module

public import proofs.«01_k».proof.Proof.MergeSpec
public import proofs.«01_k».proof.Proof.Gen.Kernel3Ideal.Value
public import Idealize.ShloMosaic.Lib.Pipeline.ValueKit

@[expose] public section

set_option maxRecDepth 16384

noncomputable section

namespace Cert.Merge

open Idealize.ShloMosaic Idealize.ShloMosaic.TcCoe Idealize.SL.Sem Cert.Proj
open Cert.Kernel3Ideal Cert.Kernel3Ideal.Gen Cert.Kernel3Ideal.Value

/-- The first head. -/
theorem head0 (a b z : Vec Ideal S256x128 .f32) (g : Vec Ideal S1x128 .f32) (r : Fin 256) (l : Fin 128) :
    k0_pay1 a b z g (ix2 r l) = headNorm (fun l => a (ix2 r l) + b (ix2 r l)) (fun l => z (ix2 r l)) (fun l => g (ix2 0 l)) l := by
  pointwise [k0_pay1, headNorm, sgm, Ideal.logistic]

/-- The second head. -/
theorem head1 (a b z : Vec Ideal S256x128 .f32) (g : Vec Ideal S1x128 .f32) (r : Fin 256) (l : Fin 128) :
    k0_pay5 (k0_pay2 a b) (k0_pay3 z) (k0_pay4 a b) g (ix2 r l)
      = headNorm (fun l => a (ix2 r l) + b (ix2 r l)) (fun l => z (ix2 r l)) (fun l => g (ix2 0 l)) l := by
  pointwise [k0_pay2, k0_pay3, k0_pay4, k0_pay5, headNorm, sgm, Ideal.logistic]

/-- The third head. -/
theorem head2 (a b z : Vec Ideal S256x128 .f32) (g : Vec Ideal S1x128 .f32) (r : Fin 256) (l : Fin 128) :
    k0_pay6 a b z g (ix2 r l) = headNorm (fun l => a (ix2 r l) + b (ix2 r l)) (fun l => z (ix2 r l)) (fun l => g (ix2 0 l)) l := by
  pointwise [k0_pay6, headNorm, sgm, Ideal.logistic]

/-- The four heads side by side. -/
theorem heads (p q s : FVec Ideal S256x128 .f32) (a b z : Vec Ideal S256x128 .f32) (g : Vec Ideal S1x128 .f32) (r : Fin 256) (w : Fin 512) :
    k0_pay10 p q s (k0_pay7 a b) (k0_pay8 z) (k0_pay9 a b) g (ix2 r w)
      = if h : w.val < 128 then p (ix2 r ⟨w.val, h⟩)
        else if h : w.val - 128 < 128 then q (ix2 r ⟨w.val - 128, h⟩)
        else if h : w.val - 128 - 128 < 128 then s (ix2 r ⟨w.val - 128 - 128, h⟩)
        else headNorm (fun l => a (ix2 r l) + b (ix2 r l)) (fun l => z (ix2 r l)) (fun l => g (ix2 0 l)) ⟨w.val - 128 - 128 - 128, by omega⟩ := by
  pointwise [k0_pay7, k0_pay8, k0_pay9, k0_pay10, headNorm, sgm, Ideal.logistic]

/-- A merge gate's lane: the first half of the lanes in one block, the second in the other. -/
def lanes (g0 g1 : Vec Ideal S256x1536 .f32) (r : Fin 256) (e : Fin 3072) : EReal :=
  if h : e.val < 1536 then g0 (ix2 r ⟨e.val, h⟩) else g1 (ix2 r ⟨e.val - 1536, by omega⟩)

/-- The first branch's term. -/
theorem first (g0 g1 : Vec Ideal S256x1536 .f32) (o : Vec Ideal S256x512 .f32) (w : Vec Ideal S1x1x512x1024 .bf16) (b : Vec Ideal S1x1024 .f32)
    (r : Fin 256) (k : Fin 1024) : k0_pay12 g0 g1 o w b (ix2 r k)
      = sgm (lanes g0 g1 r ⟨k.val, by omega⟩ + b (ix2 0 k)) * ∑ j, o (ix2 r j) * w (ix4 0 0 j k) := by
  pointwise [k0_pay11, k0_pay12, sgm, lanes, Ideal.logistic]

/-- The whole block. -/
theorem total (v96 : FVec Ideal S256x512 .f32) (g0 g1 : Vec Ideal S256x1536 .f32) (f : FVec Ideal S256x1024 .f32) (o : Vec Ideal S256x512 .f32)
    (w1 w2 : Vec Ideal S1x1x512x1024 .bf16) (b1 b2 : Vec Ideal S1x1024 .f32) (wo : Vec Ideal S1x1024x1024 .bf16) (x : Vec Ideal S256x1024 .f32)
    (gt : Vec Ideal S1x1x1024 .f32) (r : Fin 256) (d : Fin 1024) :
    k0_pay14 v96 (k0_pay11 g0 g1) f (k0_pay13 o) w1 b1 w2 b2 wo x gt (ix2 r d)
      = x (ix2 r d) + gt (ix3 0 0 d) * ∑ k, ((f (ix2 r k)
        + sgm (lanes g0 g1 r ⟨1024 + k.val, by omega⟩ + b1 (ix2 0 k)) * ∑ j, o (ix2 r j) * w1 (ix4 0 0 j k))
        + sgm (lanes g0 g1 r ⟨2048 + k.val, by omega⟩ + b2 (ix2 0 k)) * ∑ j, v96 (ix2 r j) * w2 (ix4 0 0 j k)) * wo (ix3 0 k d) := by
  pointwise [k0_pay11, k0_pay13, k0_pay14, sgm, lanes, Ideal.logistic]

/-- A lane of head `h` is the recurrence's lane `h * 128 + l`. -/
theorem recur_eq (o z : Fin 512 → EReal) (g : Fin 128 → EReal) (w : Fin 512) (h : Nat) (hh : w.val / 128 = h) (l : Fin 128) (hl : l.val = w.val % 128)
    (o' z' : Fin 128 → EReal) (ho : ∀ l : Fin 128, o' l = o ⟨h * 128 + l.val, by omega⟩) (hz : ∀ l : Fin 128, z' l = z ⟨h * 128 + l.val, by omega⟩) :
    headNorm o' z' g l = recur o z g w := by
  subst hh
  obtain rfl : l = ⟨w.val % 128, Nat.mod_lt _ (by norm_num)⟩ := Fin.ext hl
  obtain rfl : o' = fun l : Fin 128 => o ⟨w.val / 128 * 128 + l.val, by omega⟩ := funext ho
  obtain rfl : z' = fun l : Fin 128 => z ⟨w.val / 128 * 128 + l.val, by omega⟩ := funext hz
  rfl

/-- The recurrence's branch in a block, lane by lane. -/
theorem recur_block (x3 x4 x5 : Vec Ideal S256x512 .f32) (x9 : Vec Ideal S1x128 .f32) (r : Fin 256) (w : Fin 512) :
    k0_pay10 (k0_pay1 (View.ld x3 r0_0) (View.ld x4 r0_0) (View.ld x5 r0_0) x9)
      (k0_pay5 (k0_pay2 (View.ld x3 r0_2) (View.ld x4 r0_2)) (k0_pay3 (View.ld x5 r0_2)) (k0_pay4 (View.ld x3 r0_2) (View.ld x4 r0_2)) x9)
      (k0_pay6 (View.ld x3 r0_3) (View.ld x4 r0_3) (View.ld x5 r0_3) x9) (k0_pay7 (View.ld x3 r0_4) (View.ld x4 r0_4)) (k0_pay8 (View.ld x5 r0_4))
      (k0_pay9 (View.ld x3 r0_4) (View.ld x4 r0_4)) x9 (ix2 r w)
      = recur (fun e => x3 (ix2 r e) + x4 (ix2 r e)) (fun e => x5 (ix2 r e)) (fun l => x9 (ix2 0 l)) w := by
  rw [heads]
  simp only [head0, head1, head2]
  pointwise
  by_cases h0 : w.val < 128
  · rw [dif_pos h0]
    exact recur_eq _ _ _ w 0 (by omega) _ (by simp only; omega) _ _ (fun l => by simp) (fun l => by simp)
  rw [dif_neg h0]
  by_cases h1 : w.val - 128 < 128
  · rw [dif_pos h1]
    exact recur_eq _ _ _ w 1 (by omega) _ (by simp only; omega) _ _ (fun l => rfl) (fun l => rfl)
  rw [dif_neg h1]
  by_cases h2 : w.val - 128 - 128 < 128
  · rw [dif_pos h2]
    exact recur_eq _ _ _ w 2 (by omega) _ (by simp only; omega) _ _ (fun l => rfl) (fun l => rfl)
  rw [dif_neg h2]
  exact recur_eq _ _ _ w 3 (by omega) _ (by simp only; omega) _ _ (fun l => rfl) (fun l => rfl)

/-- A block of the merge, as the body stores it. -/
def stored (x0 : Vec Ideal S256x1024 .f32) (x1 x2 x3 x4 x5 : Vec Ideal S256x512 .f32) (x6 x7 : Vec Ideal S256x1536 .f32) (x8 : Vec Ideal S1x3072 .f32)
    (x9 : Vec Ideal S1x128 .f32) (x10 : Vec Ideal S1x1x1024 .f32) (x11 : Vec Ideal S1x3x512x1024 .bf16) (x12 : Vec Ideal S1x1024x1024 .bf16) :
    Vec Ideal S256x1024 .f32 :=
  k0_pay14
    (k0_pay10 (k0_pay1 (View.ld x3 r0_0) (View.ld x4 r0_0) (View.ld x5 r0_0) x9)
      (k0_pay5 (k0_pay2 (View.ld x3 r0_2) (View.ld x4 r0_2)) (k0_pay3 (View.ld x5 r0_2)) (k0_pay4 (View.ld x3 r0_2) (View.ld x4 r0_2)) x9)
      (k0_pay6 (View.ld x3 r0_3) (View.ld x4 r0_3) (View.ld x5 r0_3) x9) (k0_pay7 (View.ld x3 r0_4) (View.ld x4 r0_4)) (k0_pay8 (View.ld x5 r0_4))
      (k0_pay9 (View.ld x3 r0_4) (View.ld x4 r0_4)) x9)
    (k0_pay11 x6 x7) (k0_pay12 x6 x7 x1 (View.ld x11 r0_7) (View.ld x8 r0_8)) (k0_pay13 x2) (View.ld x11 r0_9) (View.ld x8 r0_10)
    (View.ld x11 r0_11) (View.ld x8 r0_12) x12 x0 x10

/-- A block of the merge at an element. -/
theorem stored_at (x0 : Vec Ideal S256x1024 .f32) (x1 x2 x3 x4 x5 : Vec Ideal S256x512 .f32) (x6 x7 : Vec Ideal S256x1536 .f32) (x8 : Vec Ideal S1x3072 .f32)
    (x9 : Vec Ideal S1x128 .f32) (x10 : Vec Ideal S1x1x1024 .f32) (x11 : Vec Ideal S1x3x512x1024 .bf16) (x12 : Vec Ideal S1x1024x1024 .bf16)
    (r : Fin 256) (d : Fin 1024) : stored x0 x1 x2 x3 x4 x5 x6 x7 x8 x9 x10 x11 x12 (ix2 r d)
      = x0 (ix2 r d) + x10 (ix3 0 0 d) * merged
        (fun s j => ![x1 (ix2 r j), x2 (ix2 r j), recur (fun e => x3 (ix2 r e) + x4 (ix2 r e)) (fun e => x5 (ix2 r e)) (fun l => x9 (ix2 0 l)) j] s)
        (fun e => lanes x6 x7 r e + x8 (ix2 0 e)) (fun s j k => x11 (ix4 0 s j k)) (fun k e => x12 (ix3 0 k e)) d := by
  unfold stored merged
  rw [total]
  simp only [first, recur_block, Fin.sum_univ_three]
  pointwise

end Cert.Merge

end

end
-- ==== Proof.MergeFinal.lean ====
/-
  The merge's blocks put together: the array the call leaves is every token with its merge added.
-/
module

public import proofs.«01_k».proof.Proof.MergeBlock

@[expose] public section

set_option maxRecDepth 16384

noncomputable section

namespace Cert.Merge

open Idealize.ShloMosaic Idealize.ShloMosaic.TcCoe Idealize.SL.Sem Cert.Proj
open Cert.Kernel3Ideal Cert.Kernel3Ideal.Gen Cert.Kernel3Ideal.Value

variable (m : (ℓ : Loc nD τ sig) → Buf (Elt Ideal) ℓ)

/-- Where every window's block lies at grid point `t`, a row block. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 6] ∧ win0_6.index t = ![t.val, 3]
    ∧ win0_7.index t = ![t.val, 4] ∧ win0_8.index t = ![0, 0] ∧ win0_9.index t = ![0, 0]
    ∧ win0_10.index t = ![modRow t.val * 6 + 2, 0, 0] ∧ win0_11.index t = ![0, 0, 0, 0] ∧ win0_12.index t = ![0, 0, 0]
    ∧ win0_13.index t = ![t.val, 0] :=
  (by decide +kernel : ∀ t : Fin grid0.N, _)

/-- A lane of a token row. -/
theorem x_entry (c : Dev nD) (t : Fin cfg0.N) (r : Fin 256) (k : Fin 1024) (n : Fin 17408) (hn : n.val = t.val * 256 + r.val) :
    iblk m c 0 t (ix2 r k) = tok (m ((c : Thread nD τ).loc main_arg0)) (m ((c : Thread nD τ).loc main_arg1)) n k := by
  blk_simp [iblk, idx t]
  entry_read
  have e : ((View.whole main_v1).slice (win0_0.rect t)).emb (ix2 r k) = ix2 n k := by
    blk_ext [idx t]
  rw [e]
  pointwise [tok]
  all_goals rfl

/-- A lane of the first branch. -/
theorem oa_entry (c : Dev nD) (t : Fin cfg0.N) (r : Fin 256) (j : Fin 512) (n : Fin 17408) (hn : n.val = t.val * 256 + r.val) :
    iblk m c 1 t (ix2 r j) = m ((c : Thread nD τ).loc main_arg2) (ix3 (⟨n.val / 4352, by omega⟩ : Fin 4) (⟨n.val % 4352, by omega⟩ : Fin 4352) j) := by
  blk_simp [iblk, idx t]
  entry_read
  have e : ((View.whole main_v4).slice (win0_1.rect t)).emb (ix2 r j) = ix2 n j := by
    blk_ext [idx t]
  rw [e]
  pointwise
  all_goals rfl

/-- A lane of the recurrence's forward scan. -/
theorem of_entry (c : Dev nD) (t : Fin cfg0.N) (r : Fin 256) (j : Fin 512) (n : Fin 17408) (hn : n.val = t.val * 256 + r.val) :
    iblk m c 3 t (ix2 r j) = m ((c : Thread nD τ).loc main_arg4) (ix3 (⟨n.val / 4352, by omega⟩ : Fin 4) (⟨n.val % 4352, by omega⟩ : Fin 4352) j) := by
  blk_simp [iblk, idx t]
  entry_read
  have e : ((View.whole main_v27).slice (win0_3.rect t)).emb (ix2 r j) = ix2 n j := by
    blk_ext [idx t]
  rw [e]
  pointwise
  all_goals rfl

/-- A lane of the recurrence's backward scan. -/
theorem og_entry (c : Dev nD) (t : Fin cfg0.N) (r : Fin 256) (j : Fin 512) (n : Fin 17408) (hn : n.val = t.val * 256 + r.val) :
    iblk m c 4 t (ix2 r j) = m ((c : Thread nD τ).loc main_arg5) (ix3 (⟨n.val / 4352, by omega⟩ : Fin 4) (⟨n.val % 4352, by omega⟩ : Fin 4352) j) := by
  blk_simp [iblk, idx t]
  entry_read
  have e : ((View.whole main_v28).slice (win0_4.rect t)).emb (ix2 r j) = ix2 n j := by
    blk_ext [idx t]
  rw [e]
  pointwise
  all_goals rfl

/-- The second branch's lane `j` in the call's order is lane `turn j` of its own. -/
def turn (j : Fin 512) : Fin 512 := ⟨j.val / 64 % 2 * 256 + j.val / 128 * 64 + j.val % 64, by omega⟩

/-- A lane of the second branch. -/
theorem ob_entry (c : Dev nD) (t : Fin cfg0.N) (r : Fin 256) (j : Fin 512) (n : Fin 17408) (hn : n.val = t.val * 256 + r.val) :
    iblk m c 2 t (ix2 r j) = m ((c : Thread nD τ).loc main_arg3) (ix3 (⟨n.val / 4352, by omega⟩ : Fin 4) (⟨n.val % 4352, by omega⟩ : Fin 4352) (turn j)) := by
  blk_simp [iblk, idx t]
  entry_read
  have e : ((View.whole main_v5).slice (win0_2.rect t)).emb (ix2 r j) = ix2 n j := by
    blk_ext [idx t]
  rw [e]
  pointwise [turn]
  all_goals rfl

/-- A lane of the recurrence's gate. -/
theorem z_entry (c : Dev nD) (t : Fin cfg0.N) (r : Fin 256) (j : Fin 512) (n : Fin 17408) (hn : n.val = t.val * 256 + r.val) :
    iblk m c 5 t (ix2 r j) = m ((c : Thread nD τ).loc main_arg6) (ix3 (⟨n.val / 4352, by omega⟩ : Fin 4) (⟨n.val % 4352, by omega⟩ : Fin 4352) (⟨3072 + j.val, by omega⟩ : Fin 7680)) := by
  blk_simp [iblk, idx t]
  entry_read
  have e : ((View.whole main_v6).slice (win0_5.rect t)).emb (ix2 r j) = ix2 n (⟨3072 + j.val, by omega⟩ : Fin 7680) := by
    blk_ext [idx t]
  rw [e]
  pointwise
  all_goals rfl

/-- A lane of the merge gates' first half. -/
theorem g0_entry (c : Dev nD) (t : Fin cfg0.N) (r : Fin 256) (j : Fin 1536) (n : Fin 17408) (hn : n.val = t.val * 256 + r.val) :
    iblk m c 6 t (ix2 r j) = m ((c : Thread nD τ).loc main_arg6) (ix3 (⟨n.val / 4352, by omega⟩ : Fin 4) (⟨n.val % 4352, by omega⟩ : Fin 4352) (⟨4608 + j.val, by omega⟩ : Fin 7680)) := by
  blk_simp [iblk, idx t]
  entry_read
  have e : ((View.whole main_v6).slice (win0_6.rect t)).emb (ix2 r j) = ix2 n (⟨4608 + j.val, by omega⟩ : Fin 7680) := by
    blk_ext [idx t]
  rw [e]
  pointwise
  all_goals rfl

/-- A lane of the merge gates' second half. -/
theorem g1_entry (c : Dev nD) (t : Fin cfg0.N) (r : Fin 256) (j : Fin 1536) (n : Fin 17408) (hn : n.val = t.val * 256 + r.val) :
    iblk m c 7 t (ix2 r j) = m ((c : Thread nD τ).loc main_arg6) (ix3 (⟨n.val / 4352, by omega⟩ : Fin 4) (⟨n.val % 4352, by omega⟩ : Fin 4352) (⟨6144 + j.val, by omega⟩ : Fin 7680)) := by
  blk_simp [iblk, idx t]
  entry_read
  have e : ((View.whole main_v6).slice (win0_7.rect t)).emb (ix2 r j) = ix2 n (⟨6144 + j.val, by omega⟩ : Fin 7680) := by
    blk_ext [idx t]
  rw [e]
  pointwise
  all_goals rfl

/-- A lane of the gates' bias. -/
theorem b_entry (c : Dev nD) (t : Fin cfg0.N) (e : Fin 3072) : iblk m c 8 t (ix2 0 e) = m ((c : Thread nD τ).loc main_arg7) (ix1 e) := by
  blk_simp [iblk, idx t]
  entry_read
  pointwise
  blk_ext [idx t]

/-- A lane of the heads' gain. -/
theorem n_entry (c : Dev nD) (t : Fin cfg0.N) (l : Fin 128) : iblk m c 9 t (ix2 0 l) = m ((c : Thread nD τ).loc main_arg8) (ix1 l) := by
  blk_simp [iblk, idx t]
  entry_read
  pointwise
  blk_ext [idx t]

/-- A lane of the block's gate. -/
theorem gt_entry (c : Dev nD) (t : Fin cfg0.N) (k : Fin 1024) (s : Fin 5) (hs : s.val = modRow t.val) :
    iblk m c 10 t (ix3 0 0 k) = m ((c : Thread nD τ).loc main_arg9) (ix2 s (lane2 k)) := by
  blk_simp [iblk, idx t]
  entry_read
  pointwise
  blk_ext [idx t]

/-- The branches' weights as the host line lays them out: the second's rows in the order of its lanes. -/
def laid (B : FVec Ideal S1x3x512x1024 .f32) : FVec Ideal S1x3x512x1024 .f32 :=
  concatenate S1x3x512x1024 1 [
    ⟨S1x1x512x1024, broadcastInDim S1x1x512x1024 ![0, 2, 3] bcast_S1x512x1024_S1x1x512x1024_0_2_3 (shapeCast S1x512x1024
      (extractStridedSlice S1x1x512x1024 ![0, 0, 0, 0] B slices_S1x3x512x1024_S1x1x512x1024_0_0_0_0) shapeCasts_S1x1x512x1024_S1x512x1024)⟩,
    ⟨S1x1x512x1024, broadcastInDim S1x1x512x1024 ![0, 2, 3] bcast_S1x512x1024_S1x1x512x1024_0_2_3 (shapeCast S1x512x1024 (transpose S1x4x2x64x1024 [0, 2, 1, 3, 4]
      (shapeCast S1x2x4x64x1024 (shapeCast S1x512x1024 (extractStridedSlice S1x1x512x1024 ![0, 1, 0, 0] B slices_S1x3x512x1024_S1x1x512x1024_0_1_0_0)
        shapeCasts_S1x1x512x1024_S1x512x1024) shapeCasts_S1x512x1024_S1x2x4x64x1024) transposes_S1x2x4x64x1024_S1x4x2x64x1024_0_2_1_3_4) shapeCasts_S1x4x2x64x1024_S1x512x1024)⟩,
    ⟨S1x1x512x1024, broadcastInDim S1x1x512x1024 ![0, 2, 3] bcast_S1x512x1024_S1x1x512x1024_0_2_3 (shapeCast S1x512x1024
      (extractStridedSlice S1x1x512x1024 ![0, 2, 0, 0] B slices_S1x3x512x1024_S1x1x512x1024_0_2_0_0) shapeCasts_S1x1x512x1024_S1x512x1024)⟩]
    concatenates_S1x1x512x1024_S1x1x512x1024_S1x1x512x1024_S1x3x512x1024_d1

/-- An entry of the laid out weights. -/
theorem laid_at (B : FVec Ideal S1x3x512x1024 .f32) (s : Fin 3) (j : Fin 512) (k : Fin 1024) :
    laid B (ix4 0 s j k) = ![B (ix4 0 0 j k), B (ix4 0 1 (turn j) k), B (ix4 0 2 j k)] s := by
  pointwise [laid]
  rcases s with ⟨_ | _ | _ | _, hs⟩ <;> first | rfl | omega

set_option maxHeartbeats 16000000 in
/-- The operand of the call is the laid out weights. -/
theorem w_whole (c : Dev nD) : Gen.V m c main_v24
    = truncf .bf16 (laid (broadcastInDim S1x3x512x1024 ![1, 2, 3] bcast_S3x512x1024_S1x3x512x1024_1_2_3 (m ((c : Thread nD τ).loc main_arg10)))) bitsLt_bf16_f32 := by
  dsimp only [Gen.V, hostOps0]
  after_results_simp <;> (try dsimp only [Matrix.cons_val]) <;> (try after_results_simp) <;> rfl

/-- An entry of the branches' weights. -/
theorem w_entry (c : Dev nD) (t : Fin cfg0.N) (s : Fin 3) (j : Fin 512) (k : Fin 1024) : iblk m c 11 t (ix4 0 s j k)
    = ![m ((c : Thread nD τ).loc main_arg10) (ix3 0 j k), m ((c : Thread nD τ).loc main_arg10) (ix3 1 (turn j) k), m ((c : Thread nD τ).loc main_arg10) (ix3 2 j k)] s := by
  blk_simp [iblk, idx t]
  have e' : ((View.whole main_v24).slice (win0_11.rect t)).emb (ix4 0 s j k) = ix4 0 s j k := by
    blk_ext [idx t]
  rw [w_whole, e']
  pointwise [laid_at]
  all_goals rfl

/-- An entry of the output weight. -/
theorem wo_entry (c : Dev nD) (t : Fin cfg0.N) (k d : Fin 1024) : iblk m c 12 t (ix3 0 k d) = m ((c : Thread nD τ).loc main_arg11) (ix2 k d) := by
  blk_simp [iblk, idx t]
  entry_read
  pointwise
  blk_ext [idx t]

/-- A merge gate's lane. -/
theorem lanes_entry (c : Dev nD) (t : Fin cfg0.N) (r : Fin 256) (e : Fin 3072) (n : Fin 17408) (hn : n.val = t.val * 256 + r.val) :
    lanes (iblk m c 6 t) (iblk m c 7 t) r e
      = m ((c : Thread nD τ).loc main_arg6) (ix3 (⟨n.val / 4352, by omega⟩ : Fin 4) (⟨n.val % 4352, by omega⟩ : Fin 4352) (⟨4608 + e.val, by omega⟩ : Fin 7680)) := by
  unfold lanes
  by_cases h : e.val < 1536
  · exact (dif_pos h).trans (g0_entry m c t r _ n hn)
  · refine (dif_neg h).trans ((g1_entry m c t r _ n hn).trans ?_)
    exact congrArg (fun q => m ((c : Thread nD τ).loc main_arg6) (ix3 _ _ q)) (Fin.ext (by simp only; omega))

/-- The place in the call's order of the second branch's lane `j`. -/
def back (j : Fin 512) : Fin 512 := ⟨j.val / 64 % 4 * 128 + j.val / 256 * 64 + j.val % 64, by omega⟩

theorem back_turn : ∀ j : Fin 512, back (turn j) = j := by decide +kernel

theorem turn_back : ∀ j : Fin 512, turn (back j) = j := by decide +kernel

/-- A sum over the lanes does not depend on their order. -/
theorem turn_sum (f : Fin 512 → EReal) : ∑ j, f (turn j) = ∑ j, f j :=
  Fintype.sum_bijective turn ⟨Function.LeftInverse.injective back_turn, Function.RightInverse.surjective turn_back⟩ _ _ fun _ => rfl

/-- The merge does not depend on the order of the second branch's lanes. -/
theorem merged_turn (o0 o1 o2 : Fin 512 → EReal) (gl : Fin 3072 → EReal) (w : Fin 3 → Fin 512 → Fin 1024 → EReal) (wo : Fin 1024 → Fin 1024 → EReal)
    (d : Fin 1024) : merged (fun s j => ![o0 j, o1 (turn j), o2 j] s) gl (fun s j k => ![w 0 j k, w 1 (turn j) k, w 2 j k] s) wo d
      = merged (fun s j => ![o0 j, o1 j, o2 j] s) gl w wo d := by
  unfold merged
  refine Finset.sum_congr rfl fun k _ => congrArg (· * wo k d) ?_
  rw [Fin.sum_univ_three, Fin.sum_univ_three]
  exact congrArg₂ (· + ·) (congrArg₂ (· + ·) rfl (congrArg (sgm _ * ·) (turn_sum fun j => o1 j * w 1 j k))) rfl

/-- The array the call leaves is every token after its merge. -/
theorem final (c : Dev nD) : (dats m 0 c).arrAt 13 cfg0.N = fun i : S17408x1024.Idx =>
    mergeAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11)) (i 0) (i 1) := by
  refine (dats m 0 c).arrAt_eq_of_covers 13 _ (by decide +kernel) fun t hf y => ?_
  blk_simp
  rw [after0_13]
  have hN : t.val < 68 := t.isLt
  obtain ⟨r, d, rfl⟩ : ∃ (r : Fin 256) (d : Fin 1024), y = ix2 r d := ⟨y 0, y 1, eq_ix2 y⟩
  have e : ((View.whole main_v29).slice (win0_13.rect t)).emb (ix2 r d) = ix2 (⟨t.val * 256 + r.val, by omega⟩ : Fin 17408) d := by
    blk_ext [idx t]
  have hs : (selOf ⟨t.val * 256 + r.val, by omega⟩).val = modRow t.val := selOf_block _ r _ rfl
  frame_out
  rw [e]
  refine (stored_at _ _ _ _ _ _ _ _ _ _ _ _ _ r d).trans ?_
  change @Eq EReal _ (mergeAt _ _ _ _ _ _ _ _ _ _ _ _ ⟨t.val * 256 + r.val, by omega⟩ d)
  unfold mergeAt
  dsimp only
  simp only [x_entry m c t r _ ⟨t.val * 256 + r.val, by omega⟩ rfl, oa_entry m c t r _ ⟨t.val * 256 + r.val, by omega⟩ rfl,
    ob_entry m c t r _ ⟨t.val * 256 + r.val, by omega⟩ rfl, of_entry m c t r _ ⟨t.val * 256 + r.val, by omega⟩ rfl,
    og_entry m c t r _ ⟨t.val * 256 + r.val, by omega⟩ rfl, z_entry m c t r _ ⟨t.val * 256 + r.val, by omega⟩ rfl,
    lanes_entry m c t r _ ⟨t.val * 256 + r.val, by omega⟩ rfl, b_entry, n_entry, gt_entry m c t _ _ hs, w_entry, wo_entry]
  refine congrArg₂ (· + ·) rfl (congrArg₂ (· * ·) rfl ?_)
  exact merged_turn (fun j => m ((c : Thread nD τ).loc main_arg2) (ix3 (⟨(t.val * 256 + r.val) / 4352, by omega⟩ : Fin 4) (⟨(t.val * 256 + r.val) % 4352, by omega⟩ : Fin 4352) j)) (fun j => m ((c : Thread nD τ).loc main_arg3) (ix3 (⟨(t.val * 256 + r.val) / 4352, by omega⟩ : Fin 4) (⟨(t.val * 256 + r.val) % 4352, by omega⟩ : Fin 4352) j)) _ _
    (fun s j k => m ((c : Thread nD τ).loc main_arg10) (ix3 s j k)) _ d

end Cert.Merge

end

end
-- ==== Proof.WinFinite.lean ====
/-
  The precondition read off: every entry of the queries, keys and sink logits of the windowed
  attention is a real number.
-/
module

public import proofs.«01_k».proof.Pre_finite4
public import Idealize.ShloMosaic.Lib.ReduceAll
public import Idealize.ShloMosaic.Lib.Pipeline.ValueKit

@[expose] public section

set_option maxRecDepth 16384

noncomputable section

namespace Cert.Pre_finite4

open Idealize.ShloMosaic

/-- The side conditions the precondition's operations state. -/
instance facts : Cert.Pre_finite4.Facts where
  bcast_S_S4x4352x512 := by decide
  reducesTo_S4x4352x512_S_d0_1_2 := by decide
  h_S_ := by decide
  bcast_S_S4x4352x128 := by decide
  reducesTo_S4x4352x128_S_d0_1_2 := by decide
  bcast_S_S8 := by decide
  reducesTo_S8_S_d0 := by decide

instance : Subsingleton S_.Idx := ⟨fun a b => funext fun i => i.elim0⟩

/-- Two truth values whose conjunction is true are both true. -/
theorem both : ∀ a b : BitVec 1, IntOp.andi a b = 1#1 → a = 1#1 ∧ b = 1#1 := by decide

/-- The bits of plus infinity. -/
theorem bits_top : Ideal.ofBits .f32 0x7F800000#32 = (⊤ : EReal) := by simp [Ideal.ofBits, Ideal.ieee]

/-- A number whose absolute value is below plus infinity is a real. -/
theorem real_of_lt (x : EReal) (h : x < ⊤) (h' : -x < ⊤) : ∃ r : ℝ, x = (r : EReal) := by
  induction x using EReal.rec with
  | bot => simp at h'
  | top => simp at h
  | coe r => exact ⟨r, rfl⟩

/-- The entries of a wide array whose test is true everywhere are reals. -/
theorem wide_real (X : FVec Ideal S4x4352x512 .f32)
    (e : Host.reduce IntOp.andi (cmpf .olt (Host.absf X) (broadcastInDim S4x4352x512 ![] Facts.bcast_S_S4x4352x512 (constant S_ .f32 0x7F800000#32)))
      (constantI S_ 1 1#1) Facts.reducesTo_S4x4352x512_S_d0_1_2 Facts.h_S_ ix0 = 1#1) (b : Fin 4) (r : Fin 4352) (c : Fin 512) :
    ∃ x : ℝ, X (ix3 b r c) = (x : EReal) := by
  have h := Host.reduce_andi_all _ _ _ _ _ e (ix3 b r c)
  pointwise [bits_top] at h
  rw [Ideal.absf_def] at h
  have h' : max (X (ix3 b r c) : EReal) (-(X (ix3 b r c) : EReal)) < ⊤ := by
    by_contra hn
    rw [decide_eq_false hn] at h
    exact absurd h (by decide)
  exact real_of_lt _ (lt_of_le_of_lt (le_max_left _ _) h') (lt_of_le_of_lt (le_max_right _ _) h')

/-- The entries of the keys, where their test is true everywhere, are reals. -/
theorem narrow_real (X : FVec Ideal S4x4352x128 .f32)
    (e : Host.reduce IntOp.andi (cmpf .olt (Host.absf X) (broadcastInDim S4x4352x128 ![] Facts.bcast_S_S4x4352x128 (constant S_ .f32 0x7F800000#32)))
      (constantI S_ 1 1#1) Facts.reducesTo_S4x4352x128_S_d0_1_2 Facts.h_S_ ix0 = 1#1) (b : Fin 4) (r : Fin 4352) (c : Fin 128) :
    ∃ x : ℝ, X (ix3 b r c) = (x : EReal) := by
  have h := Host.reduce_andi_all _ _ _ _ _ e (ix3 b r c)
  pointwise [bits_top] at h
  rw [Ideal.absf_def] at h
  have h' : max (X (ix3 b r c) : EReal) (-(X (ix3 b r c) : EReal)) < ⊤ := by
    by_contra hn
    rw [decide_eq_false hn] at h
    exact absurd h (by decide)
  exact real_of_lt _ (lt_of_le_of_lt (le_max_left _ _) h') (lt_of_le_of_lt (le_max_right _ _) h')

/-- The sink logits, where their test is true everywhere, are reals. -/
theorem sink_real (X : FVec Ideal S8 .f32)
    (e : Host.reduce IntOp.andi (cmpf .olt (Host.absf X) (broadcastInDim S8 ![] Facts.bcast_S_S8 (constant S_ .f32 0x7F800000#32)))
      (constantI S_ 1 1#1) Facts.reducesTo_S8_S_d0 Facts.h_S_ ix0 = 1#1) (k : Fin 8) :
    ∃ x : ℝ, X (ix1 k) = (x : EReal) := by
  have h := Host.reduce_andi_all _ _ _ _ _ e (ix1 k)
  pointwise [bits_top] at h
  rw [Ideal.absf_def] at h
  have h' : max (X (ix1 k) : EReal) (-(X (ix1 k) : EReal)) < ⊤ := by
    by_contra hn
    rw [decide_eq_false hn] at h
    exact absurd h (by decide)
  exact real_of_lt _ (lt_of_le_of_lt (le_max_left _ _) h') (lt_of_le_of_lt (le_max_right _ _) h')

/-- Where the precondition holds, the queries, keys and sink logits are arrays of reals. -/
theorem reals (A0 : FVec Ideal S4x4352x512 .f32) (A1 A2 : FVec Ideal S4x4352x128 .f32) (A3 : FVec Ideal S8 .f32)
    (h : fn (F := Ideal) A0 A1 A2 A3 = fun _ => 1#1) :
    ∃ (Q : Fin 4 → Fin 4352 → Fin 512 → ℝ) (K : Fin 4 → Fin 4352 → Fin 128 → ℝ) (S : Fin 8 → ℝ),
      (∀ b r c, A0 (ix3 b r c) = (Q b r c : EReal)) ∧ (∀ b r c, A1 (ix3 b r c) = (K b r c : EReal))
        ∧ (∀ k, A3 (ix1 k) = (S k : EReal)) := by
  have h0 := congrFun h ix0
  obtain ⟨h1, h2⟩ := both _ _ h0
  obtain ⟨h0, h1⟩ := both _ _ h1
  choose Q hQ using wide_real A0 h0
  choose K hK using narrow_real A1 h1
  choose S hS using sink_real A3 h2
  exact ⟨Q, K, S, hQ, hK, hS⟩

end Cert.Pre_finite4

end

end
-- ==== Proof.WinSpec.lean ====
/-
  What the windowed attention computes, on real queries, keys and sinks and any values. A query row of the context attends to
  the 256 context rows and to a sink; every other query row attends to the context rows, to a window of rows around
  it and to the sink. The sink has a score but no value. Two ways of computing it are read here on the extended
  reals: one divides every weight by the sum of all weights before the values are summed, the other takes powers of
  two of scores multiplied by `1 / log 2` and divides at the end. In both a key that is not seen has the score minus
  infinity.
-/
module

public import proofs.«01_k».proof.Proof.Spec

@[expose] public section

set_option maxRecDepth 16384

noncomputable section

namespace Cert.Win

open Idealize.ShloMosaic
open Cert.Diff (coe_sum exp2_scaled)

/-- The sum of the weights: the sink's and those of the keys seen. -/
def total {n : Nat} (p : Fin n → Prop) [DecidablePred p] (x : Fin n → ℝ) (s : ℝ) : ℝ :=
  Real.exp s + ∑ j, if p j then Real.exp (x j) else 0

/-- The weight of key `j`: zero when it is not seen. -/
def weight {n : Nat} (p : Fin n → Prop) [DecidablePred p] (x : Fin n → ℝ) (s : ℝ) (j : Fin n) : ℝ :=
  (if p j then Real.exp (x j) else 0) / total p x s

/-- The weighted mean of the values. -/
def mean {n : Nat} (p : Fin n → Prop) [DecidablePred p] (x : Fin n → ℝ) (v : Fin n → EReal) (s : ℝ) : EReal :=
  ∑ j, (weight p x s j : EReal) * v j

/-- The sum of the weights is positive. -/
theorem total_pos {n : Nat} (p : Fin n → Prop) [DecidablePred p] (x : Fin n → ℝ) (s : ℝ) : 0 < total p x s := by
  refine add_pos_of_pos_of_nonneg (Real.exp_pos _) (Finset.sum_nonneg fun j _ => ?_)
  split_ifs
  · exact (Real.exp_pos _).le
  · exact le_rfl

/-- Subtracting a number from every score multiplies the sum of the weights. -/
theorem total_shift {n : Nat} (p : Fin n → Prop) [DecidablePred p] (x : Fin n → ℝ) (s a : ℝ) :
    total p (fun j => x j - a) (s - a) = Real.exp (-a) * total p x s := by
  rw [total, total, mul_add, Finset.mul_sum, ← Real.exp_add]
  congr 1
  · congr 1; ring
  · refine Finset.sum_congr rfl fun j _ => ?_
    split_ifs
    · rw [← Real.exp_add]; congr 1; ring
    · rw [mul_zero]

/-- Subtracting a number from every score leaves every weight as it was. -/
theorem weight_shift {n : Nat} (p : Fin n → Prop) [DecidablePred p] (x : Fin n → ℝ) (s a : ℝ) (j : Fin n) :
    weight p (fun j => x j - a) (s - a) j = weight p x s j := by
  rw [weight, weight, total_shift]
  have e : (if p j then Real.exp (x j - a) else 0) = Real.exp (-a) * if p j then Real.exp (x j) else 0 := by
    split_ifs
    · rw [← Real.exp_add]; congr 1; ring
    · rw [mul_zero]
  rw [e]
  exact mul_div_mul_left _ _ (Real.exp_pos _).ne'

/-- The largest of finitely many scores and of one real score is a real. -/
theorem fold_max_sink {n : Nat} (p : Fin n → Prop) [DecidablePred p] (x : Fin n → ℝ) (y : Fin n → EReal)
    (hy : ∀ j, y j = if p j then (x j : EReal) else ⊥) (s : ℝ) :
    ∃ a : ℝ, max (Finset.univ.fold max (⊥ : EReal) y) (s : EReal) = (a : EReal) := by
  have key : ∀ S : Finset (Fin n), ∃ a : ℝ, max (S.fold max (⊥ : EReal) y) (s : EReal) = (a : EReal) := fun S => by
    classical
    induction S using Finset.induction_on with
    | empty => exact ⟨s, by rw [Finset.fold_empty]; exact max_eq_right bot_le⟩
    | insert j S hj ih =>
      obtain ⟨a, ha⟩ := ih
      rw [Finset.fold_insert hj, max_assoc, ha, hy j]
      split_ifs
      · exact ⟨max (x j) a, (EReal.coe_strictMono.monotone.map_max).symm⟩
      · exact ⟨a, max_eq_right bot_le⟩
  exact key _

/-- A sum times a real that is not negative is the sum of the products, also where terms are infinite. -/
theorem sum_times {n : Nat} (f : Fin n → EReal) (c : ℝ) (hc : 0 ≤ c) : (∑ j, f j) * (c : EReal) = ∑ j, f j * (c : EReal) := by
  have key : ∀ S : Finset (Fin n), (∑ j ∈ S, f j) * (c : EReal) = ∑ j ∈ S, f j * (c : EReal) := fun S => by
    classical
    induction S using Finset.induction_on with
    | empty => simp
    | insert j S hj ih =>
      rw [Finset.sum_insert hj, Finset.sum_insert hj, EReal.right_distrib_of_nonneg_of_ne_top (EReal.coe_nonneg.2 hc) (EReal.coe_ne_top c), ih]
  exact key _

/-- The kernel's way. -/
theorem attend_sink {n : Nat} (p : Fin n → Prop) [DecidablePred p] (x : Fin n → ℝ) (v : Fin n → EReal) (s : ℝ) (y w : Fin n → EReal) (u t : EReal)
    (hy : ∀ j, y j = if p j then ((x j * (Real.log 2)⁻¹ : ℝ) : EReal) else ⊥)
    (hv : ∀ j, p j → w j = v j) (hu : u = ((s * (Real.log 2)⁻¹ : ℝ) : EReal))
    (ht : t = max (Finset.univ.fold max (⊥ : EReal) y) u) :
    (∑ j, Ideal.exp2 (y j - t) * w j) * Ideal.div ((1 : ℝ) : EReal) ((∑ j, Ideal.exp2 (y j - t)) + Ideal.exp2 (u - t))
      = mean p x v s := by
  subst hu
  obtain ⟨a, ha⟩ := fold_max_sink p (fun j => x j * (Real.log 2)⁻¹) y hy (s * (Real.log 2)⁻¹)
  obtain rfl : t = (a : EReal) := ht.trans ha
  have hl : Real.log 2 ≠ 0 := (Real.log_pos (by norm_num)).ne'
  have e' : ∀ z : ℝ, Ideal.exp2 (((z * (Real.log 2)⁻¹ : ℝ) : EReal) - (a : EReal))
      = ((Real.exp (z - a * Real.log 2) : ℝ) : EReal) := fun z => by
    rw [← exp2_scaled, ← EReal.coe_sub]
    congr 2
    field_simp
  have e : ∀ j, Ideal.exp2 (y j - (a : EReal)) = ((if p j then Real.exp (x j - a * Real.log 2) else 0 : ℝ) : EReal) := fun j => by
    rw [hy j]
    split_ifs
    · exact e' _
    · rfl
  simp only [e, e', ← coe_sum, ← EReal.coe_add]
  rw [add_comm]
  change _ * Ideal.div _ ((total p (fun j => x j - a * Real.log 2) (s - a * Real.log 2) : ℝ) : EReal) = _
  rw [Ideal.div_coe (total_pos _ _ _).ne', ← EReal.coe_mul, one_mul, one_div, sum_times _ _ (inv_nonneg.2 (total_pos _ _ _).le), mean]
  refine Finset.sum_congr rfl fun j _ => ?_
  rw [← weight_shift p x s (a * Real.log 2) j, weight, mul_right_comm, ← EReal.coe_mul, ← div_eq_mul_inv]
  by_cases h : p j
  · rw [hv j h]
  · rw [if_neg h, zero_div, EReal.coe_zero, zero_mul, zero_mul]

/-- The reference's way, one weight. The sink is the first of the scores. -/
theorem softmax_sink {n : Nat} (p : Fin n → Prop) [DecidablePred p] (x : Fin n → ℝ) (s : ℝ) (z : Fin (n + 1) → EReal) (t : EReal)
    (h0 : z 0 = (s : EReal)) (hz : ∀ j : Fin n, z j.succ = if p j then (x j : EReal) else ⊥)
    (ht : t = max (⊥ : EReal) (Finset.univ.fold max (⊥ : EReal) z)) (j : Fin n) :
    Ideal.div (Ideal.exp (z j.succ - t)) (∑ i, Ideal.exp (z i - t)) = (weight p x s j : EReal) := by
  have hf : Finset.univ.fold max (⊥ : EReal) z = max (Finset.univ.fold max (⊥ : EReal) fun j : Fin n => z j.succ) (s : EReal) := by
    rw [Fin.univ_succ, Finset.fold_cons, Finset.fold_map, h0, max_comm]
    rfl
  obtain ⟨a, ha⟩ := fold_max_sink p x (fun j => z j.succ) hz s
  obtain rfl : t = (a : EReal) := by rw [ht, hf, ha]; exact max_eq_right bot_le
  have e : ∀ j : Fin n, Ideal.exp (z j.succ - (a : EReal)) = ((if p j then Real.exp (x j - a) else 0 : ℝ) : EReal) := fun j => by
    rw [hz j]
    split_ifs
    · rw [← EReal.coe_sub]; rfl
    · rfl
  have e0 : Ideal.exp (z 0 - (a : EReal)) = ((Real.exp (s - a) : ℝ) : EReal) := by
    rw [h0, ← EReal.coe_sub]; rfl
  rw [Fin.sum_univ_succ]
  simp only [e, e0, ← coe_sum, ← EReal.coe_add]
  change Ideal.div _ ((total p (fun j => x j - a) (s - a) : ℝ) : EReal) = _
  rw [Ideal.div_coe (total_pos _ _ _).ne', ← EReal.coe_mul, ← weight_shift p x s a j, weight]
  congr 1
  ring

/-- The key row that stands at place `j` of the 640 keys of query block `n`: the 256 context rows, then 384 rows that
    begin one block before the query block. -/
abbrev key (n : Fin 32) (j : Fin 640) : Fin 4352 := ⟨if j.val < 256 then j.val else min (n.val * 128 + j.val - 128) 4351, by split_ifs <;> omega⟩

/-- Whether row `i` of query block `n` sees place `j`: a context row, or a row at most 128 away that exists. -/
abbrev sees (n : Fin 32) (i : Fin 128) (j : Fin 640) : Prop :=
  j.val < 256 ∨ (i.val + 256 ≤ j.val ∧ j.val ≤ i.val + 512 ∧ 384 ≤ n.val * 128 + j.val ∧ n.val * 128 + j.val < 4480)

/-- The score of query row `r` and key row `j`, for query head `g` of key and value head `h`. -/
def score (Q : Fin 4 → Fin 4352 → Fin 512 → ℝ) (K : Fin 4 → Fin 4352 → Fin 128 → ℝ) (b g : Fin 4) (h : Fin 2) (r j : Fin 4352) : ℝ :=
  (∑ d : Fin 64, Q b r ⟨g.val * 128 + h.val * 64 + d.val, by omega⟩ * K b j ⟨h.val * 64 + d.val, by omega⟩) * (1 / 8)

/-- The result at row `r`, for query head `g` of key and value head `h`, at lane `e`. -/
def result (Q : Fin 4 → Fin 4352 → Fin 512 → ℝ) (K : Fin 4 → Fin 4352 → Fin 128 → ℝ)
    (V : Fin 4 → Fin 4352 → Fin 128 → EReal) (S : Fin 8 → ℝ) (b : Fin 4) (r : Fin 4352) (g : Fin 4) (h : Fin 2) (e : Fin 64) : EReal :=
  if r.val < 256 then
    mean (fun _ : Fin 256 => True) (fun j => score Q K b g h r ⟨j.val, by omega⟩) (fun j => V b ⟨j.val, by omega⟩ ⟨h.val * 64 + e.val, by omega⟩)
      (S ⟨h.val * 4 + g.val, by omega⟩)
  else
    mean (sees ⟨(r.val - 256) / 128, by omega⟩ ⟨(r.val - 256) % 128, by omega⟩) (fun j => score Q K b g h r (key ⟨(r.val - 256) / 128, by omega⟩ j))
      (fun j => V b (key ⟨(r.val - 256) / 128, by omega⟩ j) ⟨h.val * 64 + e.val, by omega⟩) (S ⟨h.val * 4 + g.val, by omega⟩)

end Cert.Win

end

end
-- ==== Proof.WinMask.lean ====
/-
  The integer comparisons that decide which keys a query row sees, on 32 bit words, as statements on natural numbers.
-/
module

public import proofs.«01_k».proof.Proof.WinSpec

@[expose] public section

set_option maxRecDepth 16384

noncomputable section

namespace Cert.Win

open Idealize.ShloMosaic

/-- The bit of a place among the context rows. -/
theorem seen_ctx : ∀ j : Fin 640, IntOp.cmpi .slt (BitVec.ofNat 32 j.val) 256#32 = if j.val < 256 then 1#1 else 0#1 := by
  decide +kernel

/-- The bit of a distance of at most 128 rows, by the row's distance from a first row. -/
theorem near_word : ∀ d : Fin 1024,
    IntOp.cmpi .sle (IntOp.absi (BitVec.ofNat 32 d.val - 512#32)) 128#32 = if 384 ≤ d.val ∧ d.val ≤ 640 then 1#1 else 0#1 := by
  decide +kernel

/-- The bit of a row that is not before the first, by the row's distance from a first row. -/
theorem first_word : ∀ d : Fin 4736,
    IntOp.cmpi .sge (BitVec.ofNat 32 d.val - 384#32) 0#32 = if 384 ≤ d.val then 1#1 else 0#1 := by
  decide +kernel

/-- The bit of a row that is not after the last, by the row's distance from a first row. -/
theorem last_word : ∀ d : Fin 4736,
    IntOp.cmpi .slt (BitVec.ofNat 32 d.val - 384#32) 4096#32 = if d.val < 4480 then 1#1 else 0#1 := by
  decide +kernel

/-- The bit of a distance of at most 128 rows, as the kernel computes it. -/
theorem seen_near (i : Fin 128) (j : Fin 640) :
    IntOp.cmpi .sle (IntOp.absi (IntOp.subi (IntOp.subi (IntOp.subi (BitVec.ofNat 32 j.val) 256#32) 128#32) (BitVec.ofNat 32 i.val))) 128#32
      = if i.val + 256 ≤ j.val ∧ j.val ≤ i.val + 512 then 1#1 else 0#1 := by
  have e : IntOp.subi (IntOp.subi (IntOp.subi (BitVec.ofNat 32 j.val) 256#32) 128#32) (BitVec.ofNat 32 i.val)
      = BitVec.ofNat 32 (j.val + 128 - i.val) - 512#32 := by
    apply BitVec.eq_of_toNat_eq
    simp only [IntOp.subi, BitVec.toNat_sub, BitVec.toNat_ofNat]
    omega
  rw [e]
  refine (near_word ⟨j.val + 128 - i.val, by omega⟩).trans (if_congr ?_ rfl rfl)
  show 384 ≤ j.val + 128 - i.val ∧ j.val + 128 - i.val ≤ 640 ↔ _
  omega

/-- The bit of a distance of at most 128 rows, as the reference computes it. -/
theorem ref_near (i : Fin 128) (j : Fin 384) :
    IntOp.cmpi .sle (IntOp.absi (IntOp.subi (IntOp.subi (BitVec.ofNat 32 j.val) 128#32) (BitVec.ofNat 32 i.val))) 128#32
      = if i.val ≤ j.val ∧ j.val ≤ i.val + 256 then 1#1 else 0#1 := by
  have e : IntOp.subi (IntOp.subi (BitVec.ofNat 32 j.val) 128#32) (BitVec.ofNat 32 i.val)
      = BitVec.ofNat 32 (j.val + 384 - i.val) - 512#32 := by
    apply BitVec.eq_of_toNat_eq
    simp only [IntOp.subi, BitVec.toNat_sub, BitVec.toNat_ofNat]
    omega
  rw [e]
  refine (near_word ⟨j.val + 384 - i.val, by omega⟩).trans (if_congr ?_ rfl rfl)
  show 384 ≤ j.val + 384 - i.val ∧ j.val + 384 - i.val ≤ 640 ↔ _
  omega

/-- The position of a key, as the kernel computes it. -/
theorem kernel_word (n : Fin 32) (j : Fin 640) :
    IntOp.subi (IntOp.addi (Scalar.muli (Scalar.subi (BitVec.ofNat 32 (n.val + 2)) 2#32) 128#32) (IntOp.subi (BitVec.ofNat 32 j.val) 256#32)) 128#32
      = BitVec.ofNat 32 (n.val * 128 + j.val) - 384#32 := by
  apply BitVec.eq_of_toNat_eq
  simp only [IntOp.subi, IntOp.addi, IntOp.muli, Scalar.subi, Scalar.muli, BitVec.toNat_sub, BitVec.toNat_add, BitVec.toNat_mul, BitVec.toNat_ofNat]
  omega

/-- The position of a key of the window, as the reference computes it. -/
theorem ref_word (n : Fin 32) (j : Fin 384) :
    IntOp.subi (IntOp.addi (IntOp.muli (BitVec.ofNat 32 n.val) 128#32) (BitVec.ofNat 32 j.val)) 128#32
      = BitVec.ofNat 32 (n.val * 128 + (256 + j.val)) - 384#32 := by
  apply BitVec.eq_of_toNat_eq
  simp only [IntOp.subi, IntOp.addi, IntOp.muli, BitVec.toNat_sub, BitVec.toNat_add, BitVec.toNat_mul, BitVec.toNat_ofNat]
  omega

/-- The bit of a row that is not before the first. -/
theorem seen_first (n : Fin 32) (j : Fin 640) :
    IntOp.cmpi .sge (BitVec.ofNat 32 (n.val * 128 + j.val) - 384#32) 0#32 = if 384 ≤ n.val * 128 + j.val then 1#1 else 0#1 :=
  first_word ⟨n.val * 128 + j.val, by omega⟩

/-- The bit of a row that is not after the last. -/
theorem seen_last (n : Fin 32) (j : Fin 640) :
    IntOp.cmpi .slt (BitVec.ofNat 32 (n.val * 128 + j.val) - 384#32) 4096#32 = if n.val * 128 + j.val < 4480 then 1#1 else 0#1 :=
  last_word ⟨n.val * 128 + j.val, by omega⟩

/-- Bits joined as the kernel joins them. -/
theorem bits_kernel (a b c d q : Prop) [Decidable a] [Decidable b] [Decidable c] [Decidable d] [Decidable q] (h : q ↔ a ∨ (b ∧ c ∧ d)) :
    IntOp.ori (if a then 1#1 else 0#1) (IntOp.andi (IntOp.andi (if b then 1#1 else 0#1) (if c then 1#1 else 0#1)) (if d then 1#1 else 0#1))
      = if q then 1#1 else 0#1 := by
  by_cases ha : a <;> by_cases hb : b <;> by_cases hc : c <;> by_cases hd : d <;> simp only [h, ha, hb, hc, hd] <;> rfl

/-- Bits joined as the reference joins them. -/
theorem bits_ref (b c d q : Prop) [Decidable b] [Decidable c] [Decidable d] [Decidable q] (h : q ↔ b ∧ c ∧ d) :
    IntOp.andi (if b then 1#1 else 0#1) (IntOp.andi (if c then 1#1 else 0#1) (if d then 1#1 else 0#1)) = if q then 1#1 else 0#1 := by
  by_cases hb : b <;> by_cases hc : c <;> by_cases hd : d <;> simp only [h, hb, hc, hd] <;> rfl

/-- The place of a row of the window in the padded rows: never negative, so never counted from the end. -/
theorem start_word (n : Fin 32) (j : Fin 384) :
    Scalar.select (IntOp.cmpi .slt (IntOp.addi (IntOp.muli (BitVec.ofNat 32 n.val) 128#32) (BitVec.ofNat 32 j.val)) 0#32)
        (IntOp.addi (IntOp.addi (IntOp.muli (BitVec.ofNat 32 n.val) 128#32) (BitVec.ofNat 32 j.val)) 4352#32)
        (IntOp.addi (IntOp.muli (BitVec.ofNat 32 n.val) 128#32) (BitVec.ofNat 32 j.val))
      = BitVec.ofNat 32 (n.val * 128 + j.val) := by
  have e : IntOp.addi (IntOp.muli (BitVec.ofNat 32 n.val) 128#32) (BitVec.ofNat 32 j.val) = BitVec.ofNat 32 (n.val * 128 + j.val) := by
    apply BitVec.eq_of_toNat_eq
    simp only [IntOp.addi, IntOp.muli, BitVec.toNat_add, BitVec.toNat_mul, BitVec.toNat_ofNat]
    omega
  rw [e]
  have k : ∀ d : Fin 4352, Scalar.select (IntOp.cmpi .slt (BitVec.ofNat 32 d.val) 0#32) (IntOp.addi (BitVec.ofNat 32 d.val) 4352#32) (BitVec.ofNat 32 d.val)
      = BitVec.ofNat 32 d.val := by decide +kernel
  exact k ⟨n.val * 128 + j.val, by omega⟩

/-- A word of such a place, read as a signed number. -/
theorem start_nat : ∀ d : Fin 4352, min (BitVec.ofNat 32 d.val).toInt.toNat 4351 = d.val := by
  decide +kernel

end Cert.Win

end

end
-- ==== Proof.WinRef.lean ====
/-
  The plain formulation of the windowed attention, read at one place of its result: the printed term is cut into named
  stages, once for the context rows and once for the other rows, and every stage is read at an index. The other rows
  stand in 32 blocks of 128; a block's window is gathered from the rows with 128 rows of zeros before and after them.
-/
module

public import proofs.«01_k».proof.Proof.WinMask
public import proofs.«01_k».proof.Proof.Gen.Reference4Ideal.Run

@[expose] public section

set_option maxRecDepth 16384

noncomputable section

namespace Cert.Win

open Idealize.ShloMosaic Idealize.ShloMosaic.TcCoe Idealize.SL.Sem
open Cert.Reference4Ideal Cert.Reference4Ideal.Gen Cert.Reference4Ideal.Value
open Cert.Diff (bits_bot bits_eighth coe_sum)

/-- The sinks, as one more score of every context row. -/
def sinkC (A3 : FVec Ideal S8 .f32) : FVec Ideal S4x2x4x256x1 .f32 :=
  broadcastInDim S4x2x4x256x1 ![0, 1, 2, 3, 4] bcast_S1x2x4x1x1_S4x2x4x256x1_0_1_2_3_4 (broadcastInDim S1x2x4x1x1 ![1, 2] bcast_S2x4_S1x2x4x1x1_1_2 (shapeCast _ A3 shapeCasts_S8_S2x4))

/-- The scores of the context rows against the context. -/
def scoresC (A0 : FVec Ideal S4x4352x512 .f32) (A1 : FVec Ideal S4x4352x128 .f32) : FVec Ideal S4x2x4x256x256 .f32 :=
  mulf (transpose S4x2x4x256x256 [0, 1, 4, 3, 2] (Host.dotGeneral dot_S4x256x2x64_S4x256x2x4x64_S4x2x256x256x4_3_4_1_13_02_02 none (extractStridedSlice S4x256x2x64 ![0, 0, 0, 0] (shapeCast _ A1 shapeCasts_S4x4352x128_S4x4352x2x64) slices_S4x4352x2x64_S4x256x2x64_0_0_0_0) (extractStridedSlice S4x256x2x4x64 ![0, 0, 0, 0, 0] (transpose S4x4352x2x4x64 [0, 1, 3, 2, 4] (shapeCast _ A0 shapeCasts_S4x4352x512_S4x4352x4x2x64) transposes_S4x4352x4x2x64_S4x4352x2x4x64_0_1_3_2_4) slices_S4x4352x2x4x64_S4x256x2x4x64_0_0_0_0_0)) transposes_S4x2x256x256x4_S4x2x4x256x256_0_1_4_3_2) (broadcastInDim S4x2x4x256x256 ![] bcast_S_S4x2x4x256x256 (constant (F := Ideal) S_ .f32 0x3E000000#32))

/-- The sink and the scores of a context row. -/
def allC (Z : FVec Ideal S4x2x4x256x1 .f32) (S : FVec Ideal S4x2x4x256x256 .f32) : FVec Ideal S4x2x4x256x257 .f32 :=
  concatenate S4x2x4x256x257 4 [⟨S4x2x4x256x1, Z⟩, ⟨S4x2x4x256x256, S⟩] concatenates_S4x2x4x256x1_S4x2x4x256x256_S4x2x4x256x257_d4

/-- The largest of a context row. -/
def peakC (S : FVec Ideal S4x2x4x256x257 .f32) : FVec Ideal S4x2x4x256 .f32 :=
  Host.reduce FloatOps.maximumf S (constant (F := Ideal) S_ .f32 0xFF800000#32) reducesTo_S4x2x4x256x257_S4x2x4x256_d4 h_S_

/-- A number of every context row, but at least minus infinity, at every score. -/
def topC (M : FVec Ideal S4x2x4x256 .f32) : FVec Ideal S4x2x4x256x257 .f32 :=
  broadcastInDim S4x2x4x256x257 ![0, 1, 2, 3, 4] bcast_S4x2x4x256x1_S4x2x4x256x257_0_1_2_3_4 (broadcastInDim S4x2x4x256x1 ![0, 1, 2, 3] bcast_S4x2x4x256_S4x2x4x256x1_0_1_2_3 (maximumf (broadcastInDim S4x2x4x256 ![] bcast_S_S4x2x4x256 (constant (F := Ideal) S_ .f32 0xFF800000#32)) M))

/-- Every number less its row's, exponentiated, and divided by the row's sum. -/
def softC (S T : FVec Ideal S4x2x4x256x257 .f32) : FVec Ideal S4x2x4x256x257 .f32 :=
  Host.divf (Host.exp (subf S T)) (broadcastInDim S4x2x4x256x257 ![0, 1, 2, 3, 4] bcast_S4x2x4x256x1_S4x2x4x256x257_0_1_2_3_4 (broadcastInDim S4x2x4x256x1 ![0, 1, 2, 3] bcast_S4x2x4x256_S4x2x4x256x1_0_1_2_3 (Host.reduceAdd (Host.exp (subf S T)) (constant (F := Ideal) S_ .f32 0x00000000#32) reducesTo_S4x2x4x256x257_S4x2x4x256_d4 h_S_)))

/-- The values of the context summed with the weights of the context rows. -/
def outC (A2 : FVec Ideal S4x4352x128 .f32) (P : FVec Ideal S4x2x4x256x257 .f32) : FVec Ideal S4x256x2x4x64 .f32 :=
  transpose S4x256x2x4x64 [0, 4, 1, 3, 2] (Host.dotGeneral dot_S4x256x2x64_S4x2x4x256x256_S4x2x64x4x256_1_4_3_23_02_01 none (extractStridedSlice S4x256x2x64 ![0, 0, 0, 0] (shapeCast _ A2 shapeCasts_S4x4352x128_S4x4352x2x64) slices_S4x4352x2x64_S4x256x2x64_0_0_0_0) (extractStridedSlice S4x2x4x256x256 ![0, 0, 0, 0, 1] P slices_S4x2x4x256x257_S4x2x4x256x256_0_0_0_0_1)) transposes_S4x2x64x4x256_S4x256x2x4x64_0_4_1_3_2

/-- The sinks, as one more score of every other row. -/
def sinkM (A3 : FVec Ideal S8 .f32) : FVec Ideal S4x32x2x4x128x1 .f32 :=
  broadcastInDim S4x32x2x4x128x1 ![0, 1, 2, 3, 4, 5] bcast_S1x1x2x4x1x1_S4x32x2x4x128x1_0_1_2_3_4_5 (broadcastInDim S1x1x2x4x1x1 ![2, 3] bcast_S2x4_S1x1x2x4x1x1_2_3 (shapeCast _ A3 shapeCasts_S8_S2x4))

/-- The queries of the other rows, in blocks of 128. -/
def blocksM (A0 : FVec Ideal S4x4352x512 .f32) : FVec Ideal S4x32x128x2x4x64 .f32 :=
  shapeCast _ (extractStridedSlice S4x4096x2x4x64 ![0, 256, 0, 0, 0] (transpose S4x4352x2x4x64 [0, 1, 3, 2, 4] (shapeCast _ A0 shapeCasts_S4x4352x512_S4x4352x4x2x64) transposes_S4x4352x4x2x64_S4x4352x2x4x64_0_1_3_2_4) slices_S4x4352x2x4x64_S4x4096x2x4x64_0_256_0_0_0) shapeCasts_S4x4096x2x4x64_S4x32x128x2x4x64

/-- Their scores against the context. -/
def ctxM (A1 : FVec Ideal S4x4352x128 .f32) (B : FVec Ideal S4x32x128x2x4x64 .f32) : FVec Ideal S4x32x2x4x128x256 .f32 :=
  mulf (transpose S4x32x2x4x128x256 [0, 3, 1, 5, 4, 2] (Host.dotGeneral dot_S4x256x2x64_S4x32x128x2x4x64_S4x2x256x32x128x4_3_5_1_124_02_03 none (extractStridedSlice S4x256x2x64 ![0, 0, 0, 0] (shapeCast _ A1 shapeCasts_S4x4352x128_S4x4352x2x64) slices_S4x4352x2x64_S4x256x2x64_0_0_0_0) B) transposes_S4x2x256x32x128x4_S4x32x2x4x128x256_0_3_1_5_4_2) (broadcastInDim S4x32x2x4x128x256 ![] bcast_S_S4x32x2x4x128x256 (constant (F := Ideal) S_ .f32 0x3E000000#32))

/-- The places of the window's rows in the padded rows. -/
def placesM : IVec S32x384 32 :=
  addi (broadcastInDim S32x384 ![0, 1] bcast_S32x1_S32x384_0_1 (muli (broadcastInDim S32x1 ![0] bcast_S32_S32x1_0 (iotaInDim S32 32 0)) (broadcastInDim S32x1 ![] bcast_S_S32x1 (constantI S_ 32 128#32)))) (broadcastInDim S32x384 ![0, 1] bcast_S1x384_S32x384_0_1 (broadcastInDim S1x384 ![1] bcast_S384_S1x384_1 (iotaInDim S384 32 0)))

/-- The same, a negative one counted from the end. -/
def startsM (I : IVec S32x384 32) : IVec S32x384x1 32 :=
  broadcastInDim S32x384x1 ![0, 1] bcast_S32x384_S32x384x1_0_1 (select (cmpi .slt I (broadcastInDim S32x384 ![] bcast_S_S32x384 (constantI S_ 32 0#32))) (addi I (broadcastInDim S32x384 ![] bcast_S_S32x384 (constantI S_ 32 4352#32))) I)

/-- The rows after the context with 128 rows of zeros before and after them. -/
def padded (A1 : FVec Ideal S4x4352x128 .f32) : FVec Ideal S4x4352x2x64 .f32 :=
  pad S4x4352x2x64 ![0, 128, 0, 0] ![0, 128, 0, 0] ![0, 0, 0, 0] (extractStridedSlice S4x4096x2x64 ![0, 256, 0, 0] (shapeCast _ A1 shapeCasts_S4x4352x128_S4x4352x2x64) slices_S4x4352x2x64_S4x4096x2x64_0_256_0_0) (sitofp .f32 (constantI S_ 32 0#32)) pads_S4x4096x2x64_S4x4352x2x64_000_1281280_000_000 h_S_

/-- The windows of all blocks, gathered from the padded rows. -/
def gathered (X : FVec Ideal S4x4352x2x64 .f32) (I : IVec S32x384x1 32) : FVec Ideal S4x32x384x2x64 .f32 :=
  Host.gather gather_S4x4352x2x64_S32x384x1_S4x32x384x2x64_034_1_n_n_1_2_41264 X I

/-- Which rows of a window a query row sees. -/
def nearM (I : IVec S32x384 32) : IVec S32x128x384 1 :=
  andi (broadcastInDim S32x128x384 ![0, 1, 2] bcast_S1x128x384_S32x128x384_0_1_2 (broadcastInDim S1x128x384 ![1, 2] bcast_S128x384_S1x128x384_1_2 (cmpi .sle (absi (subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0))))) (broadcastInDim S128x384 ![] bcast_S_S128x384 (constantI S_ 32 128#32))))) (broadcastInDim S32x128x384 ![0, 1, 2] bcast_S32x1x384_S32x128x384_0_1_2 (broadcastInDim S32x1x384 ![0, 2] bcast_S32x384_S32x1x384_0_2 (andi (cmpi .sge (subi I (broadcastInDim S32x384 ![] bcast_S_S32x384 (constantI S_ 32 128#32))) (broadcastInDim S32x384 ![] bcast_S_S32x384 (constantI S_ 32 0#32))) (cmpi .slt (subi I (broadcastInDim S32x384 ![] bcast_S_S32x384 (constantI S_ 32 128#32))) (broadcastInDim S32x384 ![] bcast_S_S32x384 (constantI S_ 32 4096#32))))))

/-- The scores against the window. -/
def windowM (W : FVec Ideal S4x32x384x2x64 .f32) (B : FVec Ideal S4x32x128x2x4x64 .f32) : FVec Ideal S4x32x2x4x128x384 .f32 :=
  mulf (transpose S4x32x2x4x128x384 [0, 1, 2, 5, 4, 3] (Host.dotGeneral dot_S4x32x384x2x64_S4x32x128x2x4x64_S4x32x2x384x128x4_4_5_2_24_013_013 none W B) transposes_S4x32x2x384x128x4_S4x32x2x4x128x384_0_1_2_5_4_3) (broadcastInDim S4x32x2x4x128x384 ![] bcast_S_S4x32x2x4x128x384 (constant (F := Ideal) S_ .f32 0x3E000000#32))

/-- The scores, minus infinity where the row is not seen. -/
def keptM (N : IVec S32x128x384 1) (S : FVec Ideal S4x32x2x4x128x384 .f32) : FVec Ideal S4x32x2x4x128x384 .f32 :=
  select (broadcastInDim S4x32x2x4x128x384 ![0, 1, 2, 3, 4, 5] bcast_S1x32x1x1x128x384_S4x32x2x4x128x384_0_1_2_3_4_5 (broadcastInDim S1x32x1x1x128x384 ![1, 4, 5] bcast_S32x128x384_S1x32x1x1x128x384_1_4_5 N)) S (broadcastInDim S4x32x2x4x128x384 ![] bcast_S_S4x32x2x4x128x384 (id (constant (F := Ideal) S_ .f32 0xFF800000#32)))

/-- The sink, the scores against the context and those against the window. -/
def allM (Z : FVec Ideal S4x32x2x4x128x1 .f32) (C : FVec Ideal S4x32x2x4x128x256 .f32) (S : FVec Ideal S4x32x2x4x128x384 .f32) : FVec Ideal S4x32x2x4x128x641 .f32 :=
  concatenate S4x32x2x4x128x641 5 [⟨S4x32x2x4x128x1, Z⟩, ⟨S4x32x2x4x128x256, C⟩, ⟨S4x32x2x4x128x384, S⟩] concatenates_S4x32x2x4x128x1_S4x32x2x4x128x256_S4x32x2x4x128x384_S4x32x2x4x128x641_d5

/-- The largest of a row. -/
def peakM (S : FVec Ideal S4x32x2x4x128x641 .f32) : FVec Ideal S4x32x2x4x128 .f32 :=
  Host.reduce FloatOps.maximumf S (constant (F := Ideal) S_ .f32 0xFF800000#32) reducesTo_S4x32x2x4x128x641_S4x32x2x4x128_d5 h_S_

/-- A number of every row, but at least minus infinity, at every score. -/
def topM (M : FVec Ideal S4x32x2x4x128 .f32) : FVec Ideal S4x32x2x4x128x641 .f32 :=
  broadcastInDim S4x32x2x4x128x641 ![0, 1, 2, 3, 4, 5] bcast_S4x32x2x4x128x1_S4x32x2x4x128x641_0_1_2_3_4_5 (broadcastInDim S4x32x2x4x128x1 ![0, 1, 2, 3, 4] bcast_S4x32x2x4x128_S4x32x2x4x128x1_0_1_2_3_4 (maximumf (broadcastInDim S4x32x2x4x128 ![] bcast_S_S4x32x2x4x128 (constant (F := Ideal) S_ .f32 0xFF800000#32)) M))

/-- Every number less its row's, exponentiated, and divided by the row's sum. -/
def softM (S T : FVec Ideal S4x32x2x4x128x641 .f32) : FVec Ideal S4x32x2x4x128x641 .f32 :=
  Host.divf (Host.exp (subf S T)) (broadcastInDim S4x32x2x4x128x641 ![0, 1, 2, 3, 4, 5] bcast_S4x32x2x4x128x1_S4x32x2x4x128x641_0_1_2_3_4_5 (broadcastInDim S4x32x2x4x128x1 ![0, 1, 2, 3, 4] bcast_S4x32x2x4x128_S4x32x2x4x128x1_0_1_2_3_4 (Host.reduceAdd (Host.exp (subf S T)) (constant (F := Ideal) S_ .f32 0x00000000#32) reducesTo_S4x32x2x4x128x641_S4x32x2x4x128_d5 h_S_)))

/-- The values of the context and of the window summed with the weights. -/
def outM (A2 : FVec Ideal S4x4352x128 .f32) (W : FVec Ideal S4x32x384x2x64 .f32) (P : FVec Ideal S4x32x2x4x128x641 .f32) : FVec Ideal S4x4096x2x4x64 .f32 :=
  shapeCast _ (addf (transpose S4x32x128x2x4x64 [0, 3, 5, 1, 4, 2] (Host.dotGeneral dot_S4x256x2x64_S4x32x2x4x128x256_S4x2x64x32x4x128_1_5_3_134_02_02 none (extractStridedSlice S4x256x2x64 ![0, 0, 0, 0] (shapeCast _ A2 shapeCasts_S4x4352x128_S4x4352x2x64) slices_S4x4352x2x64_S4x256x2x64_0_0_0_0) (extractStridedSlice S4x32x2x4x128x256 ![0, 0, 0, 0, 0, 1] P slices_S4x32x2x4x128x641_S4x32x2x4x128x256_0_0_0_0_0_1)) transposes_S4x2x64x32x4x128_S4x32x128x2x4x64_0_3_5_1_4_2) (transpose S4x32x128x2x4x64 [0, 1, 5, 2, 4, 3] (Host.dotGeneral dot_S4x32x384x2x64_S4x32x2x4x128x384_S4x32x2x64x4x128_2_5_4_34_013_012 none W (extractStridedSlice S4x32x2x4x128x384 ![0, 0, 0, 0, 0, 257] P slices_S4x32x2x4x128x641_S4x32x2x4x128x384_0_0_0_0_0_257)) transposes_S4x32x2x64x4x128_S4x32x128x2x4x64_0_1_5_2_4_3)) shapeCasts_S4x32x128x2x4x64_S4x4096x2x4x64

/-- The scores of the context rows, the sink's first. -/
def rowsC (A0 : FVec Ideal S4x4352x512 .f32) (A1 : FVec Ideal S4x4352x128 .f32) (A3 : FVec Ideal S8 .f32) : FVec Ideal S4x2x4x256x257 .f32 :=
  allC (sinkC A3) (scoresC A0 A1)

/-- The scores of the other rows, the sink's first. -/
def rowsM (A0 : FVec Ideal S4x4352x512 .f32) (A1 : FVec Ideal S4x4352x128 .f32) (A3 : FVec Ideal S8 .f32) : FVec Ideal S4x32x2x4x128x641 .f32 :=
  allM (sinkM A3) (ctxM A1 (blocksM A0)) (keptM (nearM placesM) (windowM (gathered (padded A1) (startsM placesM)) (blocksM A0)))

/-- The result, stage by stage. -/
def whole (A0 : FVec Ideal S4x4352x512 .f32) (A1 A2 : FVec Ideal S4x4352x128 .f32) (A3 : FVec Ideal S8 .f32) : FVec Ideal S4x4352x512 .f32 :=
  shapeCast _ (transpose S4x4352x4x2x64 [0, 1, 3, 2, 4] (concatenate S4x4352x2x4x64 1
    [⟨S4x256x2x4x64, outC A2 (softC (rowsC A0 A1 A3) (topC (peakC (rowsC A0 A1 A3))))⟩,
      ⟨S4x4096x2x4x64, outM A2 (gathered (padded A2) (startsM placesM)) (softM (rowsM A0 A1 A3) (topM (peakM (rowsM A0 A1 A3))))⟩]
    concatenates_S4x256x2x4x64_S4x4096x2x4x64_S4x4352x2x4x64_d1) transposes_S4x4352x2x4x64_S4x4352x4x2x64_0_1_3_2_4) shapeCasts_S4x4352x4x2x64_S4x4352x512

/-- The printed term is the stages composed. -/
theorem res_whole (m : (ℓ : Loc nD τ sig) → Buf (Elt Ideal) ℓ) (c : Dev nD) :
    res_out0 m c = whole (m ((c.tc : Thread nD τ).loc main_arg0)) (m ((c.tc : Thread nD τ).loc main_arg1)) (m ((c.tc : Thread nD τ).loc main_arg2))
      (m ((c.tc : Thread nD τ).loc main_arg3)) := rfl

/-- One sink of a context row. -/
theorem sinkC_at (A3 : FVec Ideal S8 .f32) (b : Fin 4) (h : Fin 2) (g : Fin 4) (i : Fin 256) :
    sinkC A3 (ix5 b h g i 0) = A3 (ix1 ⟨h.val * 4 + g.val, by omega⟩) := by
  pointwise [sinkC]

/-- One sink of another row. -/
theorem sinkM_at (A3 : FVec Ideal S8 .f32) (b : Fin 4) (n : Fin 32) (h : Fin 2) (g : Fin 4) (i : Fin 128) :
    sinkM A3 (ix6 b n h g i 0) = A3 (ix1 ⟨h.val * 4 + g.val, by omega⟩) := by
  pointwise [sinkM]

/-- A sum of products of reals over 64 lanes, times one eighth. -/
theorem eighth_sum (x y : Fin 64 → ℝ) (z : Ideal .f32) (hz : z = ∑ d, (y d : EReal) * (x d : EReal)) :
    z * Ideal.ofBits .f32 0x3E000000#32 = (((∑ d, x d * y d) * (1 / 8) : ℝ) : EReal) := by
  subst hz
  show (_ : EReal) * Ideal.ofBits .f32 0x3E000000#32 = _
  simp only [bits_eighth, ← EReal.coe_mul, ← coe_sum]
  simp only [mul_comm]

/-- One score of a context row. -/
theorem scoresC_at (Q : Fin 4 → Fin 4352 → Fin 512 → ℝ) (K : Fin 4 → Fin 4352 → Fin 128 → ℝ) (A0 : FVec Ideal S4x4352x512 .f32) (A1 : FVec Ideal S4x4352x128 .f32)
    (hq : ∀ b r e, A0 (ix3 b r e) = (Q b r e : EReal)) (hk : ∀ b r e, A1 (ix3 b r e) = (K b r e : EReal))
    (b : Fin 4) (h : Fin 2) (g : Fin 4) (i j : Fin 256) :
    scoresC A0 A1 (ix5 b h g i j) = (score Q K b g h ⟨i.val, by omega⟩ ⟨j.val, by omega⟩ : EReal) := by
  pointwise [scoresC, hq, hk]
  exact eighth_sum _ _ _ rfl

/-- One query lane of another row. -/
theorem blocksM_at (A0 : FVec Ideal S4x4352x512 .f32) (b : Fin 4) (n : Fin 32) (i : Fin 128) (h : Fin 2) (g : Fin 4) (d : Fin 64) :
    blocksM A0 (ix6 b n i h g d) = A0 (ix3 b ⟨256 + (n.val * 128 + i.val), by omega⟩ ⟨g.val * 128 + h.val * 64 + d.val, by omega⟩) := by
  pointwise [blocksM]

/-- One score of another row against the context. -/
theorem ctxM_at (Q : Fin 4 → Fin 4352 → Fin 512 → ℝ) (K : Fin 4 → Fin 4352 → Fin 128 → ℝ) (A0 : FVec Ideal S4x4352x512 .f32) (A1 : FVec Ideal S4x4352x128 .f32)
    (hq : ∀ b r e, A0 (ix3 b r e) = (Q b r e : EReal)) (hk : ∀ b r e, A1 (ix3 b r e) = (K b r e : EReal))
    (b : Fin 4) (n : Fin 32) (h : Fin 2) (g : Fin 4) (i : Fin 128) (j : Fin 256) :
    ctxM A1 (blocksM A0) (ix6 b n h g i j) = (score Q K b g h ⟨256 + (n.val * 128 + i.val), by omega⟩ ⟨j.val, by omega⟩ : EReal) := by
  pointwise [ctxM, blocksM_at, hq, hk]
  exact eighth_sum _ _ _ rfl

/-- The place of a row of the window. -/
theorem startsM_at (n : Fin 32) (j : Fin 384) : startsM placesM (ix3 n j 0) = BitVec.ofNat 32 (n.val * 128 + j.val) := by
  pointwise [startsM, placesM]
  exact start_word n j

/-- A row of a window. -/
theorem gathered_at (X : FVec Ideal S4x4352x2x64 .f32) (I : IVec S32x384x1 32) (b : Fin 4) (n : Fin 32) (j : Fin 384) (h : Fin 2) (d : Fin 64) :
    gathered X I (ix5 b n j h d) = X (ix4 b ⟨min (I (ix3 n j 0)).toInt.toNat 4351, by omega⟩ h d) := by
  unfold gathered Host.gather
  refine congrArg X (funext fun a => Fin.ext ?_)
  match a with
  | ⟨0, _⟩ =>
    show GatherDims.start _ _ _ 0 + GatherDims.batchCoord _ _ 0 + GatherDims.offCoord _ _ 0 = b.val
    rw [GatherDims.batchCoord_eq_zero _ _ _ (by decide)]
    unfold GatherDims.start GatherDims.offCoord
    rw [dif_neg (by decide), dif_pos (by decide)]
    rw [Nat.zero_add]
    exact congrArg (fun k => (ix5 b n j h d k).val) (by decide : _ = (0 : Fin 5))
  | ⟨1, _⟩ =>
    show GatherDims.start _ _ _ 1 + GatherDims.batchCoord _ _ 1 + GatherDims.offCoord _ _ 1 = _
    rw [GatherDims.batchCoord_eq_zero _ _ _ (by decide), GatherDims.offCoord_eq_zero _ _ _ (by decide)]
    unfold GatherDims.start
    rw [dif_pos (by decide)]
    rw [Nat.add_zero]
    refine congrArg (fun k => min (I k).toInt.toNat 4351) (funext fun c => Fin.ext ?_)
    match c with
    | ⟨0, _⟩ =>
      unfold GatherDims.siIdx
      refine (congrArg Fin.val (dif_neg (show ¬(0 : Nat) = 2 by decide))).trans ?_
      unfold GatherDims.siCoord
      exact congrArg (fun k => (ix5 b n j h d k).val) (by decide +revert : _ = (1 : Fin 5))
    | ⟨1, _⟩ =>
      unfold GatherDims.siIdx
      refine (congrArg Fin.val (dif_neg (show ¬(1 : Nat) = 2 by decide))).trans ?_
      unfold GatherDims.siCoord
      exact congrArg (fun k => (ix5 b n j h d k).val) (by decide +revert : _ = (2 : Fin 5))
    | ⟨2, _⟩ =>
      unfold GatherDims.siIdx
      refine (congrArg Fin.val (dif_pos (show (2 : Nat) = 2 by decide))).trans ?_
      exact (by decide : List.idxOf (1 : Fin 4) [1] = 0)
  | ⟨2, _⟩ =>
    show GatherDims.start _ _ _ 2 + GatherDims.batchCoord _ _ 2 + GatherDims.offCoord _ _ 2 = h.val
    rw [GatherDims.batchCoord_eq_zero _ _ _ (by decide)]
    unfold GatherDims.start GatherDims.offCoord
    rw [dif_neg (by decide), dif_pos (by decide)]
    rw [Nat.zero_add]
    exact congrArg (fun k => (ix5 b n j h d k).val) (by decide : _ = (3 : Fin 5))
  | ⟨3, _⟩ =>
    show GatherDims.start _ _ _ 3 + GatherDims.batchCoord _ _ 3 + GatherDims.offCoord _ _ 3 = d.val
    rw [GatherDims.batchCoord_eq_zero _ _ _ (by decide)]
    unfold GatherDims.start GatherDims.offCoord
    rw [dif_neg (by decide), dif_pos (by decide)]
    rw [Nat.zero_add]
    exact congrArg (fun k => (ix5 b n j h d k).val) (by decide : _ = (4 : Fin 5))
/-- The rows with zeros around them: row `r` of them. -/
def around (V : Fin 4 → Fin 4352 → Fin 128 → EReal) (b : Fin 4) (r : Fin 4352) (c : Fin 128) : EReal :=
  if h : 128 ≤ r.val ∧ r.val < 4224 then V b ⟨r.val + 128, by omega⟩ c else 0

/-- One lane of the rows with zeros around them. -/
theorem padded_at (V : Fin 4 → Fin 4352 → Fin 128 → EReal) (A : FVec Ideal S4x4352x128 .f32) (hv : ∀ b r e, A (ix3 b r e) = V b r e)
    (b : Fin 4) (r : Fin 4352) (h : Fin 2) (d : Fin 64) :
    padded A (ix4 b r h d) = around V b r ⟨h.val * 64 + d.val, by omega⟩ := by
  pointwise [padded, around, hv]
  by_cases p : 128 ≤ r.val ∧ r.val < 4224
  · refine (dif_pos ⟨p.1, by omega⟩).trans ?_
    rw [dif_pos p]
    have e : (⟨256 + (r.val - 128), by omega⟩ : Fin 4352) = ⟨r.val + 128, by omega⟩ := Fin.ext (by show 256 + (r.val - 128) = r.val + 128; omega)
    exact congrArg (fun k => V b k ⟨h.val * 64 + d.val, by omega⟩) e
  · refine (dif_neg fun q => p ⟨q.1, by omega⟩).trans ?_
    rw [dif_neg p]
    show (((0#32).toInt : ℝ) : EReal) = 0
    norm_num

/-- One lane of a window. -/
theorem window_at (V : Fin 4 → Fin 4352 → Fin 128 → EReal) (A : FVec Ideal S4x4352x128 .f32) (hv : ∀ b r e, A (ix3 b r e) = V b r e)
    (b : Fin 4) (n : Fin 32) (j : Fin 384) (h : Fin 2) (d : Fin 64) :
    gathered (padded A) (startsM placesM) (ix5 b n j h d) = around V b ⟨n.val * 128 + j.val, by omega⟩ ⟨h.val * 64 + d.val, by omega⟩ := by
  rw [gathered_at, padded_at V A hv]
  congr 2
  show min (startsM placesM (ix3 n j 0)).toInt.toNat 4351 = n.val * 128 + j.val
  rw [startsM_at]
  exact start_nat ⟨n.val * 128 + j.val, by omega⟩

/-- The bit of a row that is seen. -/
theorem nearM_at (n : Fin 32) (i : Fin 128) (j : Fin 384) :
    nearM placesM (ix3 n i j) = if sees n i ⟨256 + j.val, by omega⟩ then 1#1 else 0#1 := by
  pointwise [nearM, placesM]
  rw [ref_near, ref_word]
  have e1 := seen_first n ⟨256 + j.val, by omega⟩
  have e2 := seen_last n ⟨256 + j.val, by omega⟩
  dsimp only at e1 e2
  rw [e1, e2]
  refine bits_ref _ _ _ _ ?_
  show (256 + j.val < 256 ∨ (i.val + 256 ≤ 256 + j.val ∧ 256 + j.val ≤ i.val + 512 ∧ 384 ≤ n.val * 128 + (256 + j.val)
    ∧ n.val * 128 + (256 + j.val) < 4480)) ↔ _
  omega

/-- A seen row of a window is a row of the array. -/
theorem around_seen (V : Fin 4 → Fin 4352 → Fin 128 → EReal) (b : Fin 4) (n : Fin 32) (i : Fin 128) (j : Fin 384) (c : Fin 128)
    (p : sees n i ⟨256 + j.val, by omega⟩) :
    around V b ⟨n.val * 128 + j.val, by omega⟩ c = V b (key n ⟨256 + j.val, by omega⟩) c := by
  dsimp only [sees] at p
  rw [around, dif_pos (by dsimp only; omega)]
  congr 1
  apply Fin.ext
  show n.val * 128 + j.val + 128 = if 256 + j.val < 256 then 256 + j.val else min (n.val * 128 + (256 + j.val) - 128) 4351
  rw [if_neg (by omega)]
  omega

/-- One score against the window. -/
theorem windowM_at (Q : Fin 4 → Fin 4352 → Fin 512 → ℝ) (K : Fin 4 → Fin 4352 → Fin 128 → ℝ) (A0 : FVec Ideal S4x4352x512 .f32) (A1 : FVec Ideal S4x4352x128 .f32)
    (hq : ∀ b r e, A0 (ix3 b r e) = (Q b r e : EReal)) (hk : ∀ b r e, A1 (ix3 b r e) = (K b r e : EReal))
    (b : Fin 4) (n : Fin 32) (h : Fin 2) (g : Fin 4) (i : Fin 128) (j : Fin 384) (p : sees n i ⟨256 + j.val, by omega⟩) :
    windowM (gathered (padded A1) (startsM placesM)) (blocksM A0) (ix6 b n h g i j)
      = (score Q K b g h ⟨256 + (n.val * 128 + i.val), by omega⟩ (key n ⟨256 + j.val, by omega⟩) : EReal) := by
  generalize hW : gathered (padded A1) (startsM placesM) = W
  have hw : ∀ d : Fin 64, W (ix5 b n j h d) = (K b (key n ⟨256 + j.val, by omega⟩) ⟨h.val * 64 + d.val, by omega⟩ : EReal) := fun d => by
    rw [← hW, window_at (fun b r e => (K b r e : EReal)) A1 hk, around_seen (fun b r e => (K b r e : EReal)) b n i j _ p]
  pointwise [windowM, blocksM_at, hq, hw]
  exact eighth_sum _ _ _ rfl

/-- One score against the window, minus infinity where the row is not seen. -/
theorem keptM_at (Q : Fin 4 → Fin 4352 → Fin 512 → ℝ) (K : Fin 4 → Fin 4352 → Fin 128 → ℝ) (A0 : FVec Ideal S4x4352x512 .f32) (A1 : FVec Ideal S4x4352x128 .f32)
    (hq : ∀ b r e, A0 (ix3 b r e) = (Q b r e : EReal)) (hk : ∀ b r e, A1 (ix3 b r e) = (K b r e : EReal))
    (b : Fin 4) (n : Fin 32) (h : Fin 2) (g : Fin 4) (i : Fin 128) (j : Fin 384) :
    keptM (nearM placesM) (windowM (gathered (padded A1) (startsM placesM)) (blocksM A0)) (ix6 b n h g i j)
      = if sees n i ⟨256 + j.val, by omega⟩ then (score Q K b g h ⟨256 + (n.val * 128 + i.val), by omega⟩ (key n ⟨256 + j.val, by omega⟩) : EReal) else ⊥ := by
  have hw := windowM_at Q K A0 A1 hq hk b n h g i j
  generalize windowM (gathered (padded A1) (startsM placesM)) (blocksM A0) = W at hw ⊢
  have hn := nearM_at n i j
  generalize nearM placesM = N at hn ⊢
  pointwise [keptM]
  rw [hn]
  by_cases p : sees n i ⟨256 + j.val, by omega⟩
  · rw [if_pos p, if_pos p]
    exact hw p
  · rw [if_neg p, if_neg p]
    exact bits_bot

/-- The sink is the first of a context row's scores. -/
theorem allC_zero (Z : FVec Ideal S4x2x4x256x1 .f32) (S : FVec Ideal S4x2x4x256x256 .f32) (b : Fin 4) (h : Fin 2) (g : Fin 4) (i : Fin 256) :
    allC Z S (ix5 b h g i 0) = Z (ix5 b h g i 0) := by
  pointwise [allC]

/-- The others follow. -/
theorem allC_succ (Z : FVec Ideal S4x2x4x256x1 .f32) (S : FVec Ideal S4x2x4x256x256 .f32) (b : Fin 4) (h : Fin 2) (g : Fin 4) (i j : Fin 256) :
    allC Z S (ix5 b h g i j.succ) = S (ix5 b h g i j) := by
  pointwise [allC]
  exact dif_neg (by show ¬j.val + 1 < 1; omega)

/-- The sink is the first of another row's scores. -/
theorem allM_zero (Z : FVec Ideal S4x32x2x4x128x1 .f32) (C : FVec Ideal S4x32x2x4x128x256 .f32) (S : FVec Ideal S4x32x2x4x128x384 .f32)
    (b : Fin 4) (n : Fin 32) (h : Fin 2) (g : Fin 4) (i : Fin 128) :
    allM Z C S (ix6 b n h g i 0) = Z (ix6 b n h g i 0) := by
  pointwise [allM]

/-- The scores against the context follow, -/
theorem allM_ctx (Z : FVec Ideal S4x32x2x4x128x1 .f32) (C : FVec Ideal S4x32x2x4x128x256 .f32) (S : FVec Ideal S4x32x2x4x128x384 .f32)
    (b : Fin 4) (n : Fin 32) (h : Fin 2) (g : Fin 4) (i : Fin 128) (j : Fin 640) (p : j.val < 256) :
    allM Z C S (ix6 b n h g i j.succ) = C (ix6 b n h g i ⟨j.val, p⟩) := by
  pointwise [allM]
  refine (dif_neg (by show ¬j.val + 1 < 1; omega)).trans ?_
  exact dif_pos (by show j.val + 1 - 1 < 256; omega)

/-- and then those against the window. -/
theorem allM_window (Z : FVec Ideal S4x32x2x4x128x1 .f32) (C : FVec Ideal S4x32x2x4x128x256 .f32) (S : FVec Ideal S4x32x2x4x128x384 .f32)
    (b : Fin 4) (n : Fin 32) (h : Fin 2) (g : Fin 4) (i : Fin 128) (j : Fin 640) (p : ¬j.val < 256) :
    allM Z C S (ix6 b n h g i j.succ) = S (ix6 b n h g i ⟨j.val - 256, by omega⟩) := by
  pointwise [allM]
  refine (dif_neg (by show ¬j.val + 1 < 1; omega)).trans ?_
  exact dif_neg (by show ¬j.val + 1 - 1 < 256; omega)

/-- The largest number of a context row. -/
theorem peakC_at (S : FVec Ideal S4x2x4x256x257 .f32) (b : Fin 4) (h : Fin 2) (g : Fin 4) (i : Fin 256) :
    peakC S (ix4 b h g i) = Finset.univ.fold max (⊥ : EReal) fun k => S (ix5 b h g i k) := by
  pointwise [peakC]
  rw [bits_bot]

/-- The row's number at one score's place. -/
theorem topC_at (M : FVec Ideal S4x2x4x256 .f32) (b : Fin 4) (h : Fin 2) (g : Fin 4) (i : Fin 256) (j : Fin 257) :
    topC M (ix5 b h g i j) = max (⊥ : EReal) (M (ix4 b h g i)) := by
  pointwise [topC]
  rw [bits_bot]

/-- One weight. -/
theorem softC_at (S T : FVec Ideal S4x2x4x256x257 .f32) (b : Fin 4) (h : Fin 2) (g : Fin 4) (i : Fin 256) (j : Fin 257) :
    softC S T (ix5 b h g i j)
      = Ideal.div (Ideal.exp (S (ix5 b h g i j) - T (ix5 b h g i j))) (∑ k, Ideal.exp (S (ix5 b h g i k) - T (ix5 b h g i k))) := by
  pointwise [softC]

/-- One lane of the result of a context row. -/
theorem outC_at (A2 : FVec Ideal S4x4352x128 .f32) (P : FVec Ideal S4x2x4x256x257 .f32) (b : Fin 4) (i : Fin 256) (h : Fin 2) (g : Fin 4) (e : Fin 64) :
    outC A2 P (ix5 b i h g e)
      = ∑ j : Fin 256, A2 (ix3 b ⟨j.val, by omega⟩ ⟨h.val * 64 + e.val, by omega⟩) * P (ix5 b h g i j.succ) := by
  pointwise [outC]
  refine Finset.sum_congr rfl fun j _ => ?_
  have e : (⟨1 + j.val, by omega⟩ : Fin 257) = j.succ := Fin.ext (Nat.add_comm 1 j.val)
  rw [e]

/-- The scores of one row of the others: the places that a reduction joins. -/
theorem fiberM (b : Fin 4) (n : Fin 32) (h : Fin 2) (g : Fin 4) (i : Fin 128) (x : S4x32x2x4x128x641.Idx) :
    reducesTo_S4x32x2x4x128x641_S4x32x2x4x128_d5.drop x = ix5 b n h g i ↔ ∃ k : Fin 641, ix6 b n h g i k = x := by
  have d := fun a c hb hc => Shape.ReducesTo.drop_apply_val_of_eq reducesTo_S4x32x2x4x128x641_S4x32x2x4x128_d5 x a c hb hc
  constructor
  · intro e
    refine ⟨x 5, ?_⟩
    have f := fun a => congrArg Fin.val (congrFun e a)
    funext a; apply Fin.ext
    match a with
    | ⟨0, _⟩ => exact (f 0).symm.trans (d 0 0 (by decide) (by decide))
    | ⟨1, _⟩ => exact (f 1).symm.trans (d 1 1 (by decide) (by decide))
    | ⟨2, _⟩ => exact (f 2).symm.trans (d 2 2 (by decide) (by decide))
    | ⟨3, _⟩ => exact (f 3).symm.trans (d 3 3 (by decide) (by decide))
    | ⟨4, _⟩ => exact (f 4).symm.trans (d 4 4 (by decide) (by decide))
    | ⟨5, _⟩ => rfl
  · rintro ⟨k, rfl⟩
    funext a; apply Fin.ext
    match a with
    | ⟨0, _⟩ => exact d 0 0 (by decide) (by decide)
    | ⟨1, _⟩ => exact d 1 1 (by decide) (by decide)
    | ⟨2, _⟩ => exact d 2 2 (by decide) (by decide)
    | ⟨3, _⟩ => exact d 3 3 (by decide) (by decide)
    | ⟨4, _⟩ => exact d 4 4 (by decide) (by decide)

/-- The largest number of another row. -/
theorem peakM_at (S : FVec Ideal S4x32x2x4x128x641 .f32) (b : Fin 4) (n : Fin 32) (h : Fin 2) (g : Fin 4) (i : Fin 128) :
    peakM S (ix5 b n h g i) = Finset.univ.fold max (⊥ : EReal) fun k => S (ix6 b n h g i k) := by
  pointwise [peakM]
  exact Finset.fold_filter_eq_fold_of_fiber max _ (fun k : Fin 641 => ix6 b n h g i k) (fun _ _ e => congrFun e 5) (fiberM b n h g i) _ S

/-- The row's number at one score's place. -/
theorem topM_at (M : FVec Ideal S4x32x2x4x128 .f32) (b : Fin 4) (n : Fin 32) (h : Fin 2) (g : Fin 4) (i : Fin 128) (j : Fin 641) :
    topM M (ix6 b n h g i j) = max (⊥ : EReal) (M (ix5 b n h g i)) := by
  pointwise [topM]
  rw [bits_bot]

/-- One weight. -/
theorem softM_at (S T : FVec Ideal S4x32x2x4x128x641 .f32) (b : Fin 4) (n : Fin 32) (h : Fin 2) (g : Fin 4) (i : Fin 128) (j : Fin 641) :
    softM S T (ix6 b n h g i j)
      = Ideal.div (Ideal.exp (S (ix6 b n h g i j) - T (ix6 b n h g i j))) (∑ k, Ideal.exp (S (ix6 b n h g i k) - T (ix6 b n h g i k))) := by
  pointwise [softM]
  refine congrArg (Ideal.div _) ((zero_add _).trans ?_)
  exact Finset.sum_filter_eq_sum_of_fiber _ (fun k : Fin 641 => ix6 b n h g i k) (fun _ _ e => congrFun e 5) (fiberM b n h g i) _

/-- One lane of the result of another row. -/
theorem outM_at (A2 : FVec Ideal S4x4352x128 .f32) (W : FVec Ideal S4x32x384x2x64 .f32) (P : FVec Ideal S4x32x2x4x128x641 .f32)
    (b : Fin 4) (r : Fin 4096) (h : Fin 2) (g : Fin 4) (e : Fin 64) :
    outM A2 W P (ix5 b r h g e)
      = (∑ j : Fin 256, A2 (ix3 b ⟨j.val, by omega⟩ ⟨h.val * 64 + e.val, by omega⟩)
            * P (ix6 b ⟨r.val / 128, by omega⟩ h g ⟨r.val % 128, by omega⟩ ⟨1 + j.val, by omega⟩))
        + ∑ j : Fin 384, W (ix5 b ⟨r.val / 128, by omega⟩ j h e)
            * P (ix6 b ⟨r.val / 128, by omega⟩ h g ⟨r.val % 128, by omega⟩ ⟨257 + j.val, by omega⟩) := by
  pointwise [outM]

/-- A row's scores, the sink's first. -/
theorem rowsC_succ (Q : Fin 4 → Fin 4352 → Fin 512 → ℝ) (K : Fin 4 → Fin 4352 → Fin 128 → ℝ) (A0 : FVec Ideal S4x4352x512 .f32) (A1 : FVec Ideal S4x4352x128 .f32)
    (A3 : FVec Ideal S8 .f32) (hq : ∀ b r e, A0 (ix3 b r e) = (Q b r e : EReal)) (hk : ∀ b r e, A1 (ix3 b r e) = (K b r e : EReal))
    (b : Fin 4) (h : Fin 2) (g : Fin 4) (i j : Fin 256) :
    rowsC A0 A1 A3 (ix5 b h g i j.succ) = (score Q K b g h ⟨i.val, by omega⟩ ⟨j.val, by omega⟩ : EReal) := by
  rw [rowsC, allC_succ]
  exact scoresC_at Q K A0 A1 hq hk b h g i j

/-- A row's scores, the sink's first. -/
theorem rowsM_succ (Q : Fin 4 → Fin 4352 → Fin 512 → ℝ) (K : Fin 4 → Fin 4352 → Fin 128 → ℝ) (A0 : FVec Ideal S4x4352x512 .f32) (A1 : FVec Ideal S4x4352x128 .f32)
    (A3 : FVec Ideal S8 .f32) (hq : ∀ b r e, A0 (ix3 b r e) = (Q b r e : EReal)) (hk : ∀ b r e, A1 (ix3 b r e) = (K b r e : EReal))
    (b : Fin 4) (n : Fin 32) (h : Fin 2) (g : Fin 4) (i : Fin 128) (j : Fin 640) :
    rowsM A0 A1 A3 (ix6 b n h g i j.succ)
      = if sees n i j then (score Q K b g h ⟨256 + (n.val * 128 + i.val), by omega⟩ (key n j) : EReal) else ⊥ := by
  rw [rowsM]
  by_cases p : j.val < 256
  · rw [allM_ctx _ _ _ b n h g i j p, ctxM_at Q K A0 A1 hq hk, if_pos (Or.inl p)]
    have e : (⟨j.val, by omega⟩ : Fin 4352) = key n j := Fin.ext (if_pos p).symm
    rw [e]
  · rw [allM_window _ _ _ b n h g i j p, keptM_at Q K A0 A1 hq hk]
    have e : (⟨256 + (⟨j.val - 256, by omega⟩ : Fin 384).val, by omega⟩ : Fin 640) = j := Fin.ext (by show 256 + (j.val - 256) = j.val; omega)
    rw [e]

/-- One weight of a context row. -/
theorem weightC_at (Q : Fin 4 → Fin 4352 → Fin 512 → ℝ) (K : Fin 4 → Fin 4352 → Fin 128 → ℝ) (S : Fin 8 → ℝ) (A0 : FVec Ideal S4x4352x512 .f32) (A1 : FVec Ideal S4x4352x128 .f32)
    (A3 : FVec Ideal S8 .f32) (hq : ∀ b r e, A0 (ix3 b r e) = (Q b r e : EReal)) (hk : ∀ b r e, A1 (ix3 b r e) = (K b r e : EReal))
    (hs : ∀ k, A3 (ix1 k) = (S k : EReal)) (b : Fin 4) (h : Fin 2) (g : Fin 4) (i j : Fin 256) :
    softC (rowsC A0 A1 A3) (topC (peakC (rowsC A0 A1 A3))) (ix5 b h g i j.succ)
      = (weight (fun _ : Fin 256 => True) (fun j => score Q K b g h ⟨i.val, by omega⟩ ⟨j.val, by omega⟩) (S ⟨h.val * 4 + g.val, by omega⟩) j : EReal) := by
  rw [softC_at]
  simp only [topC_at]
  refine softmax_sink _ _ _ (fun k => rowsC A0 A1 A3 (ix5 b h g i k)) _ ?_ (fun k => ?_) (congrArg (max ⊥) (peakC_at _ b h g i)) j
  · show rowsC A0 A1 A3 (ix5 b h g i 0) = _
    rw [rowsC, allC_zero, sinkC_at, hs]
  · rw [if_pos trivial]
    exact rowsC_succ Q K A0 A1 A3 hq hk b h g i k

/-- One weight of another row. -/
theorem weightM_at (Q : Fin 4 → Fin 4352 → Fin 512 → ℝ) (K : Fin 4 → Fin 4352 → Fin 128 → ℝ) (S : Fin 8 → ℝ) (A0 : FVec Ideal S4x4352x512 .f32) (A1 : FVec Ideal S4x4352x128 .f32)
    (A3 : FVec Ideal S8 .f32) (hq : ∀ b r e, A0 (ix3 b r e) = (Q b r e : EReal)) (hk : ∀ b r e, A1 (ix3 b r e) = (K b r e : EReal))
    (hs : ∀ k, A3 (ix1 k) = (S k : EReal)) (b : Fin 4) (n : Fin 32) (h : Fin 2) (g : Fin 4) (i : Fin 128) (j : Fin 640) :
    softM (rowsM A0 A1 A3) (topM (peakM (rowsM A0 A1 A3))) (ix6 b n h g i j.succ)
      = (weight (sees n i) (fun j => score Q K b g h ⟨256 + (n.val * 128 + i.val), by omega⟩ (key n j)) (S ⟨h.val * 4 + g.val, by omega⟩) j : EReal) := by
  rw [softM_at]
  simp only [topM_at]
  refine softmax_sink _ _ _ (fun k => rowsM A0 A1 A3 (ix6 b n h g i k)) _ ?_ (fun k => ?_) (congrArg (max ⊥) (peakM_at _ b n h g i)) j
  · show rowsM A0 A1 A3 (ix6 b n h g i 0) = _
    rw [rowsM, allM_zero, sinkM_at, hs]
  · exact rowsM_succ Q K A0 A1 A3 hq hk b n h g i k

/-- One lane of the result of a context row, on real scores. -/
theorem headC_at (Q : Fin 4 → Fin 4352 → Fin 512 → ℝ) (K : Fin 4 → Fin 4352 → Fin 128 → ℝ) (V : Fin 4 → Fin 4352 → Fin 128 → EReal) (S : Fin 8 → ℝ) (A0 : FVec Ideal S4x4352x512 .f32)
    (A1 A2 : FVec Ideal S4x4352x128 .f32) (A3 : FVec Ideal S8 .f32) (hq : ∀ b r e, A0 (ix3 b r e) = (Q b r e : EReal))
    (hk : ∀ b r e, A1 (ix3 b r e) = (K b r e : EReal)) (hv : ∀ b r e, A2 (ix3 b r e) = V b r e) (hs : ∀ k, A3 (ix1 k) = (S k : EReal))
    (b : Fin 4) (i : Fin 256) (h : Fin 2) (g : Fin 4) (e : Fin 64) :
    outC A2 (softC (rowsC A0 A1 A3) (topC (peakC (rowsC A0 A1 A3)))) (ix5 b i h g e)
      = mean (fun _ : Fin 256 => True) (fun j => score Q K b g h ⟨i.val, by omega⟩ ⟨j.val, by omega⟩)
          (fun j => V b ⟨j.val, by omega⟩ ⟨h.val * 64 + e.val, by omega⟩) (S ⟨h.val * 4 + g.val, by omega⟩) := by
  rw [outC_at]
  simp only [weightC_at Q K S A0 A1 A3 hq hk hs, hv, mean]
  change @Eq EReal _ _
  exact Finset.sum_congr rfl fun j _ => mul_comm _ _

/-- The values of the context and of the window summed with the weights of one row, on real scores. -/
theorem sumM_at (Q : Fin 4 → Fin 4352 → Fin 512 → ℝ) (K : Fin 4 → Fin 4352 → Fin 128 → ℝ) (V : Fin 4 → Fin 4352 → Fin 128 → EReal) (S : Fin 8 → ℝ) (A0 : FVec Ideal S4x4352x512 .f32)
    (A1 A2 : FVec Ideal S4x4352x128 .f32) (A3 : FVec Ideal S8 .f32) (hq : ∀ b r e, A0 (ix3 b r e) = (Q b r e : EReal))
    (hk : ∀ b r e, A1 (ix3 b r e) = (K b r e : EReal)) (hv : ∀ b r e, A2 (ix3 b r e) = V b r e) (hs : ∀ k, A3 (ix1 k) = (S k : EReal))
    (b : Fin 4) (n : Fin 32) (i : Fin 128) (h : Fin 2) (g : Fin 4) (e : Fin 64) :
    (∑ j : Fin 256, A2 (ix3 b ⟨j.val, by omega⟩ ⟨h.val * 64 + e.val, by omega⟩)
          * softM (rowsM A0 A1 A3) (topM (peakM (rowsM A0 A1 A3))) (ix6 b n h g i ⟨1 + j.val, by omega⟩))
        + (∑ j : Fin 384, gathered (padded A2) (startsM placesM) (ix5 b n j h e)
          * softM (rowsM A0 A1 A3) (topM (peakM (rowsM A0 A1 A3))) (ix6 b n h g i ⟨257 + j.val, by omega⟩))
      = mean (sees n i) (fun j => score Q K b g h ⟨256 + (n.val * 128 + i.val), by omega⟩ (key n j))
          (fun j => V b (key n j) ⟨h.val * 64 + e.val, by omega⟩) (S ⟨h.val * 4 + g.val, by omega⟩) := by
  have w1 : ∀ j : Fin 256, softM (rowsM A0 A1 A3) (topM (peakM (rowsM A0 A1 A3))) (ix6 b n h g i ⟨1 + j.val, by omega⟩)
      = (weight (sees n i) (fun j => score Q K b g h ⟨256 + (n.val * 128 + i.val), by omega⟩ (key n j)) (S ⟨h.val * 4 + g.val, by omega⟩) (Fin.castAdd 384 j) : EReal) := fun j => by
    have e : (⟨1 + j.val, by omega⟩ : Fin 641) = Fin.succ (Fin.castAdd 384 j : Fin 640) := Fin.ext (Nat.add_comm 1 j.val)
    rw [e]
    exact weightM_at Q K S A0 A1 A3 hq hk hs b n h g i _
  have w2 : ∀ j : Fin 384, softM (rowsM A0 A1 A3) (topM (peakM (rowsM A0 A1 A3))) (ix6 b n h g i ⟨257 + j.val, by omega⟩)
      = (weight (sees n i) (fun j => score Q K b g h ⟨256 + (n.val * 128 + i.val), by omega⟩ (key n j)) (S ⟨h.val * 4 + g.val, by omega⟩) (Fin.natAdd 256 j) : EReal) := fun j => by
    have e : (⟨257 + j.val, by omega⟩ : Fin 641) = Fin.succ (Fin.natAdd 256 j : Fin 640) := Fin.ext (by show 257 + j.val = 256 + j.val + 1; omega)
    rw [e]
    exact weightM_at Q K S A0 A1 A3 hq hk hs b n h g i _
  simp only [w1, w2, hv, window_at V A2 hv]
  clear w1 w2
  change @Eq EReal _ _
  refine Eq.symm ?_
  rw [mean]
  refine (Fin.sum_univ_add (a := 256) (b := 384) _).trans (congrArg₂ (· + ·) (Finset.sum_congr rfl fun j _ => ?_) (Finset.sum_congr rfl fun j _ => ?_))
  · have e : key n (Fin.castAdd 384 j) = ⟨j.val, by omega⟩ := Fin.ext (if_pos (show j.val < 256 from j.isLt))
    rw [e, mul_comm]
  · by_cases p : sees n i (Fin.natAdd 256 j)
    · rw [around_seen V b n i j _ p, mul_comm]
      rfl
    · rw [weight, if_neg p, zero_div, EReal.coe_zero, zero_mul, mul_zero]

/-- One lane of the result of another row, on real scores. -/
theorem headM_at (Q : Fin 4 → Fin 4352 → Fin 512 → ℝ) (K : Fin 4 → Fin 4352 → Fin 128 → ℝ) (V : Fin 4 → Fin 4352 → Fin 128 → EReal) (S : Fin 8 → ℝ) (A0 : FVec Ideal S4x4352x512 .f32)
    (A1 A2 : FVec Ideal S4x4352x128 .f32) (A3 : FVec Ideal S8 .f32) (hq : ∀ b r e, A0 (ix3 b r e) = (Q b r e : EReal))
    (hk : ∀ b r e, A1 (ix3 b r e) = (K b r e : EReal)) (hv : ∀ b r e, A2 (ix3 b r e) = V b r e) (hs : ∀ k, A3 (ix1 k) = (S k : EReal))
    (b : Fin 4) (r : Fin 4096) (h : Fin 2) (g : Fin 4) (e : Fin 64) :
    outM A2 (gathered (padded A2) (startsM placesM)) (softM (rowsM A0 A1 A3) (topM (peakM (rowsM A0 A1 A3)))) (ix5 b r h g e)
      = mean (sees ⟨r.val / 128, by omega⟩ ⟨r.val % 128, by omega⟩)
          (fun j => score Q K b g h ⟨256 + (r.val / 128 * 128 + r.val % 128), by omega⟩ (key ⟨r.val / 128, by omega⟩ j))
          (fun j => V b (key ⟨r.val / 128, by omega⟩ j) ⟨h.val * 64 + e.val, by omega⟩) (S ⟨h.val * 4 + g.val, by omega⟩) := by
  rw [outM_at]
  exact sumM_at Q K V S A0 A1 A2 A3 hq hk hv hs b _ _ h g e

/-- One entry of the result, on real scores. -/
theorem whole_at (Q : Fin 4 → Fin 4352 → Fin 512 → ℝ) (K : Fin 4 → Fin 4352 → Fin 128 → ℝ) (V : Fin 4 → Fin 4352 → Fin 128 → EReal) (S : Fin 8 → ℝ) (A0 : FVec Ideal S4x4352x512 .f32)
    (A1 A2 : FVec Ideal S4x4352x128 .f32) (A3 : FVec Ideal S8 .f32) (hq : ∀ b r e, A0 (ix3 b r e) = (Q b r e : EReal))
    (hk : ∀ b r e, A1 (ix3 b r e) = (K b r e : EReal)) (hv : ∀ b r e, A2 (ix3 b r e) = V b r e) (hs : ∀ k, A3 (ix1 k) = (S k : EReal))
    (b : Fin 4) (r : Fin 4352) (c : Fin 512) :
    whole A0 A1 A2 A3 (ix3 b r c)
      = result Q K V S b r ⟨c.val / 128, by omega⟩ ⟨c.val / 64 % 2, by omega⟩ ⟨c.val % 64, by omega⟩ := by
  have hC := headC_at Q K V S A0 A1 A2 A3 hq hk hv hs
  have hM := headM_at Q K V S A0 A1 A2 A3 hq hk hv hs
  unfold whole
  generalize outC A2 (softC (rowsC A0 A1 A3) (topC (peakC (rowsC A0 A1 A3)))) = C at hC ⊢
  generalize outM A2 (gathered (padded A2) (startsM placesM)) (softM (rowsM A0 A1 A3) (topM (peakM (rowsM A0 A1 A3)))) = M at hM ⊢
  pointwise
  by_cases p : r.val < 256
  · refine (dif_pos p).trans ?_
    rw [result, if_pos p]
    exact hC b ⟨r.val, p⟩ _ _ _
  · refine (dif_neg p).trans ?_
    rw [result, if_neg p]
    refine (hM b ⟨r.val - 256, by omega⟩ _ _ _).trans ?_
    have e1 : (⟨256 + ((r.val - 256) / 128 * 128 + (r.val - 256) % 128), by omega⟩ : Fin 4352) = r :=
      Fin.ext (by show 256 + ((r.val - 256) / 128 * 128 + (r.val - 256) % 128) = r.val; omega)
    exact congrArg (fun row => (mean (sees ⟨(r.val - 256) / 128, by omega⟩ ⟨(r.val - 256) % 128, by omega⟩)
      (fun j => score Q K b ⟨c.val / 128, by omega⟩ ⟨c.val / 64 % 2, by omega⟩ row (key ⟨(r.val - 256) / 128, by omega⟩ j))
      (fun j => V b (key ⟨(r.val - 256) / 128, by omega⟩ j) ⟨c.val / 64 % 2 * 64 + c.val % 64, by omega⟩) (S ⟨c.val / 64 % 2 * 4 + c.val / 128, by omega⟩) : EReal)) e1

end Cert.Win

end

end
-- ==== Proof.WinBlock.lean ====
/-
  What one grid point of the windowed attention stores: for each of the four query heads of a key and value head, and
  for both of these, the scores of 128 query rows, the weights as powers of two, the sink's weight and the weighted
  values. The two heads that share 128 lanes are added: each is zero on the other's lanes. A grid point of the context
  rows reads 256 keys, every other one 640, and its scores of keys that are not seen are minus infinity.
-/
module

public import proofs.«01_k».proof.Proof.WinMask
public import proofs.«01_k».proof.Proof.Block
public import proofs.«01_k».proof.Proof.Gen.Kernel4Ideal.Skeleton

@[expose] public section

set_option maxRecDepth 16384

noncomputable section

namespace Cert.Win

open Idealize.ShloMosaic Idealize.ShloMosaic.TcCoe Idealize.SL.Sem
open Cert.Kernel4Ideal Cert.Kernel4Ideal.Gen
open Cert.Diff (first_sum second_sum bits_bot)

/-- The named factor of the queries: one eighth over `log 2`. -/
theorem scale_named : Named.named (F := Ideal) (φ := .f32) κ "scale" 0x3E38AA3B#32 = (((1 / 8) * (Real.log 2)⁻¹ : ℝ) : EReal) :=
  IdealRules.named_const.ideal_named_scalar _ _ _ _ rfl

/-- The named factor of the sinks: one over `log 2`. -/
theorem base_named : Named.named (F := Ideal) (φ := .f32) κ "base" 0x3FB8AA3B#32 = (((Real.log 2)⁻¹ : ℝ) : EReal) :=
  IdealRules.named_const.ideal_named_scalar _ _ _ _ rfl

/-- The named score of a key that is not seen: minus infinity. -/
theorem mask_named : Named.named (F := Ideal) (φ := .f32) κ "mask" 0xF149F2CA#32 = (⊥ : EReal) :=
  IdealRules.named_const.ideal_named_scalar _ _ _ _ rfl

/-- The first 64 lanes of queries, the other lanes zero. -/
def low (X : FVec Ideal S128x128 .bf16) : FVec Ideal S128x128 .bf16 :=
  select (cmpi .slt (iota .tc S128x128 32 [1] iota_S128x128_d1_w32) (broadcast S128x128 64#32)) X (broadcast S128x128 (Scalar.ofBits .bf16 0x0000#16))

/-- The last 64 lanes of queries, the other lanes zero. -/
def high (X : FVec Ideal S128x128 .bf16) : FVec Ideal S128x128 .bf16 :=
  select (cmpi .sge (iota .tc S128x128 32 [1] iota_S128x128_d1_w32) (broadcast S128x128 64#32)) X (broadcast S128x128 (Scalar.ofBits .bf16 0x0000#16))

/-- A sink's score over `log 2`. -/
def sink (s : Ideal .f32) : Ideal .f32 := Scalar.mulf s (Named.named κ "base" 0x3FB8AA3B#32)

/-- A sink's score over `log 2`, on a real. -/
theorem sink_at (s : Ideal .f32) (x : ℝ) (h : s = (x : EReal)) : sink s = ((x * (Real.log 2)⁻¹ : ℝ) : EReal) := by
  subst h
  rw [sink, base_named, EReal.coe_mul]
  rfl

/-- Two heads added, as the stored block. -/
def join (a b : FVec Ideal S128x128 .f32) : FVec Ideal S1x128x128 .f32 := shapeCast S1x128x128 (addf a b) shapeCasts_S128x128_S1x128x128

/-- A lane of two heads added. -/
theorem join_at (a b : FVec Ideal S128x128 .f32) (r e : Fin 128) : join a b (ix3 0 r e) = a (ix2 r e) + b (ix2 r e) := by
  pointwise [join]

/-- A mean of values that are all zero. -/
theorem mean_zero {n : Nat} (p : Fin n → Prop) [DecidablePred p] (x : Fin n → ℝ) (s : ℝ) : mean p x (fun _ => 0) s = 0 := by
  simp [mean]

/-- Two means added, of which one has only values that are zero, by the half of the lanes. -/
theorem mean_halves {n : Nat} (p : Fin n → Prop) [DecidablePred p] (x x' : Fin n → ℝ) (v : Fin n → EReal)
    (s s' : ℝ) (e : Fin 128) :
    mean p x (fun j => if e.val < 64 then v j else 0) s + mean p x' (fun j => if e.val < 64 then 0 else v j) s'
      = if e.val < 64 then mean p x v s else mean p x' v s' := by
  by_cases h : e.val < 64
  · simp only [h, if_true, mean_zero, add_zero]
  · simp only [h, if_false, mean_zero, zero_add]

/-- The 128 lanes of query head `g` of every row. -/
def lanes0 (q : FVec Ideal S1x128x512 .f32) : FVec Ideal S128x128 .bf16 := extractStridedSlice S128x128 ![0, 0] (k0_pay1 q) slices_S128x512_o0_0_S128x128
@[inherit_doc lanes0] def lanes1 (q : FVec Ideal S1x128x512 .f32) : FVec Ideal S128x128 .bf16 := extractStridedSlice S128x128 ![0, 128] (k0_pay1 q) slices_S128x512_o0_128_S128x128
@[inherit_doc lanes0] def lanes2 (q : FVec Ideal S1x128x512 .f32) : FVec Ideal S128x128 .bf16 := extractStridedSlice S128x128 ![0, 256] (k0_pay1 q) slices_S128x512_o0_256_S128x128
@[inherit_doc lanes0] def lanes3 (q : FVec Ideal S1x128x512 .f32) : FVec Ideal S128x128 .bf16 := extractStridedSlice S128x128 ![0, 384] (k0_pay1 q) slices_S128x512_o0_384_S128x128

/-- A query's lane of head 0, scaled. -/
theorem lanes0_at (q : FVec Ideal S1x128x512 .f32) (r l : Fin 128) :
    lanes0 q (ix2 r l) = q (ix3 0 r ⟨l.val, by omega⟩) * (((1 / 8) * (Real.log 2)⁻¹ : ℝ) : EReal) := by
  pointwise [lanes0, k0_pay1, scale_named]

/-- A query's lane of head 1, scaled. -/
theorem lanes1_at (q : FVec Ideal S1x128x512 .f32) (r l : Fin 128) :
    lanes1 q (ix2 r l) = q (ix3 0 r ⟨128 + l.val, by omega⟩) * (((1 / 8) * (Real.log 2)⁻¹ : ℝ) : EReal) := by
  pointwise [lanes1, k0_pay1, scale_named]

/-- A query's lane of head 2, scaled. -/
theorem lanes2_at (q : FVec Ideal S1x128x512 .f32) (r l : Fin 128) :
    lanes2 q (ix2 r l) = q (ix3 0 r ⟨256 + l.val, by omega⟩) * (((1 / 8) * (Real.log 2)⁻¹ : ℝ) : EReal) := by
  pointwise [lanes2, k0_pay1, scale_named]

/-- A query's lane of head 3, scaled. -/
theorem lanes3_at (q : FVec Ideal S1x128x512 .f32) (r l : Fin 128) :
    lanes3 q (ix2 r l) = q (ix3 0 r ⟨384 + l.val, by omega⟩) * (((1 / 8) * (Real.log 2)⁻¹ : ℝ) : EReal) := by
  pointwise [lanes3, k0_pay1, scale_named]

/-! ## A point of the context rows: 256 keys -/

/-- The largest of a row's scores and the sink's. -/
def peakA (S : FVec Ideal S128x256 .f32) (s : Ideal .f32) : FVec Ideal S128x1 .f32 :=
  maximumf (shapeCast S128x1 (multiReduction .maximumf [1] S128 S 0xFF800000#32 reduces_S128x256_S128 (.inl rfl) rfl) shapeCasts_S128_S128x1) (broadcast S128x1 s)

/-- The weights: powers of two of the scores less their row's number. -/
def powerA (S : FVec Ideal S128x256 .f32) (M : FVec Ideal S128x1 .f32) : FVec Ideal S128x256 .f32 :=
  exp2 (subf S (broadcastTo S128x256 M broadcasts_S128x1_S128x256))

/-- The sum of a row's weights and the sink's. -/
def denomA (P : FVec Ideal S128x256 .f32) (M : FVec Ideal S128x1 .f32) (s : Ideal .f32) : FVec Ideal S128x1 .f32 :=
  addf (shapeCast S128x1 (multiReduction .add [1] S128 P 0x00000000#32 reduces_S128x256_S128 (.inl rfl) rfl) shapeCasts_S128_S128x1) (exp2 (subf (broadcast S128x1 s) M))

/-- The values summed with the weights, times the reciprocal of the row's number. -/
def mixA (P : FVec Ideal S128x256 .f32) (D : FVec Ideal S128x1 .f32) (W : FVec Ideal S256x128 .bf16) : FVec Ideal S128x128 .f32 :=
  mulf (matmul dot_S128x256_S256x128_S128x128_1_0_0_1_n_n none (truncf .bf16 P bitsLt_bf16_f32) W (constant S128x128 .f32 0x00000000#32))
    (broadcastTo S128x128 (divf (broadcast S128x1 (Scalar.ofBits .f32 0x3F800000#32)) D) broadcasts_S128x1_S128x128)

/-- The attention of 128 rows to their keys and the sink. -/
def attendA (S : FVec Ideal S128x256 .f32) (s : Ideal .f32) (W : FVec Ideal S256x128 .bf16) : FVec Ideal S128x128 .f32 :=
  mixA (powerA S (peakA S s)) (denomA (powerA S (peakA S s)) (peakA S s) s) W

/-- The scores of masked queries. -/
def dotsA (Y : FVec Ideal S128x128 .bf16) (k : FVec Ideal S256x128 .bf16) : FVec Ideal S128x256 .f32 :=
  matmul dot_S128x128_S256x128_S128x256_1_1_0_0_n_n none Y k (constant S128x256 .f32 0x00000000#32)

/-- The first 64 lanes of values, the other lanes zero. -/
def vlowA (v : FVec Ideal S256x128 .bf16) : FVec Ideal S256x128 .bf16 :=
  select (cmpi .slt (iota .tc S256x128 32 [1] iota_S256x128_d1_w32) (broadcast S256x128 64#32)) v (broadcast S256x128 (Scalar.ofBits .bf16 0x0000#16))

/-- The last 64 lanes of values, the other lanes zero. -/
def vhighA (v : FVec Ideal S256x128 .bf16) : FVec Ideal S256x128 .bf16 :=
  select (cmpi .sge (iota .tc S256x128 32 [1] iota_S256x128_d1_w32) (broadcast S256x128 64#32)) v (broadcast S256x128 (Scalar.ofBits .bf16 0x0000#16))

/-- The largest of a row's scores and the sink's, read at a row. -/
theorem peakA_at (S : FVec Ideal S128x256 .f32) (s : Ideal .f32) (r : Fin 128) :
    peakA S s (ix2 r 0) = max (Finset.univ.fold max (⊥ : EReal) fun k => S (ix2 r k)) s := by
  pointwise [peakA]
  rw [bits_bot]

/-- One weight. -/
theorem powerA_at (S : FVec Ideal S128x256 .f32) (M : FVec Ideal S128x1 .f32) (r : Fin 128) (j : Fin 256) :
    powerA S M (ix2 r j) = Ideal.exp2 (S (ix2 r j) - M (ix2 r 0)) := by
  pointwise [powerA]
  all_goals rfl

/-- The sum of a row's weights and the sink's, read at a row. -/
theorem denomA_at (P : FVec Ideal S128x256 .f32) (M : FVec Ideal S128x1 .f32) (s : Ideal .f32) (r : Fin 128) :
    denomA P M s (ix2 r 0) = (∑ j : Fin 256, P (ix2 r j)) + Ideal.exp2 (s - M (ix2 r 0)) := by
  pointwise [denomA]
  all_goals rfl

/-- One lane of the values summed with the weights. -/
theorem mixA_at (P : FVec Ideal S128x256 .f32) (D : FVec Ideal S128x1 .f32) (W : FVec Ideal S256x128 .bf16) (r e : Fin 128) :
    mixA P D W (ix2 r e) = (∑ j : Fin 256, P (ix2 r j) * W (ix2 j e)) * Ideal.div ((1 : ℝ) : EReal) (D (ix2 r 0)) := by
  pointwise [mixA]
  all_goals rfl

/-- One lane of the attention, on real scores. -/
theorem attendA_at (S : FVec Ideal S128x256 .f32) (s : Ideal .f32) (W : FVec Ideal S256x128 .bf16) (r e : Fin 128)
    (p : Fin 256 → Prop) [DecidablePred p] (x : Fin 256 → ℝ) (v : Fin 256 → EReal) (a : ℝ)
    (hS : ∀ j, S (ix2 r j) = if p j then ((x j * (Real.log 2)⁻¹ : ℝ) : EReal) else ⊥) (hs : s = ((a * (Real.log 2)⁻¹ : ℝ) : EReal))
    (hv : ∀ j, p j → W (ix2 j e) = v j) :
    attendA S s W (ix2 r e) = mean p x v a := by
  rw [attendA, mixA_at, denomA_at]
  simp only [powerA_at, peakA_at]
  exact attend_sink p x v a (fun j => S (ix2 r j)) (fun j => W (ix2 j e)) s _ hS hv hs rfl

/-- One score of the first half of the lanes. -/
theorem dotsA_low (X : FVec Ideal S128x128 .bf16) (k : FVec Ideal S256x128 .bf16) (r : Fin 128) (j : Fin 256) (x y : Fin 128 → ℝ)
    (hq : ∀ l, X (ix2 r l) = (x l : EReal) * (((1 / 8) * (Real.log 2)⁻¹ : ℝ) : EReal)) (hk : ∀ l, k (ix2 j l) = (y l : EReal)) :
    dotsA (low X) k (ix2 r j) = (((∑ d : Fin 64, x ⟨d.val, by omega⟩ * y ⟨d.val, by omega⟩) * (1 / 8) * (Real.log 2)⁻¹ : ℝ) : EReal) := by
  pointwise [dotsA, low, hq, hk]
  exact first_sum x y

/-- One score of the second half of the lanes. -/
theorem dotsA_high (X : FVec Ideal S128x128 .bf16) (k : FVec Ideal S256x128 .bf16) (r : Fin 128) (j : Fin 256) (x y : Fin 128 → ℝ)
    (hq : ∀ l, X (ix2 r l) = (x l : EReal) * (((1 / 8) * (Real.log 2)⁻¹ : ℝ) : EReal)) (hk : ∀ l, k (ix2 j l) = (y l : EReal)) :
    dotsA (high X) k (ix2 r j) = (((∑ d : Fin 64, x ⟨64 + d.val, by omega⟩ * y ⟨64 + d.val, by omega⟩) * (1 / 8) * (Real.log 2)⁻¹ : ℝ) : EReal) := by
  pointwise [dotsA, high, hq, hk]
  exact second_sum x y

/-- One masked value of the first half. -/
theorem vlowA_at (v : FVec Ideal S256x128 .bf16) (j : Fin 256) (e : Fin 128) (w : EReal) (h : v (ix2 j e) = w) :
    vlowA v (ix2 j e) = if e.val < 64 then w else 0 := by
  pointwise [vlowA, h]
  rw [Cert.Diff.keep_first e]
  by_cases he : e.val < 64 <;> simp [he, Scalar.select]

/-- One masked value of the second half. -/
theorem vhighA_at (v : FVec Ideal S256x128 .bf16) (j : Fin 256) (e : Fin 128) (w : EReal) (h : v (ix2 j e) = w) :
    vhighA v (ix2 j e) = if e.val < 64 then 0 else w := by
  pointwise [vhighA, h]
  rw [Cert.Diff.keep_second e]
  by_cases he : e.val < 64 <;> simp [he, Scalar.select]

/-- Two heads of the block, from their queries, the keys, the values and the two sinks. -/
def pieceA (X : FVec Ideal S128x128 .bf16) (k v : FVec Ideal S1x256x128 .bf16) (s s' : Ideal .f32) : FVec Ideal S1x128x128 .f32 :=
  join (attendA (dotsA (low X) (k0_pay7 k)) (sink s) (vlowA (k0_pay7 v))) (attendA (dotsA (high X) (k0_pay7 k)) (sink s') (vhighA (k0_pay7 v)))

/-- One lane of two heads of the block, on real scores. -/
theorem pieceA_at (X : FVec Ideal S128x128 .bf16) (k v : FVec Ideal S1x256x128 .bf16) (s s' : Ideal .f32) (r e : Fin 128)
    (x : Fin 128 → ℝ) (y : Fin 256 → Fin 128 → ℝ) (w : Fin 256 → Fin 128 → EReal) (a a' : ℝ)
    (hX : ∀ l, X (ix2 r l) = (x l : EReal) * (((1 / 8) * (Real.log 2)⁻¹ : ℝ) : EReal)) (hk : ∀ j l, k (ix3 0 j l) = (y j l : EReal))
    (hv : ∀ j l, v (ix3 0 j l) = w j l) (hs : s = (a : EReal)) (hs' : s' = (a' : EReal)) :
    pieceA X k v s s' (ix3 0 r e) = (if e.val < 64
      then mean (fun _ : Fin 256 => True) (fun j => (∑ d : Fin 64, x ⟨d.val, by omega⟩ * y j ⟨d.val, by omega⟩) * (1 / 8)) (fun j => w j e) a
      else mean (fun _ : Fin 256 => True) (fun j => (∑ d : Fin 64, x ⟨64 + d.val, by omega⟩ * y j ⟨64 + d.val, by omega⟩) * (1 / 8)) (fun j => w j e) a') := by
  have hk' : ∀ j l, k0_pay7 (F := Ideal) k (ix2 j l) = (y j l : EReal) := fun j l => by pointwise [k0_pay7, hk]
  have hv' : ∀ j l, k0_pay7 (F := Ideal) v (ix2 j l) = w j l := fun j l => by pointwise [k0_pay7, hv]
  rw [pieceA, join_at, ← mean_halves]
  refine congrArg₂ _ ?_ ?_
  · exact attendA_at _ _ _ r e (fun _ => True) _ _ a (fun j => (dotsA_low X _ r j x (y j) hX (hk' j)).trans (if_pos trivial).symm)
      (sink_at s a hs) (fun j _ => vlowA_at _ j e (w j e) (hv' j e))
  · exact attendA_at _ _ _ r e (fun _ => True) _ _ a' (fun j => (dotsA_high X _ r j x (y j) hX (hk' j)).trans (if_pos trivial).symm)
      (sink_at s' a' hs') (fun j _ => vhighA_at _ j e (w j e) (hv' j e))

/-- The stored payload of query head 3. -/
theorem pieceA3 (q : FVec Ideal S1x128x512 .f32) (kc vc : FVec Ideal S1x256x128 .bf16) (s s' : Ideal .f32) :
    k0_pay2 (k0_pay62 (k0_pay10 vc) (k0_pay47 (k0_pay22 (k0_pay1 q) (iota Kind.tc S128x128 32 [1] iota_S128x128_d1_w32) kc) (k0_pay30 s)) (k0_pay56 (k0_pay30 s) (k0_pay39 (k0_pay22 (k0_pay1 q) (iota Kind.tc S128x128 32 [1] iota_S128x128_d1_w32) kc) (k0_pay30 s)) (k0_pay47 (k0_pay22 (k0_pay1 q) (iota Kind.tc S128x128 32 [1] iota_S128x128_d1_w32) kc) (k0_pay30 s)))) (k0_pay63 (k0_pay11 vc) (k0_pay48 (k0_pay23 (k0_pay7 kc) (k0_pay15 (k0_pay1 q) (iota Kind.tc S128x128 32 [1] iota_S128x128_d1_w32)) (constant S128x256 FTy.f32 0#32)) (k0_pay31 s')) (k0_pay57 (k0_pay31 s') (k0_pay40 (k0_pay23 (k0_pay7 kc) (k0_pay15 (k0_pay1 q) (iota Kind.tc S128x128 32 [1] iota_S128x128_d1_w32)) (constant S128x256 FTy.f32 0#32)) (k0_pay31 s')) (k0_pay48 (k0_pay23 (k0_pay7 kc) (k0_pay15 (k0_pay1 q) (iota Kind.tc S128x128 32 [1] iota_S128x128_d1_w32)) (constant S128x256 FTy.f32 0#32)) (k0_pay31 s')))) = pieceA (lanes3 q) kc vc s s' := rfl

/-- The stored payload of query head 2. -/
theorem pieceA2 (q : FVec Ideal S1x128x512 .f32) (kc vc : FVec Ideal S1x256x128 .bf16) (s s' : Ideal .f32) :
    k0_pay66 (k0_pay10 vc) (k0_pay11 vc) (k0_pay45 (k0_pay20 (k0_pay1 q) (iota Kind.tc S128x128 32 [1] iota_S128x128_d1_w32) kc) (k0_pay36 (k0_pay20 (k0_pay1 q) (iota Kind.tc S128x128 32 [1] iota_S128x128_d1_w32) kc) s)) (k0_pay46 (k0_pay21 (k0_pay1 q) (iota Kind.tc S128x128 32 [1] iota_S128x128_d1_w32) kc) (k0_pay29 s') (k0_pay37 (k0_pay21 (k0_pay1 q) (iota Kind.tc S128x128 32 [1] iota_S128x128_d1_w32) kc))) (k0_pay54 (k0_pay28 s) (k0_pay36 (k0_pay20 (k0_pay1 q) (iota Kind.tc S128x128 32 [1] iota_S128x128_d1_w32) kc) s) (k0_pay45 (k0_pay20 (k0_pay1 q) (iota Kind.tc S128x128 32 [1] iota_S128x128_d1_w32) kc) (k0_pay36 (k0_pay20 (k0_pay1 q) (iota Kind.tc S128x128 32 [1] iota_S128x128_d1_w32) kc) s))) (k0_pay55 (k0_pay29 s') (k0_pay38 (k0_pay29 s') (k0_pay37 (k0_pay21 (k0_pay1 q) (iota Kind.tc S128x128 32 [1] iota_S128x128_d1_w32) kc))) (k0_pay46 (k0_pay21 (k0_pay1 q) (iota Kind.tc S128x128 32 [1] iota_S128x128_d1_w32) kc) (k0_pay29 s') (k0_pay37 (k0_pay21 (k0_pay1 q) (iota Kind.tc S128x128 32 [1] iota_S128x128_d1_w32) kc)))) = pieceA (lanes2 q) kc vc s s' := rfl

/-- The stored payload of query head 1. -/
theorem pieceA1 (q : FVec Ideal S1x128x512 .f32) (kc vc : FVec Ideal S1x256x128 .bf16) (s s' : Ideal .f32) :
    k0_pay65 (k0_pay53 (k0_pay27 s') (k0_pay35 (k0_pay19 (k0_pay1 q) (iota Kind.tc S128x128 32 [1] iota_S128x128_d1_w32) kc) s') (k0_pay52 (k0_pay19 (k0_pay1 q) (iota Kind.tc S128x128 32 [1] iota_S128x128_d1_w32) kc) (k0_pay35 (k0_pay19 (k0_pay1 q) (iota Kind.tc S128x128 32 [1] iota_S128x128_d1_w32) kc) s'))) (k0_pay60 (k0_pay10 vc) (k0_pay43 (k0_pay18 (k0_pay1 q) (iota Kind.tc S128x128 32 [1] iota_S128x128_d1_w32) kc) (k0_pay34 (k0_pay18 (k0_pay1 q) (iota Kind.tc S128x128 32 [1] iota_S128x128_d1_w32) kc) s)) (k0_pay51 (k0_pay18 (k0_pay1 q) (iota Kind.tc S128x128 32 [1] iota_S128x128_d1_w32) kc) (k0_pay26 s) (k0_pay34 (k0_pay18 (k0_pay1 q) (iota Kind.tc S128x128 32 [1] iota_S128x128_d1_w32) kc) s))) (k0_pay61 (k0_pay11 vc) (k0_pay44 (k0_pay19 (k0_pay1 q) (iota Kind.tc S128x128 32 [1] iota_S128x128_d1_w32) kc) (k0_pay35 (k0_pay19 (k0_pay1 q) (iota Kind.tc S128x128 32 [1] iota_S128x128_d1_w32) kc) s'))) = pieceA (lanes1 q) kc vc s s' := rfl

/-- The stored payload of query head 0. -/
theorem pieceA0 (q : FVec Ideal S1x128x512 .f32) (kc vc : FVec Ideal S1x256x128 .bf16) (s s' : Ideal .f32) :
    k0_pay64 (k0_pay58 (k0_pay10 vc) (k0_pay41 (k0_pay16 (k0_pay1 q) (iota Kind.tc S128x128 32 [1] iota_S128x128_d1_w32) kc) (k0_pay32 (k0_pay16 (k0_pay1 q) (iota Kind.tc S128x128 32 [1] iota_S128x128_d1_w32) kc) s)) (k0_pay49 (k0_pay16 (k0_pay1 q) (iota Kind.tc S128x128 32 [1] iota_S128x128_d1_w32) kc) (k0_pay24 s) (k0_pay32 (k0_pay16 (k0_pay1 q) (iota Kind.tc S128x128 32 [1] iota_S128x128_d1_w32) kc) s))) (k0_pay59 (k0_pay11 vc) (k0_pay42 (k0_pay17 (k0_pay1 q) (iota Kind.tc S128x128 32 [1] iota_S128x128_d1_w32) kc) (k0_pay33 (k0_pay17 (k0_pay1 q) (iota Kind.tc S128x128 32 [1] iota_S128x128_d1_w32) kc) s')) (k0_pay50 (k0_pay17 (k0_pay1 q) (iota Kind.tc S128x128 32 [1] iota_S128x128_d1_w32) kc) (k0_pay25 s') (k0_pay33 (k0_pay17 (k0_pay1 q) (iota Kind.tc S128x128 32 [1] iota_S128x128_d1_w32) kc) s'))) = pieceA (lanes0 q) kc vc s s' := rfl

/-! ## A point of the other rows: 640 keys -/

/-- The largest of a row's scores and the sink's. -/
def peakB (S : FVec Ideal S128x640 .f32) (s : Ideal .f32) : FVec Ideal S128x1 .f32 :=
  maximumf (shapeCast S128x1 (multiReduction .maximumf [1] S128 S 0xFF800000#32 reduces_S128x640_S128 (.inl rfl) rfl) shapeCasts_S128_S128x1) (broadcast S128x1 s)

/-- The weights: powers of two of the scores less their row's number. -/
def powerB (S : FVec Ideal S128x640 .f32) (M : FVec Ideal S128x1 .f32) : FVec Ideal S128x640 .f32 :=
  exp2 (subf S (broadcastTo S128x640 M broadcasts_S128x1_S128x640))

/-- The sum of a row's weights and the sink's. -/
def denomB (P : FVec Ideal S128x640 .f32) (M : FVec Ideal S128x1 .f32) (s : Ideal .f32) : FVec Ideal S128x1 .f32 :=
  addf (shapeCast S128x1 (multiReduction .add [1] S128 P 0x00000000#32 reduces_S128x640_S128 (.inl rfl) rfl) shapeCasts_S128_S128x1) (exp2 (subf (broadcast S128x1 s) M))

/-- The values summed with the weights, times the reciprocal of the row's number. -/
def mixB (P : FVec Ideal S128x640 .f32) (D : FVec Ideal S128x1 .f32) (W : FVec Ideal S640x128 .bf16) : FVec Ideal S128x128 .f32 :=
  mulf (matmul dot_S128x640_S640x128_S128x128_1_0_0_1_n_n none (truncf .bf16 P bitsLt_bf16_f32) W (constant S128x128 .f32 0x00000000#32))
    (broadcastTo S128x128 (divf (broadcast S128x1 (Scalar.ofBits .f32 0x3F800000#32)) D) broadcasts_S128x1_S128x128)

/-- The attention of 128 rows to their keys and the sink. -/
def attendB (S : FVec Ideal S128x640 .f32) (s : Ideal .f32) (W : FVec Ideal S640x128 .bf16) : FVec Ideal S128x128 .f32 :=
  mixB (powerB S (peakB S s)) (denomB (powerB S (peakB S s)) (peakB S s) s) W

/-- The scores of masked queries. -/
def dotsB (Y : FVec Ideal S128x128 .bf16) (k : FVec Ideal S640x128 .bf16) : FVec Ideal S128x640 .f32 :=
  matmul dot_S128x128_S640x128_S128x640_1_1_0_0_n_n none Y k (constant S128x640 .f32 0x00000000#32)

/-- The first 64 lanes of values, the other lanes zero. -/
def vlowB (v : FVec Ideal S640x128 .bf16) : FVec Ideal S640x128 .bf16 :=
  select (cmpi .slt (iota .tc S640x128 32 [1] iota_S640x128_d1_w32) (broadcast S640x128 64#32)) v (broadcast S640x128 (Scalar.ofBits .bf16 0x0000#16))

/-- The last 64 lanes of values, the other lanes zero. -/
def vhighB (v : FVec Ideal S640x128 .bf16) : FVec Ideal S640x128 .bf16 :=
  select (cmpi .sge (iota .tc S640x128 32 [1] iota_S640x128_d1_w32) (broadcast S640x128 64#32)) v (broadcast S640x128 (Scalar.ofBits .bf16 0x0000#16))

/-- The largest of a row's scores and the sink's, read at a row. -/
theorem peakB_at (S : FVec Ideal S128x640 .f32) (s : Ideal .f32) (r : Fin 128) :
    peakB S s (ix2 r 0) = max (Finset.univ.fold max (⊥ : EReal) fun k => S (ix2 r k)) s := by
  pointwise [peakB]
  rw [bits_bot]

/-- One weight. -/
theorem powerB_at (S : FVec Ideal S128x640 .f32) (M : FVec Ideal S128x1 .f32) (r : Fin 128) (j : Fin 640) :
    powerB S M (ix2 r j) = Ideal.exp2 (S (ix2 r j) - M (ix2 r 0)) := by
  pointwise [powerB]
  all_goals rfl

/-- The sum of a row's weights and the sink's, read at a row. -/
theorem denomB_at (P : FVec Ideal S128x640 .f32) (M : FVec Ideal S128x1 .f32) (s : Ideal .f32) (r : Fin 128) :
    denomB P M s (ix2 r 0) = (∑ j : Fin 640, P (ix2 r j)) + Ideal.exp2 (s - M (ix2 r 0)) := by
  pointwise [denomB]
  all_goals rfl

/-- One lane of the values summed with the weights. -/
theorem mixB_at (P : FVec Ideal S128x640 .f32) (D : FVec Ideal S128x1 .f32) (W : FVec Ideal S640x128 .bf16) (r e : Fin 128) :
    mixB P D W (ix2 r e) = (∑ j : Fin 640, P (ix2 r j) * W (ix2 j e)) * Ideal.div ((1 : ℝ) : EReal) (D (ix2 r 0)) := by
  pointwise [mixB]
  all_goals rfl

/-- One lane of the attention, on real scores. -/
theorem attendB_at (S : FVec Ideal S128x640 .f32) (s : Ideal .f32) (W : FVec Ideal S640x128 .bf16) (r e : Fin 128)
    (p : Fin 640 → Prop) [DecidablePred p] (x : Fin 640 → ℝ) (v : Fin 640 → EReal) (a : ℝ)
    (hS : ∀ j, S (ix2 r j) = if p j then ((x j * (Real.log 2)⁻¹ : ℝ) : EReal) else ⊥) (hs : s = ((a * (Real.log 2)⁻¹ : ℝ) : EReal))
    (hv : ∀ j, p j → W (ix2 j e) = v j) :
    attendB S s W (ix2 r e) = mean p x v a := by
  rw [attendB, mixB_at, denomB_at]
  simp only [powerB_at, peakB_at]
  exact attend_sink p x v a (fun j => S (ix2 r j)) (fun j => W (ix2 j e)) s _ hS hv hs rfl

/-- One score of the first half of the lanes. -/
theorem dotsB_low (X : FVec Ideal S128x128 .bf16) (k : FVec Ideal S640x128 .bf16) (r : Fin 128) (j : Fin 640) (x y : Fin 128 → ℝ)
    (hq : ∀ l, X (ix2 r l) = (x l : EReal) * (((1 / 8) * (Real.log 2)⁻¹ : ℝ) : EReal)) (hk : ∀ l, k (ix2 j l) = (y l : EReal)) :
    dotsB (low X) k (ix2 r j) = (((∑ d : Fin 64, x ⟨d.val, by omega⟩ * y ⟨d.val, by omega⟩) * (1 / 8) * (Real.log 2)⁻¹ : ℝ) : EReal) := by
  pointwise [dotsB, low, hq, hk]
  exact first_sum x y

/-- One score of the second half of the lanes. -/
theorem dotsB_high (X : FVec Ideal S128x128 .bf16) (k : FVec Ideal S640x128 .bf16) (r : Fin 128) (j : Fin 640) (x y : Fin 128 → ℝ)
    (hq : ∀ l, X (ix2 r l) = (x l : EReal) * (((1 / 8) * (Real.log 2)⁻¹ : ℝ) : EReal)) (hk : ∀ l, k (ix2 j l) = (y l : EReal)) :
    dotsB (high X) k (ix2 r j) = (((∑ d : Fin 64, x ⟨64 + d.val, by omega⟩ * y ⟨64 + d.val, by omega⟩) * (1 / 8) * (Real.log 2)⁻¹ : ℝ) : EReal) := by
  pointwise [dotsB, high, hq, hk]
  exact second_sum x y

/-- One masked value of the first half. -/
theorem vlowB_at (v : FVec Ideal S640x128 .bf16) (j : Fin 640) (e : Fin 128) (w : EReal) (h : v (ix2 j e) = w) :
    vlowB v (ix2 j e) = if e.val < 64 then w else 0 := by
  pointwise [vlowB, h]
  rw [Cert.Diff.keep_first e]
  by_cases he : e.val < 64 <;> simp [he, Scalar.select]

/-- One masked value of the second half. -/
theorem vhighB_at (v : FVec Ideal S640x128 .bf16) (j : Fin 640) (e : Fin 128) (w : EReal) (h : v (ix2 j e) = w) :
    vhighB v (ix2 j e) = if e.val < 64 then 0 else w := by
  pointwise [vhighB, h]
  rw [Cert.Diff.keep_second e]
  by_cases he : e.val < 64 <;> simp [he, Scalar.select]

/-- The scores, minus infinity where the bit is not set. -/
def kept (N : IVec S128x640 1) (S : FVec Ideal S128x640 .f32) : FVec Ideal S128x640 .f32 :=
  select N S (broadcast S128x640 (Named.named κ "mask" 0xF149F2CA#32))

/-- One score, minus infinity where the bit is not set. -/
theorem kept_at (N : IVec S128x640 1) (S : FVec Ideal S128x640 .f32) (r : Fin 128) (j : Fin 640) (p : Prop) [Decidable p]
    (hN : N (ix2 r j) = if p then 1#1 else 0#1) : kept N S (ix2 r j) = if p then S (ix2 r j) else (⊥ : EReal) := by
  pointwise [kept, hN, mask_named]
  split_ifs <;> rfl

/-- The bits of the keys that are seen. -/
def seen (n : BitVec 32) : IVec S128x640 1 := k0_pay72 (iota Kind.tc S128x640 32 [1] iota_S128x640_d1_w32) k0_pay70 (k0_pay71 n)

/-- Two heads of the block, from their queries, the keys, the values and the two sinks. -/
def pieceB (n : BitVec 32) (X : FVec Ideal S128x128 .bf16) (k v : FVec Ideal S640x128 .bf16) (s s' : Ideal .f32) : FVec Ideal S1x128x128 .f32 :=
  join (attendB (kept (seen n) (dotsB (low X) k)) (sink s) (vlowB v)) (attendB (kept (seen n) (dotsB (high X) k)) (sink s') (vhighB v))

/-- The stored payload of query head 3. -/
theorem pieceB3 (n : BitVec 32) (q : FVec Ideal S1x128x512 .f32) (kc vc : FVec Ideal S1x256x128 .bf16)
    (kp kn kx vp vn vx : FVec Ideal S1x128x128 .bf16) (s s' : Ideal .f32) :
    k0_pay6 (k0_pay75 (k0_pay68 vc vp vn vx)) (k0_pay129 (k0_pay110 (k0_pay94 (k0_pay67 kc kp kn kx) (k0_pay72 (iota Kind.tc S128x640 32 [1] iota_S128x640_d1_w32) k0_pay70 (k0_pay71 n)) (k0_pay82 (k0_pay1 q) (iota Kind.tc S128x128 32 [1] iota_S128x128_d1_w32))) s') (k0_pay127 (k0_pay94 (k0_pay67 kc kp kn kx) (k0_pay72 (iota Kind.tc S128x640 32 [1] iota_S128x640_d1_w32) k0_pay70 (k0_pay71 n)) (k0_pay82 (k0_pay1 q) (iota Kind.tc S128x128 32 [1] iota_S128x128_d1_w32))) (k0_pay110 (k0_pay94 (k0_pay67 kc kp kn kx) (k0_pay72 (iota Kind.tc S128x640 32 [1] iota_S128x640_d1_w32) k0_pay70 (k0_pay71 n)) (k0_pay82 (k0_pay1 q) (iota Kind.tc S128x128 32 [1] iota_S128x128_d1_w32))) s')) (k0_pay128 (k0_pay102 s'))) (k0_pay136 (k0_pay74 (k0_pay68 vc vp vn vx)) (k0_pay118 (k0_pay93 (k0_pay67 kc kp kn kx) (k0_pay72 (iota Kind.tc S128x640 32 [1] iota_S128x640_d1_w32) k0_pay70 (k0_pay71 n)) (k0_pay81 (k0_pay1 q) (iota Kind.tc S128x128 32 [1] iota_S128x128_d1_w32))) (k0_pay109 (k0_pay93 (k0_pay67 kc kp kn kx) (k0_pay72 (iota Kind.tc S128x640 32 [1] iota_S128x640_d1_w32) k0_pay70 (k0_pay71 n)) (k0_pay81 (k0_pay1 q) (iota Kind.tc S128x128 32 [1] iota_S128x128_d1_w32))) (k0_pay101 s))) (k0_pay126 (k0_pay93 (k0_pay67 kc kp kn kx) (k0_pay72 (iota Kind.tc S128x640 32 [1] iota_S128x640_d1_w32) k0_pay70 (k0_pay71 n)) (k0_pay81 (k0_pay1 q) (iota Kind.tc S128x128 32 [1] iota_S128x128_d1_w32))) (k0_pay101 s) (k0_pay109 (k0_pay93 (k0_pay67 kc kp kn kx) (k0_pay72 (iota Kind.tc S128x640 32 [1] iota_S128x640_d1_w32) k0_pay70 (k0_pay71 n)) (k0_pay81 (k0_pay1 q) (iota Kind.tc S128x128 32 [1] iota_S128x128_d1_w32))) (k0_pay101 s)))) (k0_pay137 (k0_pay119 (k0_pay94 (k0_pay67 kc kp kn kx) (k0_pay72 (iota Kind.tc S128x640 32 [1] iota_S128x640_d1_w32) k0_pay70 (k0_pay71 n)) (k0_pay82 (k0_pay1 q) (iota Kind.tc S128x128 32 [1] iota_S128x128_d1_w32))) (k0_pay110 (k0_pay94 (k0_pay67 kc kp kn kx) (k0_pay72 (iota Kind.tc S128x640 32 [1] iota_S128x640_d1_w32) k0_pay70 (k0_pay71 n)) (k0_pay82 (k0_pay1 q) (iota Kind.tc S128x128 32 [1] iota_S128x128_d1_w32))) s')))
      = pieceB n (lanes3 q) (k0_pay67 kc kp kn kx) (k0_pay67 vc vp vn vx) s s' := rfl

/-- The stored payload of query head 2. -/
theorem pieceB2 (n : BitVec 32) (q : FVec Ideal S1x128x512 .f32) (kc vc : FVec Ideal S1x256x128 .bf16)
    (kp kn kx vp vn vx : FVec Ideal S1x128x128 .bf16) (s s' : Ideal .f32) :
    k0_pay5 (k0_pay134 (k0_pay74 (k0_pay68 vc vp vn vx)) (k0_pay115 (k0_pay91 (k0_pay67 kc kp kn kx) (k0_pay72 (iota Kind.tc S128x640 32 [1] iota_S128x640_d1_w32) k0_pay70 (k0_pay71 n)) (k0_pay79 (k0_pay1 q) (iota Kind.tc S128x128 32 [1] iota_S128x128_d1_w32)) (constant S128x640 FTy.f32 0#32)) (k0_pay99 s)) (k0_pay124 (k0_pay99 s) (k0_pay107 (k0_pay91 (k0_pay67 kc kp kn kx) (k0_pay72 (iota Kind.tc S128x640 32 [1] iota_S128x640_d1_w32) k0_pay70 (k0_pay71 n)) (k0_pay79 (k0_pay1 q) (iota Kind.tc S128x128 32 [1] iota_S128x128_d1_w32)) (constant S128x640 FTy.f32 0#32)) (k0_pay99 s)) (k0_pay115 (k0_pay91 (k0_pay67 kc kp kn kx) (k0_pay72 (iota Kind.tc S128x640 32 [1] iota_S128x640_d1_w32) k0_pay70 (k0_pay71 n)) (k0_pay79 (k0_pay1 q) (iota Kind.tc S128x128 32 [1] iota_S128x128_d1_w32)) (constant S128x640 FTy.f32 0#32)) (k0_pay99 s)))) (k0_pay135 (k0_pay75 (k0_pay68 vc vp vn vx)) (k0_pay117 (k0_pay116 (k0_pay92 (k0_pay67 kc kp kn kx) (k0_pay72 (iota Kind.tc S128x640 32 [1] iota_S128x640_d1_w32) k0_pay70 (k0_pay71 n)) (k0_pay80 (k0_pay1 q) (iota Kind.tc S128x128 32 [1] iota_S128x128_d1_w32))) (k0_pay100 s'))) (k0_pay125 (k0_pay100 s') (k0_pay108 (k0_pay92 (k0_pay67 kc kp kn kx) (k0_pay72 (iota Kind.tc S128x640 32 [1] iota_S128x640_d1_w32) k0_pay70 (k0_pay71 n)) (k0_pay80 (k0_pay1 q) (iota Kind.tc S128x128 32 [1] iota_S128x128_d1_w32))) (k0_pay100 s')) (k0_pay116 (k0_pay92 (k0_pay67 kc kp kn kx) (k0_pay72 (iota Kind.tc S128x640 32 [1] iota_S128x640_d1_w32) k0_pay70 (k0_pay71 n)) (k0_pay80 (k0_pay1 q) (iota Kind.tc S128x128 32 [1] iota_S128x128_d1_w32))) (k0_pay100 s'))))
      = pieceB n (lanes2 q) (k0_pay67 kc kp kn kx) (k0_pay67 vc vp vn vx) s s' := rfl

/-- The stored payload of query head 1. -/
theorem pieceB1 (n : BitVec 32) (q : FVec Ideal S1x128x512 .f32) (kc vc : FVec Ideal S1x256x128 .bf16)
    (kp kn kx vp vn vx : FVec Ideal S1x128x128 .bf16) (s s' : Ideal .f32) :
    k0_pay4 (k0_pay132 (k0_pay74 (k0_pay68 vc vp vn vx)) (k0_pay113 (k0_pay89 (k0_pay72 (iota Kind.tc S128x640 32 [1] iota_S128x640_d1_w32) k0_pay70 (k0_pay71 n)) (k0_pay85 (k0_pay1 q) (iota Kind.tc S128x128 32 [1] iota_S128x128_d1_w32) (k0_pay67 kc kp kn kx))) (k0_pay97 s)) (k0_pay122 (k0_pay97 s) (k0_pay105 (k0_pay89 (k0_pay72 (iota Kind.tc S128x640 32 [1] iota_S128x640_d1_w32) k0_pay70 (k0_pay71 n)) (k0_pay85 (k0_pay1 q) (iota Kind.tc S128x128 32 [1] iota_S128x128_d1_w32) (k0_pay67 kc kp kn kx))) (k0_pay97 s)) (k0_pay113 (k0_pay89 (k0_pay72 (iota Kind.tc S128x640 32 [1] iota_S128x640_d1_w32) k0_pay70 (k0_pay71 n)) (k0_pay85 (k0_pay1 q) (iota Kind.tc S128x128 32 [1] iota_S128x128_d1_w32) (k0_pay67 kc kp kn kx))) (k0_pay97 s)))) (k0_pay133 (k0_pay75 (k0_pay68 vc vp vn vx)) (k0_pay114 (k0_pay90 (k0_pay72 (iota Kind.tc S128x640 32 [1] iota_S128x640_d1_w32) k0_pay70 (k0_pay71 n)) (k0_pay86 (k0_pay1 q) (iota Kind.tc S128x128 32 [1] iota_S128x128_d1_w32) (k0_pay67 kc kp kn kx))) (k0_pay98 s')) (k0_pay123 (k0_pay98 s') (k0_pay106 (k0_pay90 (k0_pay72 (iota Kind.tc S128x640 32 [1] iota_S128x640_d1_w32) k0_pay70 (k0_pay71 n)) (k0_pay86 (k0_pay1 q) (iota Kind.tc S128x128 32 [1] iota_S128x128_d1_w32) (k0_pay67 kc kp kn kx))) (k0_pay98 s')) (k0_pay114 (k0_pay90 (k0_pay72 (iota Kind.tc S128x640 32 [1] iota_S128x640_d1_w32) k0_pay70 (k0_pay71 n)) (k0_pay86 (k0_pay1 q) (iota Kind.tc S128x128 32 [1] iota_S128x128_d1_w32) (k0_pay67 kc kp kn kx))) (k0_pay98 s'))))
      = pieceB n (lanes1 q) (k0_pay67 kc kp kn kx) (k0_pay67 vc vp vn vx) s s' := rfl

/-- The stored payload of query head 0. -/
theorem pieceB0 (n : BitVec 32) (q : FVec Ideal S1x128x512 .f32) (kc vc : FVec Ideal S1x256x128 .bf16)
    (kp kn kx vp vn vx : FVec Ideal S1x128x128 .bf16) (s s' : Ideal .f32) :
    k0_pay3 (k0_pay130 (k0_pay74 (k0_pay68 vc vp vn vx)) (k0_pay111 (k0_pay87 (k0_pay72 (iota Kind.tc S128x640 32 [1] iota_S128x640_d1_w32) k0_pay70 (k0_pay71 n)) (k0_pay83 (k0_pay1 q) (iota Kind.tc S128x128 32 [1] iota_S128x128_d1_w32) (k0_pay67 kc kp kn kx))) (k0_pay95 s)) (k0_pay120 (k0_pay95 s) (k0_pay103 (k0_pay87 (k0_pay72 (iota Kind.tc S128x640 32 [1] iota_S128x640_d1_w32) k0_pay70 (k0_pay71 n)) (k0_pay83 (k0_pay1 q) (iota Kind.tc S128x128 32 [1] iota_S128x128_d1_w32) (k0_pay67 kc kp kn kx))) (k0_pay95 s)) (k0_pay111 (k0_pay87 (k0_pay72 (iota Kind.tc S128x640 32 [1] iota_S128x640_d1_w32) k0_pay70 (k0_pay71 n)) (k0_pay83 (k0_pay1 q) (iota Kind.tc S128x128 32 [1] iota_S128x128_d1_w32) (k0_pay67 kc kp kn kx))) (k0_pay95 s)))) (k0_pay131 (k0_pay75 (k0_pay68 vc vp vn vx)) (k0_pay112 (k0_pay88 (k0_pay72 (iota Kind.tc S128x640 32 [1] iota_S128x640_d1_w32) k0_pay70 (k0_pay71 n)) (k0_pay84 (k0_pay1 q) (iota Kind.tc S128x128 32 [1] iota_S128x128_d1_w32) (k0_pay67 kc kp kn kx))) (k0_pay96 s')) (k0_pay121 (k0_pay96 s') (k0_pay104 (k0_pay88 (k0_pay72 (iota Kind.tc S128x640 32 [1] iota_S128x640_d1_w32) k0_pay70 (k0_pay71 n)) (k0_pay84 (k0_pay1 q) (iota Kind.tc S128x128 32 [1] iota_S128x128_d1_w32) (k0_pay67 kc kp kn kx))) (k0_pay96 s')) (k0_pay112 (k0_pay88 (k0_pay72 (iota Kind.tc S128x640 32 [1] iota_S128x640_d1_w32) k0_pay70 (k0_pay71 n)) (k0_pay84 (k0_pay1 q) (iota Kind.tc S128x128 32 [1] iota_S128x128_d1_w32) (k0_pay67 kc kp kn kx))) (k0_pay96 s'))))
      = pieceB n (lanes0 q) (k0_pay67 kc kp kn kx) (k0_pay67 vc vp vn vx) s s' := rfl

/-- The bit of a key is set exactly when the key is seen. -/
theorem seen_at (n : Fin 32) (i : Fin 128) (j : Fin 640) :
    seen (BitVec.ofNat 32 (n.val + 2)) (ix2 i j) = if sees n i j then 1#1 else 0#1 := by
  pointwise [seen, k0_pay72, k0_pay70, k0_pay69, k0_pay71]
  rw [seen_ctx, seen_near, kernel_word, seen_first, seen_last]
  exact bits_kernel _ _ _ _ _ (or_congr Iff.rfl and_assoc.symm)

/-- One lane of two heads of the block, on real scores. -/
theorem pieceB_at (n : BitVec 32) (X : FVec Ideal S128x128 .bf16) (k v : FVec Ideal S640x128 .bf16) (s s' : Ideal .f32) (r e : Fin 128)
    (p : Fin 640 → Prop) [DecidablePred p] (hp : ∀ j, seen n (ix2 r j) = if p j then 1#1 else 0#1)
    (x : Fin 128 → ℝ) (y z : Fin 640 → Fin 128 → ℝ) (w u : Fin 640 → Fin 128 → EReal) (a a' : ℝ)
    (hX : ∀ l, X (ix2 r l) = (x l : EReal) * (((1 / 8) * (Real.log 2)⁻¹ : ℝ) : EReal)) (hk : ∀ j l, k (ix2 j l) = (y j l : EReal))
    (hv : ∀ j l, v (ix2 j l) = w j l) (hs : s = (a : EReal)) (hs' : s' = (a' : EReal))
    (hy : ∀ j, p j → y j = z j) (hw : ∀ j, p j → w j = u j) :
    pieceB n X k v s s' (ix3 0 r e) = (if e.val < 64
      then mean p (fun j => (∑ d : Fin 64, x ⟨d.val, by omega⟩ * z j ⟨d.val, by omega⟩) * (1 / 8)) (fun j => u j e) a
      else mean p (fun j => (∑ d : Fin 64, x ⟨64 + d.val, by omega⟩ * z j ⟨64 + d.val, by omega⟩) * (1 / 8)) (fun j => u j e) a') := by
  rw [pieceB, join_at, ← mean_halves]
  refine congrArg₂ _ ?_ ?_
  · refine attendB_at _ _ _ r e p _ _ a (fun j => (kept_at _ _ r j (p j) (hp j)).trans ?_)
      (sink_at s a hs) (fun j h => (vlowB_at _ j e (w j e) (hv j e)).trans (by rw [hw j h]))
    by_cases h : p j
    · rw [if_pos h, if_pos h, dotsB_low X k r j x (y j) hX (hk j), hy j h]
    · rw [if_neg h, if_neg h]
  · refine attendB_at _ _ _ r e p _ _ a' (fun j => (kept_at _ _ r j (p j) (hp j)).trans ?_)
      (sink_at s' a' hs') (fun j h => (vhighB_at _ j e (w j e) (hv j e)).trans (by rw [hw j h]))
    by_cases h : p j
    · rw [if_pos h, if_pos h, dotsB_high X k r j x (y j) hX (hk j), hy j h]
    · rw [if_neg h, if_neg h]

end Cert.Win

end

end
-- ==== Proof.WinFinal.lean ====
/-
  The windowed attention's blocks put together: the array the kernel leaves is the windowed attention of `WinSpec`.
-/
module

public import proofs.«01_k».proof.Proof.WinBlock
public import proofs.«01_k».proof.Proof.Gen.Kernel4Ideal.Value

@[expose] public section

set_option maxRecDepth 16384

noncomputable section

namespace Cert.Win

open Idealize.ShloMosaic Idealize.ShloMosaic.TcCoe Idealize.SL.Sem
open Cert.Kernel4Ideal Cert.Kernel4Ideal.Gen Cert.Kernel4Ideal.Value

variable (m : (ℓ : Loc nD τ sig) → Buf (Elt Ideal) ℓ)

/-- Where every window's block lies at grid point `t`: sample `t / 34`, row block `t % 34`. -/
theorem idx : ∀ t : Fin cfg0.N, win0_0.index t = ![0] ∧ win0_1.index t = ![t.val / 34, t.val % 34, 0]
    ∧ win0_2.index t = ![t.val / 34, 0, 0] ∧ win0_3.index t = ![t.val / 34, 0, 0]
    ∧ win0_4.index t = ![t.val / 34, max 2 (t.val % 34 - 1), 0] ∧ win0_5.index t = ![t.val / 34, max 2 (t.val % 34), 0]
    ∧ win0_6.index t = ![t.val / 34, min 33 (max 2 (t.val % 34 + 1)), 0]
    ∧ win0_7.index t = ![t.val / 34, max 2 (t.val % 34 - 1), 0] ∧ win0_8.index t = ![t.val / 34, max 2 (t.val % 34), 0]
    ∧ win0_9.index t = ![t.val / 34, min 33 (max 2 (t.val % 34 + 1)), 0]
    ∧ win0_10.index t = ![t.val / 34, t.val % 34, 0] :=
  (by decide +kernel : ∀ t : Fin grid0.N, _)

/-- The row block of a grid point. -/
theorem coord : ∀ t : Fin cfg0.N, (grid0.coords t 1).val = t.val % 34 :=
  (by decide +kernel : ∀ t : Fin grid0.N, _)

/-- The key row that the kernel holds at place `j` of query block `n`: the 256 context rows, then the block before, the
    block itself and the block after, of which the first and the last are kept inside the rows after the context. -/
abbrev held (n : Fin 32) (j : Fin 640) : Fin 4352 :=
  ⟨if j.val < 256 then j.val else if j.val < 384 then max 2 (n.val + 1) * 128 + (j.val - 256)
    else if j.val < 512 then (n.val + 2) * 128 + (j.val - 384) else min 33 (n.val + 3) * 128 + (j.val - 512), by split_ifs <;> omega⟩

/-- A row that is seen is the row that stands at its place. -/
theorem held_seen (n : Fin 32) (i : Fin 128) (j : Fin 640) (p : sees n i j) : held n j = key n j := by
  dsimp only [sees] at p
  apply Fin.ext
  dsimp only [held, key]
  split_ifs <;> omega

/-- The rows that the kernel holds, one lane. -/
theorem held_at (kc : FVec Ideal S1x256x128 .bf16) (kp kn kx : FVec Ideal S1x128x128 .bf16) (K : Fin 4352 → Fin 128 → EReal) (n : Fin 32)
    (hc : ∀ (j : Fin 256) l, kc (ix3 0 j l) = K ⟨j.val, by omega⟩ l)
    (hp : ∀ (j : Fin 128) l, kp (ix3 0 j l) = K ⟨max 2 (n.val + 1) * 128 + j.val, by omega⟩ l)
    (hn : ∀ (j : Fin 128) l, kn (ix3 0 j l) = K ⟨(n.val + 2) * 128 + j.val, by omega⟩ l)
    (hx : ∀ (j : Fin 128) l, kx (ix3 0 j l) = K ⟨min 33 (n.val + 3) * 128 + j.val, by omega⟩ l) (j : Fin 640) (l : Fin 128) :
    k0_pay67 (F := Ideal) kc kp kn kx (ix2 j l) = K (held n j) l := by
  pointwise [k0_pay67]
  by_cases p : j.val < 256
  · refine (dif_pos p).trans ((hc _ l).trans ?_)
    exact congrArg (fun r => K r l) (Fin.ext (if_pos p).symm)
  refine (dif_neg p).trans ?_
  by_cases p' : j.val < 384
  · refine (dif_pos (by omega)).trans ((hp _ l).trans ?_)
    exact congrArg (fun r => K r l) (Fin.ext ((if_neg p).trans (if_pos p')).symm)
  refine (dif_neg (by omega)).trans ?_
  by_cases p'' : j.val < 512
  · refine (dif_pos (by omega)).trans ((hn _ l).trans ?_)
    exact congrArg (fun r => K r l) (Fin.ext (((if_neg p).trans ((if_neg p').trans (if_pos p''))).trans (by dsimp only; omega)).symm)
  · refine (dif_neg (by omega)).trans ((hx _ l).trans ?_)
    exact congrArg (fun r => K r l) (Fin.ext (((if_neg p).trans ((if_neg p').trans (if_neg p''))).trans (by dsimp only; omega)).symm)

/-- Two heads of a context row, read as the result at one of them. -/
theorem headsA (Q : Fin 4 → Fin 4352 → Fin 512 → ℝ) (K : Fin 4 → Fin 4352 → Fin 128 → ℝ) (V : Fin 4 → Fin 4352 → Fin 128 → EReal) (S : Fin 8 → ℝ) (X : FVec Ideal S128x128 .bf16)
    (k v : FVec Ideal S1x256x128 .bf16) (s s' : Ideal .f32) (r l : Fin 128) (b g : Fin 4) (row : Fin 4352) (h : Fin 2) (e : Fin 64)
    (hr : row.val < 256) (eh : h.val = l.val / 64) (ee : e.val = l.val % 64)
    (hX : ∀ l, X (ix2 r l) = (Q b row ⟨g.val * 128 + l.val, by omega⟩ : EReal) * (((1 / 8) * (Real.log 2)⁻¹ : ℝ) : EReal))
    (hk : ∀ (j : Fin 256) l, k (ix3 0 j l) = (K b ⟨j.val, by omega⟩ l : EReal)) (hv : ∀ (j : Fin 256) l, v (ix3 0 j l) = V b ⟨j.val, by omega⟩ l)
    (hs : s = (S ⟨g.val, by omega⟩ : EReal)) (hs' : s' = (S ⟨4 + g.val, by omega⟩ : EReal)) :
    pieceA X k v s s' (ix3 0 r l) = result Q K V S b row g h e := by
  refine (pieceA_at X k v s s' r l _ _ _ _ _ hX hk hv hs hs').trans ?_
  rw [result, if_pos hr]
  by_cases p : l.val < 64
  · rw [if_pos p]
    obtain rfl : h = 0 := Fin.ext (by rw [eh]; show l.val / 64 = 0; omega)
    have e1 : ∀ d : Fin 64, (⟨g.val * 128 + (0 : Fin 2).val * 64 + d.val, by show g.val * 128 + 0 * 64 + d.val < 512; omega⟩ : Fin 512) = ⟨g.val * 128 + d.val, by omega⟩ :=
      fun d => Fin.ext (by show g.val * 128 + 0 * 64 + d.val = g.val * 128 + d.val; omega)
    have e2 : ∀ d : Fin 64, (⟨(0 : Fin 2).val * 64 + d.val, by show 0 * 64 + d.val < 128; omega⟩ : Fin 128) = ⟨d.val, by omega⟩ :=
      fun d => Fin.ext (by show 0 * 64 + d.val = d.val; omega)
    have e3 : (⟨e.val, by omega⟩ : Fin 128) = l := Fin.ext (by show e.val = l.val; omega)
    have e4 : (⟨(0 : Fin 2).val * 4 + g.val, by show 0 * 4 + g.val < 8; omega⟩ : Fin 8) = ⟨g.val, by omega⟩ := Fin.ext (by show 0 * 4 + g.val = g.val; omega)
    simp only [score, e1, e2, e3, e4]
  · rw [if_neg p]
    obtain rfl : h = 1 := Fin.ext (by rw [eh]; show l.val / 64 = 1; omega)
    have e1 : ∀ d : Fin 64, (⟨g.val * 128 + (1 : Fin 2).val * 64 + d.val, by show g.val * 128 + 1 * 64 + d.val < 512; omega⟩ : Fin 512) = ⟨g.val * 128 + (64 + d.val), by omega⟩ :=
      fun d => Fin.ext (by show g.val * 128 + 1 * 64 + d.val = g.val * 128 + (64 + d.val); omega)
    have e2 : ∀ d : Fin 64, (⟨(1 : Fin 2).val * 64 + d.val, by show 1 * 64 + d.val < 128; omega⟩ : Fin 128) = ⟨64 + d.val, by omega⟩ :=
      fun d => Fin.ext (by show 1 * 64 + d.val = 64 + d.val; omega)
    have e3 : (⟨64 + e.val, by omega⟩ : Fin 128) = l := Fin.ext (by show 64 + e.val = l.val; omega)
    have e4 : (⟨(1 : Fin 2).val * 4 + g.val, by show 1 * 4 + g.val < 8; omega⟩ : Fin 8) = ⟨4 + g.val, by omega⟩ := Fin.ext (by show 1 * 4 + g.val = 4 + g.val; omega)
    simp only [score, e1, e2, e3, e4]

/-- Two heads of another row, read as the result at one of them. -/
theorem headsB (Q : Fin 4 → Fin 4352 → Fin 512 → ℝ) (K : Fin 4 → Fin 4352 → Fin 128 → ℝ) (V : Fin 4 → Fin 4352 → Fin 128 → EReal) (S : Fin 8 → ℝ) (N : BitVec 32) (X : FVec Ideal S128x128 .bf16)
    (k v : FVec Ideal S640x128 .bf16) (s s' : Ideal .f32) (r l : Fin 128) (b g : Fin 4) (row : Fin 4352) (h : Fin 2) (e : Fin 64) (n : Fin 32)
    (hr : row.val = (n.val + 2) * 128 + r.val) (eh : h.val = l.val / 64) (ee : e.val = l.val % 64) (hN : N = BitVec.ofNat 32 (n.val + 2))
    (hX : ∀ l, X (ix2 r l) = (Q b row ⟨g.val * 128 + l.val, by omega⟩ : EReal) * (((1 / 8) * (Real.log 2)⁻¹ : ℝ) : EReal))
    (hk : ∀ j l, k (ix2 j l) = (K b (held n j) l : EReal)) (hv : ∀ j l, v (ix2 j l) = V b (held n j) l)
    (hs : s = (S ⟨g.val, by omega⟩ : EReal)) (hs' : s' = (S ⟨4 + g.val, by omega⟩ : EReal)) :
    pieceB N X k v s s' (ix3 0 r l) = result Q K V S b row g h e := by
  subst hN
  refine (pieceB_at _ X k v s s' r l (sees n r) (fun j => seen_at n r j) _ _ (fun j => K b (key n j)) _ (fun j => V b (key n j)) _ _ hX hk hv hs hs'
    (fun j p => congrArg (K b) (held_seen n r j p)) (fun j p => congrArg (V b) (held_seen n r j p))).trans ?_
  rw [result, if_neg (show ¬row.val < 256 by omega)]
  have en : (⟨(row.val - 256) / 128, by omega⟩ : Fin 32) = n := Fin.ext (by show (row.val - 256) / 128 = n.val; omega)
  have er : (⟨(row.val - 256) % 128, by omega⟩ : Fin 128) = r := Fin.ext (by show (row.val - 256) % 128 = r.val; omega)
  rw [en, er]
  by_cases p : l.val < 64
  · rw [if_pos p]
    obtain rfl : h = 0 := Fin.ext (by rw [eh]; show l.val / 64 = 0; omega)
    have e1 : ∀ d : Fin 64, (⟨g.val * 128 + (0 : Fin 2).val * 64 + d.val, by show g.val * 128 + 0 * 64 + d.val < 512; omega⟩ : Fin 512) = ⟨g.val * 128 + d.val, by omega⟩ :=
      fun d => Fin.ext (by show g.val * 128 + 0 * 64 + d.val = g.val * 128 + d.val; omega)
    have e2 : ∀ d : Fin 64, (⟨(0 : Fin 2).val * 64 + d.val, by show 0 * 64 + d.val < 128; omega⟩ : Fin 128) = ⟨d.val, by omega⟩ :=
      fun d => Fin.ext (by show 0 * 64 + d.val = d.val; omega)
    have e3 : (⟨e.val, by omega⟩ : Fin 128) = l := Fin.ext (by show e.val = l.val; omega)
    have e4 : (⟨(0 : Fin 2).val * 4 + g.val, by show 0 * 4 + g.val < 8; omega⟩ : Fin 8) = ⟨g.val, by omega⟩ := Fin.ext (by show 0 * 4 + g.val = g.val; omega)
    simp only [score, e1, e2, e3, e4]
  · rw [if_neg p]
    obtain rfl : h = 1 := Fin.ext (by rw [eh]; show l.val / 64 = 1; omega)
    have e1 : ∀ d : Fin 64, (⟨g.val * 128 + (1 : Fin 2).val * 64 + d.val, by show g.val * 128 + 1 * 64 + d.val < 512; omega⟩ : Fin 512) = ⟨g.val * 128 + (64 + d.val), by omega⟩ :=
      fun d => Fin.ext (by show g.val * 128 + 1 * 64 + d.val = g.val * 128 + (64 + d.val); omega)
    have e2 : ∀ d : Fin 64, (⟨(1 : Fin 2).val * 64 + d.val, by show 1 * 64 + d.val < 128; omega⟩ : Fin 128) = ⟨64 + d.val, by omega⟩ :=
      fun d => Fin.ext (by show 1 * 64 + d.val = 64 + d.val; omega)
    have e3 : (⟨64 + e.val, by omega⟩ : Fin 128) = l := Fin.ext (by show 64 + e.val = l.val; omega)
    have e4 : (⟨(1 : Fin 2).val * 4 + g.val, by show 1 * 4 + g.val < 8; omega⟩ : Fin 8) = ⟨4 + g.val, by omega⟩ := Fin.ext (by show 1 * 4 + g.val = 4 + g.val; omega)
    simp only [score, e1, e2, e3, e4]

/-- A lane of a query row. -/
theorem q_entry (c : Dev nD) (t : Fin cfg0.N) (r : Fin 128) (e : Fin 512) (b : Fin 4) (row : Fin 4352)
    (hb : b.val = t.val / 34) (hr : row.val = t.val % 34 * 128 + r.val) :
    iblk m c 1 t (ix3 0 r e) = m ((c : Thread nD τ).loc main_arg0) (ix3 b row e) := by
  blk_ext [iblk, V, idx t]

/-- A sink. -/
theorem s_entry (c : Dev nD) (t : Fin cfg0.N) (k : Fin 8) :
    iblk m c 0 t (ix1 k) = m ((c : Thread nD τ).loc main_arg3) (ix1 k) := by
  blk_ext [iblk, V, idx t]

/-- Sink 0, as the kernel reads it. -/
theorem s_read0 (c : Dev nD) (t : Fin cfg0.N) (h) :
    View.ld (iblk m c 0 t) (Rect.unit ![0] ![1] inb_S8_S1_0) (Shape.Idx.first h) = m ((c : Thread nD τ).loc main_arg3) (ix1 0) := by
  refine Eq.trans ?_ (s_entry m c t 0)
  generalize iblk m c 0 t = X
  unfold View.ld
  refine congrArg X (funext fun a => Fin.ext ?_)
  match a with
  | ⟨0, _⟩ => rfl

/-- Sink 1, as the kernel reads it. -/
theorem s_read1 (c : Dev nD) (t : Fin cfg0.N) (h) :
    View.ld (iblk m c 0 t) (Rect.unit ![1] ![1] inb_S8_S1_1) (Shape.Idx.first h) = m ((c : Thread nD τ).loc main_arg3) (ix1 1) := by
  refine Eq.trans ?_ (s_entry m c t 1)
  generalize iblk m c 0 t = X
  unfold View.ld
  refine congrArg X (funext fun a => Fin.ext ?_)
  match a with
  | ⟨0, _⟩ => rfl

/-- Sink 2, as the kernel reads it. -/
theorem s_read2 (c : Dev nD) (t : Fin cfg0.N) (h) :
    View.ld (iblk m c 0 t) (Rect.unit ![2] ![1] inb_S8_S1_2) (Shape.Idx.first h) = m ((c : Thread nD τ).loc main_arg3) (ix1 2) := by
  refine Eq.trans ?_ (s_entry m c t 2)
  generalize iblk m c 0 t = X
  unfold View.ld
  refine congrArg X (funext fun a => Fin.ext ?_)
  match a with
  | ⟨0, _⟩ => rfl

/-- Sink 3, as the kernel reads it. -/
theorem s_read3 (c : Dev nD) (t : Fin cfg0.N) (h) :
    View.ld (iblk m c 0 t) (Rect.unit ![3] ![1] inb_S8_S1_3) (Shape.Idx.first h) = m ((c : Thread nD τ).loc main_arg3) (ix1 3) := by
  refine Eq.trans ?_ (s_entry m c t 3)
  generalize iblk m c 0 t = X
  unfold View.ld
  refine congrArg X (funext fun a => Fin.ext ?_)
  match a with
  | ⟨0, _⟩ => rfl

/-- Sink 4, as the kernel reads it. -/
theorem s_read4 (c : Dev nD) (t : Fin cfg0.N) (h) :
    View.ld (iblk m c 0 t) (Rect.unit ![4] ![1] inb_S8_S1_4) (Shape.Idx.first h) = m ((c : Thread nD τ).loc main_arg3) (ix1 4) := by
  refine Eq.trans ?_ (s_entry m c t 4)
  generalize iblk m c 0 t = X
  unfold View.ld
  refine congrArg X (funext fun a => Fin.ext ?_)
  match a with
  | ⟨0, _⟩ => rfl

/-- Sink 5, as the kernel reads it. -/
theorem s_read5 (c : Dev nD) (t : Fin cfg0.N) (h) :
    View.ld (iblk m c 0 t) (Rect.unit ![5] ![1] inb_S8_S1_5) (Shape.Idx.first h) = m ((c : Thread nD τ).loc main_arg3) (ix1 5) := by
  refine Eq.trans ?_ (s_entry m c t 5)
  generalize iblk m c 0 t = X
  unfold View.ld
  refine congrArg X (funext fun a => Fin.ext ?_)
  match a with
  | ⟨0, _⟩ => rfl

/-- Sink 6, as the kernel reads it. -/
theorem s_read6 (c : Dev nD) (t : Fin cfg0.N) (h) :
    View.ld (iblk m c 0 t) (Rect.unit ![6] ![1] inb_S8_S1_6) (Shape.Idx.first h) = m ((c : Thread nD τ).loc main_arg3) (ix1 6) := by
  refine Eq.trans ?_ (s_entry m c t 6)
  generalize iblk m c 0 t = X
  unfold View.ld
  refine congrArg X (funext fun a => Fin.ext ?_)
  match a with
  | ⟨0, _⟩ => rfl

/-- Sink 7, as the kernel reads it. -/
theorem s_read7 (c : Dev nD) (t : Fin cfg0.N) (h) :
    View.ld (iblk m c 0 t) (Rect.unit ![7] ![1] inb_S8_S1_7) (Shape.Idx.first h) = m ((c : Thread nD τ).loc main_arg3) (ix1 7) := by
  refine Eq.trans ?_ (s_entry m c t 7)
  generalize iblk m c 0 t = X
  unfold View.ld
  refine congrArg X (funext fun a => Fin.ext ?_)
  match a with
  | ⟨0, _⟩ => rfl

/-- A key lane of a context row. -/
theorem kc_entry (c : Dev nD) (t : Fin cfg0.N) (r : Fin 256) (e : Fin 128) (b : Fin 4) (row : Fin 4352)
    (hb : b.val = t.val / 34) (hr : row.val = r.val) :
    iblk m c 2 t (ix3 0 r e) = m ((c : Thread nD τ).loc main_arg1) (ix3 b row e) := by
  blk_simp [iblk, idx t]
  entry_read
  pointwise
  blk_ext [idx t]

/-- A value lane of a context row. -/
theorem vc_entry (c : Dev nD) (t : Fin cfg0.N) (r : Fin 256) (e : Fin 128) (b : Fin 4) (row : Fin 4352)
    (hb : b.val = t.val / 34) (hr : row.val = r.val) :
    iblk m c 3 t (ix3 0 r e) = m ((c : Thread nD τ).loc main_arg2) (ix3 b row e) := by
  blk_simp [iblk, idx t]
  entry_read
  pointwise
  blk_ext [idx t]

/-- A key lane of the block before. -/
theorem kp_entry (c : Dev nD) (t : Fin cfg0.N) (r : Fin 128) (e : Fin 128) (b : Fin 4) (row : Fin 4352)
    (hb : b.val = t.val / 34) (hr : row.val = max 2 (t.val % 34 - 1) * 128 + r.val) :
    iblk m c 4 t (ix3 0 r e) = m ((c : Thread nD τ).loc main_arg1) (ix3 b row e) := by
  blk_simp [iblk, idx t]
  entry_read
  pointwise
  blk_ext [idx t]

/-- A key lane of the block itself. -/
theorem kn_entry (c : Dev nD) (t : Fin cfg0.N) (r : Fin 128) (e : Fin 128) (b : Fin 4) (row : Fin 4352)
    (hb : b.val = t.val / 34) (hr : row.val = max 2 (t.val % 34) * 128 + r.val) :
    iblk m c 5 t (ix3 0 r e) = m ((c : Thread nD τ).loc main_arg1) (ix3 b row e) := by
  blk_simp [iblk, idx t]
  entry_read
  pointwise
  blk_ext [idx t]

/-- A key lane of the block after. -/
theorem kx_entry (c : Dev nD) (t : Fin cfg0.N) (r : Fin 128) (e : Fin 128) (b : Fin 4) (row : Fin 4352)
    (hb : b.val = t.val / 34) (hr : row.val = min 33 (max 2 (t.val % 34 + 1)) * 128 + r.val) :
    iblk m c 6 t (ix3 0 r e) = m ((c : Thread nD τ).loc main_arg1) (ix3 b row e) := by
  blk_simp [iblk, idx t]
  entry_read
  pointwise
  blk_ext [idx t]

/-- A value lane of the block before. -/
theorem vp_entry (c : Dev nD) (t : Fin cfg0.N) (r : Fin 128) (e : Fin 128) (b : Fin 4) (row : Fin 4352)
    (hb : b.val = t.val / 34) (hr : row.val = max 2 (t.val % 34 - 1) * 128 + r.val) :
    iblk m c 7 t (ix3 0 r e) = m ((c : Thread nD τ).loc main_arg2) (ix3 b row e) := by
  blk_simp [iblk, idx t]
  entry_read
  pointwise
  blk_ext [idx t]

/-- A value lane of the block itself. -/
theorem vn_entry (c : Dev nD) (t : Fin cfg0.N) (r : Fin 128) (e : Fin 128) (b : Fin 4) (row : Fin 4352)
    (hb : b.val = t.val / 34) (hr : row.val = max 2 (t.val % 34) * 128 + r.val) :
    iblk m c 8 t (ix3 0 r e) = m ((c : Thread nD τ).loc main_arg2) (ix3 b row e) := by
  blk_simp [iblk, idx t]
  entry_read
  pointwise
  blk_ext [idx t]

/-- A value lane of the block after. -/
theorem vx_entry (c : Dev nD) (t : Fin cfg0.N) (r : Fin 128) (e : Fin 128) (b : Fin 4) (row : Fin 4352)
    (hb : b.val = t.val / 34) (hr : row.val = min 33 (max 2 (t.val % 34 + 1)) * 128 + r.val) :
    iblk m c 9 t (ix3 0 r e) = m ((c : Thread nD τ).loc main_arg2) (ix3 b row e) := by
  blk_simp [iblk, idx t]
  entry_read
  pointwise
  blk_ext [idx t]

/-- What a grid point leaves in its block, at a point of the context rows. -/
theorem outA (c : Dev nD) (t : Fin cfg0.N) (p : t.val % 34 ≤ 1) (p' : ¬2 ≤ t.val % 34) (Q : Fin 4 → Fin 4352 → Fin 512 → ℝ) (K : Fin 4 → Fin 4352 → Fin 128 → ℝ) (V : Fin 4 → Fin 4352 → Fin 128 → EReal) (S : Fin 8 → ℝ)
    (hq : ∀ b r e, m ((c : Thread nD τ).loc main_arg0) (ix3 b r e) = (Q b r e : EReal))
    (hk : ∀ b r e, m ((c : Thread nD τ).loc main_arg1) (ix3 b r e) = (K b r e : EReal))
    (hv : ∀ b r e, m ((c : Thread nD τ).loc main_arg2) (ix3 b r e) = V b r e)
    (hs : ∀ k, m ((c : Thread nD τ).loc main_arg3) (ix1 k) = (S k : EReal))
    (y : S1x128x512.Idx) (b g : Fin 4) (row : Fin 4352) (h : Fin 2) (e : Fin 64) (eb : b.val = t.val / 34) (er : row.val = t.val % 34 * 128 + (y 1).val)
    (eg : g.val = (y 2).val / 128) (eh : h.val = (y 2).val / 64 % 2) (ee : e.val = (y 2).val % 64) :
    outsAt0 m c t.val t.isLt y = result Q K V S b row g h e := by
  rw [outsAt0_A m c t p p']
  frame_out
  canon_tiles x w
  case piece0 =>
    have eg' : g = 3 := Fin.ext (by rw [eg]; show (y 2).val / 128 = 3; omega)
    subst eg'
    rw [pieceA3]
    have e2 : x = ix3 (0 : Fin 1) (⟨(x 1).val, x1_lt⟩ : Fin 128) (⟨(x 2).val, x2_lt⟩ : Fin 128) := by
      blk_ext []
    rw [e2]
    refine headsA Q K V S _ _ _ _ _ _ _ b 3 row h e ?_ ?_ ?_ (fun l => ?_) (fun j l => ?_) (fun j l => ?_) ?_ ?_
    · omega
    · show h.val = (x 2).val / 64
      omega
    · show e.val = (x 2).val % 64
      omega
    · rw [lanes3_at]
      refine congrArg (· * _) ((q_entry m c t _ _ b row eb ?_).trans (hq b row _))
      show row.val = t.val % 34 * 128 + (x 1).val
      omega
    · exact (kc_entry m c t j l b _ eb rfl).trans (hk b _ l)
    · exact (vc_entry m c t j l b _ eb rfl).trans (hv b _ l)
    · exact (s_read3 m c t _).trans (hs 3)
    · exact (s_read7 m c t _).trans (hs 7)
  case piece1 =>
    have eg' : g = 2 := Fin.ext (by rw [eg]; show (y 2).val / 128 = 2; omega)
    subst eg'
    rw [pieceA2]
    have e2 : x = ix3 (0 : Fin 1) (⟨(x 1).val, x1_lt⟩ : Fin 128) (⟨(x 2).val, x2_lt⟩ : Fin 128) := by
      blk_ext []
    rw [e2]
    refine headsA Q K V S _ _ _ _ _ _ _ b 2 row h e ?_ ?_ ?_ (fun l => ?_) (fun j l => ?_) (fun j l => ?_) ?_ ?_
    · omega
    · show h.val = (x 2).val / 64
      omega
    · show e.val = (x 2).val % 64
      omega
    · rw [lanes2_at]
      refine congrArg (· * _) ((q_entry m c t _ _ b row eb ?_).trans (hq b row _))
      show row.val = t.val % 34 * 128 + (x 1).val
      omega
    · exact (kc_entry m c t j l b _ eb rfl).trans (hk b _ l)
    · exact (vc_entry m c t j l b _ eb rfl).trans (hv b _ l)
    · exact (s_read2 m c t _).trans (hs 2)
    · exact (s_read6 m c t _).trans (hs 6)
  case piece2 =>
    have eg' : g = 1 := Fin.ext (by rw [eg]; show (y 2).val / 128 = 1; omega)
    subst eg'
    rw [pieceA1]
    have e2 : x = ix3 (0 : Fin 1) (⟨(x 1).val, x1_lt⟩ : Fin 128) (⟨(x 2).val, x2_lt⟩ : Fin 128) := by
      blk_ext []
    rw [e2]
    refine headsA Q K V S _ _ _ _ _ _ _ b 1 row h e ?_ ?_ ?_ (fun l => ?_) (fun j l => ?_) (fun j l => ?_) ?_ ?_
    · omega
    · show h.val = (x 2).val / 64
      omega
    · show e.val = (x 2).val % 64
      omega
    · rw [lanes1_at]
      refine congrArg (· * _) ((q_entry m c t _ _ b row eb ?_).trans (hq b row _))
      show row.val = t.val % 34 * 128 + (x 1).val
      omega
    · exact (kc_entry m c t j l b _ eb rfl).trans (hk b _ l)
    · exact (vc_entry m c t j l b _ eb rfl).trans (hv b _ l)
    · exact (s_read1 m c t _).trans (hs 1)
    · exact (s_read5 m c t _).trans (hs 5)
  case piece3 =>
    have eg' : g = 0 := Fin.ext (by rw [eg]; show (y 2).val / 128 = 0; omega)
    subst eg'
    rw [pieceA0]
    have e2 : x = ix3 (0 : Fin 1) (⟨(x 1).val, x1_lt⟩ : Fin 128) (⟨(x 2).val, x2_lt⟩ : Fin 128) := by
      blk_ext []
    rw [e2]
    refine headsA Q K V S _ _ _ _ _ _ _ b 0 row h e ?_ ?_ ?_ (fun l => ?_) (fun j l => ?_) (fun j l => ?_) ?_ ?_
    · omega
    · show h.val = (x 2).val / 64
      omega
    · show e.val = (x 2).val % 64
      omega
    · rw [lanes0_at]
      refine congrArg (· * _) ((q_entry m c t _ _ b row eb ?_).trans ((hq b row _).trans
        (congrArg (fun k => (Q b row k : EReal)) (Fin.ext (by show l.val = 0 * 128 + l.val; omega)))))
      show row.val = t.val % 34 * 128 + (x 1).val
      omega
    · exact (kc_entry m c t j l b _ eb rfl).trans (hk b _ l)
    · exact (vc_entry m c t j l b _ eb rfl).trans (hv b _ l)
    · exact (s_read0 m c t _).trans (hs 0)
    · exact (s_read4 m c t _).trans (hs 4)

/-- What a grid point leaves in its block, at a point of the rows after the context. -/
theorem outB (c : Dev nD) (t : Fin cfg0.N) (p : ¬t.val % 34 ≤ 1) (p' : 2 ≤ t.val % 34) (Q : Fin 4 → Fin 4352 → Fin 512 → ℝ) (K : Fin 4 → Fin 4352 → Fin 128 → ℝ) (V : Fin 4 → Fin 4352 → Fin 128 → EReal) (S : Fin 8 → ℝ)
    (hq : ∀ b r e, m ((c : Thread nD τ).loc main_arg0) (ix3 b r e) = (Q b r e : EReal))
    (hk : ∀ b r e, m ((c : Thread nD τ).loc main_arg1) (ix3 b r e) = (K b r e : EReal))
    (hv : ∀ b r e, m ((c : Thread nD τ).loc main_arg2) (ix3 b r e) = V b r e)
    (hs : ∀ k, m ((c : Thread nD τ).loc main_arg3) (ix1 k) = (S k : EReal))
    (y : S1x128x512.Idx) (b g : Fin 4) (row : Fin 4352) (h : Fin 2) (e : Fin 64) (eb : b.val = t.val / 34) (er : row.val = t.val % 34 * 128 + (y 1).val)
    (eg : g.val = (y 2).val / 128) (eh : h.val = (y 2).val / 64 % 2) (ee : e.val = (y 2).val % 64) :
    outsAt0 m c t.val t.isLt y = result Q K V S b row g h e := by
  have hn : t.val % 34 - 2 < 32 := by omega
  have hK := held_at (iblk m c 2 t) (iblk m c 4 t) (iblk m c 5 t) (iblk m c 6 t) (fun r e => (K b r e : EReal)) ⟨t.val % 34 - 2, hn⟩
    (fun j l => (kc_entry m c t j l b _ eb rfl).trans (hk b _ l))
    (fun j l => (kp_entry m c t j l b _ eb (by show max 2 (t.val % 34 - 2 + 1) * 128 + j.val = _; omega)).trans (hk b _ l))
    (fun j l => (kn_entry m c t j l b _ eb (by show (t.val % 34 - 2 + 2) * 128 + j.val = _; omega)).trans (hk b _ l))
    (fun j l => (kx_entry m c t j l b _ eb (by show min 33 (t.val % 34 - 2 + 3) * 128 + j.val = _; omega)).trans (hk b _ l))
  have hV := held_at (iblk m c 3 t) (iblk m c 7 t) (iblk m c 8 t) (iblk m c 9 t) (V b) ⟨t.val % 34 - 2, hn⟩
    (fun j l => (vc_entry m c t j l b _ eb rfl).trans (hv b _ l))
    (fun j l => (vp_entry m c t j l b _ eb (by show max 2 (t.val % 34 - 2 + 1) * 128 + j.val = _; omega)).trans (hv b _ l))
    (fun j l => (vn_entry m c t j l b _ eb (by show (t.val % 34 - 2 + 2) * 128 + j.val = _; omega)).trans (hv b _ l))
    (fun j l => (vx_entry m c t j l b _ eb (by show min 33 (t.val % 34 - 2 + 3) * 128 + j.val = _; omega)).trans (hv b _ l))
  rw [outsAt0_B m c t p p']
  frame_out
  canon_tiles x w
  case piece0 =>
    have eg' : g = 3 := Fin.ext (by rw [eg]; show (y 2).val / 128 = 3; omega)
    subst eg'
    rw [pieceB3]
    have e2 : x = ix3 (0 : Fin 1) (⟨(x 1).val, x1_lt⟩ : Fin 128) (⟨(x 2).val, x2_lt⟩ : Fin 128) := by
      blk_ext []
    rw [e2]
    refine headsB Q K V S _ _ _ _ _ _ _ _ b 3 row h e ⟨t.val % 34 - 2, hn⟩ ?_ ?_ ?_ ?_ (fun l => ?_) (fun j l => ?_) (fun j l => ?_) ?_ ?_
    · show row.val = (t.val % 34 - 2 + 2) * 128 + (x 1).val
      omega
    · show h.val = (x 2).val / 64
      omega
    · show e.val = (x 2).val % 64
      omega
    · exact congrArg (BitVec.ofNat 32) ((coord t).trans (by show t.val % 34 = t.val % 34 - 2 + 2; omega))
    · rw [lanes3_at]
      refine congrArg (· * _) ((q_entry m c t _ _ b row eb ?_).trans (hq b row _))
      show row.val = t.val % 34 * 128 + (x 1).val
      omega
    · exact hK j l
    · exact hV j l
    · exact (s_read3 m c t _).trans (hs 3)
    · exact (s_read7 m c t _).trans (hs 7)
  case piece1 =>
    have eg' : g = 2 := Fin.ext (by rw [eg]; show (y 2).val / 128 = 2; omega)
    subst eg'
    rw [pieceB2]
    have e2 : x = ix3 (0 : Fin 1) (⟨(x 1).val, x1_lt⟩ : Fin 128) (⟨(x 2).val, x2_lt⟩ : Fin 128) := by
      blk_ext []
    rw [e2]
    refine headsB Q K V S _ _ _ _ _ _ _ _ b 2 row h e ⟨t.val % 34 - 2, hn⟩ ?_ ?_ ?_ ?_ (fun l => ?_) (fun j l => ?_) (fun j l => ?_) ?_ ?_
    · show row.val = (t.val % 34 - 2 + 2) * 128 + (x 1).val
      omega
    · show h.val = (x 2).val / 64
      omega
    · show e.val = (x 2).val % 64
      omega
    · exact congrArg (BitVec.ofNat 32) ((coord t).trans (by show t.val % 34 = t.val % 34 - 2 + 2; omega))
    · rw [lanes2_at]
      refine congrArg (· * _) ((q_entry m c t _ _ b row eb ?_).trans (hq b row _))
      show row.val = t.val % 34 * 128 + (x 1).val
      omega
    · exact hK j l
    · exact hV j l
    · exact (s_read2 m c t _).trans (hs 2)
    · exact (s_read6 m c t _).trans (hs 6)
  case piece2 =>
    have eg' : g = 1 := Fin.ext (by rw [eg]; show (y 2).val / 128 = 1; omega)
    subst eg'
    rw [pieceB1]
    have e2 : x = ix3 (0 : Fin 1) (⟨(x 1).val, x1_lt⟩ : Fin 128) (⟨(x 2).val, x2_lt⟩ : Fin 128) := by
      blk_ext []
    rw [e2]
    refine headsB Q K V S _ _ _ _ _ _ _ _ b 1 row h e ⟨t.val % 34 - 2, hn⟩ ?_ ?_ ?_ ?_ (fun l => ?_) (fun j l => ?_) (fun j l => ?_) ?_ ?_
    · show row.val = (t.val % 34 - 2 + 2) * 128 + (x 1).val
      omega
    · show h.val = (x 2).val / 64
      omega
    · show e.val = (x 2).val % 64
      omega
    · exact congrArg (BitVec.ofNat 32) ((coord t).trans (by show t.val % 34 = t.val % 34 - 2 + 2; omega))
    · rw [lanes1_at]
      refine congrArg (· * _) ((q_entry m c t _ _ b row eb ?_).trans (hq b row _))
      show row.val = t.val % 34 * 128 + (x 1).val
      omega
    · exact hK j l
    · exact hV j l
    · exact (s_read1 m c t _).trans (hs 1)
    · exact (s_read5 m c t _).trans (hs 5)
  case piece3 =>
    have eg' : g = 0 := Fin.ext (by rw [eg]; show (y 2).val / 128 = 0; omega)
    subst eg'
    rw [pieceB0]
    have e2 : x = ix3 (0 : Fin 1) (⟨(x 1).val, x1_lt⟩ : Fin 128) (⟨(x 2).val, x2_lt⟩ : Fin 128) := by
      blk_ext []
    rw [e2]
    refine headsB Q K V S _ _ _ _ _ _ _ _ b 0 row h e ⟨t.val % 34 - 2, hn⟩ ?_ ?_ ?_ ?_ (fun l => ?_) (fun j l => ?_) (fun j l => ?_) ?_ ?_
    · show row.val = (t.val % 34 - 2 + 2) * 128 + (x 1).val
      omega
    · show h.val = (x 2).val / 64
      omega
    · show e.val = (x 2).val % 64
      omega
    · exact congrArg (BitVec.ofNat 32) ((coord t).trans (by show t.val % 34 = t.val % 34 - 2 + 2; omega))
    · rw [lanes0_at]
      refine congrArg (· * _) ((q_entry m c t _ _ b row eb ?_).trans ((hq b row _).trans
        (congrArg (fun k => (Q b row k : EReal)) (Fin.ext (by show l.val = 0 * 128 + l.val; omega)))))
      show row.val = t.val % 34 * 128 + (x 1).val
      omega
    · exact hK j l
    · exact hV j l
    · exact (s_read0 m c t _).trans (hs 0)
    · exact (s_read4 m c t _).trans (hs 4)

/-- The array the kernel leaves is the windowed attention. -/
theorem final (c : Dev nD) (Q : Fin 4 → Fin 4352 → Fin 512 → ℝ) (K : Fin 4 → Fin 4352 → Fin 128 → ℝ) (V : Fin 4 → Fin 4352 → Fin 128 → EReal) (S : Fin 8 → ℝ)
    (hq : ∀ b r e, m ((c : Thread nD τ).loc main_arg0) (ix3 b r e) = (Q b r e : EReal))
    (hk : ∀ b r e, m ((c : Thread nD τ).loc main_arg1) (ix3 b r e) = (K b r e : EReal))
    (hv : ∀ b r e, m ((c : Thread nD τ).loc main_arg2) (ix3 b r e) = V b r e)
    (hs : ∀ k, m ((c : Thread nD τ).loc main_arg3) (ix1 k) = (S k : EReal)) :
    (dats m 0 c).arrAt 10 cfg0.N = fun i : S4x4352x512.Idx => result Q K V S (i 0) (i 1) ⟨(i 2).val / 128, Nat.div_lt_of_lt_mul (i 2).isLt⟩
      ⟨(i 2).val / 64 % 2, Nat.mod_lt _ (by norm_num)⟩ ⟨(i 2).val % 64, Nat.mod_lt _ (by norm_num)⟩ := by
  refine (dats m 0 c).arrAt_eq_of_covers 10 _ (by decide +kernel) fun t hf y => ?_
  blk_simp
  rw [after0_10]
  by_cases p : t.val % 34 ≤ 1
  · refine outA m c t p (by omega) Q K V S hq hk hv hs y _ _ _ _ _ ?_ ?_ ?_ ?_ ?_
    all_goals blk_simp [idx t]
    all_goals (try dsimp only)
    all_goals idx_bounds
    all_goals omega
  · refine outB m c t p (by omega) Q K V S hq hk hv hs y _ _ _ _ _ ?_ ?_ ?_ ?_ ?_
    all_goals blk_simp [idx t]
    all_goals (try dsimp only)
    all_goals idx_bounds
    all_goals omega

end Cert.Win

end

end
-- ==== Proof.AdaSpec.lean ====
/-
  The modulation over the extended reals: the conditioning vectors of the samples and of the context, each put through
  `x / (1 + exp (-x))`, times a weight. Of the sixteen rows the last eleven are zeros.
-/
module

public import Idealize.ShloMosaic.PureOps.Ideal
public import Idealize.ShloMosaic.Lib.Pipeline.ValueKit

@[expose] public section

noncomputable section

namespace Cert.Ada

open Idealize.ShloMosaic

/-- The activation of one number. -/
def act (x : EReal) : EReal := x * Ideal.div (Ideal.ofBits .f32 0x3F800000#32) (Ideal.ofBits .f32 0x3F800000#32 + Ideal.exp (-x))

/-- Lane `k` of conditioning row `r`: the four samples', then the context's. -/
def cond (A0 : FVec Ideal ⟨2, ![4, 1024]⟩ .f32) (A1 : FVec Ideal ⟨1, ![1024]⟩ .f32) (r : Fin 5) (k : Fin 1024) : EReal :=
  if h : r.val < 4 then A0 (ix2 ⟨r.val, h⟩ k) else A1 (ix1 k)

/-- An entry of the modulation. -/
def modulation (A0 : FVec Ideal ⟨2, ![4, 1024]⟩ .f32) (A1 : FVec Ideal ⟨1, ![1024]⟩ .f32) (A2 : FVec Ideal ⟨2, ![1024, 6144]⟩ .f32)
    (r : Fin 16) (e : Fin 6144) : EReal :=
  if h : r.val < 5 then ∑ k, act (cond A0 A1 ⟨r.val, h⟩ k) * A2 (ix2 k e) else 0

end Cert.Ada

end

end
-- ==== Proof.AdaRef.lean ====
/-
  The reference's modulation read at an entry.
-/
module

public import proofs.«01_k».proof.Proof.AdaSpec
public import proofs.«01_k».proof.Proof.Gen.Reference5Ideal.Run

@[expose] public section

set_option maxRecDepth 16384

noncomputable section

namespace Cert.Ada

open Idealize.ShloMosaic Idealize.ShloMosaic.TcCoe
open Cert.Reference5Ideal Cert.Reference5Ideal.Gen Cert.Reference5Ideal.Value

/-- The samples' rows of the modulation. -/
def samples (A0 : FVec Ideal S4x1024 .f32) (A2 : FVec Ideal S1024x6144 .f32) : FVec Ideal S4x6144 .f32 :=
  Host.dotGeneral dot_S4x1024_S1024x6144_S4x6144_1_0_0_1_n_n none
    (mulf A0 (Host.divf (broadcastInDim S4x1024 ![] bcast_S_S4x1024 (constant (F := Ideal) S_ .f32 0x3F800000#32))
      (addf (broadcastInDim S4x1024 ![] bcast_S_S4x1024 (constant (F := Ideal) S_ .f32 0x3F800000#32)) (Host.exp (Host.negf A0))))) A2

/-- The activated row of the context. -/
def activated (X : FVec Ideal S1x1024 .f32) : FVec Ideal S1x1024 .f32 :=
  mulf X (Host.divf (broadcastInDim S1x1024 ![] bcast_S_S1x1024 (constant (F := Ideal) S_ .f32 0x3F800000#32))
    (addf (broadcastInDim S1x1024 ![] bcast_S_S1x1024 (constant (F := Ideal) S_ .f32 0x3F800000#32)) (Host.exp (Host.negf X))))

/-- The context's row of the modulation. -/
def context (A1 : FVec Ideal S1024 .f32) (A2 : FVec Ideal S1024x6144 .f32) : FVec Ideal S1x6144 .f32 :=
  Host.dotGeneral dot_S1x1024_S1024x6144_S1x6144_1_0_0_1_n_n none (activated (broadcastInDim S1x1024 ![1] bcast_S1024_S1x1024_1 A1)) A2

/-- The rows joined, with rows of zeros after them. -/
def joined (S : FVec Ideal S4x6144 .f32) (C : FVec Ideal S1x6144 .f32) : FVec Ideal S16x6144 .f32 :=
  pad S16x6144 ![0, 0] ![11, 0] ![0, 0] (concatenate S5x6144 0 [⟨S4x6144, S⟩, ⟨S1x6144, C⟩] concatenates_S4x6144_S1x6144_S5x6144_d0)
    (sitofp .f32 (constantI S_ 32 0#32)) pads_S5x6144_S16x6144_0110_000 h_S_

/-- An entry of the samples' rows. -/
theorem samples_at (A0 : FVec Ideal S4x1024 .f32) (A2 : FVec Ideal S1024x6144 .f32) (b : Fin 4) (e : Fin 6144) :
    samples A0 A2 (ix2 b e) = ∑ k, act (A0 (ix2 b k)) * A2 (ix2 k e) := by
  pointwise [samples, act]
  all_goals rfl

/-- An entry of the context's row. -/
theorem context_at (A1 : FVec Ideal S1024 .f32) (A2 : FVec Ideal S1024x6144 .f32) (e : Fin 6144) :
    context A1 A2 (ix2 0 e) = ∑ k, act (A1 (ix1 k)) * A2 (ix2 k e) := by
  pointwise [context, activated, act]
  all_goals rfl

/-- The reference's result at an entry. -/
theorem joined_at (A0 : FVec Ideal S4x1024 .f32) (A1 : FVec Ideal S1024 .f32) (A2 : FVec Ideal S1024x6144 .f32) (r : Fin 16) (e : Fin 6144) :
    joined (samples A0 A2) (context A1 A2) (ix2 r e) = modulation A0 A1 A2 r e := by
  have hs := samples_at A0 A2
  have hc := context_at A1 A2
  generalize samples A0 A2 = S at hs ⊢
  generalize context A1 A2 = C at hc ⊢
  pointwise [joined, modulation, cond]
  by_cases h : r.val < 5
  · refine (dif_pos (by omega)).trans ?_
    rw [dif_pos h]
    by_cases h' : r.val < 4
    · refine (dif_pos h').trans ?_
      simp only [dif_pos h']
      exact hs _ e
    · refine (dif_neg h').trans ?_
      simp only [dif_neg h']
      refine Eq.trans ?_ (hc e)
      exact congrArg (fun z : Fin 1 => C (ix2 z e)) (Subsingleton.elim _ _)
  · refine (dif_neg (by omega)).trans ?_
    rw [dif_neg h]
    show (((0#32).toInt : ℝ) : EReal) = 0
    norm_num

end Cert.Ada

end

end
-- ==== Proof.AdaFinal.lean ====
/-
  The modulation's blocks put together: the array the call leaves is the activated conditioning rows times the weight.
-/
module

public import proofs.«01_k».proof.Proof.AdaSpec
public import proofs.«01_k».proof.Proof.Gen.Kernel5Ideal.Value

@[expose] public section

set_option maxRecDepth 16384

noncomputable section

namespace Cert.Ada

open Idealize.ShloMosaic Idealize.ShloMosaic.TcCoe Idealize.SL.Sem
open Cert.Kernel5Ideal Cert.Kernel5Ideal.Gen Cert.Kernel5Ideal.Value

variable (m : (ℓ : Loc nD τ sig) → Buf (Elt Ideal) ℓ)

/-- Where every window's block lies at grid point `t`: quarter `t` of the columns. -/
theorem idx : ∀ t : Fin cfg0.N, win0_0.index t = ![0, 0] ∧ win0_1.index t = ![0, 0, t.val] ∧ win0_2.index t = ![0, t.val] :=
  (by decide +kernel : ∀ t : Fin grid0.N, _)

/-- The payload at an element: a row times a column. -/
theorem pay_at (x : Vec Ideal S16x1024 .bf16) (w : Vec Ideal S1x1024x1536 .bf16) (r : Fin 16) (l : Fin 1536) :
    k0_pay1 x w (ix2 r l) = ∑ k, x (ix2 r k) * w (ix3 0 k l) := by
  pointwise [k0_pay1]

/-- The conditioning rows. -/
def rows (A0 : FVec Ideal S4x1024 .f32) (A1 : FVec Ideal S1024 .f32) : FVec Ideal S5x1024 .f32 :=
  concatenate S5x1024 0 [⟨S4x1024, A0⟩, ⟨S1x1024, broadcastInDim S1x1024 ![1] bcast_S1024_S1x1024_1 A1⟩] concatenates_S4x1024_S1x1024_S5x1024_d0

/-- The activated rows, with rows of zeros after them. -/
def laid (X : FVec Ideal S5x1024 .f32) : FVec Ideal S16x1024 .bf16 :=
  truncf .bf16 (pad S16x1024 ![0, 0] ![11, 0] ![0, 0]
    (mulf X (Host.divf (broadcastInDim S5x1024 ![] bcast_S_S5x1024 (constant (F := Ideal) S_ .f32 0x3F800000#32))
      (addf (broadcastInDim S5x1024 ![] bcast_S_S5x1024 (constant (F := Ideal) S_ .f32 0x3F800000#32)) (Host.exp (Host.negf X)))))
    (sitofp .f32 (constantI S_ 32 0#32)) pads_S5x1024_S16x1024_0110_000 h_S_) bitsLt_bf16_f32

/-- The weight as one layer. -/
def layer (A2 : FVec Ideal S1024x6144 .f32) : FVec Ideal S1x1024x6144 .bf16 :=
  truncf .bf16 (broadcastInDim S1x1024x6144 ![1, 2] bcast_S1024x6144_S1x1024x6144_1_2 A2) bitsLt_bf16_f32

/-- A lane of the conditioning rows. -/
theorem rows_at (A0 : FVec Ideal S4x1024 .f32) (A1 : FVec Ideal S1024 .f32) (r : Fin 5) (k : Fin 1024) : rows A0 A1 (ix2 r k) = cond A0 A1 r k := by
  pointwise [rows, cond]
  all_goals rfl

/-- A lane of the activated rows. -/
theorem laid_at (X : FVec Ideal S5x1024 .f32) (r : Fin 16) (k : Fin 1024) :
    laid X (ix2 r k) = if h : r.val < 5 then act (X (ix2 ⟨r.val, h⟩ k)) else 0 := by
  pointwise [laid, act]
  by_cases h : r.val < 5
  · refine (dif_pos (by omega)).trans ?_
    rw [dif_pos h]
  · refine (dif_neg (by omega)).trans ?_
    rw [dif_neg h]
    show (((0#32).toInt : ℝ) : EReal) = 0
    norm_num

set_option maxHeartbeats 4000000 in
/-- The first operand of the call is the activated rows. -/
theorem x_whole (c : Dev nD) : Gen.V m c main_v4 = laid (rows (m ((c : Thread nD τ).loc main_arg0)) (m ((c : Thread nD τ).loc main_arg1))) := by
  simp only [Gen.V, hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

/-- A lane of the first operand. -/
theorem x_entry (c : Dev nD) (t : Fin cfg0.N) (r : Fin 16) (k : Fin 1024) : iblk m c 0 t (ix2 r k)
    = if h : r.val < 5 then act (cond (m ((c : Thread nD τ).loc main_arg0)) (m ((c : Thread nD τ).loc main_arg1)) ⟨r.val, h⟩ k) else 0 := by
  blk_simp [iblk, idx t]
  have e' : ((View.whole main_v4).slice (win0_0.rect t)).emb (ix2 r k) = ix2 r k := by
    blk_ext [idx t]
  rw [x_whole, e', laid_at]
  simp only [rows_at]

set_option maxHeartbeats 4000000 in
/-- The second operand of the call is the weight, as one layer. -/
theorem w_whole (c : Dev nD) : Gen.V m c main_v6
    = layer (m ((c : Thread nD τ).loc main_arg2)) := by
  simp only [Gen.V, hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

/-- An entry of the weight. -/
theorem w_entry (c : Dev nD) (t : Fin cfg0.N) (k : Fin 1024) (l : Fin 1536) (e : Fin 6144) (he : e.val = t.val * 1536 + l.val) :
    iblk m c 1 t (ix3 0 k l) = m ((c : Thread nD τ).loc main_arg2) (ix2 k e) := by
  blk_simp [iblk, idx t]
  have e' : ((View.whole main_v6).slice (win0_1.rect t)).emb (ix3 0 k l) = ix3 0 k e := by
    blk_ext [idx t]
  rw [w_whole, e']
  pointwise [layer]
  all_goals rfl

/-- The array the call leaves is the modulation. -/
theorem final (c : Dev nD) : (dats m 0 c).arrAt 2 cfg0.N = fun i : S16x6144.Idx =>
    modulation (m ((c : Thread nD τ).loc main_arg0)) (m ((c : Thread nD τ).loc main_arg1)) (m ((c : Thread nD τ).loc main_arg2)) (i 0) (i 1) := by
  refine (dats m 0 c).arrAt_eq_of_covers 2 _ (by decide +kernel) fun t hf y => ?_
  blk_simp
  rw [after0_2]
  have hN : t.val < 4 := t.isLt
  obtain ⟨r, l, rfl⟩ : ∃ (r : Fin 16) (l : Fin 1536), y = ix2 r l := ⟨y 0, y 1, eq_ix2 y⟩
  have e : ((View.whole main_v7).slice (win0_2.rect t)).emb (ix2 r l) = ix2 r (⟨t.val * 1536 + l.val, by omega⟩ : Fin 6144) := by
    blk_ext [idx t]
  frame_out
  rw [e, pay_at]
  change @Eq EReal _ (modulation _ _ _ r ⟨t.val * 1536 + l.val, by omega⟩)
  simp only [w_entry m c t _ l ⟨t.val * 1536 + l.val, by omega⟩ rfl, x_entry]
  unfold modulation
  by_cases h : r.val < 5
  · simp only [dif_pos h]
  · simp only [dif_neg h, zero_mul, Finset.sum_const_zero]

end Cert.Ada

end

end
-- ==== Proof.PrepFinite.lean ====
/-
  The precondition of the preparation read off: every entry of the columns that it normalises is a real number.
-/
module

public import proofs.«01_k».proof.Pre_finite6
public import Idealize.ShloMosaic.Lib.ReduceAll
public import Idealize.ShloMosaic.Lib.Pipeline.ValueKit

@[expose] public section

set_option maxRecDepth 16384

noncomputable section

namespace Cert.Pre_finite6

open Idealize.ShloMosaic

/-- The side conditions the precondition's operations state. -/
instance facts : Cert.Pre_finite6.Facts where
  slices_S17408x7680_S17408x1024_0_0 := by decide
  bcast_S_S17408x1024 := by decide
  reducesTo_S17408x1024_S_d0_1 := by decide
  h_S_ := by decide
  slices_S17408x7680_S17408x640_0_3584 := by decide
  bcast_S_S17408x640 := by decide
  reducesTo_S17408x640_S_d0_1 := by decide

instance : Subsingleton S_.Idx := ⟨fun a b => funext fun i => i.elim0⟩

/-- Two truth values whose conjunction is true are both true. -/
theorem both : ∀ a b : BitVec 1, IntOp.andi a b = 1#1 → a = 1#1 ∧ b = 1#1 := by decide

/-- The bits of plus infinity. -/
theorem bits_top : Ideal.ofBits .f32 0x7F800000#32 = (⊤ : EReal) := by simp [Ideal.ofBits, Ideal.ieee]

/-- A number whose absolute value is below plus infinity is a real. -/
theorem real_of_lt (x : EReal) (h : x < ⊤) (h' : -x < ⊤) : ∃ r : ℝ, x = (r : EReal) := by
  induction x using EReal.rec with
  | bot => simp at h'
  | top => simp at h
  | coe r => exact ⟨r, rfl⟩

/-- The entries of an array of 1024 columns whose test is true everywhere are reals. -/
theorem first_real (X : FVec Ideal S17408x1024 .f32)
    (e : Host.reduce IntOp.andi (cmpf .olt (Host.absf X) (broadcastInDim S17408x1024 ![] Facts.bcast_S_S17408x1024 (constant S_ .f32 0x7F800000#32)))
      (constantI S_ 1 1#1) Facts.reducesTo_S17408x1024_S_d0_1 Facts.h_S_ ix0 = 1#1) (n : Fin 17408) (c : Fin 1024) :
    ∃ x : ℝ, X (ix2 n c) = (x : EReal) := by
  have h := Host.reduce_andi_all _ _ _ _ _ e (ix2 n c)
  pointwise [bits_top] at h
  rw [Ideal.absf_def] at h
  have h' : max (X (ix2 n c) : EReal) (-(X (ix2 n c) : EReal)) < ⊤ := by
    by_contra hn
    rw [decide_eq_false hn] at h
    exact absurd h (by decide)
  exact real_of_lt _ (lt_of_le_of_lt (le_max_left _ _) h') (lt_of_le_of_lt (le_max_right _ _) h')

/-- The entries of an array of 640 columns whose test is true everywhere are reals. -/
theorem second_real (X : FVec Ideal S17408x640 .f32)
    (e : Host.reduce IntOp.andi (cmpf .olt (Host.absf X) (broadcastInDim S17408x640 ![] Facts.bcast_S_S17408x640 (constant S_ .f32 0x7F800000#32)))
      (constantI S_ 1 1#1) Facts.reducesTo_S17408x640_S_d0_1 Facts.h_S_ ix0 = 1#1) (n : Fin 17408) (c : Fin 640) :
    ∃ x : ℝ, X (ix2 n c) = (x : EReal) := by
  have h := Host.reduce_andi_all _ _ _ _ _ e (ix2 n c)
  pointwise [bits_top] at h
  rw [Ideal.absf_def] at h
  have h' : max (X (ix2 n c) : EReal) (-(X (ix2 n c) : EReal)) < ⊤ := by
    by_contra hn
    rw [decide_eq_false hn] at h
    exact absurd h (by decide)
  exact real_of_lt _ (lt_of_le_of_lt (le_max_left _ _) h') (lt_of_le_of_lt (le_max_right _ _) h')

/-- Where the precondition holds, the columns of the queries and keys are reals. -/
theorem reals (A0 : FVec Ideal S17408x7680 .f32) (A1 A2 : FVec Ideal S4096x64 .f32) (A3 : FVec Ideal S4x64 .f32) (A4 : FVec Ideal S5x1536 .f32)
    (A5 A6 : FVec Ideal S2x4 .f32) (h : fn (F := Ideal) A0 A1 A2 A3 A4 A5 A6 = fun _ => 1#1) (n : Fin 17408) (q : Fin 7680)
    (hq : q.val < 1024 ∨ 3584 ≤ q.val ∧ q.val < 4224) : ∃ z : ℝ, A0 (ix2 n q) = (z : EReal) := by
  obtain ⟨h0, h1⟩ := both _ _ (congrFun h ix0)
  rcases hq with hq | hq
  · obtain ⟨z, hz⟩ := first_real _ h0 n ⟨q.val, hq⟩
    refine ⟨z, Eq.trans ?_ hz⟩
    pointwise
  · obtain ⟨z, hz⟩ := second_real _ h1 n ⟨q.val - 3584, by omega⟩
    refine ⟨z, Eq.trans ?_ hz⟩
    pointwise
    exact congrArg (fun k => A0 (ix2 n k)) (Fin.ext (by simp only; omega))

end Cert.Pre_finite6

end

end
-- ==== Proof.PrepSpec.lean ====
/-
  The preparation of the attention operands over the extended reals: every head of 64 lanes normalised by the mean of its
  squares, times a gain; then, in the rows after the context, rotated by the row's angles.
-/
module

public import Idealize.ShloMosaic.PureOps.Ideal
public import Idealize.ShloMosaic.Lib.Pipeline.ValueKit

@[expose] public section

noncomputable section

namespace Cert.Prep

open Idealize.ShloMosaic

/-- Lane `e` of a head, normalised, with its gain. -/
def normed (x g : Fin 64 → EReal) (e : Fin 64) : EReal :=
  x e * Ideal.rsqrt (Ideal.div (∑ j, x j * x j) (Ideal.ofBits .f32 0x42800000#32) + Ideal.ofBits .f32 0x358637BD#32) * g e

/-- The partner of a lane in the rotation: sixteen lanes on in the first half of its axis, with a minus sign, sixteen
lanes back in the second. -/
def turned (y : Fin 64 → EReal) (e : Fin 64) : EReal :=
  if h : e.val % 32 < 16 then -y ⟨e.val + 16, by omega⟩ else y ⟨e.val - 16, by omega⟩

/-- Lane `e` of a head in row `r`: only normalised in the context's 256 rows, afterwards rotated too. -/
def prepped (x g : Fin 64 → EReal) (cos sin : Fin 4096 → Fin 64 → EReal) (r : Fin 4352) (e : Fin 64) : EReal :=
  if h : r.val < 256 then normed x g e
  else normed x g e * cos ⟨r.val - 256, by omega⟩ e + turned (normed x g) e * sin ⟨r.val - 256, by omega⟩ e

end Cert.Prep

end

end
-- ==== Proof.PrepRef.lean ====
/-
  The reference's preparation of eight heads, entry by entry.
-/
module

public import proofs.«01_k».proof.Proof.PrepSpec
public import proofs.«01_k».proof.Proof.Gen.Reference6Ideal.Run
public import Idealize.ShloMosaic.Lib.Pipeline.ValueKit

@[expose] public section

set_option maxRecDepth 16384

noncomputable section

namespace Cert.Prep

open Idealize.ShloMosaic Idealize.ShloMosaic.TcCoe Idealize.SL.Sem
open Cert.Reference6Ideal Cert.Reference6Ideal.Gen Cert.Reference6Ideal.Value

/-- Eight heads of the context's rows, normalised. -/
abbrev wideC (X : FVec Ideal S4x256x8x64 .f32) (g : FVec Ideal S64 .f32) : FVec Ideal S4x256x8x64 .f32 :=
  mulf (mulf X (broadcastInDim S4x256x8x64 ![0, 1, 2, 3] bcast_S4x256x8x1_S4x256x8x64_0_1_2_3 (Host.rsqrt (addf (Host.divf (broadcastInDim S4x256x8x1 ![0, 1, 2] bcast_S4x256x8_S4x256x8x1_0_1_2 (Host.reduceAdd (mulf X X) (constant S_ .f32 0x00000000#32) reducesTo_S4x256x8x64_S4x256x8_d3 h_S_)) (broadcastInDim S4x256x8x1 ![] bcast_S_S4x256x8x1 (constant S_ .f32 0x42800000#32))) (broadcastInDim S4x256x8x1 ![] bcast_S_S4x256x8x1 (constant S_ .f32 0x358637BD#32)))))) (broadcastInDim S4x256x8x64 ![0, 1, 2, 3] bcast_S1x1x1x64_S4x256x8x64_0_1_2_3 (broadcastInDim S1x1x1x64 ![3] bcast_S64_S1x1x1x64_3 g))

/-- Eight heads of the latent rows, normalised. -/
abbrev wideL (X : FVec Ideal S4x4096x8x64 .f32) (g : FVec Ideal S64 .f32) : FVec Ideal S4x4096x8x64 .f32 :=
  mulf (mulf X (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf X X) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x358637BD#32)))))) (broadcastInDim S4x4096x8x64 ![0, 1, 2, 3] bcast_S1x1x1x64_S4x4096x8x64_0_1_2_3 (broadcastInDim S1x1x1x64 ![3] bcast_S64_S1x1x1x64_3 g))

/-- The other half of each axis, the second with a minus sign, for eight heads. -/
abbrev wideT (Y : FVec Ideal S4x4096x8x64 .f32) : FVec Ideal S4x4096x8x64 .f32 :=
  shapeCast S4x4096x8x64 (concatenate S4x4096x8x2x2x16 4 [⟨S4x4096x8x2x1x16, (broadcastInDim S4x4096x8x2x1x16 ![0, 1, 2, 3, 5] bcast_S4x4096x8x2x16_S4x4096x8x2x1x16_0_1_2_3_5 (Host.negf (shapeCast S4x4096x8x2x16 (extractStridedSlice S4x4096x8x2x1x16 ![0, 0, 0, 0, 1, 0] (shapeCast S4x4096x8x2x2x16 Y shapeCasts_S4x4096x8x64_S4x4096x8x2x2x16) slices_S4x4096x8x2x2x16_S4x4096x8x2x1x16_0_0_0_0_1_0) shapeCasts_S4x4096x8x2x1x16_S4x4096x8x2x16)))⟩, ⟨S4x4096x8x2x1x16, (broadcastInDim S4x4096x8x2x1x16 ![0, 1, 2, 3, 5] bcast_S4x4096x8x2x16_S4x4096x8x2x1x16_0_1_2_3_5 (shapeCast S4x4096x8x2x16 (extractStridedSlice S4x4096x8x2x1x16 ![0, 0, 0, 0, 0, 0] (shapeCast S4x4096x8x2x2x16 Y shapeCasts_S4x4096x8x64_S4x4096x8x2x2x16) slices_S4x4096x8x2x2x16_S4x4096x8x2x1x16_0_0_0_0_0_0) shapeCasts_S4x4096x8x2x1x16_S4x4096x8x2x16))⟩] concatenates_S4x4096x8x2x1x16_S4x4096x8x2x1x16_S4x4096x8x2x2x16_d4) shapeCasts_S4x4096x8x2x2x16_S4x4096x8x64

/-- Eight heads of the context and the latent rows, prepared and joined. -/
def wide (P : FVec Ideal S4x4352x512 .f32) (g : FVec Ideal S64 .f32) (A1 A2 : FVec Ideal S4096x64 .f32) : FVec Ideal S17408x512 .f32 :=
  shapeCast S17408x512 (concatenate S4x4352x8x64 1 [⟨S4x256x8x64, wideC (shapeCast S4x256x8x64 (extractStridedSlice S4x256x512 ![0, 0, 0] P slices_S4x4352x512_S4x256x512_0_0_0) shapeCasts_S4x256x512_S4x256x8x64) g⟩,
    ⟨S4x4096x8x64, addf (mulf (wideL (shapeCast S4x4096x8x64 (extractStridedSlice S4x4096x512 ![0, 256, 0] P slices_S4x4352x512_S4x4096x512_0_256_0) shapeCasts_S4x4096x512_S4x4096x8x64) g) (broadcastInDim S4x4096x8x64 ![0, 1, 2, 3] bcast_S1x4096x1x64_S4x4096x8x64_0_1_2_3 (shapeCast S1x4096x1x64 A1 shapeCasts_S4096x64_S1x4096x1x64)))
      (mulf (wideT (wideL (shapeCast S4x4096x8x64 (extractStridedSlice S4x4096x512 ![0, 256, 0] P slices_S4x4352x512_S4x4096x512_0_256_0) shapeCasts_S4x4096x512_S4x4096x8x64) g)) (broadcastInDim S4x4096x8x64 ![0, 1, 2, 3] bcast_S1x4096x1x64_S4x4096x8x64_0_1_2_3 (shapeCast S1x4096x1x64 A2 shapeCasts_S4096x64_S1x4096x1x64)))⟩] concatenates_S4x256x8x64_S4x4096x8x64_S4x4352x8x64_d1) shapeCasts_S4x4352x8x64_S17408x512

/-- A lane of a normalised context row. -/
theorem wideC_at (X : FVec Ideal S4x256x8x64 .f32) (g : FVec Ideal S64 .f32) (b : Fin 4) (r : Fin 256) (h : Fin 8) (e : Fin 64) :
    wideC X g (ix4 b r h e) = normed (fun j => X (ix4 b r h j)) (fun j => g (ix1 j)) e := by
  pointwise [normed]

/-- A lane of a normalised latent row. -/
theorem wideL_at (X : FVec Ideal S4x4096x8x64 .f32) (g : FVec Ideal S64 .f32) (b : Fin 4) (r : Fin 4096) (h : Fin 8) (e : Fin 64) :
    wideL X g (ix4 b r h e) = normed (fun j => X (ix4 b r h j)) (fun j => g (ix1 j)) e := by
  pointwise [normed]

/-- The other half at a lane. -/
theorem wideT_at (Y : FVec Ideal S4x4096x8x64 .f32) (b : Fin 4) (r : Fin 4096) (h : Fin 8) (e : Fin 64) :
    wideT Y (ix4 b r h e) = turned (fun j => Y (ix4 b r h j)) e := by
  pointwise [turned]
  by_cases p : e.val % 32 < 16
  · rw [dif_pos p, dif_pos (by omega)]
    exact congrArg (fun l => -Y (ix4 b r h l)) (Fin.ext (by simp only; omega))
  · rw [dif_neg p, dif_neg (by omega)]
    exact congrArg (fun l => Y (ix4 b r h l)) (Fin.ext (by simp only; omega))

/-- An entry of the joined rows. -/
theorem wide_at (P : FVec Ideal S4x4352x512 .f32) (g : FVec Ideal S64 .f32) (A1 A2 : FVec Ideal S4096x64 .f32) (n : Fin 17408) (c : Fin 512) :
    wide P g A1 A2 (ix2 n c) = prepped (fun j => P (ix3 ⟨n.val / 4352, by omega⟩ ⟨n.val % 4352, by omega⟩ ⟨c.val / 64 * 64 + j.val, by omega⟩))
      (fun j => g (ix1 j)) (fun r j => A1 (ix2 r j)) (fun r j => A2 (ix2 r j)) ⟨n.val % 4352, by omega⟩ ⟨c.val % 64, by omega⟩ := by
  pointwise [wide, wideC_at, wideL_at, wideT_at]
  unfold prepped
  by_cases p : n.val % 4352 < 256
  · rw [dif_pos p, dif_pos p]
  · have e : (⟨256 + (n.val % 4352 - 256), by omega⟩ : Fin 4352) = ⟨n.val % 4352, by omega⟩ := Fin.ext (by simp only; omega)
    rw [dif_neg p, dif_neg p]
    simp only [e]

end Cert.Prep

end

end
-- ==== Proof.PrepRef2.lean ====
/-
  The reference's preparation of two heads, entry by entry.
-/
module

public import proofs.«01_k».proof.Proof.PrepSpec
public import proofs.«01_k».proof.Proof.Gen.Reference6Ideal.Run
public import Idealize.ShloMosaic.Lib.Pipeline.ValueKit

@[expose] public section

set_option maxRecDepth 16384

noncomputable section

namespace Cert.Prep

open Idealize.ShloMosaic Idealize.ShloMosaic.TcCoe Idealize.SL.Sem
open Cert.Reference6Ideal Cert.Reference6Ideal.Gen Cert.Reference6Ideal.Value

/-- Two heads of the context's rows, normalised. -/
abbrev slimC (X : FVec Ideal S4x256x2x64 .f32) (g : FVec Ideal S64 .f32) : FVec Ideal S4x256x2x64 .f32 :=
  mulf (mulf X (broadcastInDim S4x256x2x64 ![0, 1, 2, 3] bcast_S4x256x2x1_S4x256x2x64_0_1_2_3 (Host.rsqrt (addf (Host.divf (broadcastInDim S4x256x2x1 ![0, 1, 2] bcast_S4x256x2_S4x256x2x1_0_1_2 (Host.reduceAdd (mulf X X) (constant S_ .f32 0x00000000#32) reducesTo_S4x256x2x64_S4x256x2_d3 h_S_)) (broadcastInDim S4x256x2x1 ![] bcast_S_S4x256x2x1 (constant S_ .f32 0x42800000#32))) (broadcastInDim S4x256x2x1 ![] bcast_S_S4x256x2x1 (constant S_ .f32 0x358637BD#32)))))) (broadcastInDim S4x256x2x64 ![0, 1, 2, 3] bcast_S1x1x1x64_S4x256x2x64_0_1_2_3 (broadcastInDim S1x1x1x64 ![3] bcast_S64_S1x1x1x64_3 g))

/-- Two heads of the latent rows, normalised. -/
abbrev slimL (X : FVec Ideal S4x4096x2x64 .f32) (g : FVec Ideal S64 .f32) : FVec Ideal S4x4096x2x64 .f32 :=
  mulf (mulf X (broadcastInDim S4x4096x2x64 ![0, 1, 2, 3] bcast_S4x4096x2x1_S4x4096x2x64_0_1_2_3 (Host.rsqrt (addf (Host.divf (broadcastInDim S4x4096x2x1 ![0, 1, 2] bcast_S4x4096x2_S4x4096x2x1_0_1_2 (Host.reduceAdd (mulf X X) (constant S_ .f32 0x00000000#32) reducesTo_S4x4096x2x64_S4x4096x2_d3 h_S_)) (broadcastInDim S4x4096x2x1 ![] bcast_S_S4x4096x2x1 (constant S_ .f32 0x42800000#32))) (broadcastInDim S4x4096x2x1 ![] bcast_S_S4x4096x2x1 (constant S_ .f32 0x358637BD#32)))))) (broadcastInDim S4x4096x2x64 ![0, 1, 2, 3] bcast_S1x1x1x64_S4x4096x2x64_0_1_2_3 (broadcastInDim S1x1x1x64 ![3] bcast_S64_S1x1x1x64_3 g))

/-- The other half of each axis, the second with a minus sign, for two heads. -/
abbrev slimT (Y : FVec Ideal S4x4096x2x64 .f32) : FVec Ideal S4x4096x2x64 .f32 :=
  shapeCast S4x4096x2x64 (concatenate S4x4096x2x2x2x16 4 [⟨S4x4096x2x2x1x16, (broadcastInDim S4x4096x2x2x1x16 ![0, 1, 2, 3, 5] bcast_S4x4096x2x2x16_S4x4096x2x2x1x16_0_1_2_3_5 (Host.negf (shapeCast S4x4096x2x2x16 (extractStridedSlice S4x4096x2x2x1x16 ![0, 0, 0, 0, 1, 0] (shapeCast S4x4096x2x2x2x16 Y shapeCasts_S4x4096x2x64_S4x4096x2x2x2x16) slices_S4x4096x2x2x2x16_S4x4096x2x2x1x16_0_0_0_0_1_0) shapeCasts_S4x4096x2x2x1x16_S4x4096x2x2x16)))⟩, ⟨S4x4096x2x2x1x16, (broadcastInDim S4x4096x2x2x1x16 ![0, 1, 2, 3, 5] bcast_S4x4096x2x2x16_S4x4096x2x2x1x16_0_1_2_3_5 (shapeCast S4x4096x2x2x16 (extractStridedSlice S4x4096x2x2x1x16 ![0, 0, 0, 0, 0, 0] (shapeCast S4x4096x2x2x2x16 Y shapeCasts_S4x4096x2x64_S4x4096x2x2x2x16) slices_S4x4096x2x2x2x16_S4x4096x2x2x1x16_0_0_0_0_0_0) shapeCasts_S4x4096x2x2x1x16_S4x4096x2x2x16))⟩] concatenates_S4x4096x2x2x1x16_S4x4096x2x2x1x16_S4x4096x2x2x2x16_d4) shapeCasts_S4x4096x2x2x2x16_S4x4096x2x64

/-- Two heads of the context and the latent rows, prepared and joined. -/
def slim (P : FVec Ideal S4x4352x128 .f32) (g : FVec Ideal S64 .f32) (A1 A2 : FVec Ideal S4096x64 .f32) : FVec Ideal S17408x128 .f32 :=
  shapeCast S17408x128 (concatenate S4x4352x2x64 1 [⟨S4x256x2x64, slimC (shapeCast S4x256x2x64 (extractStridedSlice S4x256x128 ![0, 0, 0] P slices_S4x4352x128_S4x256x128_0_0_0) shapeCasts_S4x256x128_S4x256x2x64) g⟩,
    ⟨S4x4096x2x64, addf (mulf (slimL (shapeCast S4x4096x2x64 (extractStridedSlice S4x4096x128 ![0, 256, 0] P slices_S4x4352x128_S4x4096x128_0_256_0) shapeCasts_S4x4096x128_S4x4096x2x64) g) (broadcastInDim S4x4096x2x64 ![0, 1, 2, 3] bcast_S1x4096x1x64_S4x4096x2x64_0_1_2_3 (shapeCast S1x4096x1x64 A1 shapeCasts_S4096x64_S1x4096x1x64)))
      (mulf (slimT (slimL (shapeCast S4x4096x2x64 (extractStridedSlice S4x4096x128 ![0, 256, 0] P slices_S4x4352x128_S4x4096x128_0_256_0) shapeCasts_S4x4096x128_S4x4096x2x64) g)) (broadcastInDim S4x4096x2x64 ![0, 1, 2, 3] bcast_S1x4096x1x64_S4x4096x2x64_0_1_2_3 (shapeCast S1x4096x1x64 A2 shapeCasts_S4096x64_S1x4096x1x64)))⟩] concatenates_S4x256x2x64_S4x4096x2x64_S4x4352x2x64_d1) shapeCasts_S4x4352x2x64_S17408x128

/-- A lane of a normalised context row. -/
theorem slimC_at (X : FVec Ideal S4x256x2x64 .f32) (g : FVec Ideal S64 .f32) (b : Fin 4) (r : Fin 256) (h : Fin 2) (e : Fin 64) :
    slimC X g (ix4 b r h e) = normed (fun j => X (ix4 b r h j)) (fun j => g (ix1 j)) e := by
  pointwise [normed]

/-- A lane of a normalised latent row. -/
theorem slimL_at (X : FVec Ideal S4x4096x2x64 .f32) (g : FVec Ideal S64 .f32) (b : Fin 4) (r : Fin 4096) (h : Fin 2) (e : Fin 64) :
    slimL X g (ix4 b r h e) = normed (fun j => X (ix4 b r h j)) (fun j => g (ix1 j)) e := by
  pointwise [normed]

/-- The other half at a lane. -/
theorem slimT_at (Y : FVec Ideal S4x4096x2x64 .f32) (b : Fin 4) (r : Fin 4096) (h : Fin 2) (e : Fin 64) :
    slimT Y (ix4 b r h e) = turned (fun j => Y (ix4 b r h j)) e := by
  pointwise [turned]
  by_cases p : e.val % 32 < 16
  · rw [dif_pos p, dif_pos (by omega)]
    exact congrArg (fun l => -Y (ix4 b r h l)) (Fin.ext (by simp only; omega))
  · rw [dif_neg p, dif_neg (by omega)]
    exact congrArg (fun l => Y (ix4 b r h l)) (Fin.ext (by simp only; omega))

/-- An entry of the joined rows. -/
theorem slim_at (P : FVec Ideal S4x4352x128 .f32) (g : FVec Ideal S64 .f32) (A1 A2 : FVec Ideal S4096x64 .f32) (n : Fin 17408) (c : Fin 128) :
    slim P g A1 A2 (ix2 n c) = prepped (fun j => P (ix3 ⟨n.val / 4352, by omega⟩ ⟨n.val % 4352, by omega⟩ ⟨c.val / 64 * 64 + j.val, by omega⟩))
      (fun j => g (ix1 j)) (fun r j => A1 (ix2 r j)) (fun r j => A2 (ix2 r j)) ⟨n.val % 4352, by omega⟩ ⟨c.val % 64, by omega⟩ := by
  pointwise [slim, slimC_at, slimL_at, slimT_at]
  unfold prepped
  by_cases p : n.val % 4352 < 256
  · rw [dif_pos p, dif_pos p]
  · have e : (⟨256 + (n.val % 4352 - 256), by omega⟩ : Fin 4352) = ⟨n.val % 4352, by omega⟩ := Fin.ext (by simp only; omega)
    rw [dif_neg p, dif_neg p]
    simp only [e]

end Cert.Prep

end

end
-- ==== Proof.PrepRes.lean ====
/-
  The first six results of the preparation's reference, read at an index.
-/
module

public import proofs.«01_k».proof.Proof.PrepRef
public import proofs.«01_k».proof.Proof.PrepRef2

@[expose] public section

set_option maxRecDepth 16384

noncomputable section

namespace Cert.Prep

open Idealize.ShloMosaic Idealize.ShloMosaic.TcCoe Idealize.SL.Sem Idealize.ShloMosaic.StableHlo
open Cert.Reference6Ideal Cert.Reference6Ideal.Gen Cert.Reference6Ideal.Value

variable (m : (ℓ : Loc nD τ sig) → Buf (Elt Ideal) ℓ)

/-- The first attention's queries. -/
theorem ref_qa (c : Dev nD) : wide (res_main_v1 (launchContents m c)) (res_main_v3 (launchContents m c)) (m ((c : Thread nD τ).loc main_arg1)) (m ((c : Thread nD τ).loc main_arg2))
    = fun i : S17408x512.Idx => prepped (fun j => m ((c : Thread nD τ).loc main_arg0) (ix2 (i 0 : Fin 17408) ⟨0 + ((i 1).val / 64 * 64 + j.val), by have h : (i 1).val < 512 := (i 1).isLt; omega⟩))
      (fun j => m ((c : Thread nD τ).loc main_arg3) (ix2 0 j)) (fun r j => m ((c : Thread nD τ).loc main_arg1) (ix2 r j))
      (fun r j => m ((c : Thread nD τ).loc main_arg2) (ix2 r j)) ⟨(i 0).val % 4352, by omega⟩ ⟨(i 1).val % 64, by omega⟩ := by
  refine funext fun i => ?_
  obtain ⟨n, e, rfl⟩ : ∃ (n : Fin 17408) (e : Fin 512), i = ix2 n e := ⟨i 0, i 1, eq_ix2 i⟩
  rw [wide_at]
  have h1 : ∀ j : Fin 64, res_main_v1 (F := Ideal) (launchContents m c) (ix3 ⟨n.val / 4352, by omega⟩ ⟨n.val % 4352, by omega⟩ ⟨e.val / 64 * 64 + j.val, by omega⟩)
      = m ((c : Thread nD τ).loc main_arg0) (ix2 n ⟨0 + (e.val / 64 * 64 + j.val), by omega⟩) := fun j => by
    pointwise [res_main_v1, res_main_v0]
  have h2 : ∀ j : Fin 64, res_main_v3 (F := Ideal) (launchContents m c) (ix1 j) = m ((c : Thread nD τ).loc main_arg3) (ix2 0 j) := fun j => by
    pointwise [res_main_v3]
  simp only [h1, h2]
  rfl

/-- The first attention's keys. -/
theorem ref_ka (c : Dev nD) : wide (res_main_v53 (launchContents m c)) (res_main_v55 (launchContents m c)) (m ((c : Thread nD τ).loc main_arg1)) (m ((c : Thread nD τ).loc main_arg2))
    = fun i : S17408x512.Idx => prepped (fun j => m ((c : Thread nD τ).loc main_arg0) (ix2 (i 0 : Fin 17408) ⟨512 + ((i 1).val / 64 * 64 + j.val), by have h : (i 1).val < 512 := (i 1).isLt; omega⟩))
      (fun j => m ((c : Thread nD τ).loc main_arg3) (ix2 1 j)) (fun r j => m ((c : Thread nD τ).loc main_arg1) (ix2 r j))
      (fun r j => m ((c : Thread nD τ).loc main_arg2) (ix2 r j)) ⟨(i 0).val % 4352, by omega⟩ ⟨(i 1).val % 64, by omega⟩ := by
  refine funext fun i => ?_
  obtain ⟨n, e, rfl⟩ : ∃ (n : Fin 17408) (e : Fin 512), i = ix2 n e := ⟨i 0, i 1, eq_ix2 i⟩
  rw [wide_at]
  have h1 : ∀ j : Fin 64, res_main_v53 (F := Ideal) (launchContents m c) (ix3 ⟨n.val / 4352, by omega⟩ ⟨n.val % 4352, by omega⟩ ⟨e.val / 64 * 64 + j.val, by omega⟩)
      = m ((c : Thread nD τ).loc main_arg0) (ix2 n ⟨512 + (e.val / 64 * 64 + j.val), by omega⟩) := fun j => by
    pointwise [res_main_v53, res_main_v0]
  have h2 : ∀ j : Fin 64, res_main_v55 (F := Ideal) (launchContents m c) (ix1 j) = m ((c : Thread nD τ).loc main_arg3) (ix2 1 j) := fun j => by
    pointwise [res_main_v55]
  simp only [h1, h2]
  rfl

/-- The first attention's values. -/
theorem ref_va (c : Dev nD) : shapeCast S17408x512 (extractStridedSlice S4x4352x512 ![0, 0, 1024] (res_main_v0 (F := Ideal) (launchContents m c)) slices_S4x4352x7680_S4x4352x512_0_0_1024) shapeCasts_S4x4352x512_S17408x512
    = fun i : S17408x512.Idx => m ((c : Thread nD τ).loc main_arg0) (ix2 (i 0 : Fin 17408) ⟨1024 + (i 1).val, by have h : (i 1).val < 512 := (i 1).isLt; omega⟩) := by
  refine funext fun i => ?_
  obtain ⟨n, e, rfl⟩ : ∃ (n : Fin 17408) (e : Fin 512), i = ix2 n e := ⟨i 0, i 1, eq_ix2 i⟩
  pointwise [res_main_v0]

/-- The second attention's queries. -/
theorem ref_qb (c : Dev nD) : wide (res_main_v107 (launchContents m c)) (res_main_v109 (launchContents m c)) (m ((c : Thread nD τ).loc main_arg1)) (m ((c : Thread nD τ).loc main_arg2))
    = fun i : S17408x512.Idx => prepped (fun j => m ((c : Thread nD τ).loc main_arg0) (ix2 (i 0 : Fin 17408) ⟨3584 + ((i 1).val / 64 * 64 + j.val), by have h : (i 1).val < 512 := (i 1).isLt; omega⟩))
      (fun j => m ((c : Thread nD τ).loc main_arg3) (ix2 2 j)) (fun r j => m ((c : Thread nD τ).loc main_arg1) (ix2 r j))
      (fun r j => m ((c : Thread nD τ).loc main_arg2) (ix2 r j)) ⟨(i 0).val % 4352, by omega⟩ ⟨(i 1).val % 64, by omega⟩ := by
  refine funext fun i => ?_
  obtain ⟨n, e, rfl⟩ : ∃ (n : Fin 17408) (e : Fin 512), i = ix2 n e := ⟨i 0, i 1, eq_ix2 i⟩
  rw [wide_at]
  have h1 : ∀ j : Fin 64, res_main_v107 (F := Ideal) (launchContents m c) (ix3 ⟨n.val / 4352, by omega⟩ ⟨n.val % 4352, by omega⟩ ⟨e.val / 64 * 64 + j.val, by omega⟩)
      = m ((c : Thread nD τ).loc main_arg0) (ix2 n ⟨3584 + (e.val / 64 * 64 + j.val), by omega⟩) := fun j => by
    pointwise [res_main_v107, res_main_v0]
  have h2 : ∀ j : Fin 64, res_main_v109 (F := Ideal) (launchContents m c) (ix1 j) = m ((c : Thread nD τ).loc main_arg3) (ix2 2 j) := fun j => by
    pointwise [res_main_v109]
  simp only [h1, h2]
  rfl

/-- The second attention's keys. -/
theorem ref_kb (c : Dev nD) : slim (res_main_v159 (launchContents m c)) (res_main_v161 (launchContents m c)) (m ((c : Thread nD τ).loc main_arg1)) (m ((c : Thread nD τ).loc main_arg2))
    = fun i : S17408x128.Idx => prepped (fun j => m ((c : Thread nD τ).loc main_arg0) (ix2 (i 0 : Fin 17408) ⟨4096 + ((i 1).val / 64 * 64 + j.val), by have h : (i 1).val < 128 := (i 1).isLt; omega⟩))
      (fun j => m ((c : Thread nD τ).loc main_arg3) (ix2 3 j)) (fun r j => m ((c : Thread nD τ).loc main_arg1) (ix2 r j))
      (fun r j => m ((c : Thread nD τ).loc main_arg2) (ix2 r j)) ⟨(i 0).val % 4352, by omega⟩ ⟨(i 1).val % 64, by omega⟩ := by
  refine funext fun i => ?_
  obtain ⟨n, e, rfl⟩ : ∃ (n : Fin 17408) (e : Fin 128), i = ix2 n e := ⟨i 0, i 1, eq_ix2 i⟩
  rw [slim_at]
  have h1 : ∀ j : Fin 64, res_main_v159 (F := Ideal) (launchContents m c) (ix3 ⟨n.val / 4352, by omega⟩ ⟨n.val % 4352, by omega⟩ ⟨e.val / 64 * 64 + j.val, by omega⟩)
      = m ((c : Thread nD τ).loc main_arg0) (ix2 n ⟨4096 + (e.val / 64 * 64 + j.val), by omega⟩) := fun j => by
    pointwise [res_main_v159, res_main_v0]
  have h2 : ∀ j : Fin 64, res_main_v161 (F := Ideal) (launchContents m c) (ix1 j) = m ((c : Thread nD τ).loc main_arg3) (ix2 3 j) := fun j => by
    pointwise [res_main_v161]
  simp only [h1, h2]
  rfl

/-- The second attention's values. -/
theorem ref_vb (c : Dev nD) : shapeCast S17408x128 (extractStridedSlice S4x4352x128 ![0, 0, 4224] (res_main_v0 (F := Ideal) (launchContents m c)) slices_S4x4352x7680_S4x4352x128_0_0_4224) shapeCasts_S4x4352x128_S17408x128
    = fun i : S17408x128.Idx => m ((c : Thread nD τ).loc main_arg0) (ix2 (i 0 : Fin 17408) ⟨4224 + (i 1).val, by have h : (i 1).val < 128 := (i 1).isLt; omega⟩) := by
  refine funext fun i => ?_
  obtain ⟨n, e, rfl⟩ : ∃ (n : Fin 17408) (e : Fin 128), i = ix2 n e := ⟨i 0, i 1, eq_ix2 i⟩
  pointwise [res_main_v0]

end Cert.Prep

end

end
-- ==== Proof.PrepBlock.lean ====
/-
  One stored tile of the preparation: two heads of 64 lanes side by side, normalised through a product with a matrix of
  blocks of 1/64, and rotated by two cyclic shifts of the 128 lanes.
-/
module

public import proofs.«01_k».proof.Proof.PrepSpec
public import proofs.«01_k».proof.Proof.Softmax
public import proofs.«01_k».proof.Proof.Gen.Kernel6Ideal.Value
public import Idealize.ShloMosaic.Lib.Pipeline.ValueKit

@[expose] public section

set_option maxRecDepth 16384

noncomputable section

namespace Cert.Prep

open Idealize.ShloMosaic Idealize.ShloMosaic.TcCoe Idealize.SL.Sem
open Cert.Kernel6Ideal Cert.Kernel6Ideal.Gen Cert.Kernel6Ideal.Value

/-- The matrix that sums a head: 1/64 where both lanes are of the same head. -/
abbrev seg : FVec Ideal S128x128 .bf16 := k0_pay6 (F := Ideal) k0_pay2 k0_pay3 k0_pay4 k0_pay5

/-- The head of a lane, by the kernel's floor division. -/
theorem head_i (i j : Fin 128) : k0_pay2 (ix2 i j) = BitVec.ofNat 32 (i.val / 64) := by
  pointwise [k0_pay2]
  revert i
  decide +kernel

/-- The head of the other lane, by the kernel's floor division. -/
theorem head_j (i j : Fin 128) : Scalar.select (IntOp.andi (k0_pay4 (ix2 i j)) (k0_pay5 (ix2 i j))) (IntOp.subi (k0_pay3 (ix2 i j)) 1#32) (k0_pay3 (ix2 i j))
    = BitVec.ofNat 32 (j.val / 64) := by
  pointwise [k0_pay3, k0_pay4, k0_pay5]
  revert j
  decide +kernel

/-- Two heads compared. -/
theorem same_head : ∀ i j : Fin 128, IntOp.cmpi CmpIPredicate.eq (BitVec.ofNat 32 (i.val / 64)) (BitVec.ofNat 32 (j.val / 64))
    = if i.val / 64 = j.val / 64 then 1#1 else 0#1 := by
  decide +kernel

/-- An entry of the summing matrix. -/
theorem seg_at (i j : Fin 128) : seg (ix2 i j) = if i.val / 64 = j.val / 64 then Ideal.ofBits .f32 0x3C800000#32 else (0 : EReal) := by
  pointwise [seg, k0_pay6, head_i]
  rw [head_j, same_head]
  split_ifs <;> rfl

/-- A tile: normalised by the mean of the squares of each head, times the gain, and rotated. -/
abbrev tile (x : FVec Ideal S256x128 .f32) (g : FVec Ideal S1x128 .f32) (cos sa sb : FVec Ideal S256x128 .f32) : FVec Ideal S256x128 .f32 :=
  k0_pay11 seg (k0_pay7 cos) (k0_pay8 sa) (k0_pay9 sb) x g

/-- The bits of one sixty-fourth. -/
theorem bits_64th : Ideal.ofBits .f32 0x3C800000#32 = ((1 / 64 : ℝ) : EReal) := by
  simp [Ideal.ofBits, Ideal.ieee, -EReal.coe_mul]; norm_num

/-- The bits of sixty-four. -/
theorem bits_64 : Ideal.ofBits .f32 0x42800000#32 = ((64 : ℝ) : EReal) := by
  simp [Ideal.ofBits, Ideal.ieee, -EReal.coe_mul]; norm_num

/-- Lane `k` of the head in which lane `l` lies. -/
abbrev mate (l : Fin 128) (k : Fin 64) : Fin 128 := ⟨l.val / 64 * 64 + k.val, by omega⟩

/-- The place of a lane in its head. -/
abbrev place (l : Fin 128) : Fin 64 := ⟨l.val % 64, by omega⟩

/-- Of the 128 lanes, the sum of those of one head. -/
theorem sum_head (f : Fin 128 → ℝ) (l : Fin 128) : (∑ k, if k.val / 64 = l.val / 64 then f k else 0) = ∑ k, f (mate l k) := by
  rw [← Finset.sum_filter]
  refine (Finset.sum_bij (fun k _ => mate l k) (fun k _ => ?_) (fun a _ b _ h => ?_) (fun b hb => ?_) (fun _ _ => rfl)).symm
  · simp only [Finset.mem_filter, Finset.mem_univ, true_and]
    omega
  · have := congrArg Fin.val h
    exact Fin.ext (by simp only at this; omega)
  · simp only [Finset.mem_filter, Finset.mem_univ, true_and] at hb
    exact ⟨place b, Finset.mem_univ _, Fin.ext (by simp only; omega)⟩

/-- The product with the summing matrix is the mean of the squares of a head, the rest of the rounding being nothing. -/
theorem mean_head (X : Fin 128 → ℝ) (x : Fin 128 → EReal) (hx : ∀ k, x k = (X k : EReal)) (l : Fin 128) :
    (∑ k, x k * x k * seg (ix2 k l) + ∑ k, (x k * x k - x k * x k) * seg (ix2 k l) : EReal)
      = Ideal.div (∑ k, x (mate l k) * x (mate l k)) (Ideal.ofBits .f32 0x42800000#32) := by
  have h2 : ∀ k, (x k * x k - x k * x k) * (seg (ix2 k l) : EReal) = 0 := fun k => by
    rw [hx, ← EReal.coe_mul, ← EReal.coe_sub, sub_self, EReal.coe_zero, zero_mul]
  have h1 : ∀ k, x k * x k * (seg (ix2 k l) : EReal) = ((if k.val / 64 = l.val / 64 then X k * X k * (1 / 64) else 0 : ℝ) : EReal) := fun k => by
    rw [hx, seg_at, bits_64th]
    split_ifs
    · rw [EReal.coe_mul, EReal.coe_mul]
    · rw [mul_zero, EReal.coe_zero]
  simp only [h2, h1, Finset.sum_const_zero, add_zero, ← Cert.Diff.coe_sum, sum_head (fun k => X k * X k * (1 / 64))]
  rw [bits_64, Ideal.div_coe (by norm_num)]
  simp only [hx, ← EReal.coe_mul, ← Cert.Diff.coe_sum, Finset.sum_mul]

/-- A lane normalised by the kernel's product is the lane of its head normalised. -/
theorem normed_lane (X : Fin 128 → ℝ) (x g : Fin 128 → EReal) (hx : ∀ k, x k = (X k : EReal)) (l : Fin 128) :
    x l * Ideal.rsqrt (∑ k, x k * x k * seg (ix2 k l) + ∑ k, (x k * x k - x k * x k) * seg (ix2 k l) + Ideal.ofBits .f32 0x358637BD#32) * g l
      = normed (fun k => x (mate l k)) (fun k => g (mate l k)) (place l) := by
  have e : mate l (place l) = l := Fin.ext (by simp only; omega)
  rw [mean_head X x hx]
  unfold normed
  simp only [e]

/-- A tile at an element. -/
theorem tile_at (x : FVec Ideal S256x128 .f32) (g : FVec Ideal S1x128 .f32) (cos sa sb : FVec Ideal S256x128 .f32) (r : Fin 256) (l : Fin 128)
    (X : Fin 128 → ℝ) (hx : ∀ k, x (ix2 r k) = (X k : EReal)) (C S : EReal) (hc : cos (ix2 r l) = C)
    (ha : sa (ix2 r l) = if l.val % 32 < 16 then -S else 0) (hb : sb (ix2 r l) = if l.val % 32 < 16 then 0 else S) :
    tile x g cos sa sb (ix2 r l)
      = normed (fun k => x (ix2 r (mate l k))) (fun k => g (ix2 0 (mate l k))) (place l) * C
        + turned (normed (fun k => x (ix2 r (mate l k))) (fun k => g (ix2 0 (mate l k)))) (place l) * S := by
  pointwise [tile, k0_pay11, k0_pay7, k0_pay8, k0_pay9]
  have n := normed_lane X (fun k => x (ix2 r k)) (fun k => g (ix2 0 k)) hx
  refine Eq.trans (b := ((normed (fun k => x (ix2 r (mate l k))) (fun k => g (ix2 0 (mate l k))) (place l) * C
    + normed (fun k => x (ix2 r (mate ⟨(l.val + 128 - 112) % 128, by omega⟩ k))) (fun k => g (ix2 0 (mate ⟨(l.val + 128 - 112) % 128, by omega⟩ k))) (place ⟨(l.val + 128 - 112) % 128, by omega⟩) * (if l.val % 32 < 16 then -S else 0)
    + normed (fun k => x (ix2 r (mate ⟨(l.val + 128 - 16) % 128, by omega⟩ k))) (fun k => g (ix2 0 (mate ⟨(l.val + 128 - 16) % 128, by omega⟩ k))) (place ⟨(l.val + 128 - 16) % 128, by omega⟩) * (if l.val % 32 < 16 then 0 else S) : EReal))) ?_ ?_
  · rw [← hc, ← ha, ← hb]
    exact congrArg₂ (· + ·) (congrArg₂ (· + ·) (congrArg (· * _) (n _)) (congrArg (· * _) (n _))) (congrArg (· * _) (n _))
  unfold turned
  by_cases h : l.val % 32 < 16
  · have h' : (place l).val % 32 < 16 := by simp only; omega
    have e1 : ∀ k, mate ⟨(l.val + 128 - 112) % 128, by omega⟩ k = mate l k := fun k => Fin.ext (by simp only; omega)
    have e2 : place ⟨(l.val + 128 - 112) % 128, by omega⟩ = ⟨(place l).val + 16, by omega⟩ := Fin.ext (by simp only; omega)
    rw [if_pos h, if_pos h, dif_pos h', mul_zero, add_zero, e2]
    simp only [e1, mul_neg, EReal.neg_mul]
  · have h' : ¬(place l).val % 32 < 16 := by simp only; omega
    have e1 : ∀ k, mate ⟨(l.val + 128 - 16) % 128, by omega⟩ k = mate l k := fun k => Fin.ext (by simp only; omega)
    have e2 : place ⟨(l.val + 128 - 16) % 128, by omega⟩ = ⟨(place l).val - 16, by omega⟩ := Fin.ext (by simp only; omega)
    rw [if_neg h, if_neg h, dif_neg h', mul_zero, add_zero, e2]
    simp only [e1]

end Cert.Prep

end

end
-- ==== Proof.PrepTables.lean ====
/-
  The tables of the preparation: cosines, and sines parted by the half of the axis in which a lane lies, one row for each
  row of a sample, ones and zeros in the context's rows; and the gains, each repeated for two heads.
-/
module

public import proofs.«01_k».proof.Proof.PrepSpec
public import proofs.«01_k».proof.Proof.Gen.Kernel6Ideal.Value
public import Idealize.ShloMosaic.Lib.Pipeline.ValueKit

@[expose] public section

set_option maxRecDepth 16384

noncomputable section

namespace Cert.Prep

open Idealize.ShloMosaic Idealize.ShloMosaic.TcCoe Idealize.SL.Sem
open Cert.Kernel6Ideal Cert.Kernel6Ideal.Gen Cert.Kernel6Ideal.Value

variable (m : (ℓ : Loc nD τ sig) → Buf (Elt Ideal) ℓ)

/-- A row of angles' values for every row of a sample, the context's rows all `z`, twice side by side. -/
def rows (z : BitVec 32) (A : FVec Ideal S4096x64 .f32) : FVec Ideal S4352x128 .f32 :=
  shapeCast S4352x128 (broadcastInDim S1x4352x2x64 ![0, 1, 2, 3] bcast_S1x4352x1x64_S1x4352x2x64_0_1_2_3 (shapeCast S1x4352x1x64 (concatenate S4352x64 0 [⟨S256x64, broadcastInDim S256x64 ![] bcast_S_S256x64 (constant (F := Ideal) S_ .f32 z)⟩, ⟨S4096x64, A⟩] concatenates_S256x64_S4096x64_S4352x64_d0) shapeCasts_S4352x64_S1x4352x1x64)) shapeCasts_S1x4352x2x64_S4352x128

/-- An entry of the rows. -/
theorem rows_at (z : BitVec 32) (A : FVec Ideal S4096x64 .f32) (r : Fin 4352) (l : Fin 128) :
    rows z A (ix2 r l) = if h : r.val < 256 then Ideal.ofBits .f32 z else A (ix2 ⟨r.val - 256, by omega⟩ ⟨l.val % 64, by omega⟩) := by
  pointwise [rows]
  all_goals rfl

set_option maxHeartbeats 16000000 in
/-- The cosines. -/
theorem cos_whole (c : Dev nD) : Gen.V m c main_v6 = rows 0x3F800000#32 (m ((c : Thread nD τ).loc main_arg1)) := by
  simp only [Gen.V, hostOps0, hostOps0_1, hostOps0_2, hostOps0_3, hostOps0_4, hostOps0_5, hostOps0_6, hostOps0_7, hostOps0_8, hostOps0_9, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp <;> (try dsimp only [Matrix.cons_val]) <;> (try after_results_simp) <;> rfl

/-- The number 32, put to the host's remainder as the divisor: were it zero, one would stand for it. -/
abbrev divisor : IVec S_ 32 := select (cmpi .eq (id (constantI S_ 32 32#32)) (constantI S_ 32 0#32)) (constantI S_ 32 1#32) (id (constantI S_ 32 32#32))

/-- The place of a lane in its axis, before the sign is put right. -/
abbrev rest : IVec S128 32 := Host.remsi (iotaInDim S128 32 0) (broadcastInDim S128 ![] bcast_S_S128 divisor)

/-- Whether a lane lies in the first half of its axis. -/
def first : IVec S128 1 :=
  cmpi .slt (select (andi (cmpi .ne (cmpi .slt rest (broadcastInDim S128 ![] bcast_S_S128 (constantI S_ 32 0#32)))
      (broadcastInDim S128 ![] bcast_S_S128 (cmpi .slt divisor (constantI S_ 32 0#32))))
      (cmpi .ne rest (broadcastInDim S128 ![] bcast_S_S128 (constantI S_ 32 0#32))))
    (addi rest (broadcastInDim S128 ![] bcast_S_S128 divisor)) rest) (broadcastInDim S128 ![] bcast_S_S128 (constantI S_ 32 16#32))

/-- A lane lies in the first half of its axis when its number's remainder by 32 is below 16. -/
theorem first_at (l : Fin 128) : first (ix1 l) = if l.val % 32 < 16 then 1#1 else 0#1 := by
  pointwise [first]
  revert l
  decide +kernel

/-- The sines of the first halves, negative. -/
def firstSines (B : FVec Ideal S4352x128 .f32) : FVec Ideal S4352x128 .f32 :=
  select (broadcastInDim S4352x128 ![1] bcast_S128_S4352x128_1 first) (Host.negf B) (broadcastInDim S4352x128 ![] bcast_S_S4352x128 (id (constant (F := Ideal) S_ .f32 0x00000000#32)))

/-- The sines of the second halves. -/
def secondSines (B : FVec Ideal S4352x128 .f32) : FVec Ideal S4352x128 .f32 :=
  select (broadcastInDim S4352x128 ![1] bcast_S128_S4352x128_1 first) (broadcastInDim S4352x128 ![] bcast_S_S4352x128 (id (constant (F := Ideal) S_ .f32 0x00000000#32))) B

/-- The bits of zero. -/
theorem bits_zero : Ideal.ofBits .f32 0x00000000#32 = (0 : EReal) := by simp [Ideal.ofBits, Ideal.ieee]

/-- The bits of one. -/
theorem bits_one : Ideal.ofBits .f32 0x3F800000#32 = (1 : EReal) := by
  rw [← EReal.coe_one]
  simp [Ideal.ofBits, Ideal.ieee, -EReal.coe_mul, -EReal.coe_one]; norm_num

/-- A negative sine of a first half, or zero. -/
theorem firstSines_at (B : FVec Ideal S4352x128 .f32) (r : Fin 4352) (l : Fin 128) :
    firstSines B (ix2 r l) = if l.val % 32 < 16 then (-(B (ix2 r l) : EReal)) else 0 := by
  pointwise [firstSines, first_at]
  split_ifs
  · rfl
  · exact bits_zero

/-- A sine of a second half, or zero. -/
theorem secondSines_at (B : FVec Ideal S4352x128 .f32) (r : Fin 4352) (l : Fin 128) :
    secondSines B (ix2 r l) = if l.val % 32 < 16 then (0 : EReal) else B (ix2 r l) := by
  pointwise [secondSines, first_at]
  split_ifs
  · exact bits_zero
  · rfl

set_option maxHeartbeats 16000000 in
/-- The first table of sines. -/
theorem sa_whole (c : Dev nD) : Gen.V m c main_v15 = firstSines (rows 0x00000000#32 (m ((c : Thread nD τ).loc main_arg2))) := by
  simp only [Gen.V, hostOps0, hostOps0_1, hostOps0_2, hostOps0_3, hostOps0_4, hostOps0_5, hostOps0_6, hostOps0_7, hostOps0_8, hostOps0_9, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp <;> (try dsimp only [Matrix.cons_val]) <;> (try after_results_simp) <;> rfl

set_option maxHeartbeats 16000000 in
/-- The second table of sines. -/
theorem sb_whole (c : Dev nD) : Gen.V m c main_v16 = secondSines (rows 0x00000000#32 (m ((c : Thread nD τ).loc main_arg2))) := by
  simp only [Gen.V, hostOps0, hostOps0_1, hostOps0_2, hostOps0_3, hostOps0_4, hostOps0_5, hostOps0_6, hostOps0_7, hostOps0_8, hostOps0_9, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp <;> (try dsimp only [Matrix.cons_val]) <;> (try after_results_simp) <;> rfl

/-- The gains, twice side by side. -/
def gains (A : FVec Ideal S4x64 .f32) : FVec Ideal S4x128 .f32 :=
  shapeCast S4x128 (broadcastInDim S1x4x2x64 ![0, 1, 2, 3] bcast_S1x4x1x64_S1x4x2x64_0_1_2_3 (shapeCast S1x4x1x64 A shapeCasts_S4x64_S1x4x1x64)) shapeCasts_S1x4x2x64_S4x128

/-- An entry of the gains. -/
theorem gains_at (A : FVec Ideal S4x64 .f32) (s : Fin 4) (l : Fin 128) : gains A (ix2 s l) = A (ix2 s ⟨l.val % 64, by omega⟩) := by
  pointwise [gains]
  all_goals rfl

set_option maxHeartbeats 16000000 in
/-- The operand of the gains. -/
theorem g_whole (c : Dev nD) : Gen.V m c main_v19 = gains (m ((c : Thread nD τ).loc main_arg3)) := by
  simp only [Gen.V, hostOps0, hostOps0_1, hostOps0_2, hostOps0_3, hostOps0_4, hostOps0_5, hostOps0_6, hostOps0_7, hostOps0_8, hostOps0_9, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp <;> (try dsimp only [Matrix.cons_val]) <;> (try after_results_simp) <;> rfl

end Cert.Prep

end

end
-- ==== Proof.PrepFinal.lean ====
/-
  The tiles of the preparation put together: what each of its first six results holds.
-/
module

public import proofs.«01_k».proof.Proof.PrepBlock
public import proofs.«01_k».proof.Proof.PrepTables
public import proofs.«01_k».proof.Proof.Gen.Kernel6Ideal.Value
public import Idealize.ShloMosaic.Lib.Pipeline.ValueKit

@[expose] public section

set_option maxRecDepth 16384

noncomputable section

namespace Cert.Prep

open Idealize.ShloMosaic Idealize.ShloMosaic.TcCoe Idealize.SL.Sem
open Cert.Kernel6Ideal Cert.Kernel6Ideal.Gen Cert.Kernel6Ideal.Value

variable (m : (ℓ : Loc nD τ sig) → Buf (Elt Ideal) ℓ)

/-- Where the blocks lie at grid point `t`: row block `t` of the arrays of tokens, row block `t % 17` of the tables. -/
theorem idx : ∀ t : Fin cfg0.N, win0_0.index t = ![t.val, 0] ∧ win0_3.index t = ![t.val % 17, 0]
    ∧ win0_4.index t = ![t.val % 17, 0] ∧ win0_5.index t = ![t.val % 17, 0] ∧ win0_6.index t = ![0, 0]
    ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, _)

/-- An entry of the tokens' block. -/
theorem x_entry (c : Dev nD) (t : Fin cfg0.N) (r : Fin 256) (k : Fin 4608) (n : Fin 17408) (hn : n.val = t.val * 256 + r.val) :
    X0_0 m c t (ix2 r k) = m ((c : Thread nD τ).loc main_arg0) (ix2 n ⟨k.val, by omega⟩) := by
  unfold X0_0 Pipeline.Window.fill
  rw [dif_pos (moved0_0 t _)]
  unfold iblk
  change V m c main_arg0 _ = _
  rw [V_main_arg0]
  refine congrArg (m ((c : Thread nD τ).loc main_arg0)) ?_
  blk_ext [idx t]

/-- An entry of the cosines' block. -/
theorem cos_entry (c : Dev nD) (t : Fin cfg0.N) (r : Fin 256) (l : Fin 128) (q : Fin 4352) (hq : q.val = t.val % 17 * 256 + r.val) :
    iblk m c 3 t (ix2 r l) = rows 0x3F800000#32 (m ((c : Thread nD τ).loc main_arg1)) (ix2 q l) := by
  blk_simp [iblk, idx t]
  rw [cos_whole]
  refine congrArg (rows _ _) ?_
  blk_ext [idx t]

/-- An entry of the first sines' block. -/
theorem sa_entry (c : Dev nD) (t : Fin cfg0.N) (r : Fin 256) (l : Fin 128) (q : Fin 4352) (hq : q.val = t.val % 17 * 256 + r.val) :
    iblk m c 4 t (ix2 r l) = firstSines (rows 0x00000000#32 (m ((c : Thread nD τ).loc main_arg2))) (ix2 q l) := by
  blk_simp [iblk, idx t]
  rw [sa_whole]
  refine congrArg (firstSines _) ?_
  blk_ext [idx t]

/-- An entry of the second sines' block. -/
theorem sb_entry (c : Dev nD) (t : Fin cfg0.N) (r : Fin 256) (l : Fin 128) (q : Fin 4352) (hq : q.val = t.val % 17 * 256 + r.val) :
    iblk m c 5 t (ix2 r l) = secondSines (rows 0x00000000#32 (m ((c : Thread nD τ).loc main_arg2))) (ix2 q l) := by
  blk_simp [iblk, idx t]
  rw [sb_whole]
  refine congrArg (secondSines _) ?_
  blk_ext [idx t]

/-- An entry of the gains' block. -/
theorem g_entry (c : Dev nD) (t : Fin cfg0.N) (s : Fin 4) (l : Fin 128) :
    iblk m c 6 t (ix2 s l) = m ((c : Thread nD τ).loc main_arg3) (ix2 s ⟨l.val % 64, by omega⟩) := by
  blk_simp [iblk, idx t]
  rw [g_whole]
  refine Eq.trans (b := gains (m ((c : Thread nD τ).loc main_arg3)) (ix2 s l)) (congrArg (gains _) ?_) (gains_at _ s l)
  blk_ext [idx t]

/-- A lane of a head, in a row of the prepared array: head and lane of column `e`, the head's columns from `o` on, its gain `s`. -/
abbrev entry (c : Dev nD) (n : Fin 17408) (o : Nat) (ho : o ≤ 7168) (s : Fin 4) (e : Fin 512) : EReal :=
  prepped (fun j => m ((c : Thread nD τ).loc main_arg0) (ix2 n ⟨o + (e.val / 64 * 64 + j.val), by omega⟩))
    (fun j => m ((c : Thread nD τ).loc main_arg3) (ix2 s j)) (fun r j => m ((c : Thread nD τ).loc main_arg1) (ix2 r j))
    (fun r j => m ((c : Thread nD τ).loc main_arg2) (ix2 r j)) ⟨n.val % 4352, by omega⟩ ⟨e.val % 64, by omega⟩

/-- A stored tile at an element. -/
theorem tile_entry (c : Dev nD) (t : Fin cfg0.N) (x : FVec Ideal S256x128 .f32) (g : FVec Ideal S1x128 .f32) (r : Fin 256) (l : Fin 128)
    (n : Fin 17408) (hn : n.val = t.val * 256 + r.val) (o : Nat) (ho : o ≤ 7168) (s : Fin 4) (e : Fin 512) (he : e.val % 128 = l.val)
    (hx : ∀ k : Fin 128, x (ix2 r k) = m ((c : Thread nD τ).loc main_arg0) (ix2 n ⟨o + (e.val / 128 * 128 + k.val), by omega⟩))
    (hg : ∀ k : Fin 128, g (ix2 0 k) = iblk m c 6 t (ix2 s k))
    (hr : ∀ k : Fin 128, ∃ z : ℝ, m ((c : Thread nD τ).loc main_arg0) (ix2 n ⟨o + (e.val / 128 * 128 + k.val), by omega⟩) = (z : EReal)) :
    tile x g (iblk m c 3 t) (iblk m c 4 t) (iblk m c 5 t) (ix2 r l) = entry m c n o ho s e := by
  choose X hX using hr
  have hN : t.val < 68 := t.isLt
  have hq : n.val % 4352 = t.val % 17 * 256 + r.val := by omega
  rw [tile_at x g _ _ _ r l X (fun k => (hx k).trans (hX k)) _ (rows 0x00000000#32 (m ((c : Thread nD τ).loc main_arg2)) (ix2 ⟨n.val % 4352, by omega⟩ l))
    (cos_entry m c t r l ⟨n.val % 4352, by omega⟩ hq) ((sa_entry m c t r l ⟨n.val % 4352, by omega⟩ hq).trans (firstSines_at _ _ _))
    ((sb_entry m c t r l ⟨n.val % 4352, by omega⟩ hq).trans (secondSines_at _ _ _))]
  have e1 : (fun k => x (ix2 r (mate l k))) = fun j : Fin 64 => m ((c : Thread nD τ).loc main_arg0) (ix2 n ⟨o + (e.val / 64 * 64 + j.val), by omega⟩) :=
    funext fun k => (hx _).trans (congrArg (fun q => m ((c : Thread nD τ).loc main_arg0) (ix2 n q)) (Fin.ext (by simp only; omega)))
  have e2 : (fun k => g (ix2 0 (mate l k))) = fun j : Fin 64 => m ((c : Thread nD τ).loc main_arg3) (ix2 s j) :=
    funext fun k => (hg _).trans ((g_entry m c t s _).trans (congrArg (fun q => m ((c : Thread nD τ).loc main_arg3) (ix2 s q)) (Fin.ext (by simp only; omega))))
  have e3 : place l = ⟨e.val % 64, by omega⟩ := Fin.ext (by simp only; omega)
  have e4 : (⟨l.val % 64, by omega⟩ : Fin 64) = ⟨e.val % 64, by omega⟩ := Fin.ext (by simp only; omega)
  rw [e1, e2, e3, rows_at, rows_at]
  unfold entry prepped
  by_cases h : n.val % 4352 < 256
  · rw [dif_pos h, dif_pos h, dif_pos h, bits_zero, bits_one, mul_zero, add_zero, mul_one]
  · rw [dif_neg h, dif_neg h, dif_neg h, e4]

/-- A stored tile, its columns loaded from `off` on and the gain's row `s`. -/
theorem tile_load (c : Dev nD) (t : Fin cfg0.N) (off : Nat) (inb : ∀ a, (![0, off] : Fin 2 → Nat) a + S256x128.size a ≤ S256x4608.size a)
    (s : Fin 4) (sn : Nat) (inbs : ∀ a, (![sn, 0] : Fin 2 → Nat) a + S1x128.size a ≤ S4x128.size a) (hs : s.val = sn) (r : Fin 256) (l : Fin 128)
    (n : Fin 17408) (hn : n.val = t.val * 256 + r.val) (o : Nat) (ho : o ≤ 7168) (e : Fin 512) (he : e.val % 128 = l.val)
    (hoff : off = o + e.val / 128 * 128) (hq : o + e.val / 128 * 128 + 128 ≤ 1024 ∨ 3584 ≤ o ∧ o + e.val / 128 * 128 + 128 ≤ 4224)
    (hr : ∀ (n : Fin 17408) (q : Fin 7680), (q.val < 1024 ∨ 3584 ≤ q.val ∧ q.val < 4224) → ∃ z : ℝ, m ((c : Thread nD τ).loc main_arg0) (ix2 n q) = (z : EReal)) :
    tile (View.ld (X0_0 m c t) (Rect.unit (s := S256x4608) ![0, off] S256x128.size inb)) (View.ld (iblk m c 6 t) (Rect.unit (s := S4x128) ![sn, 0] S1x128.size inbs))
      (iblk m c 3 t) (iblk m c 4 t) (iblk m c 5 t) (ix2 r l) = entry m c n o ho s e := by
  subst hs
  have b := inb 1
  have b' : off + 128 ≤ 4608 := b
  refine tile_entry m c t _ _ r l n hn o ho s e he (fun k => ?_) (fun k => ?_) (fun k => hr n _ (by simp only; omega))
  · pointwise
    refine (x_entry m c t r ⟨off + k.val, by omega⟩ n hn).trans ?_
    exact congrArg (fun q => m ((c : Thread nD τ).loc main_arg0) (ix2 n q)) (Fin.ext (by simp only; omega))
  · pointwise

/-- The first attention's queries, at one grid point. -/
theorem point_qa (c : Dev nD) (t : Fin cfg0.N) (r : Fin 256) (e : Fin 512) (n : Fin 17408) (hn : n.val = t.val * 256 + r.val)
    (hr : ∀ (n : Fin 17408) (q : Fin 7680), (q.val < 1024 ∨ 3584 ≤ q.val ∧ q.val < 4224) → ∃ z : ℝ, m ((c : Thread nD τ).loc main_arg0) (ix2 n q) = (z : EReal)) :
    (outsAt0 m c t).1 (ix2 r e) = entry m c n 0 (by norm_num) 0 e := by
  unfold outsAt0
  frame_out
  canon_tiles x w
  case piece0 =>
    have w0' : r.val = (x 0).val := by simpa using w0
    have w1' : e.val = 384 + (x 1).val := by simpa using w1
    have ex : x = ix2 r (⟨(x 1).val, x1_lt⟩ : Fin 128) := by blk_ext []
    rw [ex]
    exact tile_load m c t 384 inb_S256x4608_S256x128_0_384 0 0 inb_S4x128_S1x128_0_0 rfl r _ n hn 0 (by norm_num) e (by simp only; omega) (by omega) (by omega) hr
  case piece1 =>
    have w0' : r.val = (x 0).val := by simpa using w0
    have w1' : e.val = 256 + (x 1).val := by simpa using w1
    have ex : x = ix2 r (⟨(x 1).val, x1_lt⟩ : Fin 128) := by blk_ext []
    rw [ex]
    exact tile_load m c t 256 inb_S256x4608_S256x128_0_256 0 0 inb_S4x128_S1x128_0_0 rfl r _ n hn 0 (by norm_num) e (by simp only; omega) (by omega) (by omega) hr
  case piece2 =>
    have w0' : r.val = (x 0).val := by simpa using w0
    have w1' : e.val = 128 + (x 1).val := by simpa using w1
    have ex : x = ix2 r (⟨(x 1).val, x1_lt⟩ : Fin 128) := by blk_ext []
    rw [ex]
    exact tile_load m c t 128 inb_S256x4608_S256x128_0_128 0 0 inb_S4x128_S1x128_0_0 rfl r _ n hn 0 (by norm_num) e (by simp only; omega) (by omega) (by omega) hr
  case piece3 =>
    have w0' : r.val = (x 0).val := by simpa using w0
    have w1' : e.val = 0 + (x 1).val := by simpa using w1
    have ex : x = ix2 r (⟨(x 1).val, x1_lt⟩ : Fin 128) := by blk_ext []
    rw [ex]
    exact tile_load m c t 0 inb_S256x4608_S256x128_0_0 0 0 inb_S4x128_S1x128_0_0 rfl r _ n hn 0 (by norm_num) e (by simp only; omega) (by omega) (by omega) hr

/-- The first attention's keys, at one grid point. -/
theorem point_ka (c : Dev nD) (t : Fin cfg0.N) (r : Fin 256) (e : Fin 512) (n : Fin 17408) (hn : n.val = t.val * 256 + r.val)
    (hr : ∀ (n : Fin 17408) (q : Fin 7680), (q.val < 1024 ∨ 3584 ≤ q.val ∧ q.val < 4224) → ∃ z : ℝ, m ((c : Thread nD τ).loc main_arg0) (ix2 n q) = (z : EReal)) :
    (outsAt0 m c t).2.1 (ix2 r e) = entry m c n 512 (by norm_num) 1 e := by
  unfold outsAt0
  frame_out
  canon_tiles x w
  case piece0 =>
    have w0' : r.val = (x 0).val := by simpa using w0
    have w1' : e.val = 384 + (x 1).val := by simpa using w1
    have ex : x = ix2 r (⟨(x 1).val, x1_lt⟩ : Fin 128) := by blk_ext []
    rw [ex]
    exact tile_load m c t 896 inb_S256x4608_S256x128_0_896 1 1 inb_S4x128_S1x128_1_0 rfl r _ n hn 512 (by norm_num) e (by simp only; omega) (by omega) (by omega) hr
  case piece1 =>
    have w0' : r.val = (x 0).val := by simpa using w0
    have w1' : e.val = 256 + (x 1).val := by simpa using w1
    have ex : x = ix2 r (⟨(x 1).val, x1_lt⟩ : Fin 128) := by blk_ext []
    rw [ex]
    exact tile_load m c t 768 inb_S256x4608_S256x128_0_768 1 1 inb_S4x128_S1x128_1_0 rfl r _ n hn 512 (by norm_num) e (by simp only; omega) (by omega) (by omega) hr
  case piece2 =>
    have w0' : r.val = (x 0).val := by simpa using w0
    have w1' : e.val = 128 + (x 1).val := by simpa using w1
    have ex : x = ix2 r (⟨(x 1).val, x1_lt⟩ : Fin 128) := by blk_ext []
    rw [ex]
    exact tile_load m c t 640 inb_S256x4608_S256x128_0_640 1 1 inb_S4x128_S1x128_1_0 rfl r _ n hn 512 (by norm_num) e (by simp only; omega) (by omega) (by omega) hr
  case piece3 =>
    have w0' : r.val = (x 0).val := by simpa using w0
    have w1' : e.val = 0 + (x 1).val := by simpa using w1
    have ex : x = ix2 r (⟨(x 1).val, x1_lt⟩ : Fin 128) := by blk_ext []
    rw [ex]
    exact tile_load m c t 512 inb_S256x4608_S256x128_0_512 1 1 inb_S4x128_S1x128_1_0 rfl r _ n hn 512 (by norm_num) e (by simp only; omega) (by omega) (by omega) hr

/-- The second attention's queries, at one grid point. -/
theorem point_qb (c : Dev nD) (t : Fin cfg0.N) (r : Fin 256) (e : Fin 512) (n : Fin 17408) (hn : n.val = t.val * 256 + r.val)
    (hr : ∀ (n : Fin 17408) (q : Fin 7680), (q.val < 1024 ∨ 3584 ≤ q.val ∧ q.val < 4224) → ∃ z : ℝ, m ((c : Thread nD τ).loc main_arg0) (ix2 n q) = (z : EReal)) :
    (outsAt0 m c t).2.2.2.1 (ix2 r e) = entry m c n 3584 (by norm_num) 2 e := by
  unfold outsAt0
  frame_out
  canon_tiles x w
  case piece0 =>
    have w0' : r.val = (x 0).val := by simpa using w0
    have w1' : e.val = 384 + (x 1).val := by simpa using w1
    have ex : x = ix2 r (⟨(x 1).val, x1_lt⟩ : Fin 128) := by blk_ext []
    rw [ex]
    exact tile_load m c t 3968 inb_S256x4608_S256x128_0_3968 2 2 inb_S4x128_S1x128_2_0 rfl r _ n hn 3584 (by norm_num) e (by simp only; omega) (by omega) (by omega) hr
  case piece1 =>
    have w0' : r.val = (x 0).val := by simpa using w0
    have w1' : e.val = 256 + (x 1).val := by simpa using w1
    have ex : x = ix2 r (⟨(x 1).val, x1_lt⟩ : Fin 128) := by blk_ext []
    rw [ex]
    exact tile_load m c t 3840 inb_S256x4608_S256x128_0_3840 2 2 inb_S4x128_S1x128_2_0 rfl r _ n hn 3584 (by norm_num) e (by simp only; omega) (by omega) (by omega) hr
  case piece2 =>
    have w0' : r.val = (x 0).val := by simpa using w0
    have w1' : e.val = 128 + (x 1).val := by simpa using w1
    have ex : x = ix2 r (⟨(x 1).val, x1_lt⟩ : Fin 128) := by blk_ext []
    rw [ex]
    exact tile_load m c t 3712 inb_S256x4608_S256x128_0_3712 2 2 inb_S4x128_S1x128_2_0 rfl r _ n hn 3584 (by norm_num) e (by simp only; omega) (by omega) (by omega) hr
  case piece3 =>
    have w0' : r.val = (x 0).val := by simpa using w0
    have w1' : e.val = 0 + (x 1).val := by simpa using w1
    have ex : x = ix2 r (⟨(x 1).val, x1_lt⟩ : Fin 128) := by blk_ext []
    rw [ex]
    exact tile_load m c t 3584 inb_S256x4608_S256x128_0_3584 2 2 inb_S4x128_S1x128_2_0 rfl r _ n hn 3584 (by norm_num) e (by simp only; omega) (by omega) (by omega) hr

/-- The second attention's keys, at one grid point. -/
theorem point_kb (c : Dev nD) (t : Fin cfg0.N) (r : Fin 256) (e : Fin 128) (n : Fin 17408) (hn : n.val = t.val * 256 + r.val)
    (hr : ∀ (n : Fin 17408) (q : Fin 7680), (q.val < 1024 ∨ 3584 ≤ q.val ∧ q.val < 4224) → ∃ z : ℝ, m ((c : Thread nD τ).loc main_arg0) (ix2 n q) = (z : EReal)) :
    (outsAt0 m c t).2.2.2.2.1 (ix2 r e) = entry m c n 4096 (by norm_num) 3 ⟨e.val, by omega⟩ := by
  unfold outsAt0
  frame_out
  exact tile_load m c t 4096 inb_S256x4608_S256x128_0_4096 3 3 inb_S4x128_S1x128_3_0 rfl r e n hn 4096 (by norm_num) ⟨e.val, by omega⟩ (by simp only; omega) (by simp only; omega) (by simp only; omega) hr

/-- The first attention's values, at one grid point: columns of the array as they stand. -/
theorem point_va (c : Dev nD) (t : Fin cfg0.N) (r : Fin 256) (e : Fin 512) (n : Fin 17408) (hn : n.val = t.val * 256 + r.val) :
    (outsAt0 m c t).2.2.1 (ix2 r e) = m ((c : Thread nD τ).loc main_arg0) (ix2 n ⟨1024 + e.val, by omega⟩) := by
  unfold outsAt0
  frame_out
  pointwise
  exact x_entry m c t r ⟨1024 + e.val, by omega⟩ n hn

/-- The second attention's values, at one grid point: columns of the array as they stand. -/
theorem point_vb (c : Dev nD) (t : Fin cfg0.N) (r : Fin 256) (e : Fin 128) (n : Fin 17408) (hn : n.val = t.val * 256 + r.val) :
    (outsAt0 m c t).2.2.2.2.2.1 (ix2 r e) = m ((c : Thread nD τ).loc main_arg0) (ix2 n ⟨4224 + e.val, by omega⟩) := by
  unfold outsAt0
  frame_out
  pointwise
  exact x_entry m c t r ⟨4224 + e.val, by omega⟩ n hn

/-- An entry of the first attention's values. -/
def copiedWide (c : Dev nD) (n : Fin 17408) (e : Fin 512) : EReal := m ((c : Thread nD τ).loc main_arg0) (ix2 n ⟨1024 + e.val, by omega⟩)

/-- An entry of the second attention's values. -/
def copiedSlim (c : Dev nD) (n : Fin 17408) (e : Fin 128) : EReal := m ((c : Thread nD τ).loc main_arg0) (ix2 n ⟨4224 + e.val, by omega⟩)

/-- An entry of an array of eight prepared heads. -/
def wideEntry (c : Dev nD) (o : Nat) (ho : o ≤ 7168) (s : Fin 4) (n : Fin 17408) (e : Fin 512) : EReal := entry m c n o ho s e

/-- An entry of the second attention's keys. -/
def slimEntry (c : Dev nD) (n : Fin 17408) (e : Fin 128) : EReal := entry m c n 4096 (by norm_num) 3 ⟨e.val, by omega⟩

/-- The array of the first attention's queries that the call leaves. -/
theorem final_qa (c : Dev nD)
    (hr : ∀ (n : Fin 17408) (q : Fin 7680), (q.val < 1024 ∨ 3584 ≤ q.val ∧ q.val < 4224) → ∃ z : ℝ, m ((c : Thread nD τ).loc main_arg0) (ix2 n q) = (z : EReal)) :
    (dats m 0 c).arrAt 10 cfg0.N = fun i : S17408x512.Idx => wideEntry m c 0 (by norm_num) 0 (i 0) (i 1) := by
  refine (dats m 0 c).arrAt_eq_of_covers 10 _ (by decide +kernel) fun t hf y => ?_
  blk_simp
  rw [after0_10]
  have hN : t.val < 68 := t.isLt
  obtain ⟨r, e, rfl⟩ : ∃ (r : Fin 256) (e : Fin 512), y = ix2 r e := ⟨y 0, y 1, eq_ix2 y⟩
  have e' : ((View.whole main_v24_0).slice (win0_10.rect t)).emb (ix2 r e) = ix2 (⟨t.val * 256 + r.val, by omega⟩ : Fin 17408) e := by
    blk_ext [idx t]
  rw [e']
  exact point_qa m c t r e ⟨t.val * 256 + r.val, by omega⟩ rfl hr

/-- The array of the first attention's keys that the call leaves. -/
theorem final_ka (c : Dev nD)
    (hr : ∀ (n : Fin 17408) (q : Fin 7680), (q.val < 1024 ∨ 3584 ≤ q.val ∧ q.val < 4224) → ∃ z : ℝ, m ((c : Thread nD τ).loc main_arg0) (ix2 n q) = (z : EReal)) :
    (dats m 0 c).arrAt 11 cfg0.N = fun i : S17408x512.Idx => wideEntry m c 512 (by norm_num) 1 (i 0) (i 1) := by
  refine (dats m 0 c).arrAt_eq_of_covers 11 _ (by decide +kernel) fun t hf y => ?_
  blk_simp
  rw [after0_11]
  have hN : t.val < 68 := t.isLt
  obtain ⟨r, e, rfl⟩ : ∃ (r : Fin 256) (e : Fin 512), y = ix2 r e := ⟨y 0, y 1, eq_ix2 y⟩
  have e' : ((View.whole main_v24_1).slice (win0_11.rect t)).emb (ix2 r e) = ix2 (⟨t.val * 256 + r.val, by omega⟩ : Fin 17408) e := by
    blk_ext [idx t]
  rw [e']
  exact point_ka m c t r e ⟨t.val * 256 + r.val, by omega⟩ rfl hr

/-- The array of the first attention's values that the call leaves. -/
theorem final_va (c : Dev nD) :
    (dats m 0 c).arrAt 12 cfg0.N = fun i : S17408x512.Idx => copiedWide m c (i 0) (i 1) := by
  refine (dats m 0 c).arrAt_eq_of_covers 12 _ (by decide +kernel) fun t hf y => ?_
  blk_simp
  rw [after0_12]
  have hN : t.val < 68 := t.isLt
  obtain ⟨r, e, rfl⟩ : ∃ (r : Fin 256) (e : Fin 512), y = ix2 r e := ⟨y 0, y 1, eq_ix2 y⟩
  have e' : ((View.whole main_v24_2).slice (win0_12.rect t)).emb (ix2 r e) = ix2 (⟨t.val * 256 + r.val, by omega⟩ : Fin 17408) e := by
    blk_ext [idx t]
  rw [e']
  exact point_va m c t r e ⟨t.val * 256 + r.val, by omega⟩ rfl

/-- The array of the second attention's queries that the call leaves. -/
theorem final_qb (c : Dev nD)
    (hr : ∀ (n : Fin 17408) (q : Fin 7680), (q.val < 1024 ∨ 3584 ≤ q.val ∧ q.val < 4224) → ∃ z : ℝ, m ((c : Thread nD τ).loc main_arg0) (ix2 n q) = (z : EReal)) :
    (dats m 0 c).arrAt 13 cfg0.N = fun i : S17408x512.Idx => wideEntry m c 3584 (by norm_num) 2 (i 0) (i 1) := by
  refine (dats m 0 c).arrAt_eq_of_covers 13 _ (by decide +kernel) fun t hf y => ?_
  blk_simp
  rw [after0_13]
  have hN : t.val < 68 := t.isLt
  obtain ⟨r, e, rfl⟩ : ∃ (r : Fin 256) (e : Fin 512), y = ix2 r e := ⟨y 0, y 1, eq_ix2 y⟩
  have e' : ((View.whole main_v24_3).slice (win0_13.rect t)).emb (ix2 r e) = ix2 (⟨t.val * 256 + r.val, by omega⟩ : Fin 17408) e := by
    blk_ext [idx t]
  rw [e']
  exact point_qb m c t r e ⟨t.val * 256 + r.val, by omega⟩ rfl hr

/-- The array of the second attention's keys that the call leaves. -/
theorem final_kb (c : Dev nD)
    (hr : ∀ (n : Fin 17408) (q : Fin 7680), (q.val < 1024 ∨ 3584 ≤ q.val ∧ q.val < 4224) → ∃ z : ℝ, m ((c : Thread nD τ).loc main_arg0) (ix2 n q) = (z : EReal)) :
    (dats m 0 c).arrAt 14 cfg0.N = fun i : S17408x128.Idx => slimEntry m c (i 0) (i 1) := by
  refine (dats m 0 c).arrAt_eq_of_covers 14 _ (by decide +kernel) fun t hf y => ?_
  blk_simp
  rw [after0_14]
  have hN : t.val < 68 := t.isLt
  obtain ⟨r, e, rfl⟩ : ∃ (r : Fin 256) (e : Fin 128), y = ix2 r e := ⟨y 0, y 1, eq_ix2 y⟩
  have e' : ((View.whole main_v24_4).slice (win0_14.rect t)).emb (ix2 r e) = ix2 (⟨t.val * 256 + r.val, by omega⟩ : Fin 17408) e := by
    blk_ext [idx t]
  rw [e']
  exact point_kb m c t r e ⟨t.val * 256 + r.val, by omega⟩ rfl hr

/-- The array of the second attention's values that the call leaves. -/
theorem final_vb (c : Dev nD) :
    (dats m 0 c).arrAt 15 cfg0.N = fun i : S17408x128.Idx => copiedSlim m c (i 0) (i 1) := by
  refine (dats m 0 c).arrAt_eq_of_covers 15 _ (by decide +kernel) fun t hf y => ?_
  blk_simp
  rw [after0_15]
  have hN : t.val < 68 := t.isLt
  obtain ⟨r, e, rfl⟩ : ∃ (r : Fin 256) (e : Fin 128), y = ix2 r e := ⟨y 0, y 1, eq_ix2 y⟩
  have e' : ((View.whole main_v24_5).slice (win0_15.rect t)).emb (ix2 r e) = ix2 (⟨t.val * 256 + r.val, by omega⟩ : Fin 17408) e := by
    blk_ext [idx t]
  rw [e']
  exact point_vb m c t r e ⟨t.val * 256 + r.val, by omega⟩ rfl

end Cert.Prep

end

end
-- ==== Proof.PrepGateSpec.lean ====
/-
  A row of the preparation's last result, as mathematics.
-/
module

public import proofs.«01_k».proof.Proof.PrepSpec

@[expose] public section

noncomputable section

namespace Cert.Prep

open Idealize.ShloMosaic

/-- The logarithm of one and the exponential of `v`, written about the greater of `v` and zero. -/
def softplus (v : EReal) : EReal := max v 0 + Ideal.log1p (Ideal.exp (-FloatOps.absf (F := Ideal) (φ := .f32) v))

/-- Lane `l` of a row: in the first eight lanes the decay, minus the exponential of `a` times the softplus of the column and the bias `d`;
in the others the logistic function of the column. -/
def gated (x : Fin 128 → EReal) (a d : Fin 2 → Fin 4 → EReal) (l : Fin 128) : EReal :=
  if h : l.val < 8 then -Ideal.exp (a ⟨l.val / 4, by omega⟩ ⟨l.val % 4, by omega⟩) * softplus (x l + d ⟨l.val / 4, by omega⟩ ⟨l.val % 4, by omega⟩)
  else Ideal.div 1 (1 + Ideal.exp (-x l))

end Cert.Prep

end

end
-- ==== Proof.PrepGate.lean ====
/-
  The last result of the preparation: the recurrence's decays in its first eight lanes, logistic gates in the others.
-/
module

public import proofs.«01_k».proof.Proof.PrepFinal
public import proofs.«01_k».proof.Proof.PrepGateSpec

@[expose] public section

set_option maxRecDepth 16384

noncomputable section

namespace Cert.Prep

open Idealize.ShloMosaic Idealize.ShloMosaic.TcCoe Idealize.SL.Sem
open Cert.Kernel6Ideal Cert.Kernel6Ideal.Gen Cert.Kernel6Ideal.Value

variable (m : (ℓ : Loc nD τ sig) → Buf (Elt Ideal) ℓ)

/-- Eight numbers in a row of 128 lanes, zero after them. -/
def padded (A : FVec Ideal S2x4 .f32) : FVec Ideal S1x128 .f32 :=
  pad S1x128 ![0, 0] ![0, 120] ![0, 0] (shapeCast S1x8 A shapeCasts_S2x4_S1x8) (sitofp (F := Ideal) .f32 (constantI S_ 32 0#32)) pads_S1x8_S1x128_000_01200 h_S_

/-- A lane of the row: among the first eight, an entry of the array of two by four. -/
theorem padded_at (A : FVec Ideal S2x4 .f32) (l : Fin 128) (h : l.val < 8) :
    padded A (ix2 0 l) = A (ix2 ⟨l.val / 4, by omega⟩ ⟨l.val % 4, by omega⟩) := by
  pointwise [padded]
  all_goals simp [h]

set_option maxHeartbeats 16000000 in
/-- The operand of the decays' logarithms. -/
theorem a_whole (c : Dev nD) : Gen.V m c main_v21 = padded (m ((c : Thread nD τ).loc main_arg5)) := by
  simp only [Gen.V, hostOps0, hostOps0_1, hostOps0_2, hostOps0_3, hostOps0_4, hostOps0_5, hostOps0_6, hostOps0_7, hostOps0_8, hostOps0_9, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp <;> (try dsimp only [Matrix.cons_val]) <;> (try after_results_simp) <;> rfl

set_option maxHeartbeats 16000000 in
/-- The operand of the biases. -/
theorem d_whole (c : Dev nD) : Gen.V m c main_v23 = padded (m ((c : Thread nD τ).loc main_arg6)) := by
  simp only [Gen.V, hostOps0, hostOps0_1, hostOps0_2, hostOps0_3, hostOps0_4, hostOps0_5, hostOps0_6, hostOps0_7, hostOps0_8, hostOps0_9, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp <;> (try dsimp only [Matrix.cons_val]) <;> (try after_results_simp) <;> rfl

/-- Where the blocks of the padded rows and of the last result lie. -/
theorem gate_idx : ∀ t : Fin cfg0.N, win0_8.index t = ![0, 0] ∧ win0_9.index t = ![0, 0] ∧ win0_19.index t = ![t.val, 0] :=
  (by decide +kernel : ∀ t : Fin grid0.N, _)

/-- An entry of the block of the decays' logarithms. -/
theorem a_entry (c : Dev nD) (t : Fin cfg0.N) (l : Fin 128) (h : l.val < 8) :
    iblk m c 8 t (ix2 0 l) = m ((c : Thread nD τ).loc main_arg5) (ix2 ⟨l.val / 4, by omega⟩ ⟨l.val % 4, by omega⟩) := by
  blk_simp [iblk, gate_idx t]
  rw [a_whole]
  refine Eq.trans (b := padded (m ((c : Thread nD τ).loc main_arg5)) (ix2 0 l)) (congrArg (padded _) ?_) (padded_at _ l h)
  blk_ext [gate_idx t]

/-- An entry of the block of the biases. -/
theorem d_entry (c : Dev nD) (t : Fin cfg0.N) (l : Fin 128) (h : l.val < 8) :
    iblk m c 9 t (ix2 0 l) = m ((c : Thread nD τ).loc main_arg6) (ix2 ⟨l.val / 4, by omega⟩ ⟨l.val % 4, by omega⟩) := by
  blk_simp [iblk, gate_idx t]
  rw [d_whole]
  refine Eq.trans (b := padded (m ((c : Thread nD τ).loc main_arg6)) (ix2 0 l)) (congrArg (padded _) ?_) (padded_at _ l h)
  blk_ext [gate_idx t]

/-- Of the lanes, the comparison picks the first eight. -/
theorem is_decay (l : Fin 128) : IntOp.cmpi CmpIPredicate.slt (BitVec.ofNat 32 l.val) 8#32 = if l.val < 8 then 1#1 else 0#1 := by
  revert l; decide +kernel

/-- An entry of the last result. -/
def gateEntry (c : Dev nD) (n : Fin 17408) (l : Fin 128) : EReal :=
  gated (fun q => m ((c : Thread nD τ).loc main_arg0) (ix2 n ⟨4352 + q.val, by omega⟩)) (fun i j => m ((c : Thread nD τ).loc main_arg5) (ix2 i j))
    (fun i j => m ((c : Thread nD τ).loc main_arg6) (ix2 i j)) l

/-- The last result, at one grid point. -/
theorem point_gb (c : Dev nD) (t : Fin cfg0.N) (r : Fin 256) (l : Fin 128) (n : Fin 17408) (hn : n.val = t.val * 256 + r.val) :
    (outsAt0 m c t).2.2.2.2.2.2.2.2.2 (ix2 r l) = gateEntry m c n l := by
  unfold outsAt0
  frame_out
  pointwise [k0_pay54, k0_pay55, k0_pay56, k0_pay57, k0_pay58, k0_pay59, k0_pay60, k0_pay1]
  have hx := x_entry m c t r ⟨4352 + l.val, by omega⟩ n hn
  rw [is_decay]
  unfold gateEntry gated
  by_cases h : l.val < 8
  · rw [if_pos h, dif_pos h, hx, a_entry m c t l h, d_entry m c t l h]
    simp [softplus, Scalar.select]
  · rw [if_neg h, dif_neg h, hx]
    simp [Scalar.select, Ideal.logistic]

/-- The array of decays and gates that the call leaves. -/
theorem final_gb (c : Dev nD) :
    (dats m 0 c).arrAt 19 cfg0.N = fun i : S17408x128.Idx => gateEntry m c (i 0) (i 1) := by
  refine (dats m 0 c).arrAt_eq_of_covers 19 _ (by decide +kernel) fun t hf y => ?_
  blk_simp
  rw [after0_19]
  have hN : t.val < 68 := t.isLt
  obtain ⟨r, e, rfl⟩ : ∃ (r : Fin 256) (e : Fin 128), y = ix2 r e := ⟨y 0, y 1, eq_ix2 y⟩
  have e' : ((View.whole main_v24_9).slice (win0_19.rect t)).emb (ix2 r e) = ix2 (⟨t.val * 256 + r.val, by omega⟩ : Fin 17408) e := by
    blk_ext [gate_idx t]
  rw [e']
  exact point_gb m c t r e ⟨t.val * 256 + r.val, by omega⟩ rfl

end Cert.Prep

end

end
-- ==== Proof.PrepGateRef.lean ====
/-
  The last result of the preparation's reference, read at an index.
-/
module

public import proofs.«01_k».proof.Proof.PrepGateSpec
public import proofs.«01_k».proof.Proof.Gen.Reference6Ideal.Run
public import Idealize.ShloMosaic.Lib.Pipeline.ValueKit

@[expose] public section

set_option maxRecDepth 16384

noncomputable section

namespace Cert.Prep

open Idealize.ShloMosaic Idealize.ShloMosaic.TcCoe Idealize.SL.Sem Idealize.ShloMosaic.StableHlo
open Cert.Reference6Ideal Cert.Reference6Ideal.Gen Cert.Reference6Ideal.Value

variable (m : (ℓ : Loc nD τ sig) → Buf (Elt Ideal) ℓ)

/-- A column of the last result's operand, in row `n`. -/
def column (c : Dev nD) (n : Fin 17408) (q : Fin 128) : EReal := m ((c : Thread nD τ).loc main_arg0) (ix2 n ⟨4352 + q.val, by omega⟩)

/-- A bias. -/
def bias (c : Dev nD) (i : Fin 2) (j : Fin 4) : EReal := m ((c : Thread nD τ).loc main_arg6) (ix2 i j)

/-- A decay of the reference. -/
theorem decay_at (c : Dev nD) (b : Fin 4) (t : Fin 4352) (i : Fin 2) (j : Fin 4) :
    mulf (broadcastInDim S4x4352x2x4 ![0, 1, 2, 3] bcast_S1x1x2x4_S4x4352x2x4_0_1_2_3 (broadcastInDim S1x1x2x4 ![2, 3] bcast_S2x4_S1x1x2x4_2_3 (Host.negf (Host.exp (m ((c : Thread nD τ).loc main_arg5)))))) (select (cmpf .une (res_main_call0_v3 (launchContents m c)) (res_main_call0_v3 (launchContents m c))) (addf (res_main_v219 (launchContents m c)) (broadcastInDim S4x4352x2x4 ![] bcast_S_S4x4352x2x4 (res_main_call0_cst (launchContents m c)))) (addf (maximumf (res_main_v219 (launchContents m c)) (broadcastInDim S4x4352x2x4 ![] bcast_S_S4x4352x2x4 (res_main_call0_cst (launchContents m c)))) (Host.log1p (Host.exp (Host.negf (Host.absf (res_main_call0_v3 (launchContents m c)))))))) (ix4 b t i j)
    = -Ideal.exp (m ((c : Thread nD τ).loc main_arg5) (ix2 i j) : EReal) * softplus (column m c ⟨b.val * 4352 + t.val, by omega⟩ ⟨i.val * 4 + j.val, by omega⟩ + bias m c i j) := by
  have hv : res_main_v219 (F := Ideal) (launchContents m c) (ix4 b t i j) = column m c ⟨b.val * 4352 + t.val, by omega⟩ ⟨i.val * 4 + j.val, by omega⟩ + bias m c i j := by
    pointwise [res_main_v219, res_main_v0, column, bias]
  have hw : res_main_call0_v3 (F := Ideal) (launchContents m c) (ix4 b t i j) = res_main_v219 (F := Ideal) (launchContents m c) (ix4 b t i j) := by
    pointwise [res_main_call0_v3, res_main_call0_cst]
  rw [← hv]
  pointwise [softplus, res_main_call0_cst]
  rw [hw]
  simp [Scalar.select, softplus]

/-- The decays and gates. -/
theorem ref_gb (c : Dev nD) : shapeCast S17408x128 (concatenate S4x4352x128 2 [⟨S4x4352x8, (shapeCast S4x4352x8 (mulf (broadcastInDim S4x4352x2x4 ![0, 1, 2, 3] bcast_S1x1x2x4_S4x4352x2x4_0_1_2_3 (broadcastInDim S1x1x2x4 ![2, 3] bcast_S2x4_S1x1x2x4_2_3 (Host.negf (Host.exp (m ((c : Thread nD τ).loc main_arg5)))))) (select (cmpf .une (res_main_call0_v3 (launchContents m c)) (res_main_call0_v3 (launchContents m c))) (addf (res_main_v219 (launchContents m c)) (broadcastInDim S4x4352x2x4 ![] bcast_S_S4x4352x2x4 (res_main_call0_cst (launchContents m c)))) (addf (maximumf (res_main_v219 (launchContents m c)) (broadcastInDim S4x4352x2x4 ![] bcast_S_S4x4352x2x4 (res_main_call0_cst (launchContents m c)))) (Host.log1p (Host.exp (Host.negf (Host.absf (res_main_call0_v3 (launchContents m c))))))))) shapeCasts_S4x4352x2x4_S4x4352x8)⟩, ⟨S4x4352x120, (Host.divf (broadcastInDim S4x4352x120 ![] bcast_S_S4x4352x120 (constant S_ .f32 0x3F800000#32)) (addf (broadcastInDim S4x4352x120 ![] bcast_S_S4x4352x120 (constant S_ .f32 0x3F800000#32)) (Host.exp (Host.negf (extractStridedSlice S4x4352x120 ![0, 0, 4360] (res_main_v0 (launchContents m c)) slices_S4x4352x7680_S4x4352x120_0_0_4360)))))⟩] concatenates_S4x4352x8_S4x4352x120_S4x4352x128_d2) shapeCasts_S4x4352x128_S17408x128
    = fun i : S17408x128.Idx => gated (fun q => m ((c : Thread nD τ).loc main_arg0) (ix2 (i 0 : Fin 17408) ⟨4352 + q.val, by omega⟩)) (fun p j => m ((c : Thread nD τ).loc main_arg5) (ix2 p j))
        (fun p j => m ((c : Thread nD τ).loc main_arg6) (ix2 p j)) (i 1) := by
  have hd := decay_at m c
  generalize mulf (F := Ideal) (φ := .f32) (s := S4x4352x2x4) _ _ = D at hd ⊢
  refine funext fun i => ?_
  obtain ⟨n, e, rfl⟩ : ∃ (n : Fin 17408) (e : Fin 128), i = ix2 n e := ⟨i 0, i 1, eq_ix2 i⟩
  pointwise [gated, res_main_v0]
  by_cases h : e.val < 8
  · rw [dif_pos h, dif_pos h, hd]
    have e1 : (⟨n.val / 4352 * 4352 + n.val % 4352, by omega⟩ : Fin 17408) = n := Fin.ext (by simp only; omega)
    have e2 : (⟨e.val / 4 * 4 + e.val % 4, by omega⟩ : Fin 128) = e := Fin.ext (by simp only; omega)
    rw [e1, e2]
    rfl
  · rw [dif_neg h, dif_neg h]
    have e3 : (⟨4360 + (e.val - 8), by omega⟩ : Fin 7680) = ⟨4352 + e.val, by omega⟩ := Fin.ext (by simp only; omega)
    rw [e3]

end Cert.Prep

end

end
-- ==== Proof.PrepClaim.lean ====
/-
  The preparation leaves what its reference leaves.
-/
module

public import proofs.«01_k».proof.Defs
public import proofs.«01_k».proof.Proof.PrepFinite
public import proofs.«01_k».proof.Proof.PrepRes
public import proofs.«01_k».proof.Proof.PrepFinal
public import proofs.«01_k».proof.Proof.PrepGate
public import proofs.«01_k».proof.Proof.PrepGateRef
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run

@[expose] public section

set_option maxRecDepth 16384

noncomputable section

namespace Cert.Prep

open Idealize.ShloMosaic Idealize.SL.Sem

set_option maxHeartbeats 4000000 in
/-- Where the columns of the queries and keys are reals, the seven arrays that the call leaves are those of the reference. -/
theorem leaves : Cert.algebraic_Kernel6Ideal_Reference6Ideal_pre_finite6 (hKernel6Ideal := Cert.Kernel6Ideal.Gen.facts)
    (hReference6Ideal := Cert.Reference6Ideal.Gen.facts) (hPre_finite6 := Cert.Pre_finite6.facts) := by
  intro m ρ m' ρ' hpre hagree
  refine ⟨_, _, _, _, _, _, _, (θ_run Cert.Kernel6Ideal.defs _ _).mono
    (fun _ h c => ⟨(h c).1, (h c).2.1, (h c).2.2.1, (h c).2.2.2.1, (h c).2.2.2.2.1, (h c).2.2.2.2.2.1, (h c).2.2.2.2.2.2.2.2.2.1, (h c).2.2.2.2.2.2.2.2.2.2⟩)
    (Cert.Kernel6Ideal.Value.run_blocks m ρ), (θ_run Cert.Reference6Ideal.defs _ _).mono
    (fun _ h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2⟩) (Cert.Reference6Ideal.Value.run (F := Ideal) m' ρ')⟩
  · obtain ⟨e0, e1, e2, e3, -, -, -⟩ := hagree c
    refine Eq.trans ?_ (Cert.Prep.final_qa m c (Cert.Pre_finite6.reals _ _ _ _ _ _ _ (hpre c))).symm
    refine (Cert.Prep.ref_qa m' c).trans ?_
    rw [e0, e1, e2, e3]
    rfl
  · obtain ⟨e0, e1, e2, e3, -, -, -⟩ := hagree c
    refine Eq.trans ?_ (Cert.Prep.final_ka m c (Cert.Pre_finite6.reals _ _ _ _ _ _ _ (hpre c))).symm
    refine (Cert.Prep.ref_ka m' c).trans ?_
    rw [e0, e1, e2, e3]
    rfl
  · obtain ⟨e0, e1, e2, e3, -, -, -⟩ := hagree c
    refine Eq.trans ?_ (Cert.Prep.final_va m c).symm
    refine (Cert.Prep.ref_va m' c).trans ?_
    rw [e0]
    rfl
  · obtain ⟨e0, e1, e2, e3, -, -, -⟩ := hagree c
    refine Eq.trans ?_ (Cert.Prep.final_qb m c (Cert.Pre_finite6.reals _ _ _ _ _ _ _ (hpre c))).symm
    refine (Cert.Prep.ref_qb m' c).trans ?_
    rw [e0, e1, e2, e3]
    rfl
  · obtain ⟨e0, e1, e2, e3, -, -, -⟩ := hagree c
    refine Eq.trans ?_ (Cert.Prep.final_kb m c (Cert.Pre_finite6.reals _ _ _ _ _ _ _ (hpre c))).symm
    refine (Cert.Prep.ref_kb m' c).trans ?_
    rw [e0, e1, e2, e3]
    rfl
  · obtain ⟨e0, e1, e2, e3, -, -, -⟩ := hagree c
    refine Eq.trans ?_ (Cert.Prep.final_vb m c).symm
    refine (Cert.Prep.ref_vb m' c).trans ?_
    rw [e0]
    rfl
  · obtain ⟨e0, -, -, -, -, e5, e6⟩ := hagree c
    refine Eq.trans ?_ (Cert.Prep.final_gb m c).symm
    refine (Cert.Prep.ref_gb m' c).trans ?_
    rw [e0, e5, e6]
    rfl

end Cert.Prep

end

end
-- ==== Proof.lean ====
/-
  The certificate of the differential attention, the input projection, the merge, the windowed attention, the modulation
and the preparation of the operands:
  each kernel as printed keeps its frame, its idealized form is the printed one (but for the named constants of the two attentions), and
  over the extended reals it leaves what its reference leaves.
-/
module

public import proofs.«01_k».proof.Defs
public import proofs.«01_k».proof.Proof.Gen.Kernel
public import proofs.«01_k».proof.Proof.Gen.Kernel.Frame
public import proofs.«01_k».proof.Proof.Finite
public import proofs.«01_k».proof.Proof.Final
public import proofs.«01_k».proof.Proof.RefVal
public import proofs.«01_k».proof.Proof.ProjRef
public import proofs.«01_k».proof.Proof.ProjFinal
public import proofs.«01_k».proof.Proof.MergeRef
public import proofs.«01_k».proof.Proof.MergeFinal
public import proofs.«01_k».proof.Proof.WinFinite
public import proofs.«01_k».proof.Proof.WinRef
public import proofs.«01_k».proof.Proof.WinFinal
public import proofs.«01_k».proof.Proof.AdaRef
public import proofs.«01_k».proof.Proof.AdaFinal
public import proofs.«01_k».proof.Proof.PrepClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The sum of exponentials that weighs the second attention is a real where the lambda vectors are. -/
theorem lam_is_real (L : Fin 2 → Fin 2 → Fin 64 → ℝ) : ∃ lam : ℝ,
    Ideal.exp (∑ d : Fin 64, (L 0 0 d : EReal) * (L 0 1 d : EReal)) - Ideal.exp (∑ d : Fin 64, (L 1 0 d : EReal) * (L 1 1 d : EReal))
      + Ideal.ofBits .f32 0x3E4CCCCD#32 = (lam : EReal) := by
  obtain ⟨a, ha⟩ := Cert.Diff.bits_lam
  refine ⟨Real.exp (∑ d : Fin 64, L 0 0 d * L 0 1 d) - Real.exp (∑ d : Fin 64, L 1 0 d * L 1 1 d) + a, ?_⟩
  rw [ha]
  simp only [← EReal.coe_mul, ← Cert.Diff.coe_sum, Ideal.exp_coe, ← EReal.coe_sub, ← EReal.coe_add]

/-- The claims: the frames of the eighteen programs, and for each of the six calls that its idealized form states the printed
one and leaves what its reference leaves. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.facts, Cert.Pre_finite4.facts, Cert.Pre_finite6.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2, Idealize.ShloMosaic.sem_eq_zero_of_no_sems (by decide) r.2⟩) (Cert.ReferenceIdeal.Value.run (F := Ideal) m ρ),
  fun m ρ _ => (θ_run Cert.ReferenceIdeal.defs _ _).mono
    (fun r h => ⟨fun c => (h c).2, Idealize.ShloMosaic.sem_eq_zero_of_no_sems (by decide) r.2⟩) (Cert.ReferenceIdeal.Value.run (F := Ideal) m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2, Idealize.ShloMosaic.sem_eq_zero_of_no_sems (by decide) r.2⟩) (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2, Idealize.ShloMosaic.sem_eq_zero_of_no_sems (by decide) r.2⟩) (Cert.Reference3Ideal.Value.run (F := Ideal) m ρ),
  fun m ρ _ => Cert.Kernel4.Gen.frame m ρ,
  fun m ρ _ => Cert.Kernel4Ideal.Gen.frame m ρ,
  fun m ρ _ => Cert.Kernel4Ideal.Gen.frame m ρ,
  fun m ρ _ => (θ_run Cert.Reference4Ideal.defs _ _).mono
    (fun r h => ⟨fun c => (h c).2, Idealize.ShloMosaic.sem_eq_zero_of_no_sems (by decide) r.2⟩) (Cert.Reference4Ideal.Value.run (F := Ideal) m ρ),
  fun m ρ _ => (θ_run Cert.Reference4Ideal.defs _ _).mono
    (fun r h => ⟨fun c => (h c).2, Idealize.ShloMosaic.sem_eq_zero_of_no_sems (by decide) r.2⟩) (Cert.Reference4Ideal.Value.run (F := Ideal) m ρ),
  fun m ρ _ => Cert.Kernel5.Gen.frame m ρ,
  fun m ρ _ => Cert.Kernel5Ideal.Gen.frame m ρ,
  fun m ρ _ => (θ_run Cert.Reference5Ideal.defs _ _).mono
    (fun r h => ⟨fun c => (h c).2, Idealize.ShloMosaic.sem_eq_zero_of_no_sems (by decide) r.2⟩) (Cert.Reference5Ideal.Value.run (F := Ideal) m ρ),
  fun m ρ _ => Cert.Kernel6.Gen.frame m ρ,
  fun m ρ _ => Cert.Kernel6Ideal.Gen.frame m ρ,
  fun m ρ _ => Cert.Kernel6Ideal.Gen.frame m ρ,
  fun m ρ _ => (θ_run Cert.Reference6Ideal.defs _ _).mono
    (fun r h => ⟨fun c => (h c).2.2.2.2.2.2.2, Idealize.ShloMosaic.sem_eq_zero_of_no_sems (by decide) r.2⟩) (Cert.Reference6Ideal.Value.run (F := Ideal) m ρ),
  fun m ρ _ => (θ_run Cert.Reference6Ideal.defs _ _).mono
    (fun r h => ⟨fun c => (h c).2.2.2.2.2.2.2, Idealize.ShloMosaic.sem_eq_zero_of_no_sems (by decide) r.2⟩) (Cert.Reference6Ideal.Value.run (F := Ideal) m ρ),
  IdealRules.named_const.statement Cert.KernelIdeal.κ "scale" .f32 0x3E38AA3B#32 (((1 / 8) * (Real.log 2)⁻¹ : ℝ) : EReal) rfl,
  by
    intro m ρ m' ρ' hpre hagree
    refine ⟨_, Cert.KernelIdeal.Value.run_blocks m ρ, (θ_run Cert.ReferenceIdeal.defs _ _).mono
      (fun _ h c => ⟨(h c).1.trans ?_, (h c).2⟩) (Cert.ReferenceIdeal.Value.run (F := Ideal) m' ρ')⟩
    obtain ⟨Q, K, V, L, hq, hk, hv, hL⟩ := Cert.Pre_finite.reals _ _ _ _ _ (hpre c)
    obtain ⟨lam, hl⟩ := lam_is_real L
    obtain ⟨e0, e1, e2, e3, e4⟩ := hagree c
    have hl' : Cert.Diff.lamOf (m (((c.tc : Thread Cert.KernelIdeal.nD Cert.KernelIdeal.τ)).loc Cert.KernelIdeal.main_arg3)) ix0
        = (lam : EReal) := by
      rw [Cert.Diff.lamOf_at]
      simp only [hL]
      exact hl
    refine Eq.trans ?_ (Cert.Diff.final m c Q K V L lam hq hk hv hL hl).symm
    refine (Cert.Diff.res_whole m' c).trans ?_
    rw [e0, e1, e2, e3, e4]
    refine funext fun i => ?_
    obtain ⟨b, r, l, rfl⟩ : ∃ (b : Fin 4) (r : Fin 4352) (l : Fin 512), i = ix3 b r l := ⟨i 0, i 1, i 2, eq_ix3 i⟩
    exact Cert.Diff.whole_at Q K V lam _ _ _ _ _ hq hk hv hl' b r l,
  trivial,
  by
    intro m ρ m' ρ' hpre hagree
    refine ⟨_, Cert.Kernel2Ideal.Value.run_blocks m ρ, (θ_run Cert.Reference2Ideal.defs _ _).mono
      (fun _ h c => ⟨(h c).1.trans ?_, (h c).2⟩) (Cert.Reference2Ideal.Value.run (F := Ideal) m' ρ')⟩
    obtain ⟨e0, e1, e2, e3, e4⟩ := hagree c
    refine Eq.trans ?_ (Cert.Proj.final m c).symm
    refine (Cert.Proj.res_ordered m' c).trans ?_
    rw [e0, e1, e2, e3, e4]
    refine funext fun i => ?_
    obtain ⟨n, e, rfl⟩ : ∃ (n : Fin 17408) (e : Fin 7680), i = ix2 n e := ⟨i 0, i 1, eq_ix2 i⟩
    exact Cert.Proj.res_at _ _ _ _ _ n e,
  trivial,
  by
    intro m ρ m' ρ' hpre hagree
    refine ⟨_, Cert.Kernel3Ideal.Value.run_blocks m ρ, (θ_run Cert.Reference3Ideal.defs _ _).mono
      (fun _ h c => ⟨(h c).1.trans ?_, (h c).2⟩) (Cert.Reference3Ideal.Value.run (F := Ideal) m' ρ')⟩
    obtain ⟨e0, e1, e2, e3, e4, e5, e6, e7, e8, e9, e10, e11⟩ := hagree c
    refine Eq.trans ?_ (Cert.Merge.final m c).symm
    refine (Cert.Merge.res_whole m' c).trans ?_
    rw [e0, e1, e2, e3, e4, e5, e6, e7, e8, e9, e10, e11]
    refine funext fun i => ?_
    obtain ⟨n, d, rfl⟩ : ∃ (n : Fin 17408) (d : Fin 1024), i = ix2 n d := ⟨i 0, i 1, eq_ix2 i⟩
    exact Cert.Merge.whole_at _ _ _ _ _ _ _ _ _ _ _ _ n d,
  ⟨IdealRules.named_const.statement Cert.Kernel4Ideal.κ "scale" .f32 0x3E38AA3B#32 (((1 / 8) * (Real.log 2)⁻¹ : ℝ) : EReal) rfl,
    IdealRules.named_const.statement Cert.Kernel4Ideal.κ "base" .f32 0x3FB8AA3B#32 (((Real.log 2)⁻¹ : ℝ) : EReal) rfl,
    IdealRules.named_const.statement Cert.Kernel4Ideal.κ "mask" .f32 0xF149F2CA#32 ⊥ rfl⟩,
  by
    intro m ρ m' ρ' hpre hagree
    refine ⟨_, Cert.Kernel4Ideal.Value.run_blocks m ρ, (θ_run Cert.Reference4Ideal.defs _ _).mono
      (fun _ h c => ⟨(h c).1.trans ?_, (h c).2⟩) (Cert.Reference4Ideal.Value.run (F := Ideal) m' ρ')⟩
    obtain ⟨Q, K, S, hq, hk, hs⟩ := Cert.Pre_finite4.reals _ _ _ _ (hpre c)
    obtain ⟨e0, e1, e2, e3⟩ := hagree c
    refine Eq.trans ?_ (Cert.Win.final m c Q K
      (fun b r e => m ((c.tc : Thread Cert.Kernel4Ideal.nD Cert.Kernel4Ideal.τ).loc Cert.Kernel4Ideal.main_arg2) (ix3 b r e)) S hq hk (fun _ _ _ => rfl) hs).symm
    refine (Cert.Win.res_whole m' c).trans ?_
    rw [e0, e1, e2, e3]
    refine funext fun i => ?_
    obtain ⟨b, r, l, rfl⟩ : ∃ (b : Fin 4) (r : Fin 4352) (l : Fin 512), i = ix3 b r l := ⟨i 0, i 1, i 2, eq_ix3 i⟩
    exact Cert.Win.whole_at Q K _ S _ _ _ _ hq hk (fun _ _ _ => rfl) hs b r l,
  trivial,
  by
    intro m ρ m' ρ' hpre hagree
    refine ⟨_, Cert.Kernel5Ideal.Value.run_blocks m ρ, (θ_run Cert.Reference5Ideal.defs _ _).mono
      (fun _ h c => ⟨(h c).1.trans ?_, (h c).2⟩) (Cert.Reference5Ideal.Value.run (F := Ideal) m' ρ')⟩
    obtain ⟨e0, e1, e2⟩ := hagree c
    refine Eq.trans ?_ (Cert.Ada.final m c).symm
    rw [e0, e1, e2]
    refine funext fun i => ?_
    obtain ⟨r, e, rfl⟩ : ∃ (r : Fin 16) (e : Fin 6144), i = ix2 r e := ⟨i 0, i 1, eq_ix2 i⟩
    exact Cert.Ada.joined_at _ _ _ r e,
  trivial,
  Cert.Prep.leaves⟩

end Cert.Proof

end

end
